-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v33)) (v3 : (c : Dev Cert.KernelIdeal.nD) → Buf (Elt Ideal) ((c.tc : Thread Cert.KernelIdeal.nD Cert.KernelIdeal.τ).loc Cert.KernelIdeal.main_v34)) (v4 : (c : Dev Cert.KernelIdeal.nD) → Buf (Elt Ideal) ((c.tc : Thread Cert.KernelIdeal.nD Cert.KernelIdeal.τ).loc Cert.KernelIdeal.main_v26_4)) (v5 : (c : Dev Cert.KernelIdeal.nD) → Buf (Elt Ideal) ((c.tc : Thread Cert.KernelIdeal.nD Cert.KernelIdeal.τ).loc Cert.KernelIdeal.main_v26_5)) (v6 : (c : Dev Cert.KernelIdeal.nD) → Buf (Elt Ideal) ((c.tc : Thread Cert.KernelIdeal.nD Cert.KernelIdeal.τ).loc Cert.KernelIdeal.main_v26_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_v26_4) = v4 c
          ∧ r.2.mem ((c.tc : Thread Cert.KernelIdeal.nD Cert.KernelIdeal.τ).loc Cert.KernelIdeal.main_v26_5) = v5 c
          ∧ r.2.mem ((c.tc : Thread Cert.KernelIdeal.nD Cert.KernelIdeal.τ).loc Cert.KernelIdeal.main_v26_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_v140) = v3 c
          ∧ r.2.mem ((c.tc : Thread Cert.ReferenceIdeal.nD Cert.ReferenceIdeal.τ).loc Cert.ReferenceIdeal.main_v143) = v4 c
          ∧ r.2.mem ((c.tc : Thread Cert.ReferenceIdeal.nD Cert.ReferenceIdeal.τ).loc Cert.ReferenceIdeal.main_v142) = v5 c
          ∧ r.2.mem ((c.tc : Thread Cert.ReferenceIdeal.nD Cert.ReferenceIdeal.τ).loc Cert.ReferenceIdeal.main_v176) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v9)) (v2 : (c : Dev Cert.Kernel2Ideal.nD) → Buf (Elt Ideal) ((c.tc : Thread Cert.Kernel2Ideal.nD Cert.Kernel2Ideal.τ).loc Cert.Kernel2Ideal.main_v11)) (v3 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v9) = v1 c
          ∧ r.2.mem ((c.tc : Thread Cert.Kernel2Ideal.nD Cert.Kernel2Ideal.τ).loc Cert.Kernel2Ideal.main_v11) = v2 c
          ∧ r.2.mem ((c.tc : Thread Cert.Kernel2Ideal.nD Cert.Kernel2Ideal.τ).loc Cert.Kernel2Ideal.main_v10) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v27) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)) (v3 : (c : Dev Cert.Kernel3Ideal.nD) → Buf (Elt Ideal) ((c.tc : Thread Cert.Kernel3Ideal.nD Cert.Kernel3Ideal.τ).loc Cert.Kernel3Ideal.main_v10_0)) (v4 : (c : Dev Cert.Kernel3Ideal.nD) → Buf (Elt Ideal) ((c.tc : Thread Cert.Kernel3Ideal.nD Cert.Kernel3Ideal.τ).loc Cert.Kernel3Ideal.main_v10_1)) (v5 : (c : Dev Cert.Kernel3Ideal.nD) → Buf (Elt Ideal) ((c.tc : Thread Cert.Kernel3Ideal.nD Cert.Kernel3Ideal.τ).loc Cert.Kernel3Ideal.main_v29)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_v10_0) = v3 c
          ∧ r.2.mem ((c.tc : Thread Cert.Kernel3Ideal.nD Cert.Kernel3Ideal.τ).loc Cert.Kernel3Ideal.main_v10_1) = v4 c
          ∧ r.2.mem ((c.tc : Thread Cert.Kernel3Ideal.nD Cert.Kernel3Ideal.τ).loc Cert.Kernel3Ideal.main_v29) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_v16) = v2 c
          ∧ r.2.mem ((c.tc : Thread Cert.Reference3Ideal.nD Cert.Reference3Ideal.τ).loc Cert.Reference3Ideal.main_v17) = v3 c
          ∧ r.2.mem ((c.tc : Thread Cert.Reference3Ideal.nD Cert.Reference3Ideal.τ).loc Cert.Reference3Ideal.main_v9) = v4 c
          ∧ r.2.mem ((c.tc : Thread Cert.Reference3Ideal.nD Cert.Reference3Ideal.τ).loc Cert.Reference3Ideal.main_v19) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)) (v2 : (c : Dev Cert.Kernel4Ideal.nD) → Buf (Elt Ideal) ((c.tc : Thread Cert.Kernel4Ideal.nD Cert.Kernel4Ideal.τ).loc Cert.Kernel4Ideal.main_v9_2)) (v3 : (c : Dev Cert.Kernel4Ideal.nD) → Buf (Elt Ideal) ((c.tc : Thread Cert.Kernel4Ideal.nD Cert.Kernel4Ideal.τ).loc Cert.Kernel4Ideal.main_v9_3)) (v4 : (c : Dev Cert.Kernel4Ideal.nD) → Buf (Elt Ideal) ((c.tc : Thread Cert.Kernel4Ideal.nD Cert.Kernel4Ideal.τ).loc Cert.Kernel4Ideal.main_v12)) (v5 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_v9_2) = v2 c
          ∧ r.2.mem ((c.tc : Thread Cert.Kernel4Ideal.nD Cert.Kernel4Ideal.τ).loc Cert.Kernel4Ideal.main_v9_3) = v3 c
          ∧ r.2.mem ((c.tc : Thread Cert.Kernel4Ideal.nD Cert.Kernel4Ideal.τ).loc Cert.Kernel4Ideal.main_v12) = v4 c
          ∧ r.2.mem ((c.tc : Thread Cert.Kernel4Ideal.nD Cert.Kernel4Ideal.τ).loc Cert.Kernel4Ideal.main_v15) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v29) = v2 c
          ∧ r.2.mem ((c.tc : Thread Cert.Reference4Ideal.nD Cert.Reference4Ideal.τ).loc Cert.Reference4Ideal.main_v10) = v3 c
          ∧ r.2.mem ((c.tc : Thread Cert.Reference4Ideal.nD Cert.Reference4Ideal.τ).loc Cert.Reference4Ideal.main_v24) = v4 c
          ∧ r.2.mem ((c.tc : Thread Cert.Reference4Ideal.nD Cert.Reference4Ideal.τ).loc Cert.Reference4Ideal.main_v26) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_v54) = v1 c
          ∧ r.2.mem ((c.tc : Thread Cert.Reference5Ideal.nD Cert.Reference5Ideal.τ).loc Cert.Reference5Ideal.main_v55) = v2 c
          ∧ r.2.mem ((c.tc : Thread Cert.Reference5Ideal.nD Cert.Reference5Ideal.τ).loc Cert.Reference5Ideal.main_v56) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)) (v3 : (c : Dev Cert.Kernel6Ideal.nD) → Buf (Elt Ideal) ((c.tc : Thread Cert.Kernel6Ideal.nD Cert.Kernel6Ideal.τ).loc Cert.Kernel6Ideal.main_v9_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_v9_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_v24) = v2 c
          ∧ r.2.mem ((c.tc : Thread Cert.Reference6Ideal.nD Cert.Reference6Ideal.τ).loc Cert.Reference6Ideal.main_v26) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)) (v2 : (c : Dev Cert.Kernel7Ideal.nD) → Buf (Elt Ideal) ((c.tc : Thread Cert.Kernel7Ideal.nD Cert.Kernel7Ideal.τ).loc Cert.Kernel7Ideal.main_v5_2)) (v3 : (c : Dev Cert.Kernel7Ideal.nD) → Buf (Elt Ideal) ((c.tc : Thread Cert.Kernel7Ideal.nD Cert.Kernel7Ideal.τ).loc Cert.Kernel7Ideal.main_v5_3)) (v4 : (c : Dev Cert.Kernel7Ideal.nD) → Buf (Elt Ideal) ((c.tc : Thread Cert.Kernel7Ideal.nD Cert.Kernel7Ideal.τ).loc Cert.Kernel7Ideal.main_v5_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_v5_2) = v2 c
          ∧ r.2.mem ((c.tc : Thread Cert.Kernel7Ideal.nD Cert.Kernel7Ideal.τ).loc Cert.Kernel7Ideal.main_v5_3) = v3 c
          ∧ r.2.mem ((c.tc : Thread Cert.Kernel7Ideal.nD Cert.Kernel7Ideal.τ).loc Cert.Kernel7Ideal.main_v5_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_v37) = v1 c
          ∧ r.2.mem ((c.tc : Thread Cert.Reference7Ideal.nD Cert.Reference7Ideal.τ).loc Cert.Reference7Ideal.main_v38) = v2 c
          ∧ r.2.mem ((c.tc : Thread Cert.Reference7Ideal.nD Cert.Reference7Ideal.τ).loc Cert.Reference7Ideal.main_v39) = v3 c
          ∧ r.2.mem ((c.tc : Thread Cert.Reference7Ideal.nD Cert.Reference7Ideal.τ).loc Cert.Reference7Ideal.main_v40) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4096x512 : Shape := ⟨2, ![4096, 512]⟩
abbrev S4096x2048 : Shape := ⟨2, ![4096, 2048]⟩
abbrev S4096x8 : Shape := ⟨2, ![4096, 8]⟩
abbrev S1x512 : Shape := ⟨2, ![1, 512]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  bcast_S_S1x512 : S_.BroadcastsInDim S1x512 (![] : Fin 0 → Fin S1x512.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)
  bcast_S_S1x512x1024 : S_.BroadcastsInDim S1x512x1024 (![] : Fin 0 → Fin S1x512x1024.rank)
  bcast_S_S4096x1024 : S_.BroadcastsInDim S4096x1024 (![] : Fin 0 → Fin S4096x1024.rank)

variable [Facts]

def fn_part1 {F : FTy → Type} [FloatOps F] (main_arg8 : FVec F S1x512x1024 .f32) (main_arg9 : FVec F S4096x1024 .f32) (main_v2 : IVec S4096x512 1) (main_v5 : IVec S4096x512 1) (main_v8 : IVec S1x512 1) (main_v11 : IVec S1x512 1) (main_v14 : IVec S1x8x128x128 1) (main_v17 : IVec S1x8x128 1) : IVec S4096x512 1 × IVec S4096x512 1 × IVec S1x512 1 × IVec S1x512 1 × IVec S1x8x128x128 1 × IVec S1x8x128 1 × IVec S1x512x1024 1 × IVec S4096x1024 1 :=
  let main_v18 : FVec F S1x512x1024 .f32 := Host.absf main_arg8
  let main_cst_5 : FVec F S_ .f32 := constant S_ .f32 0x7F800000#32
  let main_v19 : FVec F S1x512x1024 .f32 := broadcastInDim S1x512x1024 ![] bcast_S_S1x512x1024 main_cst_5
  let main_v20 : IVec S1x512x1024 1 := cmpf .olt main_v18 main_v19
  let main_v21 : FVec F S4096x1024 .f32 := Host.absf main_arg9
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x512 .f32) (main_arg1 : FVec F S4096x512 .f32) (main_arg2 : FVec F S4096x2048 .f32) (main_arg3 : FVec F S4096x8 .f32) (main_arg4 : FVec F S1x512 .f32) (main_arg5 : FVec F S1x512 .f32) (main_arg6 : FVec F S1x8x128x128 .f32) (main_arg7 : FVec F S1x8x128 .f32) (main_arg8 : FVec F S1x512x1024 .f32) (main_arg9 : FVec F S4096x1024 .f32) : IVec S4096x512 1 × IVec S4096x512 1 × IVec S1x512 1 × IVec S1x512 1 × IVec S1x8x128x128 1 × IVec S1x8x128 1 × IVec S1x512x1024 1 × IVec S4096x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S1x512 .f32 := Host.absf main_arg4
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x512 .f32 := Host.absf main_arg5
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1x8x128x128 .f32 := Host.absf main_arg6
  let main_cst_3 : FVec F S_ .f32 := constant S_ .f32 0x7F800000#32
  let main_v13 : FVec F S1x8x128x128 .f32 := broadcastInDim S1x8x128x128 ![] bcast_S_S1x8x128x128 main_cst_3
  let main_v14 : IVec S1x8x128x128 1 := cmpf .olt main_v12 main_v13
  let main_v15 : FVec F S1x8x128 .f32 := Host.absf main_arg7
  let main_cst_4 : FVec F S_ .f32 := constant S_ .f32 0x7F800000#32
  let main_v16 : FVec F S1x8x128 .f32 := broadcastInDim S1x8x128 ![] bcast_S_S1x8x128 main_cst_4
  let main_v17 : IVec S1x8x128 1 := cmpf .olt main_v15 main_v16
  fn_part1 (F := F) main_arg8 main_arg9 main_v2 main_v5 main_v8 main_v11 main_v14 main_v17
-- ==== Kernel.lean ====
abbrev S4096x512 : Shape := ⟨2, ![4096, 512]⟩
abbrev S4096x2048 : Shape := ⟨2, ![4096, 2048]⟩
abbrev S4096x8 : Shape := ⟨2, ![4096, 8]⟩
abbrev S1x512 : Shape := ⟨2, ![1, 512]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S4096x1024 : Shape := ⟨2, ![4096, 1024]⟩
abbrev S_ : Shape := ⟨0, ![]⟩
abbrev S4096x128 : Shape := ⟨2, ![4096, 128]⟩
abbrev S4096x3200 : Shape := ⟨2, ![4096, 3200]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x128x128 : Shape := ⟨3, ![8, 128, 128]⟩
abbrev S4x256x128 : Shape := ⟨3, ![4, 256, 128]⟩
abbrev S8x128 : Shape := ⟨2, ![8, 128]⟩
abbrev S8x64x128 : Shape := ⟨3, ![8, 64, 128]⟩
abbrev S512x128 : Shape := ⟨2, ![512, 128]⟩
abbrev S128x512 : Shape := ⟨2, ![128, 512]⟩
abbrev S512x1024 : Shape := ⟨2, ![512, 1024]⟩
abbrev S1024x512 : Shape := ⟨2, ![1024, 512]⟩
abbrev S1024x4096 : Shape := ⟨2, ![1024, 4096]⟩
abbrev S512x512 : Shape := ⟨2, ![512, 512]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩
abbrev S128x8x64 : Shape := ⟨3, ![128, 8, 64]⟩
abbrev S128x8 : Shape := ⟨2, ![128, 8]⟩

abbrev nBuf : Space → Nat
  | .hbm => 79
  | .vmem => 23
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x8, .f32⟩
  | .hbm, ⟨4, _⟩ => ⟨S1x512, .f32⟩
  | .hbm, ⟨5, _⟩ => ⟨S1x512, .f32⟩
  | .hbm, ⟨6, _⟩ => ⟨S1x8x128x128, .f32⟩
  | .hbm, ⟨7, _⟩ => ⟨S1x8x128, .f32⟩
  | .hbm, ⟨8, _⟩ => ⟨S1x512x1024, .f32⟩
  | .hbm, ⟨9, _⟩ => ⟨S4096x1024, .f32⟩
  | .hbm, ⟨10, _⟩ => ⟨S_, .i32⟩
  | .hbm, ⟨11, _⟩ => ⟨S_, .f32⟩
  | .hbm, ⟨12, _⟩ => ⟨S4096x128, .f32⟩
  | .hbm, ⟨13, _⟩ => ⟨S4096x3200, .f32⟩
  | .hbm, ⟨14, _⟩ => ⟨S4096x3200, .bf16⟩
  | .hbm, ⟨15, _⟩ => ⟨S128, .i32⟩
  | .hbm, ⟨16, _⟩ => ⟨S_, .i32⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i1⟩
  | .hbm, ⟨24, _⟩ => ⟨S128, .i32⟩
  | .hbm, ⟨25, _⟩ => ⟨S128, .i32⟩
  | .hbm, ⟨26, _⟩ => ⟨S_, .i32⟩
  | .hbm, ⟨27, _⟩ => ⟨S128, .i32⟩
  | .hbm, ⟨28, _⟩ => ⟨S128, .i1⟩
  | .hbm, ⟨29, _⟩ => ⟨S128, .i1⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S128, .i32⟩
  | .hbm, ⟨34, _⟩ => ⟨S1x128, .i32⟩
  | .hbm, ⟨35, _⟩ => ⟨S128x1, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S1x128x128, .i1⟩
  | .hbm, ⟨40, _⟩ => ⟨S8x128x128, .f32⟩
  | .hbm, ⟨41, _⟩ => ⟨S_, .f32⟩
  | .hbm, ⟨42, _⟩ => ⟨S_, .f32⟩
  | .hbm, ⟨43, _⟩ => ⟨S8x128x128, .i1⟩
  | .hbm, ⟨44, _⟩ => ⟨S8x128x128, .f32⟩
  | .hbm, ⟨45, _⟩ => ⟨S8x128x128, .f32⟩
  | .hbm, ⟨46, _⟩ => ⟨S4x256x128, .f32⟩
  | .hbm, ⟨47, _⟩ => ⟨S4x256x128, .bf16⟩
  | .hbm, ⟨48, _⟩ => ⟨S8x128x128, .f32⟩
  | .hbm, ⟨49, _⟩ => ⟨S4x256x128, .f32⟩
  | .hbm, ⟨50, _⟩ => ⟨S4x256x128, .bf16⟩
  | .hbm, ⟨51, _⟩ => ⟨S8x128, .f32⟩
  | .hbm, ⟨52, _⟩ => ⟨S8x64x128, .f32⟩
  | .hbm, ⟨53, _⟩ => ⟨S512x128, .f32⟩
  | .hbm, ⟨54, _⟩ => ⟨S128x512, .f32⟩
  | .hbm, ⟨55, _⟩ => ⟨S512x1024, .f32⟩
  | .hbm, ⟨56, _⟩ => ⟨S1024x512, .f32⟩
  | .hbm, ⟨57, _⟩ => ⟨S1024x512, .bf16⟩
  | .hbm, ⟨58, _⟩ => ⟨S4096x1024, .bf16⟩
  | .hbm, ⟨59, _⟩ => ⟨S4096x512, .bf16⟩
  | .hbm, ⟨60, _⟩ => ⟨S4096x512, .bf16⟩
  | .hbm, ⟨61, _⟩ => ⟨S4x256x128, .f32⟩
  | .hbm, ⟨62, _⟩ => ⟨S128x512, .f32⟩
  | .hbm, ⟨63, _⟩ => ⟨S1x512, .f32⟩
  | .hbm, ⟨64, _⟩ => ⟨S1x512, .f32⟩
  | .hbm, ⟨65, _⟩ => ⟨S1024x4096, .bf16⟩
  | .hbm, ⟨66, _⟩ => ⟨S1x128x128, .i1⟩
  | .hbm, ⟨67, _⟩ => ⟨S8x128x128, .f32⟩
  | .hbm, ⟨68, _⟩ => ⟨S_, .f32⟩
  | .hbm, ⟨69, _⟩ => ⟨S_, .f32⟩
  | .hbm, ⟨70, _⟩ => ⟨S8x128x128, .i1⟩
  | .hbm, ⟨71, _⟩ => ⟨S8x128x128, .f32⟩
  | .hbm, ⟨72, _⟩ => ⟨S8x128x128, .f32⟩
  | .hbm, ⟨73, _⟩ => ⟨S128x8x64, .f32⟩
  | .hbm, ⟨74, _⟩ => ⟨S_, .f32⟩
  | .hbm, ⟨75, _⟩ => ⟨S128x8, .f32⟩
  | .hbm, ⟨76, _⟩ => ⟨S8x128, .f32⟩
  | .hbm, ⟨77, _⟩ => ⟨S1x8x128x128, .f32⟩
  | .hbm, ⟨78, _⟩ => ⟨S1x8x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S1024x512, .bf16⟩
  | .local _ .vmem, ⟨7, _⟩ => ⟨S1x512, .f32⟩
  | .local _ .vmem, ⟨8, _⟩ => ⟨S1x512, .f32⟩
  | .local _ .vmem, ⟨9, _⟩ => ⟨S4x256x128, .bf16⟩
  | .local _ .vmem, ⟨10, _⟩ => ⟨S4x256x128, .bf16⟩
  | .local _ .vmem, ⟨11, _⟩ => ⟨S128x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S4x256x128, .f32⟩
  | .local _ .vmem, ⟨17, _⟩ => ⟨S128x512, .f32⟩
  | .local _ .vmem, ⟨18, _⟩ => ⟨S1x512, .f32⟩
  | .local _ .vmem, ⟨19, _⟩ => ⟨S1x512, .f32⟩
  | .local _ .vmem, ⟨20, _⟩ => ⟨S1024x512, .bf16⟩
  | .local _ .vmem, ⟨21, _⟩ => ⟨S1024x512, .bf16⟩
  | .local _ .vmem, ⟨22, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_c : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_0 : Ref sig .tc := ⟨.hbm, 30, rfl⟩
abbrev main_call1_v12 : Ref sig .tc := ⟨.hbm, 31, rfl⟩
abbrev main_call1_v13 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26_0 : Ref sig .tc := ⟨.hbm, 59, rfl⟩
abbrev main_v26_1 : Ref sig .tc := ⟨.hbm, 60, rfl⟩
abbrev main_v26_2 : Ref sig .tc := ⟨.hbm, 61, rfl⟩
abbrev main_v26_3 : Ref sig .tc := ⟨.hbm, 62, rfl⟩
abbrev main_v26_4 : Ref sig .tc := ⟨.hbm, 63, rfl⟩
abbrev main_v26_5 : Ref sig .tc := ⟨.hbm, 64, rfl⟩
abbrev main_v26_6 : Ref sig .tc := ⟨.hbm, 65, rfl⟩
abbrev main_v27 : Ref sig .tc := ⟨.hbm, 66, rfl⟩
abbrev main_v28 : Ref sig .tc := ⟨.hbm, 67, rfl⟩
abbrev main_cst_1 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v29 : Ref sig .tc := ⟨.hbm, 72, rfl⟩
abbrev main_v30 : Ref sig .tc := ⟨.hbm, 73, rfl⟩
abbrev main_cst_2 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S4096x512 : Shape := ⟨2, ![4096, 512]⟩
abbrev S4096x2048 : Shape := ⟨2, ![4096, 2048]⟩
abbrev S4096x8 : Shape := ⟨2, ![4096, 8]⟩
abbrev S1x512 : Shape := ⟨2, ![1, 512]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S4096x1024 : Shape := ⟨2, ![4096, 1024]⟩
abbrev S_ : Shape := ⟨0, ![]⟩
abbrev S512 : Shape := ⟨1, ![512]⟩
abbrev S8x128x128 : Shape := ⟨3, ![8, 128, 128]⟩
abbrev S8x128 : Shape := ⟨2, ![8, 128]⟩
abbrev S4096 : Shape := ⟨1, ![4096]⟩
abbrev S4096x1 : Shape := ⟨2, ![4096, 1]⟩
abbrev S32x128x8x64 : Shape := ⟨4, ![32, 128, 8, 64]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x32x64x128 : Shape := ⟨4, ![8, 32, 64, 128]⟩
abbrev S128x8 : Shape := ⟨2, ![128, 8]⟩
abbrev S1x128x8x1 : Shape := ⟨4, ![1, 128, 8, 1]⟩
abbrev S512x1024 : Shape := ⟨2, ![512, 1024]⟩
abbrev S512x4096 : Shape := ⟨2, ![512, 4096]⟩
abbrev S1024x4096 : Shape := ⟨2, ![1024, 4096]⟩

abbrev nBuf : Space → Nat
  | .hbm => 254
  | .vmem => 0
  | .smem => 0
  | _ => 0

abbrev hbmTy0_0 (i : Nat) : BufTy := match i % 128 with
  | 0 => ⟨S4096x512, .f32⟩
  | 1 => ⟨S4096x512, .f32⟩
  | 2 => ⟨S4096x2048, .f32⟩
  | 3 => ⟨S4096x8, .f32⟩
  | 4 => ⟨S1x512, .f32⟩
  | 5 => ⟨S1x512, .f32⟩
  | 6 => ⟨S1x8x128x128, .f32⟩
  | 7 => ⟨S1x8x128, .f32⟩
  | 8 => ⟨S1x512x1024, .f32⟩
  | 9 => ⟨S4096x1024, .f32⟩
  | 10 => ⟨S4096x512, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S_, .f32⟩
  | 20 => ⟨S4096x512, .f32⟩
  | 21 => ⟨S4096x512, .f32⟩
  | 22 => ⟨S4096x512, .f32⟩
  | 23 => ⟨S_, .f32⟩
  | 24 => ⟨S4096x512, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S_, .f32⟩
  | 31 => ⟨S4096x512, .f32⟩
  | 32 => ⟨S4096x512, .f32⟩
  | 33 => ⟨S4096x512, .f32⟩
  | 34 => ⟨S_, .f32⟩
  | 35 => ⟨S4096x512, .f32⟩
  | 36 => ⟨S4096x512, .f32⟩
  | 37 => ⟨S_, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S_, .f32⟩
  | 45 => ⟨S4096x512, .f32⟩
  | 46 => ⟨S4096x512, .f32⟩
  | 47 => ⟨S_, .f32⟩
  | 48 => ⟨S4096x512, .f32⟩
  | 49 => ⟨S4096x512, .f32⟩
  | 50 => ⟨S_, .f32⟩
  | 51 => ⟨S4096x512, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S4096x512, .f32⟩
  | 58 => ⟨S_, .f32⟩
  | 59 => ⟨S4096x512, .f32⟩
  | 60 => ⟨S4096x512, .f32⟩
  | 61 => ⟨S_, .f32⟩
  | 62 => ⟨S4096x512, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S_, .f32⟩
  | 69 => ⟨S4096x512, .f32⟩
  | 70 => ⟨S4096x512, .f32⟩
  | 71 => ⟨S4096x512, .f32⟩
  | 72 => ⟨S512, .f32⟩
  | 73 => ⟨S512, .f32⟩
  | 74 => ⟨S8x128x128, .f32⟩
  | 75 => ⟨S8x128, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S4096x512, .f32⟩
  | 83 => ⟨S4096x512, .f32⟩
  | 84 => ⟨S4096x512, .f32⟩
  | 85 => ⟨S_, .f32⟩
  | 86 => ⟨S4096, .f32⟩
  | 87 => ⟨S4096x1, .f32⟩
  | 88 => ⟨S_, .f32⟩
  | 89 => ⟨S4096x1, .f32⟩
  | 90 => ⟨S4096x1, .f32⟩
  | 91 => ⟨S_, .f32⟩
  | 92 => ⟨S4096x1, .f32⟩
  | 93 => ⟨S4096x1, .f32⟩
  | 94 => ⟨S4096x1, .f32⟩
  | 95 => ⟨S4096x1, .f32⟩
  | 96 => ⟨S_, .f32⟩
  | 97 => ⟨S4096x1, .f32⟩
  | 98 => ⟨S4096x1, .f32⟩
  | 99 => ⟨S4096x512, .f32⟩
  | 100 => ⟨S4096x512, .f32⟩
  | 101 => ⟨S1x512, .f32⟩
  | 102 => ⟨S4096x512, .f32⟩
  | 103 => ⟨S4096x512, .f32⟩
  | 104 => ⟨S1x512, .f32⟩
  | 105 => ⟨S4096x512, .f32⟩
  | 106 => ⟨S4096x512, .f32⟩
  | 107 => ⟨S32x128x8x64, .f32⟩
  | 108 => ⟨S128, .i32⟩
  | 109 => ⟨S_, .i32⟩
  | 110 => ⟨S_, .i32⟩
  | 111 => ⟨S128, .i32⟩
  | 112 => ⟨S128, .i32⟩
  | 113 => ⟨S128, .i32⟩
  | 114 => ⟨S_, .i32⟩
  | 115 => ⟨S128, .i32⟩
  | 116 => ⟨S128, .i1⟩
  | 117 => ⟨S128, .i32⟩
  | 118 => ⟨S128, .i32⟩
  | 119 => ⟨S_, .i32⟩
  | 120 => ⟨S128, .i32⟩
  | 121 => ⟨S128, .i1⟩
  | 122 => ⟨S128, .i1⟩
  | 123 => ⟨S_, .i32⟩
  | 124 => ⟨S128, .i32⟩
  | 125 => ⟨S128, .i32⟩
  | 126 => ⟨S128, .i32⟩
  | 127 => ⟨S1x128, .i32⟩
  | _ => ⟨S4096x512, .f32⟩

abbrev hbmTy0_1 (i : Nat) : BufTy := match i % 128 with
  | 0 => ⟨S128x1, .i32⟩
  | 1 => ⟨S128x128, .i32⟩
  | 2 => ⟨S128x128, .i32⟩
  | 3 => ⟨S128x128, .i1⟩
  | 4 => ⟨S1x128x128, .i1⟩
  | 5 => ⟨S_, .i32⟩
  | 6 => ⟨S_, .f32⟩
  | 7 => ⟨S8x128x128, .i1⟩
  | 8 => ⟨S8x128x128, .f32⟩
  | 9 => ⟨S8x128x128, .f32⟩
  | 10 => ⟨S_, .f32⟩
  | 11 => ⟨S8x128x128, .f32⟩
  | 12 => ⟨S8x32x64x128, .f32⟩
  | 13 => ⟨S32x128x8x64, .f32⟩
  | 14 => ⟨S128x8, .f32⟩
  | 15 => ⟨S1x128x8x1, .f32⟩
  | 16 => ⟨S32x128x8x64, .f32⟩
  | 17 => ⟨S32x128x8x64, .f32⟩
  | 18 => ⟨S4096x512, .f32⟩
  | 19 => ⟨S4096x512, .f32⟩
  | 20 => ⟨S512x1024, .f32⟩
  | 21 => ⟨S4096x1024, .f32⟩
  | 22 => ⟨S4096x512, .f32⟩
  | 23 => ⟨S4096x512, .f32⟩
  | 24 => ⟨S4096x512, .f32⟩
  | 25 => ⟨S32x128x8x64, .f32⟩
  | 26 => ⟨S_, .f32⟩
  | 27 => ⟨S128x8, .f32⟩
  | 28 => ⟨S1x128x8x1, .f32⟩
  | 29 => ⟨S_, .f32⟩
  | 30 => ⟨S128x8, .f32⟩
  | 31 => ⟨S8x128, .f32⟩
  | 32 => ⟨S8x32x64x128, .f32⟩
  | 33 => ⟨S8x128x128, .f32⟩
  | 34 => ⟨S8x32x64x128, .f32⟩
  | 35 => ⟨S32x128x8x64, .f32⟩
  | 36 => ⟨S_, .f32⟩
  | 37 => ⟨S8x128x128, .f32⟩
  | 38 => ⟨S8x128x128, .f32⟩
  | 39 => ⟨S4096x512, .f32⟩
  | 40 => ⟨S_, .f32⟩
  | 41 => ⟨S512, .f32⟩
  | 42 => ⟨S1x512, .f32⟩
  | 43 => ⟨S_, .f32⟩
  | 44 => ⟨S512, .f32⟩
  | 45 => ⟨S4096x512, .f32⟩
  | 46 => ⟨S_, .f32⟩
  | 47 => ⟨S512, .f32⟩
  | 48 => ⟨S1x512, .f32⟩
  | 49 => ⟨S4096x512, .f32⟩
  | 50 => ⟨S4096x512, .f32⟩
  | 51 => ⟨S_, .f32⟩
  | 52 => ⟨S512, .f32⟩
  | 53 => ⟨S4096x512, .f32⟩
  | 54 => ⟨S_, .f32⟩
  | 55 => ⟨S4096, .f32⟩
  | 56 => ⟨S4096x1, .f32⟩
  | 57 => ⟨S4096x512, .f32⟩
  | 58 => ⟨S4096x512, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096, .f32⟩
  | 65 => ⟨S4096x512, .f32⟩
  | 66 => ⟨S4096x512, .f32⟩
  | 67 => ⟨S4096x512, .f32⟩
  | 68 => ⟨S4096x512, .f32⟩
  | 69 => ⟨S4096x512, .f32⟩
  | 70 => ⟨S4096x512, .f32⟩
  | 71 => ⟨S_, .f32⟩
  | 72 => ⟨S4096, .f32⟩
  | 73 => ⟨S4096x1, .f32⟩
  | 74 => ⟨S_, .f32⟩
  | 75 => ⟨S4096x1, .f32⟩
  | 76 => ⟨S4096x1, .f32⟩
  | 77 => ⟨S_, .f32⟩
  | 78 => ⟨S4096, .f32⟩
  | 79 => ⟨S4096x512, .f32⟩
  | 80 => ⟨S4096x512, .f32⟩
  | 81 => ⟨S1x8x128, .f32⟩
  | 82 => ⟨S1x8x128x128, .f32⟩
  | 83 => ⟨S1x512, .f32⟩
  | 84 => ⟨S1x512, .f32⟩
  | 85 => ⟨S4096x512, .f32⟩
  | 86 => ⟨S4096x512, .f32⟩
  | 87 => ⟨S_, .f32⟩
  | 88 => ⟨S4096x512, .f32⟩
  | 89 => ⟨S4096x512, .f32⟩
  | 90 => ⟨S4096x512, .f32⟩
  | 91 => ⟨S_, .f32⟩
  | 92 => ⟨S4096x512, .f32⟩
  | 93 => ⟨S4096x512, .f32⟩
  | 94 => ⟨S4096x512, .f32⟩
  | 95 => ⟨S_, .f32⟩
  | 96 => ⟨S4096x512, .f32⟩
  | 97 => ⟨S4096x512, .f32⟩
  | 98 => ⟨S_, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S_, .f32⟩
  | 106 => ⟨S4096x512, .f32⟩
  | 107 => ⟨S4096x512, .f32⟩
  | 108 => ⟨S4096x512, .f32⟩
  | 109 => ⟨S_, .f32⟩
  | 110 => ⟨S4096x512, .f32⟩
  | 111 => ⟨S4096x512, .f32⟩
  | 112 => ⟨S4096x512, .f32⟩
  | 113 => ⟨S_, .f32⟩
  | 114 => ⟨S4096x512, .f32⟩
  | 115 => ⟨S4096x512, .f32⟩
  | 116 => ⟨S_, .f32⟩
  | 117 => ⟨S4096x512, .f32⟩
  | 118 => ⟨S4096x512, .f32⟩
  | 119 => ⟨S4096x512, .f32⟩
  | 120 => ⟨S4096x512, .f32⟩
  | 121 => ⟨S4096x512, .bf16⟩
  | 122 => ⟨S4096x512, .bf16⟩
  | 123 => ⟨S512x4096, .bf16⟩
  | 124 => ⟨S512x4096, .bf16⟩
  | 125 => ⟨S1024x4096, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_cst_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_cst_12 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_13 : Ref sig .tc := ⟨.hbm, 65, rfl⟩
abbrev main_v41 : Ref sig .tc := ⟨.hbm, 66, rfl⟩
abbrev main_v42 : Ref sig .tc := ⟨.hbm, 67, rfl⟩
abbrev main_cst_14 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_15 : Ref sig .tc := ⟨.hbm, 76, rfl⟩
abbrev main_v50 : Ref sig .tc := ⟨.hbm, 77, rfl⟩
abbrev main_v51 : Ref sig .tc := ⟨.hbm, 78, rfl⟩
abbrev main_cst_16 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_17 : Ref sig .tc := ⟨.hbm, 85, rfl⟩
abbrev main_v57 : Ref sig .tc := ⟨.hbm, 86, rfl⟩
abbrev main_v58 : Ref sig .tc := ⟨.hbm, 87, rfl⟩
abbrev main_cst_18 : Ref sig .tc := ⟨.hbm, 88, rfl⟩
abbrev main_v59 : Ref sig .tc := ⟨.hbm, 89, rfl⟩
abbrev main_v60 : Ref sig .tc := ⟨.hbm, 90, rfl⟩
abbrev main_cst_19 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_20 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c : Ref sig .tc := ⟨.hbm, 109, rfl⟩
abbrev main_call0_v0 : Ref sig .tc := ⟨.hbm, 110, rfl⟩
abbrev main_call0_v1 : Ref sig .tc := ⟨.hbm, 111, rfl⟩
abbrev main_call0_v2 : Ref sig .tc := ⟨.hbm, 112, rfl⟩
abbrev main_call0_v3 : Ref sig .tc := ⟨.hbm, 113, rfl⟩
abbrev main_call0_v4 : Ref sig .tc := ⟨.hbm, 114, rfl⟩
abbrev main_call0_v5 : Ref sig .tc := ⟨.hbm, 115, rfl⟩
abbrev main_call0_v6 : Ref sig .tc := ⟨.hbm, 116, rfl⟩
abbrev main_call0_v7 : Ref sig .tc := ⟨.hbm, 117, rfl⟩
abbrev main_call0_v8 : Ref sig .tc := ⟨.hbm, 118, rfl⟩
abbrev main_call0_c : Ref sig .tc := ⟨.hbm, 119, rfl⟩
abbrev main_call0_v9 : Ref sig .tc := ⟨.hbm, 120, rfl⟩
abbrev main_call0_v10 : Ref sig .tc := ⟨.hbm, 121, rfl⟩
abbrev main_call0_v11 : Ref sig .tc := ⟨.hbm, 122, rfl⟩
abbrev main_call0_c_0 : Ref sig .tc := ⟨.hbm, 123, rfl⟩
abbrev main_call0_v12 : Ref sig .tc := ⟨.hbm, 124, rfl⟩
abbrev main_call0_v13 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_c_21 : Ref sig .tc := ⟨.hbm, 133, rfl⟩
abbrev main_call1_v0 : Ref sig .tc := ⟨.hbm, 134, rfl⟩
abbrev main_v84_1 : Ref sig .tc := ⟨.hbm, 135, rfl⟩
abbrev main_call1_v2 : Ref sig .tc := ⟨.hbm, 136, rfl⟩
abbrev main_v84_0 : Ref sig .tc := ⟨.hbm, 137, rfl⟩
abbrev main_call1_cst : Ref sig .tc := ⟨.hbm, 138, rfl⟩
abbrev main_v84_2 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_cst_22 : Ref sig .tc := ⟨.hbm, 154, rfl⟩
abbrev main_v99 : Ref sig .tc := ⟨.hbm, 155, rfl⟩
abbrev main_v100 : Ref sig .tc := ⟨.hbm, 156, rfl⟩
abbrev main_cst_23 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_call2_cst : Ref sig .tc := ⟨.hbm, 164, rfl⟩
abbrev main_call2_v0 : Ref sig .tc := ⟨.hbm, 165, rfl⟩
abbrev main_v107 : Ref sig .tc := ⟨.hbm, 166, rfl⟩
abbrev main_v108 : Ref sig .tc := ⟨.hbm, 167, rfl⟩
abbrev main_cst_24 : Ref sig .tc := ⟨.hbm, 168, rfl⟩
abbrev main_v109 : Ref sig .tc := ⟨.hbm, 169, rfl⟩
abbrev main_v110 : Ref sig .tc := ⟨.hbm, 170, rfl⟩
abbrev main_cst_25 : Ref sig .tc := ⟨.hbm, 171, rfl⟩
abbrev main_v111 : Ref sig .tc := ⟨.hbm, 172, rfl⟩
abbrev main_v112 : Ref sig .tc := ⟨.hbm, 173, rfl⟩
abbrev main_cst_26 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_cst_27 : Ref sig .tc := ⟨.hbm, 179, rfl⟩
abbrev main_v117 : Ref sig .tc := ⟨.hbm, 180, rfl⟩
abbrev main_v118 : Ref sig .tc := ⟨.hbm, 181, rfl⟩
abbrev main_cst_28 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_cst_29 : Ref sig .tc := ⟨.hbm, 188, rfl⟩
abbrev main_v124 : Ref sig .tc := ⟨.hbm, 189, rfl⟩
abbrev main_v125 : Ref sig .tc := ⟨.hbm, 190, rfl⟩
abbrev main_cst_30 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_cst_31 : Ref sig .tc := ⟨.hbm, 199, rfl⟩
abbrev main_v133 : Ref sig .tc := ⟨.hbm, 200, rfl⟩
abbrev main_v134 : Ref sig .tc := ⟨.hbm, 201, rfl⟩
abbrev main_cst_32 : Ref sig .tc := ⟨.hbm, 202, rfl⟩
abbrev main_v135 : Ref sig .tc := ⟨.hbm, 203, rfl⟩
abbrev main_v136 : Ref sig .tc := ⟨.hbm, 204, rfl⟩
abbrev main_cst_33 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_cst_34 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_cst_35 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_cst_36 : Ref sig .tc := ⟨.hbm, 223, rfl⟩
abbrev main_v152 : Ref sig .tc := ⟨.hbm, 224, rfl⟩
abbrev main_v153 : Ref sig .tc := ⟨.hbm, 225, rfl⟩
abbrev main_cst_37 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_cst_38 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_cst_39 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_cst_40 : Ref sig .tc := ⟨.hbm, 241, rfl⟩
abbrev main_v166 : Ref sig .tc := ⟨.hbm, 242, rfl⟩
abbrev main_v167 : Ref sig .tc := ⟨.hbm, 243, rfl⟩
abbrev main_cst_41 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩

abbrev nD : Nat := 1
abbrev τ : Topo := Topo.v7x

variable {F : FTy → Type} [FloatOps F]
-- ==== Kernel2.lean ====
abbrev S4096x1024 : Shape := ⟨2, ![4096, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S4096x4096 : Shape := ⟨2, ![4096, 4096]⟩
abbrev S1024x1024 : Shape := ⟨2, ![1024, 1024]⟩
abbrev S8x1024x512 : Shape := ⟨3, ![8, 1024, 512]⟩
abbrev S2x1024x512 : Shape := ⟨3, ![2, 1024, 512]⟩
abbrev S4096x512 : Shape := ⟨2, ![4096, 512]⟩
abbrev S1024x512 : Shape := ⟨2, ![1024, 512]⟩
abbrev S1x1024x512 : Shape := ⟨3, ![1, 1024, 512]⟩

abbrev nBuf : Space → Nat
  | .hbm => 17
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1x1024x4096, .f32⟩
  | .hbm, ⟨2, _⟩ => ⟨S1x4096x1024, .f32⟩
  | .hbm, ⟨3, _⟩ => ⟨S4096x1024, .f32⟩
  | .hbm, ⟨4, _⟩ => ⟨S4096x1024, .bf16⟩
  | .hbm, ⟨5, _⟩ => ⟨S1024x4096, .bf16⟩
  | .hbm, ⟨6, _⟩ => ⟨S1024x4096, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S4096x1024, .bf16⟩
  | .hbm, ⟨12, _⟩ => ⟨S4096x4096, .bf16⟩
  | .hbm, ⟨13, _⟩ => ⟨S4096x4096, .bf16⟩
  | .hbm, ⟨14, _⟩ => ⟨S4096x4096, .bf16⟩
  | .hbm, ⟨15, _⟩ => ⟨S4096x1024, .f32⟩
  | .hbm, ⟨16, _⟩ => ⟨S8x1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x4096, .bf16⟩
  | .local _ .vmem, ⟨17, _⟩ => ⟨S1024x4096, .bf16⟩
  | .local _ .vmem, ⟨18, _⟩ => ⟨S4096x1024, .bf16⟩
  | .local _ .vmem, ⟨19, _⟩ => ⟨S1024x1024, .f32⟩
  | .local _ .vmem, ⟨20, _⟩ => ⟨S1024x1024, .f32⟩
  | .local _ .vmem, ⟨21, _⟩ => ⟨S1024x4096, .bf16⟩
  | .local _ .vmem, ⟨22, _⟩ => ⟨S4096x1024, .bf16⟩
  | .local _ .vmem, ⟨23, _⟩ => ⟨S4096x1024, .bf16⟩
  | .local _ .vmem, ⟨24, _⟩ => ⟨S2x1024x512, .f32⟩
  | .local _ .vmem, ⟨25, _⟩ => ⟨S2x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![4, 1, 1], ![false, false, false]⟩

def k2_cond1 (i : grid2.Coords) : BitVec 1 :=
  let arg2 : BitVec 32 := BitVec.ofNat 32 (i 2).val
  let c0_i32 : BitVec 32 := 0#32
  let v0 : BitVec 1 := Scalar.cmpi .eq arg2 c0_i32
  let v6 : BitVec 32 := Scalar.extui v0
  let c0_i32_3 : BitVec 32 := 0#32
  let v7 : BitVec 1 := Scalar.cmpi .ne v6 c0_i32_3
  v7

def k2_cond2 (i : grid2.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v8 : BitVec 1 := Scalar.xori v0 v_true
  let v9 : BitVec 32 := Scalar.extui v8
  let c0_i32_4 : BitVec 32 := 0#32
  let v10 : BitVec 1 := Scalar.cmpi .ne v9 c0_i32_4
  v10

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 4, 1], ![false, false, false]⟩

def k3_cond1 (i : grid3.Coords) : BitVec 1 :=
  let arg2 : BitVec 32 := BitVec.ofNat 32 (i 2).val
  let c0_i32 : BitVec 32 := 0#32
  let v0 : BitVec 1 := Scalar.cmpi .eq arg2 c0_i32
  let v7 : BitVec 32 := Scalar.extui v0
  let c0_i32_4 : BitVec 32 := 0#32
  let v8 : BitVec 1 := Scalar.cmpi .ne v7 c0_i32_4
  v8

def k3_cond2 (i : grid3.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v9 : BitVec 1 := Scalar.xori v0 v_true
  let v10 : BitVec 32 := Scalar.extui v9
  let c0_i32_6 : BitVec 32 := 0#32
  let v11 : BitVec 1 := Scalar.cmpi .ne v10 c0_i32_6
  v11

def k3_cond3 (i : grid3.Coords) : BitVec 1 :=
  let arg2 : BitVec 32 := BitVec.ofNat 32 (i 2).val
  let c0_i32 : BitVec 32 := 0#32
  let v0 : BitVec 1 := Scalar.cmpi .eq arg2 c0_i32
  let v16 : BitVec 32 := Scalar.extui v0
  let c0_i32_10 : BitVec 32 := 0#32
  let v17 : BitVec 1 := Scalar.cmpi .ne v16 c0_i32_10
  v17

def k3_cond4 (i : grid3.Coords) : BitVec 1 :=
  let arg2 : BitVec 32 := BitVec.ofNat 32 (i 2).val
  let c0_i32 : BitVec 32 := 0#32
  let v0 : BitVec 1 := Scalar.cmpi .eq arg2 c0_i32
  let true_11 : BitVec 1 := 1#1
  let v18 : BitVec 1 := Scalar.xori v0 true_11
  let v19 : BitVec 32 := Scalar.extui v18
  let c0_i32_13 : BitVec 32 := 0#32
  let v20 : BitVec 1 := Scalar.cmpi .ne v19 c0_i32_13
  v20

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage3_0 : Fin 1 → Memref sig .tc .vmem S1024x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2x1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference2Ideal.lean ====
abbrev S4096x1024 : Shape := ⟨2, ![4096, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S4096x4096 : Shape := ⟨2, ![4096, 4096]⟩
abbrev S_ : Shape := ⟨0, ![]⟩
abbrev S1024x8x512 : Shape := ⟨3, ![1024, 8, 512]⟩
abbrev S8x1024x512 : Shape := ⟨3, ![8, 1024, 512]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x4096, .f32⟩
  | .hbm, ⟨2, _⟩ => ⟨S1x4096x1024, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x1024, .f32⟩
  | .hbm, ⟨20, _⟩ => ⟨S1024x4096, .f32⟩
  | .hbm, ⟨21, _⟩ => ⟨S4096x1024, .f32⟩
  | .hbm, ⟨22, _⟩ => ⟨S4096x4096, .f32⟩
  | .hbm, ⟨23, _⟩ => ⟨S1x4096x1024, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x1024, .f32⟩
  | .hbm, ⟨29, _⟩ => ⟨S1024x4096, .f32⟩
  | .hbm, ⟨30, _⟩ => ⟨S4096x1024, .f32⟩
  | .hbm, ⟨31, _⟩ => ⟨S1x1024x4096, .f32⟩
  | .hbm, ⟨32, _⟩ => ⟨S1024x4096, .f32⟩
  | .hbm, ⟨33, _⟩ => ⟨S1024x8x512, .f32⟩
  | .hbm, ⟨34, _⟩ => ⟨S8x1024x512, .f32⟩
  | .hbm, ⟨35, _⟩ => ⟨S4096x4096, .bf16⟩
  | .hbm, ⟨36, _⟩ => ⟨S4096x4096, .bf16⟩
  | .hbm, ⟨37, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel3.lean ====
abbrev S4096x1024 : Shape := ⟨2, ![4096, 1024]⟩
abbrev S1x1024x4616 : Shape := ⟨3, ![1, 1024, 4616]⟩
abbrev S4096x4616 : Shape := ⟨2, ![4096, 4616]⟩
abbrev S1024x4616 : Shape := ⟨2, ![1024, 4616]⟩
abbrev S4616x1024 : Shape := ⟨2, ![4616, 1024]⟩
abbrev S1536x1024 : Shape := ⟨2, ![1536, 1024]⟩
abbrev S3072x1024 : Shape := ⟨2, ![3072, 1024]⟩
abbrev S8x1024 : Shape := ⟨2, ![8, 1024]⟩
abbrev S_ : Shape := ⟨0, ![]⟩
abbrev S128x1024 : Shape := ⟨2, ![128, 1024]⟩
abbrev S3200x1024 : Shape := ⟨2, ![3200, 1024]⟩
abbrev S4096x1536 : Shape := ⟨2, ![4096, 1536]⟩
abbrev S512x4096 : Shape := ⟨2, ![512, 4096]⟩
abbrev S512x1024 : Shape := ⟨2, ![512, 1024]⟩
abbrev S512x1536 : Shape := ⟨2, ![512, 1536]⟩
abbrev S512x512 : Shape := ⟨2, ![512, 512]⟩
abbrev S4096x3200 : Shape := ⟨2, ![4096, 3200]⟩
abbrev S4096x128 : Shape := ⟨2, ![4096, 128]⟩
abbrev S512x3200 : Shape := ⟨2, ![512, 3200]⟩
abbrev S512x128 : Shape := ⟨2, ![512, 128]⟩
abbrev S4096x8 : Shape := ⟨2, ![4096, 8]⟩
abbrev S4096x512 : Shape := ⟨2, ![4096, 512]⟩
abbrev S1024x4096 : Shape := ⟨2, ![1024, 4096]⟩
abbrev S128x4096 : Shape := ⟨2, ![128, 4096]⟩
abbrev S4096x2048 : Shape := ⟨2, ![4096, 2048]⟩
abbrev S2048x4096 : Shape := ⟨2, ![2048, 4096]⟩
abbrev S1024x1024 : Shape := ⟨2, ![1024, 1024]⟩
abbrev S2048x1024 : Shape := ⟨2, ![2048, 1024]⟩

abbrev nBuf : Space → Nat
  | .hbm => 40
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S1x1024x4616, .f32⟩
  | .hbm, ⟨2, _⟩ => ⟨S4096x4616, .f32⟩
  | .hbm, ⟨3, _⟩ => ⟨S4096x1024, .bf16⟩
  | .hbm, ⟨4, _⟩ => ⟨S1024x4616, .f32⟩
  | .hbm, ⟨5, _⟩ => ⟨S4616x1024, .f32⟩
  | .hbm, ⟨6, _⟩ => ⟨S4616x1024, .bf16⟩
  | .hbm, ⟨7, _⟩ => ⟨S1536x1024, .bf16⟩
  | .hbm, ⟨8, _⟩ => ⟨S3072x1024, .bf16⟩
  | .hbm, ⟨9, _⟩ => ⟨S8x1024, .bf16⟩
  | .hbm, ⟨10, _⟩ => ⟨S_, .i32⟩
  | .hbm, ⟨11, _⟩ => ⟨S_, .bf16⟩
  | .hbm, ⟨12, _⟩ => ⟨S128x1024, .bf16⟩
  | .hbm, ⟨13, _⟩ => ⟨S3200x1024, .bf16⟩
  | .hbm, ⟨14, _⟩ => ⟨S4096x1536, .bf16⟩
  | .hbm, ⟨15, _⟩ => ⟨S512x4096, .bf16⟩
  | .hbm, ⟨16, _⟩ => ⟨S512x4096, .bf16⟩
  | .hbm, ⟨17, _⟩ => ⟨S4096x3200, .bf16⟩
  | .hbm, ⟨18, _⟩ => ⟨S4096x128, .f32⟩
  | .hbm, ⟨19, _⟩ => ⟨S4096x4616, .bf16⟩
  | .hbm, ⟨20, _⟩ => ⟨S4096x8, .bf16⟩
  | .hbm, ⟨21, _⟩ => ⟨S_, .i32⟩
  | .hbm, ⟨22, _⟩ => ⟨S_, .bf16⟩
  | .hbm, ⟨23, _⟩ => ⟨S4096x128, .bf16⟩
  | .hbm, ⟨24, _⟩ => ⟨S4096x512, .bf16⟩
  | .hbm, ⟨25, _⟩ => ⟨S512x4096, .bf16⟩
  | .hbm, ⟨26, _⟩ => ⟨S4096x1024, .bf16⟩
  | .hbm, ⟨27, _⟩ => ⟨S1024x4096, .bf16⟩
  | .hbm, ⟨28, _⟩ => ⟨S128x4096, .bf16⟩
  | .hbm, ⟨29, _⟩ => ⟨S4096x1024, .bf16⟩
  | .hbm, ⟨30, _⟩ => ⟨S1024x4096, .bf16⟩
  | .hbm, ⟨31, _⟩ => ⟨S4096x2048, .bf16⟩
  | .hbm, ⟨32, _⟩ => ⟨S2048x4096, .bf16⟩
  | .hbm, ⟨33, _⟩ => ⟨S512x1024, .f32⟩
  | .hbm, ⟨34, _⟩ => ⟨S1024x1024, .f32⟩
  | .hbm, ⟨35, _⟩ => ⟨S128x1024, .f32⟩
  | .hbm, ⟨36, _⟩ => ⟨S1024x1024, .f32⟩
  | .hbm, ⟨37, _⟩ => ⟨S2048x1024, .f32⟩
  | .hbm, ⟨38, _⟩ => ⟨S8x1024, .f32⟩
  | .hbm, ⟨39, _⟩ => ⟨S4616x1024, .f32⟩
  | .local _ .vmem, ⟨0, _⟩ => ⟨S512x1024, .bf16⟩
  | .local _ .vmem, ⟨1, _⟩ => ⟨S512x1024, .bf16⟩
  | .local _ .vmem, ⟨2, _⟩ => ⟨S1536x1024, .bf16⟩
  | .local _ .vmem, ⟨3, _⟩ => ⟨S512x1536, .bf16⟩
  | .local _ .vmem, ⟨4, _⟩ => ⟨S512x1536, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | .local _ .vmem, ⟨11, _⟩ => ⟨S3200x1024, .bf16⟩
  | .local _ .vmem, ⟨12, _⟩ => ⟨S512x3200, .bf16⟩
  | .local _ .vmem, ⟨13, _⟩ => ⟨S512x3200, .bf16⟩
  | .local _ .vmem, ⟨14, _⟩ => ⟨S512x128, .f32⟩
  | .local _ .vmem, ⟨15, _⟩ => ⟨S512x128, .f32⟩
  | .local _ .vmem, ⟨16, _⟩ => ⟨S512x4096, .bf16⟩
  | .local _ .vmem, ⟨17, _⟩ => ⟨S4096x1024, .bf16⟩
  | .local _ .vmem, ⟨18, _⟩ => ⟨S512x1024, .f32⟩
  | .local _ .vmem, ⟨19, _⟩ => ⟨S1024x4096, .bf16⟩
  | .local _ .vmem, ⟨20, _⟩ => ⟨S4096x1024, .bf16⟩
  | .local _ .vmem, ⟨21, _⟩ => ⟨S1024x1024, .f32⟩
  | .local _ .vmem, ⟨22, _⟩ => ⟨S128x4096, .bf16⟩
  | .local _ .vmem, ⟨23, _⟩ => ⟨S4096x1024, .bf16⟩
  | .local _ .vmem, ⟨24, _⟩ => ⟨S128x1024, .f32⟩
  | .local _ .vmem, ⟨25, _⟩ => ⟨S1024x4096, .bf16⟩
  | .local _ .vmem, ⟨26, _⟩ => ⟨S4096x1024, .bf16⟩
  | .local _ .vmem, ⟨27, _⟩ => ⟨S1024x1024, .f32⟩
  | .local _ .vmem, ⟨28, _⟩ => ⟨S1024x4096, .bf16⟩
  | .local _ .vmem, ⟨29, _⟩ => ⟨S1024x4096, .bf16⟩
  | .local _ .vmem, ⟨30, _⟩ => ⟨S4096x1024, .bf16⟩
  | .local _ .vmem, ⟨31, _⟩ => ⟨S1024x1024, .f32⟩
  | .local _ .vmem, ⟨32, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg2_0 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg2_0 : Ref sig .tc := ⟨.vmem, 27, rfl⟩
abbrev cc6_stg0_0 : Ref sig .tc := ⟨.vmem, 28, rfl⟩
abbrev cc6_stg0_1 : Ref sig .tc := ⟨.vmem, 29, rfl⟩
abbrev cc6_stg1_0 : Ref sig .tc := ⟨.vmem, 30, rfl⟩
abbrev cc6_stg2_0 : Ref sig .tc := ⟨.vmem, 31, rfl⟩
abbrev cc6_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem1_0 : DmaSem sig := 17
abbrev cc2_sem2_0 : DmaSem sig := 18
abbrev cc3_sem0_0 : DmaSem sig := 19
abbrev cc3_sem1_0 : DmaSem sig := 20
abbrev cc3_sem2_0 : DmaSem sig := 21
abbrev cc4_sem0_0 : DmaSem sig := 22
abbrev cc4_sem1_0 : DmaSem sig := 23
abbrev cc4_sem2_0 : DmaSem sig := 24
abbrev cc5_sem0_0 : DmaSem sig := 25
abbrev cc5_sem1_0 : DmaSem sig := 26
abbrev cc5_sem2_0 : DmaSem sig := 27
abbrev cc6_sem0_0 : DmaSem sig := 28
abbrev cc6_sem0_1 : DmaSem sig := 29
abbrev cc6_sem1_0 : DmaSem sig := 30
abbrev cc6_sem2_0 : DmaSem sig := 31
abbrev cc6_sem2_1 : DmaSem sig := 32

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S3200x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x3200 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨3, ![1, 1, 1], ![false, false, false]⟩

def k2_cond1 (i : grid2.Coords) : BitVec 1 :=
  let arg2 : BitVec 32 := BitVec.ofNat 32 (i 2).val
  let c0_i32 : BitVec 32 := 0#32
  let v0 : BitVec 1 := Scalar.cmpi .eq arg2 c0_i32
  let v6 : BitVec 32 := Scalar.extui v0
  let c0_i32_3 : BitVec 32 := 0#32
  let v7 : BitVec 1 := Scalar.cmpi .ne v6 c0_i32_3
  v7

def k2_cond2 (i : grid2.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v8 : BitVec 1 := Scalar.xori v0 v_true
  let v9 : BitVec 32 := Scalar.extui v8
  let c0_i32_4 : BitVec 32 := 0#32
  let v10 : BitVec 1 := Scalar.cmpi .ne v9 c0_i32_4
  v10

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S512x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S512x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨3, ![1, 1, 1], ![false, false, false]⟩

def k3_cond1 (i : grid3.Coords) : BitVec 1 :=
  let arg2 : BitVec 32 := BitVec.ofNat 32 (i 2).val
  let c0_i32 : BitVec 32 := 0#32
  let v0 : BitVec 1 := Scalar.cmpi .eq arg2 c0_i32
  let v6 : BitVec 32 := Scalar.extui v0
  let c0_i32_3 : BitVec 32 := 0#32
  let v7 : BitVec 1 := Scalar.cmpi .ne v6 c0_i32_3
  v7

def k3_cond2 (i : grid3.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v8 : BitVec 1 := Scalar.xori v0 v_true
  let v9 : BitVec 32 := Scalar.extui v8
  let c0_i32_4 : BitVec 32 := 0#32
  let v10 : BitVec 1 := Scalar.cmpi .ne v9 c0_i32_4
  v10

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S1024x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S1024x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev grid4 : Pipeline.Grid := ⟨3, ![1, 1, 1], ![false, false, false]⟩

def k4_cond1 (i : grid4.Coords) : BitVec 1 :=
  let arg2 : BitVec 32 := BitVec.ofNat 32 (i 2).val
  let c0_i32 : BitVec 32 := 0#32
  let v0 : BitVec 1 := Scalar.cmpi .eq arg2 c0_i32
  let v6 : BitVec 32 := Scalar.extui v0
  let c0_i32_3 : BitVec 32 := 0#32
  let v7 : BitVec 1 := Scalar.cmpi .ne v6 c0_i32_3
  v7

def k4_cond2 (i : grid4.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v8 : BitVec 1 := Scalar.xori v0 v_true
  let v9 : BitVec 32 := Scalar.extui v8
  let c0_i32_4 : BitVec 32 := 0#32
  let v10 : BitVec 1 := Scalar.cmpi .ne v9 c0_i32_4
  v10

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S128x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S128x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨3, ![1, 1, 1], ![false, false, false]⟩

def k5_cond1 (i : grid5.Coords) : BitVec 1 :=
  let arg2 : BitVec 32 := BitVec.ofNat 32 (i 2).val
  let c0_i32 : BitVec 32 := 0#32
  let v0 : BitVec 1 := Scalar.cmpi .eq arg2 c0_i32
  let v6 : BitVec 32 := Scalar.extui v0
  let c0_i32_3 : BitVec 32 := 0#32
  let v7 : BitVec 1 := Scalar.cmpi .ne v6 c0_i32_3
  v7

def k5_cond2 (i : grid5.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v8 : BitVec 1 := Scalar.xori v0 v_true
  let v9 : BitVec 32 := Scalar.extui v8
  let c0_i32_4 : BitVec 32 := 0#32
  let v10 : BitVec 1 := Scalar.cmpi .ne v9 c0_i32_4
  v10

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S1024x4096 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 1 → Memref sig .tc .vmem S1024x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]

abbrev grid6 : Pipeline.Grid := ⟨3, ![2, 1, 1], ![false, false, false]⟩

def k6_cond1 (i : grid6.Coords) : BitVec 1 :=
  let arg2 : BitVec 32 := BitVec.ofNat 32 (i 2).val
  let c0_i32 : BitVec 32 := 0#32
  let v0 : BitVec 1 := Scalar.cmpi .eq arg2 c0_i32
  let v6 : BitVec 32 := Scalar.extui v0
  let c0_i32_3 : BitVec 32 := 0#32
  let v7 : BitVec 1 := Scalar.cmpi .ne v6 c0_i32_3
  v7

def k6_cond2 (i : grid6.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v8 : BitVec 1 := Scalar.xori v0 v_true
  let v9 : BitVec 32 := Scalar.extui v8
  let c0_i32_4 : BitVec 32 := 0#32
  let v10 : BitVec 1 := Scalar.cmpi .ne v9 c0_i32_4
  v10

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S4096x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== Reference3Ideal.lean ====
abbrev S4096x1024 : Shape := ⟨2, ![4096, 1024]⟩
abbrev S1x1024x4616 : Shape := ⟨3, ![1, 1024, 4616]⟩
abbrev S4096x4616 : Shape := ⟨2, ![4096, 4616]⟩
abbrev S1024x4616 : Shape := ⟨2, ![1024, 4616]⟩
abbrev S4616x1024 : Shape := ⟨2, ![4616, 1024]⟩
abbrev S4096x1536 : Shape := ⟨2, ![4096, 1536]⟩
abbrev S4096x512 : Shape := ⟨2, ![4096, 512]⟩
abbrev S4096x8 : Shape := ⟨2, ![4096, 8]⟩
abbrev S_ : Shape := ⟨0, ![]⟩
abbrev S4096x128 : Shape := ⟨2, ![4096, 128]⟩
abbrev S4096x3072 : Shape := ⟨2, ![4096, 3072]⟩
abbrev S4096x3200 : Shape := ⟨2, ![4096, 3200]⟩
abbrev S512x4096 : Shape := ⟨2, ![512, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x4616, .f32⟩
  | .hbm, ⟨2, _⟩ => ⟨S4096x4616, .f32⟩
  | .hbm, ⟨3, _⟩ => ⟨S1024x4616, .f32⟩
  | .hbm, ⟨4, _⟩ => ⟨S4096x4616, .f32⟩
  | .hbm, ⟨5, _⟩ => ⟨S4616x1024, .f32⟩
  | .hbm, ⟨6, _⟩ => ⟨S1024x4616, .f32⟩
  | .hbm, ⟨7, _⟩ => ⟨S1x1024x4616, .f32⟩
  | .hbm, ⟨8, _⟩ => ⟨S4096x1536, .f32⟩
  | .hbm, ⟨9, _⟩ => ⟨S4096x512, .f32⟩
  | .hbm, ⟨10, _⟩ => ⟨S4096x512, .f32⟩
  | .hbm, ⟨11, _⟩ => ⟨S4096x8, .f32⟩
  | .hbm, ⟨12, _⟩ => ⟨S_, .i32⟩
  | .hbm, ⟨13, _⟩ => ⟨S_, .f32⟩
  | .hbm, ⟨14, _⟩ => ⟨S4096x128, .f32⟩
  | .hbm, ⟨15, _⟩ => ⟨S4096x3072, .f32⟩
  | .hbm, ⟨16, _⟩ => ⟨S4096x3200, .f32⟩
  | .hbm, ⟨17, _⟩ => ⟨S4096x1536, .bf16⟩
  | .hbm, ⟨18, _⟩ => ⟨S512x4096, .f32⟩
  | .hbm, ⟨19, _⟩ => ⟨S512x4096, .bf16⟩
  | .hbm, ⟨20, _⟩ => ⟨S512x4096, .f32⟩
  | .hbm, ⟨21, _⟩ => ⟨S512x4096, .bf16⟩
  | .hbm, ⟨22, _⟩ => ⟨S4096x3200, .bf16⟩
  | .hbm, ⟨23, _⟩ => ⟨S1024x4616, .f32⟩
  | .hbm, ⟨24, _⟩ => ⟨S4616x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel4.lean ====
abbrev S4096x1024 : Shape := ⟨2, ![4096, 1024]⟩
abbrev S1x1024x1024 : Shape := ⟨3, ![1, 1024, 1024]⟩
abbrev S1x1024 : Shape := ⟨2, ![1, 1024]⟩
abbrev S4096x512 : Shape := ⟨2, ![4096, 512]⟩
abbrev S1024x1024 : Shape := ⟨2, ![1024, 1024]⟩
abbrev S512x4096 : Shape := ⟨2, ![512, 4096]⟩
abbrev S1024x4096 : Shape := ⟨2, ![1024, 4096]⟩
abbrev S4096x1 : Shape := ⟨2, ![4096, 1]⟩
abbrev S512x1024 : Shape := ⟨2, ![512, 1024]⟩
abbrev S1024x512 : Shape := ⟨2, ![1024, 512]⟩
abbrev S512x1 : Shape := ⟨2, ![512, 1]⟩
abbrev S512 : Shape := ⟨1, ![512]⟩
abbrev S512x8x128 : Shape := ⟨3, ![512, 8, 128]⟩
abbrev S8x512x128 : Shape := ⟨3, ![8, 512, 128]⟩

abbrev nBuf : Space → Nat
  | .hbm => 27
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S4096x1024, .f32⟩
  | .hbm, ⟨3, _⟩ => ⟨S1x1024, .f32⟩
  | .hbm, ⟨4, _⟩ => ⟨S4096x512, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S1024x1024, .f32⟩
  | .hbm, ⟨12, _⟩ => ⟨S1024x1024, .bf16⟩
  | .hbm, ⟨13, _⟩ => ⟨S4096x512, .bf16⟩
  | .hbm, ⟨14, _⟩ => ⟨S512x4096, .bf16⟩
  | .hbm, ⟨15, _⟩ => ⟨S4096x512, .bf16⟩
  | .hbm, ⟨16, _⟩ => ⟨S512x4096, .bf16⟩
  | .hbm, ⟨17, _⟩ => ⟨S4096x1024, .f32⟩
  | .hbm, ⟨18, _⟩ => ⟨S4096x1024, .bf16⟩
  | .hbm, ⟨19, _⟩ => ⟨S1024x4096, .bf16⟩
  | .hbm, ⟨20, _⟩ => ⟨S4096x1, .f32⟩
  | .hbm, ⟨21, _⟩ => ⟨S512x1024, .f32⟩
  | .hbm, ⟨22, _⟩ => ⟨S512x8x128, .f32⟩
  | .hbm, ⟨23, _⟩ => ⟨S8x512x128, .f32⟩
  | .hbm, ⟨24, _⟩ => ⟨S512x1024, .f32⟩
  | .hbm, ⟨25, _⟩ => ⟨S512x8x128, .f32⟩
  | .hbm, ⟨26, _⟩ => ⟨S8x512x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1, .f32⟩
  | .local _ .vmem, ⟨13, _⟩ => ⟨S512x1, .f32⟩
  | .local _ .vmem, ⟨14, _⟩ => ⟨S512x4096, .bf16⟩
  | .local _ .vmem, ⟨15, _⟩ => ⟨S4096x1024, .bf16⟩
  | .local _ .vmem, ⟨16, _⟩ => ⟨S512x1024, .f32⟩
  | .local _ .vmem, ⟨17, _⟩ => ⟨S512x4096, .bf16⟩
  | .local _ .vmem, ⟨18, _⟩ => ⟨S4096x1024, .bf16⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem2_0 : DmaSem sig := 16
abbrev cc2_sem0_0 : DmaSem sig := 17
abbrev cc2_sem1_0 : DmaSem sig := 18
abbrev cc2_sem2_0 : DmaSem sig := 19

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨3, ![1, 1, 1], ![false, false, false]⟩

def k1_cond1 (i : grid1.Coords) : BitVec 1 :=
  let arg2 : BitVec 32 := BitVec.ofNat 32 (i 2).val
  let c0_i32 : BitVec 32 := 0#32
  let v0 : BitVec 1 := Scalar.cmpi .eq arg2 c0_i32
  let v6 : BitVec 32 := Scalar.extui v0
  let c0_i32_3 : BitVec 32 := 0#32
  let v7 : BitVec 1 := Scalar.cmpi .ne v6 c0_i32_3
  v7

def k1_cond2 (i : grid1.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v8 : BitVec 1 := Scalar.xori v0 v_true
  let v9 : BitVec 32 := Scalar.extui v8
  let c0_i32_4 : BitVec 32 := 0#32
  let v10 : BitVec 1 := Scalar.cmpi .ne v9 c0_i32_4
  v10

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S512x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 1 → Memref sig .tc .vmem S512x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev grid2 : Pipeline.Grid := ⟨3, ![1, 1, 1], ![false, false, false]⟩

def k2_cond1 (i : grid2.Coords) : BitVec 1 :=
  let arg2 : BitVec 32 := BitVec.ofNat 32 (i 2).val
  let c0_i32 : BitVec 32 := 0#32
  let v0 : BitVec 1 := Scalar.cmpi .eq arg2 c0_i32
  let v6 : BitVec 32 := Scalar.extui v0
  let c0_i32_3 : BitVec 32 := 0#32
  let v7 : BitVec 1 := Scalar.cmpi .ne v6 c0_i32_3
  v7

def k2_cond2 (i : grid2.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v8 : BitVec 1 := Scalar.xori v0 v_true
  let v9 : BitVec 32 := Scalar.extui v8
  let c0_i32_4 : BitVec 32 := 0#32
  let v10 : BitVec 1 := Scalar.cmpi .ne v9 c0_i32_4
  v10

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S512x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S512x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]
-- ==== Reference4Ideal.lean ====
abbrev S4096x1024 : Shape := ⟨2, ![4096, 1024]⟩
abbrev S1x1024x1024 : Shape := ⟨3, ![1, 1024, 1024]⟩
abbrev S1x1024 : Shape := ⟨2, ![1, 1024]⟩
abbrev S4096x512 : Shape := ⟨2, ![4096, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩
abbrev S1024x4096 : Shape := ⟨2, ![1024, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S4096x1024, .f32⟩
  | .hbm, ⟨3, _⟩ => ⟨S1x1024, .f32⟩
  | .hbm, ⟨4, _⟩ => ⟨S4096x512, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S512x1024, .f32⟩
  | .hbm, ⟨28, _⟩ => ⟨S4096x1024, .f32⟩
  | .hbm, ⟨29, _⟩ => ⟨S1024x512, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S4096x1024, .f32⟩
  | .hbm, ⟨34, _⟩ => ⟨S1024x512, .f32⟩
  | .hbm, ⟨35, _⟩ => ⟨S512x1024, .f32⟩
  | .hbm, ⟨36, _⟩ => ⟨S512x8x128, .f32⟩
  | .hbm, ⟨37, _⟩ => ⟨S8x512x128, .f32⟩
  | .hbm, ⟨38, _⟩ => ⟨S512x8x128, .f32⟩
  | .hbm, ⟨39, _⟩ => ⟨S8x512x128, .f32⟩
  | .hbm, ⟨40, _⟩ => ⟨S4096x1024, .bf16⟩
  | .hbm, ⟨41, _⟩ => ⟨S1024x4096, .f32⟩
  | .hbm, ⟨42, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel5.lean ====
abbrev S4096x4096 : Shape := ⟨2, ![4096, 4096]⟩
abbrev S1x4096x1024 : Shape := ⟨3, ![1, 4096, 1024]⟩
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S1x4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x4096, .bf16⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S4096x1024, .f32⟩
  | .hbm, ⟨10, _⟩ => ⟨S1x1024, .f32⟩
  | .hbm, ⟨11, _⟩ => ⟨S1x128, .f32⟩
  | .hbm, ⟨12, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x128, .f32⟩
  | .local _ .vmem, ⟨12, _⟩ => ⟨S512x1024, .bf16⟩
  | .local _ .vmem, ⟨13, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let arg1 : BitVec 32 := BitVec.ofNat 32 (i 1).val
  let c0_i32_18 : BitVec 32 := 0#32
  let v42 : BitVec 1 := Scalar.cmpi .eq arg1 c0_i32_18
  let v43 : BitVec 1 := Scalar.andi v41 v42
  let v44 : BitVec 32 := Scalar.extui v43
  let c0_i32_19 : BitVec 32 := 0#32
  let v45 : BitVec 1 := Scalar.cmpi .ne v44 c0_i32_19
  v45

def k0_cond2 (i : grid0.Coords) : BitVec 1 :=
  let arg0 : BitVec 32 := BitVec.ofNat 32 (i 0).val
  let c0_i32_20 : BitVec 32 := 0#32
  let v46 : BitVec 1 := Scalar.cmpi .eq arg0 c0_i32_20
  let arg1 : BitVec 32 := BitVec.ofNat 32 (i 1).val
  let c0_i32_21 : BitVec 32 := 0#32
  let v47 : BitVec 1 := Scalar.cmpi .eq arg1 c0_i32_21
  let v48 : BitVec 1 := Scalar.andi v46 v47
  let v_true : BitVec 1 := 1#1
  let v49 : BitVec 1 := Scalar.xori v48 v_true
  let v50 : BitVec 32 := Scalar.extui v49
  let c0_i32_22 : BitVec 32 := 0#32
  let v51 : BitVec 1 := Scalar.cmpi .ne v50 c0_i32_22
  v51

def k0_cond3 (i : grid0.Coords) : BitVec 1 :=
  let arg0 : BitVec 32 := BitVec.ofNat 32 (i 0).val
  let c0_i32_27 : BitVec 32 := 0#32
  let v63 : BitVec 1 := Scalar.cmpi .eq arg0 c0_i32_27
  let arg1 : BitVec 32 := BitVec.ofNat 32 (i 1).val
  let c0_i32_28 : BitVec 32 := 0#32
  let v64 : BitVec 1 := Scalar.cmpi .eq arg1 c0_i32_28
  let v65 : BitVec 1 := Scalar.andi v63 v64
  let v66 : BitVec 32 := Scalar.extui v65
  let c0_i32_29 : BitVec 32 := 0#32
  let v67 : BitVec 1 := Scalar.cmpi .ne v66 c0_i32_29
  v67

def k0_cond4 (i : grid0.Coords) : BitVec 1 :=
  let arg0 : BitVec 32 := BitVec.ofNat 32 (i 0).val
  let c0_i32_30 : BitVec 32 := 0#32
  let v68 : BitVec 1 := Scalar.cmpi .eq arg0 c0_i32_30
  let arg1 : BitVec 32 := BitVec.ofNat 32 (i 1).val
  let c0_i32_31 : BitVec 32 := 0#32
  let v69 : BitVec 1 := Scalar.cmpi .eq arg1 c0_i32_31
  let v70 : BitVec 1 := Scalar.andi v68 v69
  let true_32 : BitVec 1 := 1#1
  let v71 : BitVec 1 := Scalar.xori v70 true_32
  let v72 : BitVec 32 := Scalar.extui v71
  let c0_i32_33 : BitVec 32 := 0#32
  let v73 : BitVec 1 := Scalar.cmpi .ne v72 c0_i32_33
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S4096x4096 : Shape := ⟨2, ![4096, 4096]⟩
abbrev S1x4096x1024 : Shape := ⟨3, ![1, 4096, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S1x1024, .f32⟩
  | .hbm, ⟨77, _⟩ => ⟨S1x128, .f32⟩
  | .hbm, ⟨78, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel6.lean ====
abbrev S4096x512 : Shape := ⟨2, ![4096, 512]⟩
abbrev S1x512x1024 : Shape := ⟨3, ![1, 512, 1024]⟩
abbrev S4096x3200 : Shape := ⟨2, ![4096, 3200]⟩
abbrev S512x1024 : Shape := ⟨2, ![512, 1024]⟩
abbrev S1024x512 : Shape := ⟨2, ![1024, 512]⟩
abbrev S4096x1024 : Shape := ⟨2, ![4096, 1024]⟩
abbrev S1024x4096 : Shape := ⟨2, ![1024, 4096]⟩
abbrev S512x512 : Shape := ⟨2, ![512, 512]⟩

abbrev nBuf : Space → Nat
  | .hbm => 18
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S1x512x1024, .f32⟩
  | .hbm, ⟨2, _⟩ => ⟨S4096x512, .f32⟩
  | .hbm, ⟨3, _⟩ => ⟨S1x512x1024, .f32⟩
  | .hbm, ⟨4, _⟩ => ⟨S4096x3200, .f32⟩
  | .hbm, ⟨5, _⟩ => ⟨S4096x512, .bf16⟩
  | .hbm, ⟨6, _⟩ => ⟨S4096x512, .bf16⟩
  | .hbm, ⟨7, _⟩ => ⟨S4096x3200, .bf16⟩
  | .hbm, ⟨8, _⟩ => ⟨S512x1024, .f32⟩
  | .hbm, ⟨9, _⟩ => ⟨S1024x512, .f32⟩
  | .hbm, ⟨10, _⟩ => ⟨S1024x512, .bf16⟩
  | .hbm, ⟨11, _⟩ => ⟨S512x1024, .f32⟩
  | .hbm, ⟨12, _⟩ => ⟨S1024x512, .f32⟩
  | .hbm, ⟨13, _⟩ => ⟨S1024x512, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S1024x4096, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x512, .bf16⟩
  | .local _ .vmem, ⟨17, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S4096x512 : Shape := ⟨2, ![4096, 512]⟩
abbrev S1x512x1024 : Shape := ⟨3, ![1, 512, 1024]⟩
abbrev S4096x3200 : Shape := ⟨2, ![4096, 3200]⟩
abbrev S512x1024 : Shape := ⟨2, ![512, 1024]⟩
abbrev S4096x1024 : Shape := ⟨2, ![4096, 1024]⟩
abbrev S4096x2048 : Shape := ⟨2, ![4096, 2048]⟩
abbrev S_ : Shape := ⟨0, ![]⟩
abbrev S1024x4096 : Shape := ⟨2, ![1024, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512x1024, .f32⟩
  | .hbm, ⟨2, _⟩ => ⟨S4096x512, .f32⟩
  | .hbm, ⟨3, _⟩ => ⟨S1x512x1024, .f32⟩
  | .hbm, ⟨4, _⟩ => ⟨S4096x3200, .f32⟩
  | .hbm, ⟨5, _⟩ => ⟨S512x1024, .f32⟩
  | .hbm, ⟨6, _⟩ => ⟨S4096x1024, .f32⟩
  | .hbm, ⟨7, _⟩ => ⟨S512x1024, .f32⟩
  | .hbm, ⟨8, _⟩ => ⟨S4096x1024, .f32⟩
  | .hbm, ⟨9, _⟩ => ⟨S4096x2048, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S4096x1024, .bf16⟩
  | .hbm, ⟨33, _⟩ => ⟨S4096x1024, .bf16⟩
  | .hbm, ⟨34, _⟩ => ⟨S1024x4096, .f32⟩
  | .hbm, ⟨35, _⟩ => ⟨S1024x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel7.lean ====
abbrev S4096x1024 : Shape := ⟨2, ![4096, 1024]⟩
abbrev S1x1024x1024 : Shape := ⟨3, ![1, 1024, 1024]⟩
abbrev S4096x3200 : Shape := ⟨2, ![4096, 3200]⟩
abbrev S1024x1024 : Shape := ⟨2, ![1024, 1024]⟩
abbrev S2048x4096 : Shape := ⟨2, ![2048, 4096]⟩
abbrev S512x1024 : Shape := ⟨2, ![512, 1024]⟩
abbrev S2048x512 : Shape := ⟨2, ![2048, 512]⟩
abbrev S1024x512 : Shape := ⟨2, ![1024, 512]⟩

abbrev nBuf : Space → Nat
  | .hbm => 15
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S4096x3200, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .bf16⟩
  | .hbm, ⟨7, _⟩ => ⟨S4096x3200, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S2048x4096, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S2048x512, .bf16⟩
  | .local _ .vmem, ⟨20, _⟩ => ⟨S2048x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference7Ideal.lean ====
abbrev S4096x1024 : Shape := ⟨2, ![4096, 1024]⟩
abbrev S1x1024x1024 : Shape := ⟨3, ![1, 1024, 1024]⟩
abbrev S4096x3200 : Shape := ⟨2, ![4096, 3200]⟩
abbrev S4096x2048 : Shape := ⟨2, ![4096, 2048]⟩
abbrev S_ : Shape := ⟨0, ![]⟩
abbrev S1024x1024 : Shape := ⟨2, ![1024, 1024]⟩
abbrev S1024x4096 : Shape := ⟨2, ![1024, 4096]⟩
abbrev S2048x4096 : Shape := ⟨2, ![2048, 4096]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x1024, .f32⟩
  | .hbm, ⟨2, _⟩ => ⟨S4096x3200, .f32⟩
  | .hbm, ⟨3, _⟩ => ⟨S4096x1024, .f32⟩
  | .hbm, ⟨4, _⟩ => ⟨S4096x1024, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1024x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S1024x4096, .f32⟩
  | .hbm, ⟨45, _⟩ => ⟨S1024x4096, .f32⟩
  | .hbm, ⟨46, _⟩ => ⟨S2048x4096, .f32⟩
  | .hbm, ⟨47, _⟩ => ⟨S4096x1024, .bf16⟩
  | .hbm, ⟨48, _⟩ => ⟨S4096x1024, .bf16⟩
  | .hbm, ⟨49, _⟩ => ⟨S4096x1024, .bf16⟩
  | .hbm, ⟨50, _⟩ => ⟨S4096x1024, .bf16⟩
  | .hbm, ⟨51, _⟩ => ⟨S2048x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel8.lean ====
abbrev S4096x1024 : Shape := ⟨2, ![4096, 1024]⟩
abbrev S1024x4096 : Shape := ⟨2, ![1024, 4096]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x4096, .bf16⟩
  | .hbm, ⟨4, _⟩ => ⟨S1024x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v6 : BitVec 32 := Scalar.extui v0
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v8 : BitVec 1 := Scalar.xori v0 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.ProjRun.lean ====
/- The whole run of the projection program: every buffer at the end, and every semaphore at zero. -/
module

public import proofs.«01_k».proof.Proof.Gen.Kernel3Ideal.Frame

@[expose] public section

set_option maxRecDepth 16384
set_option synthInstance.maxSize 4096

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- At the end every buffer of the program holds what its regions and the host's operations leave, and every semaphore is at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W14 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨h, funext fun g => hz g (.inr (no_unscoped g.2))⟩)

end Cert.Kernel3Ideal.Gen

end
-- ==== Proof.ProjModel.lean ====
/- The projection over the extended reals: the product with the weight, its columns in the order the kernels keep, and the gradient of the weight. -/
module

public import Idealize.ShloMosaic.Lib.Pipeline.ValueKit

@[expose] public section

set_option maxRecDepth 16384
set_option synthInstance.maxSize 4096

noncomputable section

namespace Proj

open Idealize.ShloMosaic

/-- A matrix of extended reals. -/
abbrev Mat (a b : ℕ) : Type := Fin a → Fin b → EReal

/-- The product of the normalised input with the weight. -/
def pr (h : Mat 4096 1024) (w : Mat 1024 4616) : Mat 4096 4616 := fun s f => ∑ k, h s k * w k f

/-- The first 1536 columns: queries, keys and values. -/
def qkv (h : Mat 4096 1024) (w : Mat 1024 4616) : Mat 4096 1536 := fun s f => pr h w s ⟨f.val, by omega⟩

/-- The eight columns of the forget gate, then columns of zeros. -/
def fLogit (h : Mat 4096 1024) (w : Mat 1024 4616) : Mat 4096 128 :=
  fun s f => if hf : f.val < 8 then pr h w s ⟨1536 + f.val, by omega⟩ else 0

/-- The other columns: first the ones behind the forget gate, then the forget gate's own. -/
def rest (h : Mat 4096 1024) (w : Mat 1024 4616) : Mat 4096 3200 :=
  fun s f => if hf : f.val < 3072 then pr h w s ⟨1544 + f.val, by omega⟩ else fLogit h w s ⟨f.val - 3072, by omega⟩

/-- The rows of the transposed weight in the order of `rest`: row `f` is the column of the weight, or zeros. -/
def wRest (w : Mat 1024 4616) : Mat 3200 1024 :=
  fun f k => if hf : f.val < 3072 then w k ⟨1544 + f.val, by omega⟩
    else if hf' : f.val - 3072 < 8 then w k ⟨1536 + (f.val - 3072), by omega⟩ else 0

/-- The product of a block of rows of the transposed gradient with the normalised input. -/
def grad {r : ℕ} (a : Mat r 4096) (h : Mat 4096 1024) : Mat r 1024 := fun f k => ∑ s, a f s * h s k

/-- The gradient of the weight, transposed. -/
def gIn (h : Mat 4096 1024) (d : Mat 4096 4616) : Mat 4616 1024 := fun f k => ∑ s, d s f * h s k

/-- The product with the reordered rows is the reordered product: a row of zeros gives a zero. -/
theorem rest_eq (h : Mat 4096 1024) (w : Mat 1024 4616) (s : Fin 4096) (f : Fin 3200) :
    ∑ k, h s k * wRest w f k = rest h w s f := by
  unfold rest wRest fLogit
  by_cases h1 : f.val < 3072
  · simp only [h1, dite_true]
    rfl
  · by_cases h2 : f.val - 3072 < 8
    · simp only [h1, h2, dite_true, dite_false]
      rfl
    · simp [h1, h2]

/-- The last 128 columns of `rest` are the padded forget gate. -/
theorem rest_tail (h : Mat 4096 1024) (w : Mat 1024 4616) (s : Fin 4096) (f : Fin 128) :
    rest h w s ⟨3072 + f.val, by omega⟩ = fLogit h w s f := by
  unfold rest
  rw [dif_neg (by show ¬ 3072 + f.val < 3072; omega)]
  exact congrArg (fLogit h w s) (Fin.ext (by show 3072 + f.val - 3072 = f.val; omega))

end Proj

end
-- ==== Proof.ProjPay.lean ====
/- What the seven bodies of the projection and of its weight gradient compute, read at an index. -/
module

public import proofs.«01_k».proof.Proof.Gen.Kernel3Ideal.Skeleton
public import proofs.«01_k».proof.Proof.ProjModel

@[expose] public section

set_option maxRecDepth 16384
set_option synthInstance.maxSize 4096

noncomputable section

namespace Cert.Kernel3Ideal.Gen

open Idealize.ShloMosaic Idealize.ShloMosaic.TcCoe Idealize.SL.Sem
open Idealize.ShloMosaic.Tactic

theorem pay_qkv (x0 : Vec Ideal S512x1024 .bf16) (x1 : Vec Ideal S1536x1024 .bf16) (p : Fin 512) (q : Fin 1536) :
    k0_pay1 x0 x1 (ix2 p q) = ∑ k : Fin 1024, x0 (ix2 p k) * x1 (ix2 q k) := by
  pointwise [k0_pay1]

theorem pay_kT (x0 : Vec Ideal S512x1024 .bf16) (x1 : Vec Ideal S1536x1024 .bf16) (q p : Fin 512) :
    k0_pay2 x0 x1 (ix2 q p) = k0_pay1 x0 x1 (ix2 p ⟨512 + q.val, by omega⟩) := by
  pointwise [k0_pay2]

theorem pay_vT (x0 : Vec Ideal S512x1024 .bf16) (x1 : Vec Ideal S1536x1024 .bf16) (q p : Fin 512) :
    k0_pay3 x0 x1 (ix2 q p) = k0_pay1 x0 x1 (ix2 p ⟨1024 + q.val, by omega⟩) := by
  pointwise [k0_pay3]

theorem pay_rest (x0 : Vec Ideal S512x1024 .bf16) (x1 : Vec Ideal S3200x1024 .bf16) (p : Fin 512) (q : Fin 3200) :
    k1_pay1 x0 x1 (ix2 p q) = ∑ k : Fin 1024, x0 (ix2 p k) * x1 (ix2 q k) := by
  pointwise [k1_pay1]

theorem pay_rest' (x0 : Vec Ideal S512x1024 .bf16) (x1 : Vec Ideal S3200x1024 .bf16) (p : Fin 512) (q : Fin 3200) :
    k1_pay2 x0 x1 (ix2 p q) = k1_pay1 x0 x1 (ix2 p q) := by
  pointwise [k1_pay2]

theorem pay_fLogit (x0 : Vec Ideal S512x1024 .bf16) (x1 : Vec Ideal S3200x1024 .bf16) (p : Fin 512) (q : Fin 128) :
    k1_pay3 x0 x1 (ix2 p q) = k1_pay1 x0 x1 (ix2 p ⟨3072 + q.val, by omega⟩) := by
  pointwise [k1_pay3]

theorem pay_g2 (x1 : Vec Ideal S4096x1024 .bf16) (x0 : Vec Ideal S512x4096 .bf16) (p : Fin 512) (q : Fin 1024) :
    k2_pay1 x1 x0 (ix2 p q) = ∑ s : Fin 4096, x0 (ix2 p s) * x1 (ix2 s q) := by
  pointwise [k2_pay1]

theorem pay_g3 (x1 : Vec Ideal S4096x1024 .bf16) (x0 : Vec Ideal S1024x4096 .bf16) (p : Fin 1024) (q : Fin 1024) :
    k3_pay1 x1 x0 (ix2 p q) = ∑ s : Fin 4096, x0 (ix2 p s) * x1 (ix2 s q) := by
  pointwise [k3_pay1]

theorem pay_g4 (x1 : Vec Ideal S4096x1024 .bf16) (x0 : Vec Ideal S128x4096 .bf16) (p : Fin 128) (q : Fin 1024) :
    k4_pay1 x1 x0 (ix2 p q) = ∑ s : Fin 4096, x0 (ix2 p s) * x1 (ix2 s q) := by
  pointwise [k4_pay1]

theorem pay_g5 (x1 : Vec Ideal S4096x1024 .bf16) (x0 : Vec Ideal S1024x4096 .bf16) (p : Fin 1024) (q : Fin 1024) :
    k5_pay1 x1 x0 (ix2 p q) = ∑ s : Fin 4096, x0 (ix2 p s) * x1 (ix2 s q) := by
  pointwise [k5_pay1]

theorem pay_g6 (x1 : Vec Ideal S4096x1024 .bf16) (x0 : Vec Ideal S1024x4096 .bf16) (p : Fin 1024) (q : Fin 1024) :
    k6_pay1 x1 x0 (ix2 p q) = ∑ s : Fin 4096, x0 (ix2 p s) * x1 (ix2 s q) := by
  pointwise [k6_pay1]

end Cert.Kernel3Ideal.Gen

end
-- ==== Proof.ProjArr.lean ====
/- The columns of the projection: what the first two regions leave. -/
module

public import proofs.«01_k».proof.Proof.Gen.Kernel3Ideal.Frame
public import proofs.«01_k».proof.Proof.ProjPay
public import Idealize.ShloMosaic.Lib.Pipeline.ValueKit
public import Idealize.ShloMosaic.Lib.Claim

@[expose] public section

set_option maxRecDepth 16384
set_option synthInstance.maxSize 4096

noncomputable section

namespace Cert.Kernel3Ideal.Gen

open Idealize.ShloMosaic Idealize.ShloMosaic.TcCoe Idealize.SL.Sem
open Idealize.ShloMosaic.Tactic

theorem idx0 : ∀ t : Fin cfg0.N, win0_0.index t = ![t.val, 0] ∧ win0_1.index t = ![0, 0] ∧ win0_2.index t = ![t.val, 0]
    ∧ win0_3.index t = ![0, t.val] ∧ win0_4.index t = ![0, t.val] :=
  (by decide +kernel : ∀ t : Fin grid0.N, _)

theorem idx1 : ∀ t : Fin cfg1.N, win1_0.index t = ![t.val, 0] ∧ win1_1.index t = ![0, 0] ∧ win1_2.index t = ![t.val, 0]
    ∧ win1_3.index t = ![t.val, 0] :=
  (by decide +kernel : ∀ t : Fin grid1.N, _)

theorem split2 {a b : ℕ} (y : Shape.Idx ⟨2, ![a, b]⟩) : y = ix2 (y 0) (y 1) := by
  funext d; match d with | 0 => rfl | 1 => rfl

/-- Row `p` of the block `q` of 512 rows. -/
def at8 (q : ℕ) (p : Fin 512) : Fin 4096 := ⟨(512 * q + p.val) % 4096, Nat.mod_lt _ (by norm_num)⟩

variable (V : (c : Dev nD) → (b : Ref sig .tc) → Buf (Elt Ideal) ((c : Thread nD τ).loc b)) (c : Dev nD)

section Region0

/-- The weight's column of the column `f` of the first 1536. -/
def colQ (f : Fin 1536) : Fin 4616 := ⟨f.val, by omega⟩

/-- The weight's column of the key column `f`. -/
def colK (f : Fin 512) : Fin 4616 := ⟨512 + f.val, by omega⟩

/-- The weight's column of the value column `f`. -/
def colV (f : Fin 512) : Fin 4616 := ⟨1024 + f.val, by omega⟩

variable {h : Proj.Mat 4096 1024} {w : Proj.Mat 1024 4616}
  (hh : ∀ s k, V c main_v0 (ix2 s k) = h s k) (hw : ∀ (f : Fin 1536) k, V c main_v4 (ix2 f k) = w k (colQ f))

include hh in
theorem blkH0 (t : Fin cfg0.N) (p : Fin 512) (k : Fin 1024) : iblk0 V c 0 t (ix2 p k) = h (at8 t.val p) k := by
  blk_simp [iblk0]
  have hN : t.val < 8 := t.isLt
  refine (congrArg (V c main_v0) (show _ = ix2 (at8 t.val p) k from ?_)).trans (hh _ _)
  funext a
  match a with
  | 0 => exact Fin.ext (by blk_simp [(idx0 t).1]; show t.val * 512 + p.val = (512 * t.val + p.val) % 4096; omega)
  | 1 => exact Fin.ext (by blk_simp [(idx0 t).1])

include hw in
theorem blkW0 (t : Fin cfg0.N) (q : Fin 1536) (k : Fin 1024) : iblk0 V c 1 t (ix2 q k) = w k (colQ q) := by
  blk_simp [iblk0]
  refine (congrArg (V c main_v4) (show _ = ix2 q k from ?_)).trans (hw _ _)
  funext a
  match a with
  | 0 => exact Fin.ext (by blk_simp [(idx0 t).2.1])
  | 1 => exact Fin.ext (by blk_simp [(idx0 t).2.1])

include hh hw

/-- The first columns of the projection. -/
theorem arrQkv : (dat0 V c).arrAt 2 cfg0.N = (fun y : S4096x1536.Idx => Proj.qkv h w (y 0) (y 1)) := by
  refine (dat0 V c).arrAt_eq_of_covers 2 _ (by decide +kernel) fun t _ y => ?_
  blk_simp
  rw [after0_2]; frame_out
  obtain ⟨p, q, rfl⟩ : ∃ (p : Fin 512) (q : Fin 1536), y = ix2 p q := ⟨y 0, y 1, split2 y⟩
  have hN : t.val < 8 := t.isLt
  refine (pay_qkv _ _ p q).trans ?_
  simp only [blkH0 V c hh, blkW0 V c hw]
  show Proj.qkv h w ((at8 t.val p)) (q) = _
  refine congrArg₂ (fun s f => Proj.qkv h w (s) (f)) (Fin.ext ?_) (Fin.ext ?_)
  · blk_simp [(idx0 t).2.2.1]
    show (512 * t.val + p.val) % 4096 = t.val * 512 + p.val
    omega
  · blk_simp [(idx0 t).2.2.1]

/-- The keys, transposed. -/
theorem arrKT : (dat0 V c).arrAt 3 cfg0.N = (fun y : S512x4096.Idx => Proj.pr h w (y 1) (colK (y 0))) := by
  refine (dat0 V c).arrAt_eq_of_covers 3 _ (by decide +kernel) fun t _ y => ?_
  blk_simp
  rw [after0_3]; frame_out
  obtain ⟨q, p, rfl⟩ : ∃ (q : Fin 512) (p : Fin 512), y = ix2 q p := ⟨y 0, y 1, split2 y⟩
  have hN : t.val < 8 := t.isLt
  refine ((pay_kT _ _ q p).trans (pay_qkv _ _ p _)).trans ?_
  simp only [blkH0 V c hh, blkW0 V c hw]
  show Proj.pr h w ((at8 t.val p)) (colK (q)) = _
  refine congrArg₂ (fun s f => Proj.pr h w (s) (colK (f))) (Fin.ext ?_) (Fin.ext ?_)
  · blk_simp [(idx0 t).2.2.2.1]
    show (512 * t.val + p.val) % 4096 = t.val * 512 + p.val
    omega
  · blk_simp [(idx0 t).2.2.2.1]

/-- The values, transposed. -/
theorem arrVT : (dat0 V c).arrAt 4 cfg0.N = (fun y : S512x4096.Idx => Proj.pr h w (y 1) (colV (y 0))) := by
  refine (dat0 V c).arrAt_eq_of_covers 4 _ (by decide +kernel) fun t _ y => ?_
  blk_simp
  rw [after0_4]; frame_out
  obtain ⟨q, p, rfl⟩ : ∃ (q : Fin 512) (p : Fin 512), y = ix2 q p := ⟨y 0, y 1, split2 y⟩
  have hN : t.val < 8 := t.isLt
  refine ((pay_vT _ _ q p).trans (pay_qkv _ _ p _)).trans ?_
  simp only [blkH0 V c hh, blkW0 V c hw]
  show Proj.pr h w ((at8 t.val p)) (colV (q)) = _
  refine congrArg₂ (fun s f => Proj.pr h w (s) (colV (f))) (Fin.ext ?_) (Fin.ext ?_)
  · blk_simp [(idx0 t).2.2.2.2]
    show (512 * t.val + p.val) % 4096 = t.val * 512 + p.val
    omega
  · blk_simp [(idx0 t).2.2.2.2]

end Region0

section Region1
variable {h : Proj.Mat 4096 1024} {w : Proj.Mat 1024 4616}
  (hh : ∀ s k, V c main_v0 (ix2 s k) = h s k) (hw : ∀ f k, V c main_v8 (ix2 f k) = Proj.wRest w f k)

include hh in
theorem blkH1 (t : Fin cfg1.N) (p : Fin 512) (k : Fin 1024) : iblk1 V c 0 t (ix2 p k) = h (at8 t.val p) k := by
  blk_simp [iblk1]
  have hN : t.val < 8 := t.isLt
  refine (congrArg (V c main_v0) (show _ = ix2 (at8 t.val p) k from ?_)).trans (hh _ _)
  funext a
  match a with
  | 0 => exact Fin.ext (by blk_simp [(idx1 t).1]; show t.val * 512 + p.val = (512 * t.val + p.val) % 4096; omega)
  | 1 => exact Fin.ext (by blk_simp [(idx1 t).1])

include hw in
theorem blkW1 (t : Fin cfg1.N) (q : Fin 3200) (k : Fin 1024) : iblk1 V c 1 t (ix2 q k) = Proj.wRest w q k := by
  blk_simp [iblk1]
  refine (congrArg (V c main_v8) (show _ = ix2 q k from ?_)).trans (hw _ _)
  funext a
  match a with
  | 0 => exact Fin.ext (by blk_simp [(idx1 t).2.1])
  | 1 => exact Fin.ext (by blk_simp [(idx1 t).2.1])

include hh hw

/-- The other columns of the projection. -/
theorem arrRest : (dat1 V c).arrAt 2 cfg1.N = (fun y : S4096x3200.Idx => Proj.rest h w (y 0) (y 1)) := by
  refine (dat1 V c).arrAt_eq_of_covers 2 _ (by decide +kernel) fun t _ y => ?_
  blk_simp
  rw [after1_2]; frame_out
  obtain ⟨p, q, rfl⟩ : ∃ (p : Fin 512) (q : Fin 3200), y = ix2 p q := ⟨y 0, y 1, split2 y⟩
  have hN : t.val < 8 := t.isLt
  refine ((pay_rest' _ _ p q).trans (pay_rest _ _ p q)).trans ?_
  simp only [blkH1 V c hh, blkW1 V c hw]
  refine (Proj.rest_eq h w _ _).trans ?_
  show Proj.rest h w ((at8 t.val p)) (q) = _
  refine congrArg₂ (fun s f => Proj.rest h w (s) (f)) (Fin.ext ?_) (Fin.ext ?_)
  · blk_simp [(idx1 t).2.2.1]
    show (512 * t.val + p.val) % 4096 = t.val * 512 + p.val
    omega
  · blk_simp [(idx1 t).2.2.1]

/-- The forget gate, padded. -/
theorem arrFLogit : (dat1 V c).arrAt 3 cfg1.N = (fun y : S4096x128.Idx => Proj.fLogit h w (y 0) (y 1)) := by
  refine (dat1 V c).arrAt_eq_of_covers 3 _ (by decide +kernel) fun t _ y => ?_
  blk_simp
  rw [after1_3]; frame_out
  obtain ⟨p, q, rfl⟩ : ∃ (p : Fin 512) (q : Fin 128), y = ix2 p q := ⟨y 0, y 1, split2 y⟩
  have hN : t.val < 8 := t.isLt
  refine ((pay_fLogit _ _ p q).trans (pay_rest _ _ p _)).trans ?_
  simp only [blkH1 V c hh, blkW1 V c hw]
  refine ((Proj.rest_eq h w _ _).trans (Proj.rest_tail h w _ _)).trans ?_
  show Proj.fLogit h w ((at8 t.val p)) (q) = _
  refine congrArg₂ (fun s f => Proj.fLogit h w (s) (f)) (Fin.ext ?_) (Fin.ext ?_)
  · blk_simp [(idx1 t).2.2.2]
    show (512 * t.val + p.val) % 4096 = t.val * 512 + p.val
    omega
  · blk_simp [(idx1 t).2.2.2]

end Region1

end Cert.Kernel3Ideal.Gen

end
-- ==== Proof.ProjGrad.lean ====
/- The gradient of the projection's weight, a block of its rows at a time: what the last five regions leave. -/
module

public import proofs.«01_k».proof.Proof.ProjArr

@[expose] public section

set_option maxRecDepth 16384
set_option synthInstance.maxSize 4096

noncomputable section

namespace Cert.Kernel3Ideal.Gen

open Idealize.ShloMosaic Idealize.ShloMosaic.TcCoe Idealize.SL.Sem
open Idealize.ShloMosaic.Tactic

variable (V : (c : Dev nD) → (b : Ref sig .tc) → Buf (Elt Ideal) ((c : Thread nD τ).loc b)) (c : Dev nD)

theorem idx2 : ∀ t : Fin cfg2.N, win2_0.index t = ![t.val, 0] ∧ win2_1.index t = ![0, 0] ∧ win2_2.index t = ![t.val, 0] :=
  (by decide +kernel : ∀ t : Fin grid2.N, _)

section Region2
variable {h : Proj.Mat 4096 1024} {a : Proj.Mat 512 4096}
  (ha : ∀ f s, V c main_v15 (ix2 f s) = a f s) (hh : ∀ s k, V c main_v0 (ix2 s k) = h s k)

include ha in
theorem blkA2 (t : Fin cfg2.N) (p : Fin 512) (s : Fin 4096) : iblk2 V c 0 t (ix2 p s) = a p s := by
  blk_simp [iblk2]
  have hN : t.val < 1 := t.isLt
  refine (congrArg (V c main_v15) (show _ = ix2 p s from ?_)).trans (ha _ _)
  funext d
  match d with
  | 0 => exact Fin.ext (by blk_simp [(idx2 t).1])
  | 1 => exact Fin.ext (by blk_simp [(idx2 t).1])

include hh in
theorem blkH2 (t : Fin cfg2.N) (s : Fin 4096) (k : Fin 1024) : iblk2 V c 1 t (ix2 s k) = h s k := by
  blk_simp [iblk2]
  refine (congrArg (V c main_v0) (show _ = ix2 s k from ?_)).trans (hh _ _)
  funext d
  match d with
  | 0 => exact Fin.ext (by blk_simp [(idx2 t).2.1])
  | 1 => exact Fin.ext (by blk_simp [(idx2 t).2.1])

include ha hh

theorem arrG2 : (dat2 V c).arrAt 2 cfg2.N = (fun y : S512x1024.Idx => Proj.grad a h (y 0) (y 1)) := by
  refine (dat2 V c).arrAt_eq_of_covers 2 _ (by decide +kernel) fun t _ y => ?_
  blk_simp
  rw [after2_2]; unfold outsAt2; frame_out
  obtain ⟨p, q, rfl⟩ : ∃ (p : Fin 512) (q : Fin 1024), y = ix2 p q := ⟨y 0, y 1, split2 y⟩
  have hN : t.val < 1 := t.isLt
  refine (pay_g2 _ _ p q).trans ?_
  simp only [blkA2 V c ha, blkH2 V c hh]
  show Proj.grad a h p q = _
  refine congrArg₂ (Proj.grad a h) (Fin.ext ?_) (Fin.ext ?_)
  · blk_simp [(idx2 t).2.2]
  · blk_simp [(idx2 t).2.2]

end Region2

theorem idx3 : ∀ t : Fin cfg3.N, win3_0.index t = ![t.val, 0] ∧ win3_1.index t = ![0, 0] ∧ win3_2.index t = ![t.val, 0] :=
  (by decide +kernel : ∀ t : Fin grid3.N, _)

section Region3
variable {h : Proj.Mat 4096 1024} {a : Proj.Mat 1024 4096}
  (ha : ∀ f s, V c main_v17 (ix2 f s) = a f s) (hh : ∀ s k, V c main_v0 (ix2 s k) = h s k)

include ha in
theorem blkA3 (t : Fin cfg3.N) (p : Fin 1024) (s : Fin 4096) : iblk3 V c 0 t (ix2 p s) = a p s := by
  blk_simp [iblk3]
  have hN : t.val < 1 := t.isLt
  refine (congrArg (V c main_v17) (show _ = ix2 p s from ?_)).trans (ha _ _)
  funext d
  match d with
  | 0 => exact Fin.ext (by blk_simp [(idx3 t).1])
  | 1 => exact Fin.ext (by blk_simp [(idx3 t).1])

include hh in
theorem blkH3 (t : Fin cfg3.N) (s : Fin 4096) (k : Fin 1024) : iblk3 V c 1 t (ix2 s k) = h s k := by
  blk_simp [iblk3]
  refine (congrArg (V c main_v0) (show _ = ix2 s k from ?_)).trans (hh _ _)
  funext d
  match d with
  | 0 => exact Fin.ext (by blk_simp [(idx3 t).2.1])
  | 1 => exact Fin.ext (by blk_simp [(idx3 t).2.1])

include ha hh

theorem arrG3 : (dat3 V c).arrAt 2 cfg3.N = (fun y : S1024x1024.Idx => Proj.grad a h (y 0) (y 1)) := by
  refine (dat3 V c).arrAt_eq_of_covers 2 _ (by decide +kernel) fun t _ y => ?_
  blk_simp
  rw [after3_2]; unfold outsAt3; frame_out
  obtain ⟨p, q, rfl⟩ : ∃ (p : Fin 1024) (q : Fin 1024), y = ix2 p q := ⟨y 0, y 1, split2 y⟩
  have hN : t.val < 1 := t.isLt
  refine (pay_g3 _ _ p q).trans ?_
  simp only [blkA3 V c ha, blkH3 V c hh]
  show Proj.grad a h p q = _
  refine congrArg₂ (Proj.grad a h) (Fin.ext ?_) (Fin.ext ?_)
  · blk_simp [(idx3 t).2.2]
  · blk_simp [(idx3 t).2.2]

end Region3

theorem idx4 : ∀ t : Fin cfg4.N, win4_0.index t = ![t.val, 0] ∧ win4_1.index t = ![0, 0] ∧ win4_2.index t = ![t.val, 0] :=
  (by decide +kernel : ∀ t : Fin grid4.N, _)

section Region4
variable {h : Proj.Mat 4096 1024} {a : Proj.Mat 128 4096}
  (ha : ∀ f s, V c main_v18 (ix2 f s) = a f s) (hh : ∀ s k, V c main_v0 (ix2 s k) = h s k)

include ha in
theorem blkA4 (t : Fin cfg4.N) (p : Fin 128) (s : Fin 4096) : iblk4 V c 0 t (ix2 p s) = a p s := by
  blk_simp [iblk4]
  have hN : t.val < 1 := t.isLt
  refine (congrArg (V c main_v18) (show _ = ix2 p s from ?_)).trans (ha _ _)
  funext d
  match d with
  | 0 => exact Fin.ext (by blk_simp [(idx4 t).1])
  | 1 => exact Fin.ext (by blk_simp [(idx4 t).1])

include hh in
theorem blkH4 (t : Fin cfg4.N) (s : Fin 4096) (k : Fin 1024) : iblk4 V c 1 t (ix2 s k) = h s k := by
  blk_simp [iblk4]
  refine (congrArg (V c main_v0) (show _ = ix2 s k from ?_)).trans (hh _ _)
  funext d
  match d with
  | 0 => exact Fin.ext (by blk_simp [(idx4 t).2.1])
  | 1 => exact Fin.ext (by blk_simp [(idx4 t).2.1])

include ha hh

theorem arrG4 : (dat4 V c).arrAt 2 cfg4.N = (fun y : S128x1024.Idx => Proj.grad a h (y 0) (y 1)) := by
  refine (dat4 V c).arrAt_eq_of_covers 2 _ (by decide +kernel) fun t _ y => ?_
  blk_simp
  rw [after4_2]; unfold outsAt4; frame_out
  obtain ⟨p, q, rfl⟩ : ∃ (p : Fin 128) (q : Fin 1024), y = ix2 p q := ⟨y 0, y 1, split2 y⟩
  have hN : t.val < 1 := t.isLt
  refine (pay_g4 _ _ p q).trans ?_
  simp only [blkA4 V c ha, blkH4 V c hh]
  show Proj.grad a h p q = _
  refine congrArg₂ (Proj.grad a h) (Fin.ext ?_) (Fin.ext ?_)
  · blk_simp [(idx4 t).2.2]
  · blk_simp [(idx4 t).2.2]

end Region4

theorem idx5 : ∀ t : Fin cfg5.N, win5_0.index t = ![t.val, 0] ∧ win5_1.index t = ![0, 0] ∧ win5_2.index t = ![t.val, 0] :=
  (by decide +kernel : ∀ t : Fin grid5.N, _)

section Region5
variable {h : Proj.Mat 4096 1024} {a : Proj.Mat 1024 4096}
  (ha : ∀ f s, V c main_v20 (ix2 f s) = a f s) (hh : ∀ s k, V c main_v0 (ix2 s k) = h s k)

include ha in
theorem blkA5 (t : Fin cfg5.N) (p : Fin 1024) (s : Fin 4096) : iblk5 V c 0 t (ix2 p s) = a p s := by
  blk_simp [iblk5]
  have hN : t.val < 1 := t.isLt
  refine (congrArg (V c main_v20) (show _ = ix2 p s from ?_)).trans (ha _ _)
  funext d
  match d with
  | 0 => exact Fin.ext (by blk_simp [(idx5 t).1])
  | 1 => exact Fin.ext (by blk_simp [(idx5 t).1])

include hh in
theorem blkH5 (t : Fin cfg5.N) (s : Fin 4096) (k : Fin 1024) : iblk5 V c 1 t (ix2 s k) = h s k := by
  blk_simp [iblk5]
  refine (congrArg (V c main_v0) (show _ = ix2 s k from ?_)).trans (hh _ _)
  funext d
  match d with
  | 0 => exact Fin.ext (by blk_simp [(idx5 t).2.1])
  | 1 => exact Fin.ext (by blk_simp [(idx5 t).2.1])

include ha hh

theorem arrG5 : (dat5 V c).arrAt 2 cfg5.N = (fun y : S1024x1024.Idx => Proj.grad a h (y 0) (y 1)) := by
  refine (dat5 V c).arrAt_eq_of_covers 2 _ (by decide +kernel) fun t _ y => ?_
  blk_simp
  rw [after5_2]; unfold outsAt5; frame_out
  obtain ⟨p, q, rfl⟩ : ∃ (p : Fin 1024) (q : Fin 1024), y = ix2 p q := ⟨y 0, y 1, split2 y⟩
  have hN : t.val < 1 := t.isLt
  refine (pay_g5 _ _ p q).trans ?_
  simp only [blkA5 V c ha, blkH5 V c hh]
  show Proj.grad a h p q = _
  refine congrArg₂ (Proj.grad a h) (Fin.ext ?_) (Fin.ext ?_)
  · blk_simp [(idx5 t).2.2]
  · blk_simp [(idx5 t).2.2]

end Region5

theorem idx6 : ∀ t : Fin cfg6.N, win6_0.index t = ![t.val, 0] ∧ win6_1.index t = ![0, 0] ∧ win6_2.index t = ![t.val, 0] :=
  (by decide +kernel : ∀ t : Fin grid6.N, _)

/-- Row `p` of the block `q` of 1024 rows. -/
def at2 (q : ℕ) (p : Fin 1024) : Fin 2048 := ⟨(1024 * q + p.val) % 2048, Nat.mod_lt _ (by norm_num)⟩

section Region6
variable {h : Proj.Mat 4096 1024} {a : Proj.Mat 2048 4096}
  (ha : ∀ f s, V c main_v22 (ix2 f s) = a f s) (hh : ∀ s k, V c main_v0 (ix2 s k) = h s k)

include ha in
theorem blkA6 (t : Fin cfg6.N) (p : Fin 1024) (s : Fin 4096) : iblk6 V c 0 t (ix2 p s) = a (at2 t.val p) s := by
  blk_simp [iblk6]
  have hN : t.val < 2 := t.isLt
  refine (congrArg (V c main_v22) (show _ = ix2 (at2 t.val p) s from ?_)).trans (ha _ _)
  funext d
  match d with
  | 0 => exact Fin.ext (by blk_simp [(idx6 t).1]; show t.val * 1024 + p.val = (1024 * t.val + p.val) % 2048; omega)
  | 1 => exact Fin.ext (by blk_simp [(idx6 t).1])

include hh in
theorem blkH6 (t : Fin cfg6.N) (s : Fin 4096) (k : Fin 1024) : iblk6 V c 1 t (ix2 s k) = h s k := by
  blk_simp [iblk6]
  refine (congrArg (V c main_v0) (show _ = ix2 s k from ?_)).trans (hh _ _)
  funext d
  match d with
  | 0 => exact Fin.ext (by blk_simp [(idx6 t).2.1])
  | 1 => exact Fin.ext (by blk_simp [(idx6 t).2.1])

include ha hh

theorem arrG6 : (dat6 V c).arrAt 2 cfg6.N = (fun y : S2048x1024.Idx => Proj.grad a h (y 0) (y 1)) := by
  refine (dat6 V c).arrAt_eq_of_covers 2 _ (by decide +kernel) fun t _ y => ?_
  blk_simp
  rw [after6_2]; unfold outsAt6; frame_out
  obtain ⟨p, q, rfl⟩ : ∃ (p : Fin 1024) (q : Fin 1024), y = ix2 p q := ⟨y 0, y 1, split2 y⟩
  have hN : t.val < 2 := t.isLt
  refine (pay_g6 _ _ p q).trans ?_
  simp only [blkA6 V c ha, blkH6 V c hh]
  show Proj.grad a h (at2 t.val p) q = _
  refine congrArg₂ (Proj.grad a h) (Fin.ext ?_) (Fin.ext ?_)
  · blk_simp [(idx6 t).2.2]
    show (1024 * t.val + p.val) % 2048 = t.val * 1024 + p.val
    omega
  · blk_simp [(idx6 t).2.2]

end Region6

end Cert.Kernel3Ideal.Gen

end
-- ==== Proof.ProjCast.lean ====
/- How the host lays out the weight and the gradient for the seven regions, and how it joins the results: each read at an index. -/
module

public import proofs.«01_k».proof.Proof.Gen.Kernel3Ideal
public import proofs.«01_k».proof.Proof.ProjModel
public import Idealize.ShloMosaic.Lib.Pipeline.ValueKit

@[expose] public section

set_option maxRecDepth 16384
set_option synthInstance.maxSize 4096

noncomputable section

namespace Cert.Kernel3Ideal.Gen

open Idealize.ShloMosaic Idealize.ShloMosaic.TcCoe Idealize.SL.Sem
open Idealize.ShloMosaic.Tactic

theorem sitofp_zero : (FloatOps.sitofp (F := Ideal) .bf16 0#32) = (0 : EReal) := by
  show ((((0#32 : BitVec 32).toInt : ℝ)) : EReal) = 0
  simp

theorem cast_v4 (x : Vec Ideal S1x1024x4616 .f32) (f : Fin 1536) (k : Fin 1024) :
    (extractStridedSlice S1536x1024 ![0, 0] (truncf (F := Ideal) .bf16 (transpose S4616x1024 [1, 0] (shapeCast S1024x4616 x shapeCasts_S1x1024x4616_S1024x4616) transposes_S1024x4616_S4616x1024_1_0 : FVec Ideal S4616x1024 .f32) bitsLt_bf16_f32) slices_S4616x1024_S1536x1024_0_0) (ix2 f k) = x (ix3 0 k ⟨f.val, by omega⟩) := by
  pointwise

theorem cast_v8 (x : Vec Ideal S1x1024x4616 .f32) (f : Fin 3200) (k : Fin 1024) :
    (concatenate S3200x1024 0 [⟨S3072x1024, extractStridedSlice S3072x1024 ![1544, 0] (truncf (F := Ideal) .bf16 (transpose S4616x1024 [1, 0] (shapeCast S1024x4616 x shapeCasts_S1x1024x4616_S1024x4616) transposes_S1024x4616_S4616x1024_1_0 : FVec Ideal S4616x1024 .f32) bitsLt_bf16_f32) slices_S4616x1024_S3072x1024_1544_0⟩,
        ⟨S128x1024, pad S128x1024 ![0, 0] ![120, 0] ![0, 0] (extractStridedSlice S8x1024 ![1536, 0] (truncf (F := Ideal) .bf16 (transpose S4616x1024 [1, 0] (shapeCast S1024x4616 x shapeCasts_S1x1024x4616_S1024x4616) transposes_S1024x4616_S4616x1024_1_0 : FVec Ideal S4616x1024 .f32) bitsLt_bf16_f32) slices_S4616x1024_S8x1024_1536_0)
          (sitofp (F := Ideal) .bf16 (constantI S_ 32 0#32)) pads_S8x1024_S128x1024_01200_000 h_S_⟩] concatenates_S3072x1024_S128x1024_S3200x1024_d0) (ix2 f k) = Proj.wRest (fun k f => x (ix3 0 k f)) f k := by
  unfold Proj.wRest
  pointwise
  rw [sitofp_zero]

theorem cast_seg2 (x : Vec Ideal S4096x4616 .f32) (f : Fin 512) (s : Fin 4096) :
    (transpose S512x4096 [1, 0] (extractStridedSlice S4096x512 ![0, 0] (truncf (F := Ideal) .bf16 x bitsLt_bf16_f32) slices_S4096x4616_S4096x512_0_0) transposes_S4096x512_S512x4096_1_0) (ix2 f s) = x (ix2 s ⟨0 + f.val, by omega⟩) := by
  pointwise

theorem cast_seg3 (x : Vec Ideal S4096x4616 .f32) (f : Fin 1024) (s : Fin 4096) :
    (transpose S1024x4096 [1, 0] (extractStridedSlice S4096x1024 ![0, 512] (truncf (F := Ideal) .bf16 x bitsLt_bf16_f32) slices_S4096x4616_S4096x1024_0_512) transposes_S4096x1024_S1024x4096_1_0) (ix2 f s) = x (ix2 s ⟨512 + f.val, by omega⟩) := by
  pointwise

theorem cast_seg4 (x : Vec Ideal S4096x4616 .f32) (f : Fin 128) (s : Fin 4096) :
    (transpose S128x4096 [1, 0] (pad S4096x128 ![0, 0] ![0, 120] ![0, 0] (extractStridedSlice S4096x8 ![0, 1536] (truncf (F := Ideal) .bf16 x bitsLt_bf16_f32) slices_S4096x4616_S4096x8_0_1536)
      (sitofp (F := Ideal) .bf16 (constantI S_ 32 0#32)) pads_S4096x8_S4096x128_000_01200 h_S_) transposes_S4096x128_S128x4096_1_0) (ix2 f s) = if hf : f.val < 8 then x (ix2 s ⟨1536 + f.val, by omega⟩) else 0 := by
  pointwise
  rw [sitofp_zero]

theorem cast_seg5 (x : Vec Ideal S4096x4616 .f32) (f : Fin 1024) (s : Fin 4096) :
    (transpose S1024x4096 [1, 0] (extractStridedSlice S4096x1024 ![0, 1544] (truncf (F := Ideal) .bf16 x bitsLt_bf16_f32) slices_S4096x4616_S4096x1024_0_1544) transposes_S4096x1024_S1024x4096_1_0) (ix2 f s) = x (ix2 s ⟨1544 + f.val, by omega⟩) := by
  pointwise

theorem cast_seg6 (x : Vec Ideal S4096x4616 .f32) (f : Fin 2048) (s : Fin 4096) :
    (transpose S2048x4096 [1, 0] (extractStridedSlice S4096x2048 ![0, 2568] (truncf (F := Ideal) .bf16 x bitsLt_bf16_f32) slices_S4096x4616_S4096x2048_0_2568) transposes_S4096x2048_S2048x4096_1_0) (ix2 f s) = x (ix2 s ⟨2568 + f.val, by omega⟩) := by
  pointwise

theorem join (a : Vec Ideal S512x1024 .f32) (b : Vec Ideal S1024x1024 .f32) (c : Vec Ideal S128x1024 .f32) (d : Vec Ideal S1024x1024 .f32)
    (e : Vec Ideal S2048x1024 .f32) (f : Fin 4616) (k : Fin 1024) :
    (concatenate S4616x1024 0 [⟨S512x1024, a⟩, ⟨S1024x1024, b⟩, ⟨S8x1024, extractStridedSlice S8x1024 ![0, 0] c slices_S128x1024_S8x1024_0_0⟩, ⟨S1024x1024, d⟩, ⟨S2048x1024, e⟩] concatenates_S512x1024_S1024x1024_S8x1024_S1024x1024_S2048x1024_S4616x1024_d0) (ix2 f k)
      = if h0 : f.val < 512 then a (ix2 ⟨f.val, h0⟩ k)
        else if h1 : f.val - 512 < 1024 then b (ix2 ⟨f.val - 512, h1⟩ k)
        else if h2 : f.val - 512 - 1024 < 8 then c (ix2 ⟨f.val - 512 - 1024, by omega⟩ k)
        else if h3 : f.val - 512 - 1024 - 8 < 1024 then d (ix2 ⟨f.val - 512 - 1024 - 8, h3⟩ k)
        else e (ix2 ⟨f.val - 512 - 1024 - 8 - 1024, by omega⟩ k) := by
  pointwise

end Cert.Kernel3Ideal.Gen

end
-- ==== Proof.ProjRead.lean ====
/- The buffers the host writes, as functions of the contents it reads. -/
module

public import proofs.«01_k».proof.Proof.Gen.Kernel3Ideal.Frame
public import proofs.«01_k».proof.Proof.ProjCast
public import Idealize.ShloMosaic.Lib.StableHlo.ReadAt

@[expose] public section

set_option maxRecDepth 16384
set_option synthInstance.maxSize 4096

noncomputable section

namespace Cert.Kernel3Ideal.Gen

open Idealize.ShloMosaic Idealize.ShloMosaic.TcCoe Idealize.SL.Sem
open Idealize.ShloMosaic.Tactic

variable (U : Valuation τ sig (Elt Ideal))

theorem read_v0 : (StableHlo.after hostOps0 U) (Proc.devRef .tc main_v0) = (truncf (F := Ideal) .bf16 (U (Proc.devRef .tc main_arg0) : FVec Ideal S4096x1024 .f32) bitsLt_bf16_f32) := by
  after_reads_simp
  try simp -implicitDefEqProofs only [StableHlo.TRef.toBuf, StableHlo.TRef.ofBuf, cast_cast, cast_eq]

theorem read_v4 : (StableHlo.after hostOps0 U) (Proc.devRef .tc main_v4) = (extractStridedSlice S1536x1024 ![0, 0] (truncf (F := Ideal) .bf16 (transpose S4616x1024 [1, 0] (shapeCast S1024x4616 (U (Proc.devRef .tc main_arg1) : FVec Ideal S1x1024x4616 .f32) shapeCasts_S1x1024x4616_S1024x4616) transposes_S1024x4616_S4616x1024_1_0 : FVec Ideal S4616x1024 .f32) bitsLt_bf16_f32) slices_S4616x1024_S1536x1024_0_0) := by
  after_reads_simp
  try simp -implicitDefEqProofs only [StableHlo.TRef.toBuf, StableHlo.TRef.ofBuf, cast_cast, cast_eq]
  first | done | rfl

theorem read_v8 : (StableHlo.after hostOps0_2 (StableHlo.after hostOps0_1 (StableHlo.after hostOps0 U))) (Proc.devRef .tc main_v8) = (concatenate S3200x1024 0 [⟨S3072x1024, extractStridedSlice S3072x1024 ![1544, 0] (truncf (F := Ideal) .bf16 (transpose S4616x1024 [1, 0] (shapeCast S1024x4616 (U (Proc.devRef .tc main_arg1) : FVec Ideal S1x1024x4616 .f32) shapeCasts_S1x1024x4616_S1024x4616) transposes_S1024x4616_S4616x1024_1_0 : FVec Ideal S4616x1024 .f32) bitsLt_bf16_f32) slices_S4616x1024_S3072x1024_1544_0⟩,
        ⟨S128x1024, pad S128x1024 ![0, 0] ![120, 0] ![0, 0] (extractStridedSlice S8x1024 ![1536, 0] (truncf (F := Ideal) .bf16 (transpose S4616x1024 [1, 0] (shapeCast S1024x4616 (U (Proc.devRef .tc main_arg1) : FVec Ideal S1x1024x4616 .f32) shapeCasts_S1x1024x4616_S1024x4616) transposes_S1024x4616_S4616x1024_1_0 : FVec Ideal S4616x1024 .f32) bitsLt_bf16_f32) slices_S4616x1024_S8x1024_1536_0)
          (sitofp (F := Ideal) .bf16 (constantI S_ 32 0#32)) pads_S8x1024_S128x1024_01200_000 h_S_⟩] concatenates_S3072x1024_S128x1024_S3200x1024_d0) := by
  after_reads_simp
  try simp -implicitDefEqProofs only [StableHlo.TRef.toBuf, StableHlo.TRef.ofBuf, cast_cast, cast_eq]
  first | done | rfl

theorem read_v15 : (StableHlo.after hostOps2_2 (StableHlo.after hostOps2_1 (StableHlo.after hostOps2 U))) (Proc.devRef .tc main_v15) = (transpose S512x4096 [1, 0] (extractStridedSlice S4096x512 ![0, 0] (truncf (F := Ideal) .bf16 (U (Proc.devRef .tc main_arg2) : FVec Ideal S4096x4616 .f32) bitsLt_bf16_f32) slices_S4096x4616_S4096x512_0_0) transposes_S4096x512_S512x4096_1_0) := by
  after_reads_simp
  try simp -implicitDefEqProofs only [StableHlo.TRef.toBuf, StableHlo.TRef.ofBuf, cast_cast, cast_eq]

theorem read_v17 : (StableHlo.after hostOps2_2 (StableHlo.after hostOps2_1 (StableHlo.after hostOps2 U))) (Proc.devRef .tc main_v17) = (transpose S1024x4096 [1, 0] (extractStridedSlice S4096x1024 ![0, 512] (truncf (F := Ideal) .bf16 (U (Proc.devRef .tc main_arg2) : FVec Ideal S4096x4616 .f32) bitsLt_bf16_f32) slices_S4096x4616_S4096x1024_0_512) transposes_S4096x1024_S1024x4096_1_0) := by
  after_reads_simp
  try simp -implicitDefEqProofs only [StableHlo.TRef.toBuf, StableHlo.TRef.ofBuf, cast_cast, cast_eq]

theorem read_v18 : (StableHlo.after hostOps2_2 (StableHlo.after hostOps2_1 (StableHlo.after hostOps2 U))) (Proc.devRef .tc main_v18) = (transpose S128x4096 [1, 0] (pad S4096x128 ![0, 0] ![0, 120] ![0, 0] (extractStridedSlice S4096x8 ![0, 1536] (truncf (F := Ideal) .bf16 (U (Proc.devRef .tc main_arg2) : FVec Ideal S4096x4616 .f32) bitsLt_bf16_f32) slices_S4096x4616_S4096x8_0_1536)
      (sitofp (F := Ideal) .bf16 (constantI S_ 32 0#32)) pads_S4096x8_S4096x128_000_01200 h_S_) transposes_S4096x128_S128x4096_1_0) := by
  after_reads_simp
  try simp -implicitDefEqProofs only [StableHlo.TRef.toBuf, StableHlo.TRef.ofBuf, cast_cast, cast_eq]

theorem read_v20 : (StableHlo.after hostOps2_2 (StableHlo.after hostOps2_1 (StableHlo.after hostOps2 U))) (Proc.devRef .tc main_v20) = (transpose S1024x4096 [1, 0] (extractStridedSlice S4096x1024 ![0, 1544] (truncf (F := Ideal) .bf16 (U (Proc.devRef .tc main_arg2) : FVec Ideal S4096x4616 .f32) bitsLt_bf16_f32) slices_S4096x4616_S4096x1024_0_1544) transposes_S4096x1024_S1024x4096_1_0) := by
  after_reads_simp
  try simp -implicitDefEqProofs only [StableHlo.TRef.toBuf, StableHlo.TRef.ofBuf, cast_cast, cast_eq]

theorem read_v22 : (StableHlo.after hostOps2_2 (StableHlo.after hostOps2_1 (StableHlo.after hostOps2 U))) (Proc.devRef .tc main_v22) = (transpose S2048x4096 [1, 0] (extractStridedSlice S4096x2048 ![0, 2568] (truncf (F := Ideal) .bf16 (U (Proc.devRef .tc main_arg2) : FVec Ideal S4096x4616 .f32) bitsLt_bf16_f32) slices_S4096x4616_S4096x2048_0_2568) transposes_S4096x2048_S2048x4096_1_0) := by
  after_reads_simp
  try simp -implicitDefEqProofs only [StableHlo.TRef.toBuf, StableHlo.TRef.ofBuf, cast_cast, cast_eq]

theorem read_v29 : (StableHlo.after hostOps7 U) (Proc.devRef .tc main_v29) = (concatenate S4616x1024 0 [⟨S512x1024, (U (Proc.devRef .tc main_v23) : FVec Ideal S512x1024 .f32)⟩, ⟨S1024x1024, (U (Proc.devRef .tc main_v24) : FVec Ideal S1024x1024 .f32)⟩, ⟨S8x1024, extractStridedSlice S8x1024 ![0, 0] (U (Proc.devRef .tc main_v25) : FVec Ideal S128x1024 .f32) slices_S128x1024_S8x1024_0_0⟩, ⟨S1024x1024, (U (Proc.devRef .tc main_v26) : FVec Ideal S1024x1024 .f32)⟩, ⟨S2048x1024, (U (Proc.devRef .tc main_v27) : FVec Ideal S2048x1024 .f32)⟩] concatenates_S512x1024_S1024x1024_S8x1024_S1024x1024_S2048x1024_S4616x1024_d0) := by
  after_reads_simp
  try simp -implicitDefEqProofs only [StableHlo.TRef.toBuf, StableHlo.TRef.ofBuf, cast_cast, cast_eq]
  first | done | rfl

end Cert.Kernel3Ideal.Gen

end
-- ==== Proof.ProjSeg.lean ====
/- The gradient of the projection's weight, cut into the five blocks of rows the kernels compute. -/
module

public import proofs.«01_k».proof.Proof.ProjModel

@[expose] public section

set_option maxRecDepth 16384
set_option synthInstance.maxSize 4096

noncomputable section

namespace Proj

open Idealize.ShloMosaic

/-- A block of columns of the gradient of the projection, transposed. -/
def seg {r : ℕ} (d : Mat 4096 4616) (o : ℕ) (ho : o + r ≤ 4616) : Mat r 4096 := fun f s => d s ⟨o + f.val, by omega⟩

/-- The columns of the forget gate, transposed, with rows of zeros behind them. -/
def segF (d : Mat 4096 4616) : Mat 128 4096 := fun f s => if hf : f.val < 8 then d s ⟨1536 + f.val, by omega⟩ else 0

/-- A row of a block's gradient is a row of the weight's. -/
theorem grad_seg {r : ℕ} (d : Mat 4096 4616) (h : Mat 4096 1024) (o : ℕ) (ho : o + r ≤ 4616) (g : Fin r) (f : Fin 4616)
    (e : o + g.val = f.val) (k : Fin 1024) : grad (seg d o ho) h g k = gIn h d f k :=
  Finset.sum_congr rfl fun s _ => congrArg (fun z => d s z * h s k) (Fin.ext e)

/-- A row of the forget gate's gradient is a row of the weight's. -/
theorem grad_segF (d : Mat 4096 4616) (h : Mat 4096 1024) (g : Fin 128) (f : Fin 4616) (hg : g.val < 8) (e : 1536 + g.val = f.val)
    (k : Fin 1024) : grad (segF d) h g k = gIn h d f k :=
  Finset.sum_congr rfl fun s _ => by
    unfold segF
    rw [dif_pos hg]
    exact congrArg (fun z => d s z * h s k) (Fin.ext e)

/-- The five blocks, joined. -/
theorem gIn_join (h : Mat 4096 1024) (d : Mat 4096 4616) (f : Fin 4616) (k : Fin 1024) :
    (if h0 : f.val < 512 then grad (seg d 0 (by norm_num)) h (⟨f.val, h0⟩ : Fin 512) k
      else if h1 : f.val - 512 < 1024 then grad (seg d 512 (by norm_num)) h (⟨f.val - 512, h1⟩ : Fin 1024) k
      else if h2 : f.val - 512 - 1024 < 8 then grad (segF d) h ⟨f.val - 512 - 1024, by omega⟩ k
      else if h3 : f.val - 512 - 1024 - 8 < 1024 then grad (seg d 1544 (by norm_num)) h (⟨f.val - 512 - 1024 - 8, h3⟩ : Fin 1024) k
      else grad (seg d 2568 (by norm_num)) h (⟨f.val - 512 - 1024 - 8 - 1024, by omega⟩ : Fin 2048) k) = gIn h d f k := by
  have hf := f.isLt
  split
  · exact grad_seg d h _ _ _ f (by show 0 + f.val = f.val; omega) k
  split
  · exact grad_seg d h _ _ _ f (by show 512 + (f.val - 512) = f.val; omega) k
  split
  · rename_i h2
    exact grad_segF d h _ f h2 (by show 1536 + (f.val - 512 - 1024) = f.val; omega) k
  split
  · exact grad_seg d h _ _ _ f (by show 1544 + (f.val - 512 - 1024 - 8) = f.val; omega) k
  · exact grad_seg d h _ _ _ f (by show 2568 + (f.val - 512 - 1024 - 8 - 1024) = f.val; omega) k

end Proj

end
-- ==== Proof.ProjHost.lean ====
/- What the seven regions read, and what the program leaves in the six results. -/
module

public import proofs.«01_k».proof.Proof.ProjGrad
public import proofs.«01_k».proof.Proof.ProjRead
public import proofs.«01_k».proof.Proof.ProjSeg

@[expose] public section

set_option maxRecDepth 16384
set_option synthInstance.maxSize 4096

noncomputable section

namespace Cert.Kernel3Ideal.Gen

open Idealize.ShloMosaic Idealize.ShloMosaic.TcCoe Idealize.SL.Sem
open Idealize.ShloMosaic.Tactic

variable (m : (ℓ : Loc nD τ sig) → Buf (Elt Ideal) ℓ) (ρ : Dev nD → PrngReg) (c : Dev nD)

/-- The normalised input. -/
def argH : Proj.Mat 4096 1024 := fun s k => (m ((c.tc : Thread nD τ).loc main_arg0)) (ix2 s k)
/-- The weight. -/
def argW : Proj.Mat 1024 4616 := fun k f => (m ((c.tc : Thread nD τ).loc main_arg1)) (ix3 0 k f)
/-- The gradient of the projection. -/
def argD : Proj.Mat 4096 4616 := fun s f => (m ((c.tc : Thread nD τ).loc main_arg2)) (ix2 s f)

theorem in_v0 (s : Fin 4096) (k : Fin 1024) : (W1 m ρ c (Proc.devRef .tc main_v0) : FVec Ideal S4096x1024 .bf16) (ix2 s k) = argH m c s k :=
  congrFun (read_v0 (W0 m ρ c)) (ix2 s k)

theorem v0_at3 : W3 m ρ c (Proc.devRef .tc main_v0) = W1 m ρ c (Proc.devRef .tc main_v0) :=
  (W3_of m ρ c main_v0 (by decide)).trans (W2_of m ρ c main_v0 (by decide))

theorem v4_at3 : W3 m ρ c (Proc.devRef .tc main_v4) = W1 m ρ c (Proc.devRef .tc main_v4) :=
  (W3_of m ρ c main_v4 (by decide)).trans (W2_of m ρ c main_v4 (by decide))

theorem v0_at4 : W4 m ρ c (Proc.devRef .tc main_v0) = W1 m ρ c (Proc.devRef .tc main_v0) :=
  ((W4_of m ρ c main_v0 (by decide)).trans (W3_of m ρ c main_v0 (by decide))).trans (W2_of m ρ c main_v0 (by decide))

theorem v8_at4 : W4 m ρ c (Proc.devRef .tc main_v8) = W3 m ρ c (Proc.devRef .tc main_v8) :=
  W4_of m ρ c main_v8 (by decide)

theorem v0_at8 : W8 m ρ c (Proc.devRef .tc main_v0) = W1 m ρ c (Proc.devRef .tc main_v0) :=
  ((((((W8_of m ρ c main_v0 (by decide)).trans (W7_of m ρ c main_v0 (by decide))).trans (W6_of m ρ c main_v0 (by decide))).trans (W5_of m ρ c main_v0 (by decide))).trans (W4_of m ρ c main_v0 (by decide))).trans (W3_of m ρ c main_v0 (by decide))).trans (W2_of m ρ c main_v0 (by decide))

theorem v0_at9 : W9 m ρ c (Proc.devRef .tc main_v0) = W1 m ρ c (Proc.devRef .tc main_v0) :=
  (((((((W9_of m ρ c main_v0 (by decide)).trans (W8_of m ρ c main_v0 (by decide))).trans (W7_of m ρ c main_v0 (by decide))).trans (W6_of m ρ c main_v0 (by decide))).trans (W5_of m ρ c main_v0 (by decide))).trans (W4_of m ρ c main_v0 (by decide))).trans (W3_of m ρ c main_v0 (by decide))).trans (W2_of m ρ c main_v0 (by decide))

theorem v0_at10 : W10 m ρ c (Proc.devRef .tc main_v0) = W1 m ρ c (Proc.devRef .tc main_v0) :=
  ((((((((W10_of m ρ c main_v0 (by decide)).trans (W9_of m ρ c main_v0 (by decide))).trans (W8_of m ρ c main_v0 (by decide))).trans (W7_of m ρ c main_v0 (by decide))).trans (W6_of m ρ c main_v0 (by decide))).trans (W5_of m ρ c main_v0 (by decide))).trans (W4_of m ρ c main_v0 (by decide))).trans (W3_of m ρ c main_v0 (by decide))).trans (W2_of m ρ c main_v0 (by decide))

theorem v0_at11 : W11 m ρ c (Proc.devRef .tc main_v0) = W1 m ρ c (Proc.devRef .tc main_v0) :=
  (((((((((W11_of m ρ c main_v0 (by decide)).trans (W10_of m ρ c main_v0 (by decide))).trans (W9_of m ρ c main_v0 (by decide))).trans (W8_of m ρ c main_v0 (by decide))).trans (W7_of m ρ c main_v0 (by decide))).trans (W6_of m ρ c main_v0 (by decide))).trans (W5_of m ρ c main_v0 (by decide))).trans (W4_of m ρ c main_v0 (by decide))).trans (W3_of m ρ c main_v0 (by decide))).trans (W2_of m ρ c main_v0 (by decide))

theorem v0_at12 : W12 m ρ c (Proc.devRef .tc main_v0) = W1 m ρ c (Proc.devRef .tc main_v0) :=
  ((((((((((W12_of m ρ c main_v0 (by decide)).trans (W11_of m ρ c main_v0 (by decide))).trans (W10_of m ρ c main_v0 (by decide))).trans (W9_of m ρ c main_v0 (by decide))).trans (W8_of m ρ c main_v0 (by decide))).trans (W7_of m ρ c main_v0 (by decide))).trans (W6_of m ρ c main_v0 (by decide))).trans (W5_of m ρ c main_v0 (by decide))).trans (W4_of m ρ c main_v0 (by decide))).trans (W3_of m ρ c main_v0 (by decide))).trans (W2_of m ρ c main_v0 (by decide))

theorem in_v4 (f : Fin 1536) (k : Fin 1024) : V3 m ρ c main_v4 (ix2 f k) = argW m c k (colQ f) :=
  ((congrFun (v4_at3 m ρ c) (ix2 f k)).trans (congrFun (read_v4 (W0 m ρ c)) (ix2 f k))).trans (cast_v4 _ f k)

theorem in_v8 (f : Fin 3200) (k : Fin 1024) : V4 m ρ c main_v8 (ix2 f k) = Proj.wRest (argW m c) f k :=
  ((congrFun (v8_at4 m ρ c) (ix2 f k)).trans (congrFun (read_v8 (W0 m ρ c)) (ix2 f k))).trans (cast_v8 _ f k)

theorem arg2_at5 : W5 m ρ c (Proc.devRef .tc main_arg2) = m ((c : Thread nD τ).loc main_arg2) := W5_args m ρ c main_arg2 (by decide)

theorem in_v15_8 (f : Fin 512) (s : Fin 4096) : V8 m ρ c main_v15 (ix2 f s) = (Proj.seg (argD m c) 0 (by norm_num)) f s := by
  refine ((congrFun (read_v15 (W5 m ρ c)) (ix2 f s)).trans (cast_seg2 _ f s)).trans ?_
  rw [arg2_at5]
  rfl

theorem out_v23 : W9 m ρ c (Proc.devRef .tc main_v23) = (fun y : S512x1024.Idx => Proj.grad (Proj.seg (argD m c) 0 (by norm_num)) (argH m c) (y 0) (y 1)) :=
  (W9_arr m ρ c 2).trans (arrG2 (V8 m ρ) c (h := argH m c) (a := (Proj.seg (argD m c) 0 (by norm_num))) (in_v15_8 m ρ c)
    (fun s k => (congrFun (v0_at8 m ρ c) (ix2 s k)).trans (in_v0 m ρ c s k)))

theorem v23_at13 : W13 m ρ c (Proc.devRef .tc main_v23) = W9 m ρ c (Proc.devRef .tc main_v23) :=
  (((W13_of m ρ c main_v23 (by decide)).trans (W12_of m ρ c main_v23 (by decide))).trans (W11_of m ρ c main_v23 (by decide))).trans (W10_of m ρ c main_v23 (by decide))

theorem in_v17_8 (f : Fin 1024) (s : Fin 4096) : V8 m ρ c main_v17 (ix2 f s) = (Proj.seg (argD m c) 512 (by norm_num)) f s := by
  refine ((congrFun (read_v17 (W5 m ρ c)) (ix2 f s)).trans (cast_seg3 _ f s)).trans ?_
  rw [arg2_at5]
  rfl

theorem v17_at9 : W9 m ρ c (Proc.devRef .tc main_v17) = W8 m ρ c (Proc.devRef .tc main_v17) :=
  W9_of m ρ c main_v17 (by decide)

theorem in_v17 (f : Fin 1024) (s : Fin 4096) : V9 m ρ c main_v17 (ix2 f s) = (Proj.seg (argD m c) 512 (by norm_num)) f s :=
  (congrFun (v17_at9 m ρ c) (ix2 f s)).trans (in_v17_8 m ρ c f s)

theorem out_v24 : W10 m ρ c (Proc.devRef .tc main_v24) = (fun y : S1024x1024.Idx => Proj.grad (Proj.seg (argD m c) 512 (by norm_num)) (argH m c) (y 0) (y 1)) :=
  (W10_arr m ρ c 2).trans (arrG3 (V9 m ρ) c (h := argH m c) (a := (Proj.seg (argD m c) 512 (by norm_num))) (in_v17 m ρ c)
    (fun s k => (congrFun (v0_at9 m ρ c) (ix2 s k)).trans (in_v0 m ρ c s k)))

theorem v24_at13 : W13 m ρ c (Proc.devRef .tc main_v24) = W10 m ρ c (Proc.devRef .tc main_v24) :=
  ((W13_of m ρ c main_v24 (by decide)).trans (W12_of m ρ c main_v24 (by decide))).trans (W11_of m ρ c main_v24 (by decide))

theorem in_v18_8 (f : Fin 128) (s : Fin 4096) : V8 m ρ c main_v18 (ix2 f s) = (Proj.segF (argD m c)) f s := by
  refine ((congrFun (read_v18 (W5 m ρ c)) (ix2 f s)).trans (cast_seg4 _ f s)).trans ?_
  rw [arg2_at5]
  rfl

theorem v18_at10 : W10 m ρ c (Proc.devRef .tc main_v18) = W8 m ρ c (Proc.devRef .tc main_v18) :=
  (W10_of m ρ c main_v18 (by decide)).trans (W9_of m ρ c main_v18 (by decide))

theorem in_v18 (f : Fin 128) (s : Fin 4096) : V10 m ρ c main_v18 (ix2 f s) = (Proj.segF (argD m c)) f s :=
  (congrFun (v18_at10 m ρ c) (ix2 f s)).trans (in_v18_8 m ρ c f s)

theorem out_v25 : W11 m ρ c (Proc.devRef .tc main_v25) = (fun y : S128x1024.Idx => Proj.grad (Proj.segF (argD m c)) (argH m c) (y 0) (y 1)) :=
  (W11_arr m ρ c 2).trans (arrG4 (V10 m ρ) c (h := argH m c) (a := (Proj.segF (argD m c))) (in_v18 m ρ c)
    (fun s k => (congrFun (v0_at10 m ρ c) (ix2 s k)).trans (in_v0 m ρ c s k)))

theorem v25_at13 : W13 m ρ c (Proc.devRef .tc main_v25) = W11 m ρ c (Proc.devRef .tc main_v25) :=
  (W13_of m ρ c main_v25 (by decide)).trans (W12_of m ρ c main_v25 (by decide))

theorem in_v20_8 (f : Fin 1024) (s : Fin 4096) : V8 m ρ c main_v20 (ix2 f s) = (Proj.seg (argD m c) 1544 (by norm_num)) f s := by
  refine ((congrFun (read_v20 (W5 m ρ c)) (ix2 f s)).trans (cast_seg5 _ f s)).trans ?_
  rw [arg2_at5]
  rfl

theorem v20_at11 : W11 m ρ c (Proc.devRef .tc main_v20) = W8 m ρ c (Proc.devRef .tc main_v20) :=
  ((W11_of m ρ c main_v20 (by decide)).trans (W10_of m ρ c main_v20 (by decide))).trans (W9_of m ρ c main_v20 (by decide))

theorem in_v20 (f : Fin 1024) (s : Fin 4096) : V11 m ρ c main_v20 (ix2 f s) = (Proj.seg (argD m c) 1544 (by norm_num)) f s :=
  (congrFun (v20_at11 m ρ c) (ix2 f s)).trans (in_v20_8 m ρ c f s)

theorem out_v26 : W12 m ρ c (Proc.devRef .tc main_v26) = (fun y : S1024x1024.Idx => Proj.grad (Proj.seg (argD m c) 1544 (by norm_num)) (argH m c) (y 0) (y 1)) :=
  (W12_arr m ρ c 2).trans (arrG5 (V11 m ρ) c (h := argH m c) (a := (Proj.seg (argD m c) 1544 (by norm_num))) (in_v20 m ρ c)
    (fun s k => (congrFun (v0_at11 m ρ c) (ix2 s k)).trans (in_v0 m ρ c s k)))

theorem v26_at13 : W13 m ρ c (Proc.devRef .tc main_v26) = W12 m ρ c (Proc.devRef .tc main_v26) :=
  W13_of m ρ c main_v26 (by decide)

theorem in_v22_8 (f : Fin 2048) (s : Fin 4096) : V8 m ρ c main_v22 (ix2 f s) = (Proj.seg (argD m c) 2568 (by norm_num)) f s := by
  refine ((congrFun (read_v22 (W5 m ρ c)) (ix2 f s)).trans (cast_seg6 _ f s)).trans ?_
  rw [arg2_at5]
  rfl

theorem v22_at12 : W12 m ρ c (Proc.devRef .tc main_v22) = W8 m ρ c (Proc.devRef .tc main_v22) :=
  (((W12_of m ρ c main_v22 (by decide)).trans (W11_of m ρ c main_v22 (by decide))).trans (W10_of m ρ c main_v22 (by decide))).trans (W9_of m ρ c main_v22 (by decide))

theorem in_v22 (f : Fin 2048) (s : Fin 4096) : V12 m ρ c main_v22 (ix2 f s) = (Proj.seg (argD m c) 2568 (by norm_num)) f s :=
  (congrFun (v22_at12 m ρ c) (ix2 f s)).trans (in_v22_8 m ρ c f s)

theorem out_v27 : W13 m ρ c (Proc.devRef .tc main_v27) = (fun y : S2048x1024.Idx => Proj.grad (Proj.seg (argD m c) 2568 (by norm_num)) (argH m c) (y 0) (y 1)) :=
  (W13_arr m ρ c 2).trans (arrG6 (V12 m ρ) c (h := argH m c) (a := (Proj.seg (argD m c) 2568 (by norm_num))) (in_v22 m ρ c)
    (fun s k => (congrFun (v0_at12 m ρ c) (ix2 s k)).trans (in_v0 m ρ c s k)))

/-- The first columns of the projection, at the end. -/
theorem end_qkv : W14 m ρ c (Proc.devRef .tc main_v9_0) = (fun y : S4096x1536.Idx => Proj.qkv (argH m c) (argW m c) (y 0) (y 1)) :=
  ((((((((((W14_of m ρ c main_v9_0 (by decide)).trans (W13_of m ρ c main_v9_0 (by decide))).trans (W12_of m ρ c main_v9_0 (by decide))).trans (W11_of m ρ c main_v9_0 (by decide))).trans (W10_of m ρ c main_v9_0 (by decide))).trans (W9_of m ρ c main_v9_0 (by decide))).trans (W8_of m ρ c main_v9_0 (by decide))).trans (W7_of m ρ c main_v9_0 (by decide))).trans (W6_of m ρ c main_v9_0 (by decide))).trans (W5_of m ρ c main_v9_0 (by decide))).trans ((W4_arr m ρ c 2).trans (arrQkv (V3 m ρ) c (h := argH m c) (w := argW m c)
    (fun s k => (congrFun (v0_at3 m ρ c) (ix2 s k)).trans (in_v0 m ρ c s k)) (in_v4 m ρ c)))

/-- The keys, transposed, at the end. -/
theorem end_kT : W14 m ρ c (Proc.devRef .tc main_v9_1) = (fun y : S512x4096.Idx => Proj.pr (argH m c) (argW m c) (y 1) (colK (y 0))) :=
  ((((((((((W14_of m ρ c main_v9_1 (by decide)).trans (W13_of m ρ c main_v9_1 (by decide))).trans (W12_of m ρ c main_v9_1 (by decide))).trans (W11_of m ρ c main_v9_1 (by decide))).trans (W10_of m ρ c main_v9_1 (by decide))).trans (W9_of m ρ c main_v9_1 (by decide))).trans (W8_of m ρ c main_v9_1 (by decide))).trans (W7_of m ρ c main_v9_1 (by decide))).trans (W6_of m ρ c main_v9_1 (by decide))).trans (W5_of m ρ c main_v9_1 (by decide))).trans ((W4_arr m ρ c 3).trans (arrKT (V3 m ρ) c (h := argH m c) (w := argW m c)
    (fun s k => (congrFun (v0_at3 m ρ c) (ix2 s k)).trans (in_v0 m ρ c s k)) (in_v4 m ρ c)))

/-- The values, transposed, at the end. -/
theorem end_vT : W14 m ρ c (Proc.devRef .tc main_v9_2) = (fun y : S512x4096.Idx => Proj.pr (argH m c) (argW m c) (y 1) (colV (y 0))) :=
  ((((((((((W14_of m ρ c main_v9_2 (by decide)).trans (W13_of m ρ c main_v9_2 (by decide))).trans (W12_of m ρ c main_v9_2 (by decide))).trans (W11_of m ρ c main_v9_2 (by decide))).trans (W10_of m ρ c main_v9_2 (by decide))).trans (W9_of m ρ c main_v9_2 (by decide))).trans (W8_of m ρ c main_v9_2 (by decide))).trans (W7_of m ρ c main_v9_2 (by decide))).trans (W6_of m ρ c main_v9_2 (by decide))).trans (W5_of m ρ c main_v9_2 (by decide))).trans ((W4_arr m ρ c 4).trans (arrVT (V3 m ρ) c (h := argH m c) (w := argW m c)
    (fun s k => (congrFun (v0_at3 m ρ c) (ix2 s k)).trans (in_v0 m ρ c s k)) (in_v4 m ρ c)))

/-- The other columns of the projection, at the end. -/
theorem end_rest : W14 m ρ c (Proc.devRef .tc main_v10_0) = (fun y : S4096x3200.Idx => Proj.rest (argH m c) (argW m c) (y 0) (y 1)) :=
  (((((((((W14_of m ρ c main_v10_0 (by decide)).trans (W13_of m ρ c main_v10_0 (by decide))).trans (W12_of m ρ c main_v10_0 (by decide))).trans (W11_of m ρ c main_v10_0 (by decide))).trans (W10_of m ρ c main_v10_0 (by decide))).trans (W9_of m ρ c main_v10_0 (by decide))).trans (W8_of m ρ c main_v10_0 (by decide))).trans (W7_of m ρ c main_v10_0 (by decide))).trans (W6_of m ρ c main_v10_0 (by decide))).trans ((W5_arr m ρ c 2).trans (arrRest (V4 m ρ) c (h := argH m c) (w := argW m c)
    (fun s k => (congrFun (v0_at4 m ρ c) (ix2 s k)).trans (in_v0 m ρ c s k)) (in_v8 m ρ c)))

/-- The padded forget gate, at the end. -/
theorem end_fLogit : W14 m ρ c (Proc.devRef .tc main_v10_1) = (fun y : S4096x128.Idx => Proj.fLogit (argH m c) (argW m c) (y 0) (y 1)) :=
  (((((((((W14_of m ρ c main_v10_1 (by decide)).trans (W13_of m ρ c main_v10_1 (by decide))).trans (W12_of m ρ c main_v10_1 (by decide))).trans (W11_of m ρ c main_v10_1 (by decide))).trans (W10_of m ρ c main_v10_1 (by decide))).trans (W9_of m ρ c main_v10_1 (by decide))).trans (W8_of m ρ c main_v10_1 (by decide))).trans (W7_of m ρ c main_v10_1 (by decide))).trans (W6_of m ρ c main_v10_1 (by decide))).trans ((W5_arr m ρ c 3).trans (arrFLogit (V4 m ρ) c (h := argH m c) (w := argW m c)
    (fun s k => (congrFun (v0_at4 m ρ c) (ix2 s k)).trans (in_v0 m ρ c s k)) (in_v8 m ρ c)))

/-- The gradient of the weight, at the end. -/
theorem end_gIn : W14 m ρ c (Proc.devRef .tc main_v29) = (fun y : S4616x1024.Idx => Proj.gIn (argH m c) (argD m c) (y 0) (y 1)) := by
  funext y
  obtain ⟨f, k, rfl⟩ : ∃ (f : Fin 4616) (k : Fin 1024), y = ix2 f k := ⟨y 0, y 1, split2 y⟩
  refine ((congrFun (read_v29 (W13 m ρ c)) (ix2 f k)).trans (join _ _ _ _ _ f k)).trans ?_
  rw [v23_at13, v24_at13, v25_at13, v26_at13, out_v23, out_v24, out_v25, out_v26, out_v27]
  exact Proj.gIn_join (argH m c) (argD m c) f k

end Cert.Kernel3Ideal.Gen

end
-- ==== Proof.ProjRef.lean ====
/- The reference of the projection: its six results are the model. -/
module

public import proofs.«01_k».proof.Proof.Gen.Reference3Ideal.Read
public import proofs.«01_k».proof.Proof.ProjModel
public import Idealize.ShloMosaic.Lib.Pipeline.ValueKit

@[expose] public section

set_option maxRecDepth 16384
set_option synthInstance.maxSize 4096

noncomputable section

namespace Cert.Reference3Ideal.Read

open Cert.Reference3Ideal Cert.Reference3Ideal.Gen Idealize.ShloMosaic Idealize.ShloMosaic.TcCoe Idealize.SL.Sem
open Idealize.ShloMosaic.Tactic

theorem sitofp_zero : (FloatOps.sitofp (F := Ideal) .f32 0#32) = (0 : EReal) := by
  show ((((0#32 : BitVec 32).toInt : ℝ)) : EReal) = 0
  simp

theorem padded (y : Vec Ideal S4096x8 .f32) (s : Fin 4096) (f : Fin 128) :
    (pad S4096x128 ![0, 0] ![0, 120] ![0, 0] y (sitofp (F := Ideal) .f32 (constantI S_ 32 0#32)) pads_S4096x8_S4096x128_000_01200 h_S_) (ix2 s f)
      = if hf : f.val < 8 then y (ix2 s ⟨f.val, hf⟩) else (0 : EReal) := by
  pointwise
  rw [sitofp_zero]

theorem joined (a : Vec Ideal S4096x3072 .f32) (b : Vec Ideal S4096x128 .f32) (s : Fin 4096) (f : Fin 3200) :
    (concatenate S4096x3200 1 [⟨S4096x3072, a⟩, ⟨S4096x128, b⟩] concatenates_S4096x3072_S4096x128_S4096x3200_d1) (ix2 s f)
      = if hf : f.val < 3072 then a (ix2 s ⟨f.val, hf⟩) else b (ix2 s ⟨f.val - 3072, by omega⟩) := by
  pointwise

variable {x0 : (⟨S4096x1024, .f32⟩ : BufTy).Contents (Elt Ideal)} {x1 : (⟨S1x1024x4616, .f32⟩ : BufTy).Contents (Elt Ideal)}
  {x2 : (⟨S4096x4616, .f32⟩ : BufTy).Contents (Elt Ideal)} {h : Proj.Mat 4096 1024} {w : Proj.Mat 1024 4616} {d : Proj.Mat 4096 4616}
  (h0 : ∀ s k, x0 (ix2 s k) = h s k) (h1 : ∀ k f, x1 (ix3 0 k f) = w k f) (h2 : ∀ s f, x2 (ix2 s f) = d s f)

theorem two {a b : ℕ} (y : Shape.Idx ⟨2, ![a, b]⟩) : ∃ (p : Fin a) (q : Fin b), y = ix2 p q :=
  ⟨y 0, y 1, by funext e; match e with | 0 => rfl | 1 => rfl⟩

include h1 in
theorem v0_model (k : Fin 1024) (f : Fin 4616) : val_main_v0 (F := Ideal) x1 (ix2 k f) = w k f := by
  rw [← h1]
  unfold val_main_v0
  pointwise

include h0 h1 in
theorem v1_model (s : Fin 4096) (f : Fin 4616) : val_main_v1 (F := Ideal) x0 x1 (ix2 s f) = Proj.pr h w s f := by
  rw [val_main_v1_apply]
  refine Finset.sum_congr rfl fun k _ => congrArg₂ (· * ·) (Eq.trans (congrArg x0 ?_) (h0 s k))
    (Eq.trans (congrArg (val_main_v0 (F := Ideal) x1) ?_) (v0_model h1 k f))
  · funext a; match a with | 0 => rfl | 1 => rfl
  · funext a; match a with | 0 => rfl | 1 => rfl

include h0 h1 in
/-- The product, read at an index whose coordinates are known. -/
theorem v1_at (i : S4096x4616.Idx) (s : Fin 4096) (f : Fin 4616) (hs : (i 0).val = s.val) (hf : (i 1).val = f.val) :
    val_main_v1 (F := Ideal) x0 x1 i = Proj.pr h w s f := by
  rw [← v1_model h0 h1 s f]
  refine congrArg (val_main_v1 (F := Ideal) x0 x1) ?_
  funext a
  match a with
  | 0 => exact Fin.ext hs
  | 1 => exact Fin.ext hf

include h0 h1 in
/-- The first columns. -/
theorem v12_model (y : S4096x1536.Idx) : val_main_v12 (F := Ideal) x0 x1 y = Proj.qkv h w (y 0) (y 1) := by
  rw [val_main_v12_apply, val_main_v5_apply]
  obtain ⟨s, f, rfl⟩ := two y
  exact v1_at h0 h1 _ s ⟨f.val, by omega⟩ rfl rfl

include h0 h1 in
/-- The keys, transposed. -/
theorem v14_model (f : Fin 512) (s : Fin 4096) (g : Fin 4616) (hg : 512 + f.val = g.val) :
    val_main_v14 (F := Ideal) x0 x1 (ix2 f s) = Proj.pr h w s g := by
  rw [val_main_v14_apply, val_main_v13_apply, val_main_v6_apply]
  exact v1_at h0 h1 _ s g rfl hg

include h0 h1 in
/-- The values, transposed. -/
theorem v16_model (f : Fin 512) (s : Fin 4096) (g : Fin 4616) (hg : 1024 + f.val = g.val) :
    val_main_v16 (F := Ideal) x0 x1 (ix2 f s) = Proj.pr h w s g := by
  rw [val_main_v16_apply, val_main_v15_apply, val_main_v7_apply]
  exact v1_at h0 h1 _ s g rfl hg

include h0 h1 in
theorem v9_at (s : Fin 4096) (f : Fin 128) : val_main_v9 (F := Ideal) x0 x1 (ix2 s f) = Proj.fLogit h w s f := by
  unfold Proj.fLogit
  refine (padded (val_main_v8 (F := Ideal) x0 x1) s f).trans ?_
  by_cases hf : f.val < 8
  · rw [dif_pos hf, dif_pos hf, val_main_v8_apply]
    exact v1_at h0 h1 _ s ⟨1536 + f.val, by omega⟩ rfl rfl
  · rw [dif_neg hf, dif_neg hf]

include h0 h1 in
/-- The forget gate, padded. -/
theorem v9_model (y : S4096x128.Idx) : val_main_v9 (F := Ideal) x0 x1 y = Proj.fLogit h w (y 0) (y 1) := by
  obtain ⟨s, f, rfl⟩ := two y
  exact v9_at h0 h1 s f

include h0 h1 in
/-- The other columns. -/
theorem v17_model (y : S4096x3200.Idx) : val_main_v17 (F := Ideal) x0 x1 y = Proj.rest h w (y 0) (y 1) := by
  rw [val_main_v17_apply]
  obtain ⟨s, f, rfl⟩ := two y
  refine (joined (val_main_v10 (F := Ideal) x0 x1) (val_main_v9 (F := Ideal) x0 x1) s f).trans ?_
  show _ = Proj.rest h w s f
  unfold Proj.rest
  by_cases hf : f.val < 3072
  · rw [dif_pos hf, dif_pos hf, val_main_v10_apply]
    exact v1_at h0 h1 _ s ⟨1544 + f.val, by omega⟩ rfl rfl
  · rw [dif_neg hf, dif_neg hf]
    exact v9_at h0 h1 s ⟨f.val - 3072, by omega⟩

include h0 h2 in
theorem v2_model (f : Fin 4616) (k : Fin 1024) : val_main_v2 (F := Ideal) x0 x2 (ix2 f k) = Proj.gIn h d f k := by
  rw [val_main_v2_apply]
  refine Finset.sum_congr rfl fun s _ => congrArg₂ (· * ·) (Eq.trans (congrArg x2 ?_) (h2 s f)) (Eq.trans (congrArg x0 ?_) (h0 s k))
  · funext a; match a with | 0 => rfl | 1 => rfl
  · funext a; match a with | 0 => rfl | 1 => rfl

include h0 h2 in
/-- The gradient of the weight, transposed. -/
theorem v19_model (y : S4616x1024.Idx) : val_main_v19 (F := Ideal) x0 x2 y = Proj.gIn h d (y 0) (y 1) := by
  obtain ⟨f, k, rfl⟩ := two y
  rw [val_main_v19_apply, val_main_v18_apply, val_main_v4_apply, val_main_v3_apply]
  refine Eq.trans (congrArg (val_main_v2 (F := Ideal) x0 x2) ?_) (v2_model h0 h2 f k)
  have hf := f.isLt
  have hk := k.isLt
  funext a
  match a with
  | 0 => exact Fin.ext (by show (k.val * 4616 + f.val) % 4616 = f.val; omega)
  | 1 => exact Fin.ext (by show (k.val * 4616 + f.val) / 4616 % 1024 = k.val; omega)

end Cert.Reference3Ideal.Read

end
-- ==== Proof.OutRun.lean ====
/- The whole run of the output projection's program: every buffer at the end, and every semaphore at zero. -/
module

public import proofs.«01_k».proof.Proof.Gen.Kernel4Ideal.Frame

@[expose] public section

set_option maxRecDepth 16384
set_option synthInstance.maxSize 4096

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- At the end every buffer of the program holds what its regions and the host's operations leave, and every semaphore is at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Cert.Kernel4Ideal.Gen

end
-- ==== Proof.OutModel.lean ====
/- The output projection over the extended reals: the residual stream after it, the second norm, and the gradient of a product with a weight. -/
module

public import Idealize.ShloMosaic.Lib.Pipeline.ValueKit

@[expose] public section

set_option maxRecDepth 16384
set_option synthInstance.maxSize 4096

noncomputable section

namespace Out

open Idealize.ShloMosaic

/-- A matrix of extended reals. -/
abbrev Mat (a b : ℕ) : Type := Fin a → Fin b → EReal

/-- The residual stream after the output projection: the input plus the merged branches' product with the weight. -/
def x1 (mg : Mat 4096 1024) (w : Mat 1024 1024) (xs : Mat 4096 1024) : Mat 4096 1024 :=
  fun s n => xs s n + ∑ k, mg s k * w k n

/-- One over the root mean square of a row, with the norm's small constant under the root. -/
def rms (r : Fin 1024 → EReal) : EReal :=
  Ideal.rsqrt (Ideal.div (∑ j, r j * r j) (FloatOps.ofBits (F := Ideal) .f32 0x44800000#32) + FloatOps.ofBits (F := Ideal) .f32 0x358637BD#32)

/-- That of a row of the residual stream. -/
def r2 (mg : Mat 4096 1024) (w : Mat 1024 1024) (xs : Mat 4096 1024) : Fin 4096 → EReal := fun s => rms (x1 mg w xs s)

/-- The normalised residual stream, scaled by the norm's gain. -/
def h2 (mg : Mat 4096 1024) (w : Mat 1024 1024) (xs : Mat 4096 1024) (g : Fin 1024 → EReal) : Mat 4096 1024 :=
  fun s n => x1 mg w xs s n * r2 mg w xs s * g n

/-- The gradient of the weight of a product `o w`, from the gradient `d` of that product. -/
def grad (o : Mat 4096 512) (d : Mat 4096 1024) : Mat 512 1024 := fun f k => ∑ s, o s f * d s k

/-- Column `j` of the block `b` of 128 columns. -/
def col (b j : ℕ) : Fin 1024 := ⟨(128 * b + j) % 1024, Nat.mod_lt _ (by norm_num)⟩

end Out

end
-- ==== Proof.OutPay.lean ====
/- What the three bodies of the output projection and of the branches' weight gradients compute, read at an index. -/
module

public import proofs.«01_k».proof.Proof.Gen.Kernel4Ideal.Skeleton
public import proofs.«01_k».proof.Proof.OutModel

@[expose] public section

set_option maxRecDepth 16384
set_option synthInstance.maxSize 4096

noncomputable section

namespace Cert.Kernel4Ideal.Gen

open Idealize.ShloMosaic Idealize.ShloMosaic.TcCoe Idealize.SL.Sem
open Idealize.ShloMosaic.Tactic

theorem pay_x1 (v0 : Vec Ideal S512x1024 .bf16) (v2 : Vec Ideal S1024x1024 .bf16) (v5 : Vec Ideal S512x1024 .f32) (p : Fin 512) (q : Fin 1024) :
    k0_pay1 v0 v2 v5 (ix2 p q) = v5 (ix2 p q) + ∑ k : Fin 1024, v0 (ix2 p k) * v2 (ix2 k q) := by
  pointwise [k0_pay1]

theorem pay_r (v0 : Vec Ideal S512x1024 .bf16) (v2 : Vec Ideal S1024x1024 .bf16) (v5 : Vec Ideal S512x1024 .f32) (p : Fin 512) (z : Fin 1) :
    k0_pay2 v0 v2 v5 (ix2 p z) = Out.rms (fun j => k0_pay1 v0 v2 v5 (ix2 p j)) := by
  pointwise [k0_pay2]
  rfl

theorem pay_h2 (v0 : Vec Ideal S512x1024 .bf16) (v2 : Vec Ideal S1024x1024 .bf16) (v5 : Vec Ideal S512x1024 .f32) (v18 : Vec Ideal S1x1024 .f32) (p : Fin 512) (q : Fin 1024) :
    k0_pay3 v0 v2 v5 v18 (ix2 p q) = k0_pay1 v0 v2 v5 (ix2 p q) * k0_pay2 v0 v2 v5 (ix2 p 0) * v18 (ix2 0 q) := by
  pointwise [k0_pay3]

theorem pay_h2T (v0 : Vec Ideal S512x1024 .bf16) (v2 : Vec Ideal S1024x1024 .bf16) (v5 : Vec Ideal S512x1024 .f32) (v18 : Vec Ideal S1x1024 .f32) (p : Fin 512) (q : Fin 1024) :
    k0_pay4 v0 v2 v5 v18 (ix2 q p) = k0_pay3 v0 v2 v5 v18 (ix2 p q) := by
  pointwise [k0_pay4]

theorem pay_g1 (x1 : Vec Ideal S4096x1024 .bf16) (x0 : Vec Ideal S512x4096 .bf16) (p : Fin 512) (q : Fin 1024) :
    k1_pay1 x1 x0 (ix2 p q) = ∑ s : Fin 4096, x0 (ix2 p s) * x1 (ix2 s q) := by
  pointwise [k1_pay1]

theorem pay_g2 (x1 : Vec Ideal S4096x1024 .bf16) (x0 : Vec Ideal S512x4096 .bf16) (p : Fin 512) (q : Fin 1024) :
    k2_pay1 x1 x0 (ix2 p q) = ∑ s : Fin 4096, x0 (ix2 p s) * x1 (ix2 s q) := by
  pointwise [k2_pay1]

end Cert.Kernel4Ideal.Gen

end
-- ==== Proof.OutArr.lean ====
/- The output projection and the second norm: what the first region leaves. -/
module

public import proofs.«01_k».proof.Proof.Gen.Kernel4Ideal.Frame
public import proofs.«01_k».proof.Proof.OutPay
public import Idealize.ShloMosaic.Lib.Pipeline.ValueKit
public import Idealize.ShloMosaic.Lib.Claim

@[expose] public section

set_option maxRecDepth 16384
set_option synthInstance.maxSize 4096

noncomputable section

namespace Cert.Kernel4Ideal.Gen

open Idealize.ShloMosaic Idealize.ShloMosaic.TcCoe Idealize.SL.Sem
open Idealize.ShloMosaic.Tactic

theorem idx0 : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, t.val]
    ∧ win0_7.index t = ![t.val, 0] :=
  (by decide +kernel : ∀ t : Fin grid0.N, _)

theorem split2 {a b : ℕ} (y : Shape.Idx ⟨2, ![a, b]⟩) : y = ix2 (y 0) (y 1) := by
  funext d; match d with | 0 => rfl | 1 => rfl

/-- Row `p` of the block `q` of 512 rows. -/
def at8 (q : ℕ) (p : Fin 512) : Fin 4096 := ⟨(512 * q + p.val) % 4096, Nat.mod_lt _ (by norm_num)⟩

variable (V : (c : Dev nD) → (b : Ref sig .tc) → Buf (Elt Ideal) ((c : Thread nD τ).loc b)) (c : Dev nD)

variable {mg : Out.Mat 4096 1024} {w : Out.Mat 1024 1024} {xs : Out.Mat 4096 1024} {g : Fin 1024 → EReal}
  (hm : ∀ s k, V c main_v0 (ix2 s k) = mg s k) (hw : ∀ k n, V c main_v4 (ix2 k n) = w k n)
  (hx : ∀ s n, V c main_arg2 (ix2 s n) = xs s n) (hg : ∀ n, V c main_arg3 (ix2 0 n) = g n)

include hm in
theorem blkM (t : Fin cfg0.N) (p : Fin 512) (k : Fin 1024) : iblk0 V c 0 t (ix2 p k) = mg (at8 t.val p) k := by
  blk_simp [iblk0]
  have hN : t.val < 8 := t.isLt
  refine (congrArg (V c main_v0) (show _ = ix2 (at8 t.val p) k from ?_)).trans (hm _ _)
  funext a
  match a with
  | 0 => exact Fin.ext (by blk_simp [(idx0 t).1]; show t.val * 512 + p.val = (512 * t.val + p.val) % 4096; omega)
  | 1 => exact Fin.ext (by blk_simp [(idx0 t).1])

include hw in
theorem blkW (t : Fin cfg0.N) (p : Fin 1024) (k : Fin 1024) : iblk0 V c 1 t (ix2 p k) = w p k := by
  blk_simp [iblk0]
  have hN : t.val < 8 := t.isLt
  refine (congrArg (V c main_v4) (show _ = ix2 p k from ?_)).trans (hw _ _)
  funext a
  match a with
  | 0 => exact Fin.ext (by blk_simp [(idx0 t).2.1])
  | 1 => exact Fin.ext (by blk_simp [(idx0 t).2.1])

include hx in
theorem blkX (t : Fin cfg0.N) (p : Fin 512) (k : Fin 1024) : iblk0 V c 2 t (ix2 p k) = xs (at8 t.val p) k := by
  blk_simp [iblk0]
  have hN : t.val < 8 := t.isLt
  refine (congrArg (V c main_arg2) (show _ = ix2 (at8 t.val p) k from ?_)).trans (hx _ _)
  funext a
  match a with
  | 0 => exact Fin.ext (by blk_simp [(idx0 t).2.2.1]; show t.val * 512 + p.val = (512 * t.val + p.val) % 4096; omega)
  | 1 => exact Fin.ext (by blk_simp [(idx0 t).2.2.1])

include hg in
theorem blkG (t : Fin cfg0.N)  (k : Fin 1024) : iblk0 V c 3 t (ix2 0 k) = g k := by
  blk_simp [iblk0]
  have hN : t.val < 8 := t.isLt
  refine (congrArg (V c main_arg3) (show _ = ix2 0 k from ?_)).trans (hg  _)
  funext a
  match a with
  | 0 => exact Fin.ext (by blk_simp [(idx0 t).2.2.2.1])
  | 1 => exact Fin.ext (by blk_simp [(idx0 t).2.2.2.1])

section Block
include hm hw hx

theorem at_x1 (t : Fin cfg0.N) (p : Fin 512) (n : Fin 1024) :
    k0_pay1 (iblk0 V c 0 t) (iblk0 V c 1 t) (iblk0 V c 2 t) (ix2 p n) = Out.x1 mg w xs (at8 t.val p) n := by
  refine (pay_x1 _ _ _ p n).trans ?_
  simp only [blkM V c hm, blkW V c hw, blkX V c hx]
  rfl

theorem at_r2 (t : Fin cfg0.N) (p : Fin 512) (z : Fin 1) :
    k0_pay2 (iblk0 V c 0 t) (iblk0 V c 1 t) (iblk0 V c 2 t) (ix2 p z) = Out.r2 mg w xs (at8 t.val p) :=
  (pay_r _ _ _ p z).trans (congrArg Out.rms (funext fun j => at_x1 V c hm hw hx t p j))

include hg in
theorem at_h2 (t : Fin cfg0.N) (p : Fin 512) (n : Fin 1024) :
    k0_pay3 (iblk0 V c 0 t) (iblk0 V c 1 t) (iblk0 V c 2 t) (iblk0 V c 3 t) (ix2 p n) = Out.h2 mg w xs g (at8 t.val p) n := by
  refine (pay_h2 _ _ _ _ p n).trans ?_
  rw [at_x1 V c hm hw hx, at_r2 V c hm hw hx, blkG V c hg]
  rfl

/-- The residual stream after the output projection. -/
theorem arrX1 : (dat0 V c).arrAt 4 cfg0.N = (fun y : S4096x1024.Idx => Out.x1 mg w xs (y 0) (y 1)) := by
  refine (dat0 V c).arrAt_eq_of_covers 4 _ (by decide +kernel) fun t _ y => ?_
  blk_simp
  rw [after0_4]; frame_out
  obtain ⟨p, q, rfl⟩ : ∃ (p : Fin 512) (q : Fin 1024), y = ix2 p q := ⟨y 0, y 1, split2 y⟩
  have hN : t.val < 8 := t.isLt
  refine (at_x1 V c hm hw hx t p q).trans ?_
  show Out.x1 mg w xs ((at8 t.val p)) (q) = _
  refine congrArg₂ (fun s f => Out.x1 mg w xs (s) (f)) (Fin.ext ?_) (Fin.ext ?_)
  · blk_simp [(idx0 t).2.2.2.2.1]
    show (512 * t.val + p.val) % 4096 = t.val * 512 + p.val
    omega
  · blk_simp [(idx0 t).2.2.2.2.1]

include hg in
/-- The normalised stream. -/
theorem arrH2 : (dat0 V c).arrAt 5 cfg0.N = (fun y : S4096x1024.Idx => Out.h2 mg w xs g (y 0) (y 1)) := by
  refine (dat0 V c).arrAt_eq_of_covers 5 _ (by decide +kernel) fun t _ y => ?_
  blk_simp
  rw [after0_5]; frame_out
  obtain ⟨p, q, rfl⟩ : ∃ (p : Fin 512) (q : Fin 1024), y = ix2 p q := ⟨y 0, y 1, split2 y⟩
  have hN : t.val < 8 := t.isLt
  refine (at_h2 V c hm hw hx hg t p q).trans ?_
  show Out.h2 mg w xs g ((at8 t.val p)) (q) = _
  refine congrArg₂ (fun s f => Out.h2 mg w xs g (s) (f)) (Fin.ext ?_) (Fin.ext ?_)
  · blk_simp [(idx0 t).2.2.2.2.2.1]
    show (512 * t.val + p.val) % 4096 = t.val * 512 + p.val
    omega
  · blk_simp [(idx0 t).2.2.2.2.2.1]

include hg in
/-- The normalised stream, transposed. -/
theorem arrH2T : (dat0 V c).arrAt 6 cfg0.N = (fun y : S1024x4096.Idx => Out.h2 mg w xs g (y 1) (y 0)) := by
  refine (dat0 V c).arrAt_eq_of_covers 6 _ (by decide +kernel) fun t _ y => ?_
  blk_simp
  rw [after0_6]; frame_out
  obtain ⟨q, p, rfl⟩ : ∃ (q : Fin 1024) (p : Fin 512), y = ix2 q p := ⟨y 0, y 1, split2 y⟩
  have hN : t.val < 8 := t.isLt
  refine ((pay_h2T _ _ _ _ p q).trans (at_h2 V c hm hw hx hg t p q)).trans ?_
  show Out.h2 mg w xs g ((at8 t.val p)) (q) = _
  refine congrArg₂ (fun s f => Out.h2 mg w xs g (s) (f)) (Fin.ext ?_) (Fin.ext ?_)
  · blk_simp [(idx0 t).2.2.2.2.2.2.1]
    show (512 * t.val + p.val) % 4096 = t.val * 512 + p.val
    omega
  · blk_simp [(idx0 t).2.2.2.2.2.2.1]

/-- The reciprocal root mean squares. -/
theorem arrR2 : (dat0 V c).arrAt 7 cfg0.N = (fun y : S4096x1.Idx => Out.r2 mg w xs (y 0)) := by
  refine (dat0 V c).arrAt_eq_of_covers 7 _ (by decide +kernel) fun t _ y => ?_
  blk_simp
  rw [after0_7]; frame_out
  obtain ⟨p, q, rfl⟩ : ∃ (p : Fin 512) (q : Fin 1), y = ix2 p q := ⟨y 0, y 1, split2 y⟩
  have hN : t.val < 8 := t.isLt
  refine (at_r2 V c hm hw hx t p q).trans ?_
  show Out.r2 mg w xs ((at8 t.val p)) = _
  refine congrArg (fun s => Out.r2 mg w xs (s)) (Fin.ext ?_)
  · blk_simp [(idx0 t).2.2.2.2.2.2.2]
    show (512 * t.val + p.val) % 4096 = t.val * 512 + p.val
    omega

end Block

end Cert.Kernel4Ideal.Gen

end
-- ==== Proof.OutGrad.lean ====
/- The gradients of the two branches' weights: what the last two regions leave. -/
module

public import proofs.«01_k».proof.Proof.OutArr

@[expose] public section

set_option maxRecDepth 16384
set_option synthInstance.maxSize 4096

noncomputable section

namespace Cert.Kernel4Ideal.Gen

open Idealize.ShloMosaic Idealize.ShloMosaic.TcCoe Idealize.SL.Sem
open Idealize.ShloMosaic.Tactic

variable (V : (c : Dev nD) → (b : Ref sig .tc) → Buf (Elt Ideal) ((c : Thread nD τ).loc b)) (c : Dev nD)

theorem idx1 : ∀ t : Fin cfg1.N, win1_0.index t = ![t.val, 0] ∧ win1_1.index t = ![t.val, 0] ∧ win1_2.index t = ![t.val, 0] :=
  (by decide +kernel : ∀ t : Fin grid1.N, _)

section Region1
variable {o : Out.Mat 4096 512} {d : Out.Mat 4096 1024}
  (ho : ∀ f s, V c main_v6 (ix2 f s) = o s f) (hd : ∀ s k, V c main_v1 (ix2 s k) = d s k)

include ho in
theorem blkO1 (t : Fin cfg1.N) (p : Fin 512) (s : Fin 4096) : iblk1 V c 0 t (ix2 p s) = o s p := by
  blk_simp [iblk1]
  have hN : t.val < 1 := t.isLt
  refine (congrArg (V c main_v6) (show _ = ix2 p s from ?_)).trans (ho _ _)
  funext e
  match e with
  | 0 => exact Fin.ext (by blk_simp [(idx1 t).1])
  | 1 => exact Fin.ext (by blk_simp [(idx1 t).1])

include hd in
theorem blkD1 (t : Fin cfg1.N) (s : Fin 4096) (k : Fin 1024) : iblk1 V c 1 t (ix2 s k) = d s k := by
  blk_simp [iblk1]
  have hN : t.val < 1 := t.isLt
  refine (congrArg (V c main_v1) (show _ = ix2 s k from ?_)).trans (hd _ _)
  funext e
  match e with
  | 0 => exact Fin.ext (by blk_simp [(idx1 t).2.1])
  | 1 => exact Fin.ext (by blk_simp [(idx1 t).2.1])

include ho hd

theorem arrG1 : (dat1 V c).arrAt 2 cfg1.N = (fun y : S512x1024.Idx => Out.grad o d (y 0) (y 1)) := by
  refine (dat1 V c).arrAt_eq_of_covers 2 _ (by decide +kernel) fun t _ y => ?_
  blk_simp
  rw [after1_2]; unfold outsAt1; frame_out
  obtain ⟨p, q, rfl⟩ : ∃ (p : Fin 512) (q : Fin 1024), y = ix2 p q := ⟨y 0, y 1, split2 y⟩
  have hN : t.val < 1 := t.isLt
  refine (pay_g1 _ _ p q).trans ?_
  simp only [blkO1 V c ho, blkD1 V c hd]
  show Out.grad o d p q = _
  refine congrArg₂ (Out.grad o d) (Fin.ext ?_) (Fin.ext ?_)
  · blk_simp [(idx1 t).2.2]
  · blk_simp [(idx1 t).2.2]

end Region1

theorem idx2 : ∀ t : Fin cfg2.N, win2_0.index t = ![t.val, 0] ∧ win2_1.index t = ![t.val, 0] ∧ win2_2.index t = ![t.val, 0] :=
  (by decide +kernel : ∀ t : Fin grid2.N, _)

section Region2
variable {o : Out.Mat 4096 512} {d : Out.Mat 4096 1024}
  (ho : ∀ f s, V c main_v8 (ix2 f s) = o s f) (hd : ∀ s k, V c main_v2 (ix2 s k) = d s k)

include ho in
theorem blkO2 (t : Fin cfg2.N) (p : Fin 512) (s : Fin 4096) : iblk2 V c 0 t (ix2 p s) = o s p := by
  blk_simp [iblk2]
  have hN : t.val < 1 := t.isLt
  refine (congrArg (V c main_v8) (show _ = ix2 p s from ?_)).trans (ho _ _)
  funext e
  match e with
  | 0 => exact Fin.ext (by blk_simp [(idx2 t).1])
  | 1 => exact Fin.ext (by blk_simp [(idx2 t).1])

include hd in
theorem blkD2 (t : Fin cfg2.N) (s : Fin 4096) (k : Fin 1024) : iblk2 V c 1 t (ix2 s k) = d s k := by
  blk_simp [iblk2]
  have hN : t.val < 1 := t.isLt
  refine (congrArg (V c main_v2) (show _ = ix2 s k from ?_)).trans (hd _ _)
  funext e
  match e with
  | 0 => exact Fin.ext (by blk_simp [(idx2 t).2.1])
  | 1 => exact Fin.ext (by blk_simp [(idx2 t).2.1])

include ho hd

theorem arrG2 : (dat2 V c).arrAt 2 cfg2.N = (fun y : S512x1024.Idx => Out.grad o d (y 0) (y 1)) := by
  refine (dat2 V c).arrAt_eq_of_covers 2 _ (by decide +kernel) fun t _ y => ?_
  blk_simp
  rw [after2_2]; unfold outsAt2; frame_out
  obtain ⟨p, q, rfl⟩ : ∃ (p : Fin 512) (q : Fin 1024), y = ix2 p q := ⟨y 0, y 1, split2 y⟩
  have hN : t.val < 1 := t.isLt
  refine (pay_g2 _ _ p q).trans ?_
  simp only [blkO2 V c ho, blkD2 V c hd]
  show Out.grad o d p q = _
  refine congrArg₂ (Out.grad o d) (Fin.ext ?_) (Fin.ext ?_)
  · blk_simp [(idx2 t).2.2]
  · blk_simp [(idx2 t).2.2]

end Region2

end Cert.Kernel4Ideal.Gen

end
-- ==== Proof.OutCast.lean ====
/- How the host lays out the weight, the branches and the gradients: each read at an index. -/
module

public import proofs.«01_k».proof.Proof.Gen.Kernel4Ideal
public import proofs.«01_k».proof.Proof.OutModel
public import Idealize.ShloMosaic.Lib.Pipeline.ValueKit

@[expose] public section

set_option maxRecDepth 16384
set_option synthInstance.maxSize 4096

noncomputable section

namespace Cert.Kernel4Ideal.Gen

open Idealize.ShloMosaic Idealize.ShloMosaic.TcCoe Idealize.SL.Sem
open Idealize.ShloMosaic.Tactic

theorem cast_wo (x : Vec Ideal S1x1024x1024 .f32) (k n : Fin 1024) : (truncf (F := Ideal) .bf16 (shapeCast S1024x1024 x shapeCasts_S1x1024x1024_S1024x1024) bitsLt_bf16_f32) (ix2 k n) = x (ix3 0 k n) := by
  pointwise

theorem cast_o (x : Vec Ideal S4096x512 .f32) (f : Fin 512) (s : Fin 4096) : (transpose S512x4096 [1, 0] (truncf (F := Ideal) .bf16 x bitsLt_bf16_f32) transposes_S4096x512_S512x4096_1_0) (ix2 f s) = x (ix2 s f) := by
  pointwise

theorem cast_blocks (x : Vec Ideal S512x1024 .f32) (b : Fin 8) (f : Fin 512) (j : Fin 128) :
    (transpose S8x512x128 [1, 0, 2] (shapeCast S512x8x128 x shapeCasts_S512x1024_S512x8x128) transposes_S512x8x128_S8x512x128_1_0_2) (ix3 b f j) = x (ix2 f (Out.col b.val j.val)) := by
  pointwise
  exact congrArg x (congrArg (ix2 f) (Fin.ext (by show b.val * 128 + j.val = (128 * b.val + j.val) % 1024; omega)))

end Cert.Kernel4Ideal.Gen

end
-- ==== Proof.OutRead.lean ====
/- The buffers the host writes, as functions of the contents it reads. -/
module

public import proofs.«01_k».proof.Proof.Gen.Kernel4Ideal.Frame
public import proofs.«01_k».proof.Proof.OutCast
public import Idealize.ShloMosaic.Lib.StableHlo.ReadAt

@[expose] public section

set_option maxRecDepth 16384
set_option synthInstance.maxSize 4096

noncomputable section

namespace Cert.Kernel4Ideal.Gen

open Idealize.ShloMosaic Idealize.ShloMosaic.TcCoe Idealize.SL.Sem
open Idealize.ShloMosaic.Tactic

variable (U : Valuation τ sig (Elt Ideal))

theorem read_v0 : (StableHlo.after hostOps0 U) (Proc.devRef .tc main_v0) = (truncf (F := Ideal) .bf16 (U (Proc.devRef .tc main_arg0) : FVec Ideal S4096x1024 .f32) bitsLt_bf16_f32) := by
  after_reads_simp
  try simp -implicitDefEqProofs only [StableHlo.TRef.toBuf, StableHlo.TRef.ofBuf, cast_cast, cast_eq]

theorem read_v1 : (StableHlo.after hostOps0 U) (Proc.devRef .tc main_v1) = (truncf (F := Ideal) .bf16 (U (Proc.devRef .tc main_arg6) : FVec Ideal S4096x1024 .f32) bitsLt_bf16_f32) := by
  after_reads_simp
  try simp -implicitDefEqProofs only [StableHlo.TRef.toBuf, StableHlo.TRef.ofBuf, cast_cast, cast_eq]

theorem read_v2 : (StableHlo.after hostOps0 U) (Proc.devRef .tc main_v2) = (truncf (F := Ideal) .bf16 (U (Proc.devRef .tc main_arg7) : FVec Ideal S4096x1024 .f32) bitsLt_bf16_f32) := by
  after_reads_simp
  try simp -implicitDefEqProofs only [StableHlo.TRef.toBuf, StableHlo.TRef.ofBuf, cast_cast, cast_eq]

theorem read_v4 : (StableHlo.after hostOps0 U) (Proc.devRef .tc main_v4) = (truncf (F := Ideal) .bf16 (shapeCast S1024x1024 (U (Proc.devRef .tc main_arg1) : FVec Ideal S1x1024x1024 .f32) shapeCasts_S1x1024x1024_S1024x1024) bitsLt_bf16_f32) := by
  after_reads_simp
  try simp -implicitDefEqProofs only [StableHlo.TRef.toBuf, StableHlo.TRef.ofBuf, cast_cast, cast_eq]
  first | done | rfl

theorem read_v6 : (StableHlo.after hostOps0 U) (Proc.devRef .tc main_v6) = (transpose S512x4096 [1, 0] (truncf (F := Ideal) .bf16 (U (Proc.devRef .tc main_arg4) : FVec Ideal S4096x512 .f32) bitsLt_bf16_f32) transposes_S4096x512_S512x4096_1_0) := by
  after_reads_simp
  try simp -implicitDefEqProofs only [StableHlo.TRef.toBuf, StableHlo.TRef.ofBuf, cast_cast, cast_eq]

theorem read_v8 : (StableHlo.after hostOps0 U) (Proc.devRef .tc main_v8) = (transpose S512x4096 [1, 0] (truncf (F := Ideal) .bf16 (U (Proc.devRef .tc main_arg5) : FVec Ideal S4096x512 .f32) bitsLt_bf16_f32) transposes_S4096x512_S512x4096_1_0) := by
  after_reads_simp
  try simp -implicitDefEqProofs only [StableHlo.TRef.toBuf, StableHlo.TRef.ofBuf, cast_cast, cast_eq]

theorem read_v12 : (StableHlo.after hostOps2 U) (Proc.devRef .tc main_v12) = (transpose S8x512x128 [1, 0, 2] (shapeCast S512x8x128 (U (Proc.devRef .tc main_v10) : FVec Ideal S512x1024 .f32) shapeCasts_S512x1024_S512x8x128) transposes_S512x8x128_S8x512x128_1_0_2) := by
  after_reads_simp
  try simp -implicitDefEqProofs only [StableHlo.TRef.toBuf, StableHlo.TRef.ofBuf, cast_cast, cast_eq]
  first | done | rfl

theorem read_v15 : (StableHlo.after hostOps3 U) (Proc.devRef .tc main_v15) = (transpose S8x512x128 [1, 0, 2] (shapeCast S512x8x128 (U (Proc.devRef .tc main_v13) : FVec Ideal S512x1024 .f32) shapeCasts_S512x1024_S512x8x128) transposes_S512x8x128_S8x512x128_1_0_2) := by
  after_reads_simp
  try simp -implicitDefEqProofs only [StableHlo.TRef.toBuf, StableHlo.TRef.ofBuf, cast_cast, cast_eq]
  first | done | rfl

end Cert.Kernel4Ideal.Gen

end
-- ==== Proof.OutHost.lean ====
/- What the three regions read, and what the program leaves in the six results. -/
module

public import proofs.«01_k».proof.Proof.OutGrad
public import proofs.«01_k».proof.Proof.OutRead

@[expose] public section

set_option maxRecDepth 16384
set_option synthInstance.maxSize 4096

noncomputable section

namespace Cert.Kernel4Ideal.Gen

open Idealize.ShloMosaic Idealize.ShloMosaic.TcCoe Idealize.SL.Sem
open Idealize.ShloMosaic.Tactic

theorem split3 {a b d : ℕ} (y : Shape.Idx ⟨3, ![a, b, d]⟩) : y = ix3 (y 0) (y 1) (y 2) := by
  funext e; match e with | 0 => rfl | 1 => rfl | 2 => rfl

variable (m : (ℓ : Loc nD τ sig) → Buf (Elt Ideal) ℓ) (ρ : Dev nD → PrngReg) (c : Dev nD)

/-- The merged branches. -/
def argM : Out.Mat 4096 1024 := fun s k => (m ((c.tc : Thread nD τ).loc main_arg0)) (ix2 s k)
/-- The weight of the output projection. -/
def argW : Out.Mat 1024 1024 := fun k n => (m ((c.tc : Thread nD τ).loc main_arg1)) (ix3 0 k n)
/-- The input of the layer. -/
def argX : Out.Mat 4096 1024 := fun s n => (m ((c.tc : Thread nD τ).loc main_arg2)) (ix2 s n)
/-- The gain of the second norm. -/
def argG : Fin 1024 → EReal := fun n => (m ((c.tc : Thread nD τ).loc main_arg3)) (ix2 0 n)
/-- The first branch. -/
def argO : Out.Mat 4096 512 := fun s f => (m ((c.tc : Thread nD τ).loc main_arg4)) (ix2 s f)
/-- The second branch. -/
def argS : Out.Mat 4096 512 := fun s f => (m ((c.tc : Thread nD τ).loc main_arg5)) (ix2 s f)
/-- The gradient of the first branch's projection. -/
def argA : Out.Mat 4096 1024 := fun s k => (m ((c.tc : Thread nD τ).loc main_arg6)) (ix2 s k)
/-- The gradient of the second branch's projection. -/
def argB : Out.Mat 4096 1024 := fun s k => (m ((c.tc : Thread nD τ).loc main_arg7)) (ix2 s k)

theorem in_v0 (s : Fin 4096) (k : Fin 1024) : V1 m ρ c main_v0 (ix2 s k) = argM m c s k :=
  congrFun (read_v0 (W0 m ρ c)) (ix2 s k)

theorem in_v4 (k n : Fin 1024) : V1 m ρ c main_v4 (ix2 k n) = argW m c k n :=
  (congrFun (read_v4 (W0 m ρ c)) (ix2 k n)).trans (cast_wo _ k n)

theorem in_arg2 (s : Fin 4096) (n : Fin 1024) : V1 m ρ c main_arg2 (ix2 s n) = argX m c s n :=
  congrFun (W1_args m ρ c main_arg2 (by decide)) (ix2 s n)

theorem in_arg3 (n : Fin 1024) : V1 m ρ c main_arg3 (ix2 0 n) = argG m c n :=
  congrFun (W1_args m ρ c main_arg3 (by decide)) (ix2 0 n)

theorem v6_at2 : W2 m ρ c (Proc.devRef .tc main_v6) = W1 m ρ c (Proc.devRef .tc main_v6) :=
  W2_of m ρ c main_v6 (by decide)

theorem v1_at2 : W2 m ρ c (Proc.devRef .tc main_v1) = W1 m ρ c (Proc.devRef .tc main_v1) :=
  W2_of m ρ c main_v1 (by decide)

theorem v8_at4 : W4 m ρ c (Proc.devRef .tc main_v8) = W1 m ρ c (Proc.devRef .tc main_v8) :=
  ((W4_of m ρ c main_v8 (by decide)).trans (W3_of m ρ c main_v8 (by decide))).trans (W2_of m ρ c main_v8 (by decide))

theorem v2_at4 : W4 m ρ c (Proc.devRef .tc main_v2) = W1 m ρ c (Proc.devRef .tc main_v2) :=
  ((W4_of m ρ c main_v2 (by decide)).trans (W3_of m ρ c main_v2 (by decide))).trans (W2_of m ρ c main_v2 (by decide))

theorem in_v6 (f : Fin 512) (s : Fin 4096) : V2 m ρ c main_v6 (ix2 f s) = argO m c s f :=
  ((congrFun (v6_at2 m ρ c) (ix2 f s)).trans (congrFun (read_v6 (W0 m ρ c)) (ix2 f s))).trans (cast_o _ f s)

theorem in_v1 (s : Fin 4096) (k : Fin 1024) : V2 m ρ c main_v1 (ix2 s k) = argA m c s k :=
  ((congrFun (v1_at2 m ρ c) (ix2 s k)).trans (congrFun (read_v1 (W0 m ρ c)) (ix2 s k)))

theorem in_v8 (f : Fin 512) (s : Fin 4096) : V4 m ρ c main_v8 (ix2 f s) = argS m c s f :=
  ((congrFun (v8_at4 m ρ c) (ix2 f s)).trans (congrFun (read_v8 (W0 m ρ c)) (ix2 f s))).trans (cast_o _ f s)

theorem in_v2 (s : Fin 4096) (k : Fin 1024) : V4 m ρ c main_v2 (ix2 s k) = argB m c s k :=
  ((congrFun (v2_at4 m ρ c) (ix2 s k)).trans (congrFun (read_v2 (W0 m ρ c)) (ix2 s k)))

theorem out_v10 : W3 m ρ c (Proc.devRef .tc main_v10) = (fun y : S512x1024.Idx => Out.grad (argO m c) (argA m c) (y 0) (y 1)) :=
  (W3_arr m ρ c 2).trans (arrG1 (V2 m ρ) c (o := argO m c) (d := argA m c) (in_v6 m ρ c) (in_v1 m ρ c))

theorem out_v13 : W5 m ρ c (Proc.devRef .tc main_v13) = (fun y : S512x1024.Idx => Out.grad (argS m c) (argB m c) (y 0) (y 1)) :=
  (W5_arr m ρ c 2).trans (arrG2 (V4 m ρ) c (o := argS m c) (d := argB m c) (in_v8 m ρ c) (in_v2 m ρ c))

/-- The residual stream after the output projection, at the end. -/
theorem end_x1 : W6 m ρ c (Proc.devRef .tc main_v9_0) = (fun y : S4096x1024.Idx => Out.x1 (argM m c) (argW m c) (argX m c) (y 0) (y 1)) :=
  ((((W6_of m ρ c main_v9_0 (by decide)).trans (W5_of m ρ c main_v9_0 (by decide))).trans (W4_of m ρ c main_v9_0 (by decide))).trans (W3_of m ρ c main_v9_0 (by decide))).trans ((W2_arr m ρ c 4).trans (arrX1 (V1 m ρ) c (mg := argM m c) (w := argW m c) (xs := argX m c)
    (in_v0 m ρ c) (in_v4 m ρ c) (in_arg2 m ρ c)))

/-- The normalised stream, at the end. -/
theorem end_h2 : W6 m ρ c (Proc.devRef .tc main_v9_1) = (fun y : S4096x1024.Idx => Out.h2 (argM m c) (argW m c) (argX m c) (argG m c) (y 0) (y 1)) :=
  ((((W6_of m ρ c main_v9_1 (by decide)).trans (W5_of m ρ c main_v9_1 (by decide))).trans (W4_of m ρ c main_v9_1 (by decide))).trans (W3_of m ρ c main_v9_1 (by decide))).trans ((W2_arr m ρ c 5).trans (arrH2 (V1 m ρ) c (mg := argM m c) (w := argW m c) (xs := argX m c) (g := argG m c)
    (in_v0 m ρ c) (in_v4 m ρ c) (in_arg2 m ρ c) (in_arg3 m ρ c)))

/-- The normalised stream, transposed, at the end. -/
theorem end_h2T : W6 m ρ c (Proc.devRef .tc main_v9_2) = (fun y : S1024x4096.Idx => Out.h2 (argM m c) (argW m c) (argX m c) (argG m c) (y 1) (y 0)) :=
  ((((W6_of m ρ c main_v9_2 (by decide)).trans (W5_of m ρ c main_v9_2 (by decide))).trans (W4_of m ρ c main_v9_2 (by decide))).trans (W3_of m ρ c main_v9_2 (by decide))).trans ((W2_arr m ρ c 6).trans (arrH2T (V1 m ρ) c (mg := argM m c) (w := argW m c) (xs := argX m c) (g := argG m c)
    (in_v0 m ρ c) (in_v4 m ρ c) (in_arg2 m ρ c) (in_arg3 m ρ c)))

/-- The reciprocal root mean squares, at the end. -/
theorem end_r2 : W6 m ρ c (Proc.devRef .tc main_v9_3) = (fun y : S4096x1.Idx => Out.r2 (argM m c) (argW m c) (argX m c) (y 0)) :=
  ((((W6_of m ρ c main_v9_3 (by decide)).trans (W5_of m ρ c main_v9_3 (by decide))).trans (W4_of m ρ c main_v9_3 (by decide))).trans (W3_of m ρ c main_v9_3 (by decide))).trans ((W2_arr m ρ c 7).trans (arrR2 (V1 m ρ) c (mg := argM m c) (w := argW m c) (xs := argX m c)
    (in_v0 m ρ c) (in_v4 m ρ c) (in_arg2 m ρ c)))

theorem end_gA_blocks (b : Fin 8) (f : Fin 512) (j : Fin 128) :
    (W4 m ρ c (Proc.devRef .tc main_v12) : FVec Ideal S8x512x128 .f32) (ix3 b f j) = Out.grad (argO m c) (argA m c) f (Out.col b.val j.val) := by
  refine ((congrFun (read_v12 (W3 m ρ c)) (ix3 b f j)).trans (cast_blocks _ b f j)).trans ?_
  rw [out_v10]
  rfl

/-- The gradient of the first branch's weight, at the end: a block of 128 columns to each chip. -/
theorem end_gA : W6 m ρ c (Proc.devRef .tc main_v12) = (fun y : S8x512x128.Idx => Out.grad (argO m c) (argA m c) (y 1) (Out.col (y 0).val (y 2).val)) :=
  ((W6_of m ρ c main_v12 (by decide)).trans (W5_of m ρ c main_v12 (by decide))).trans (funext fun y => (congrArg _ (split3 y)).trans (end_gA_blocks m ρ c (y 0) (y 1) (y 2)))

theorem end_gB_blocks (b : Fin 8) (f : Fin 512) (j : Fin 128) :
    (W6 m ρ c (Proc.devRef .tc main_v15) : FVec Ideal S8x512x128 .f32) (ix3 b f j) = Out.grad (argS m c) (argB m c) f (Out.col b.val j.val) := by
  refine ((congrFun (read_v15 (W5 m ρ c)) (ix3 b f j)).trans (cast_blocks _ b f j)).trans ?_
  rw [out_v13]
  rfl

/-- The gradient of the second branch's weight, at the end: a block of 128 columns to each chip. -/
theorem end_gB : W6 m ρ c (Proc.devRef .tc main_v15) = (fun y : S8x512x128.Idx => Out.grad (argS m c) (argB m c) (y 1) (Out.col (y 0).val (y 2).val)) :=
  (funext fun y => (congrArg _ (split3 y)).trans (end_gB_blocks m ρ c (y 0) (y 1) (y 2)))

end Cert.Kernel4Ideal.Gen

end
-- ==== Proof.OutRef.lean ====
/- The reference of the output projection: its six results are the model. -/
module

public import proofs.«01_k».proof.Proof.Gen.Reference4Ideal.Read
public import proofs.«01_k».proof.Proof.OutModel
public import Idealize.ShloMosaic.Lib.Pipeline.ValueKit

@[expose] public section

set_option maxRecDepth 16384
set_option synthInstance.maxSize 4096

noncomputable section

namespace Cert.Reference4Ideal.Read

open Cert.Reference4Ideal Cert.Reference4Ideal.Gen Idealize.ShloMosaic Idealize.ShloMosaic.TcCoe Idealize.SL.Sem
open Idealize.ShloMosaic.Tactic

variable {x0 : (⟨S4096x1024, .f32⟩ : BufTy).Contents (Elt Ideal)} {x1 : (⟨S1x1024x1024, .f32⟩ : BufTy).Contents (Elt Ideal)}
  {x2 : (⟨S4096x1024, .f32⟩ : BufTy).Contents (Elt Ideal)} {x3 : (⟨S1x1024, .f32⟩ : BufTy).Contents (Elt Ideal)} {x4 x5 : (⟨S4096x512, .f32⟩ : BufTy).Contents (Elt Ideal)} {x6 x7 : (⟨S4096x1024, .f32⟩ : BufTy).Contents (Elt Ideal)}
  {mg : Out.Mat 4096 1024} {w : Out.Mat 1024 1024} {xs : Out.Mat 4096 1024} {g : Fin 1024 → EReal} {o u : Out.Mat 4096 512} {d e : Out.Mat 4096 1024}
  (h0 : ∀ s k, x0 (ix2 s k) = mg s k) (h1 : ∀ k n, x1 (ix3 0 k n) = w k n) (h2 : ∀ s n, x2 (ix2 s n) = xs s n) (h3 : ∀ n, x3 (ix2 0 n) = g n)
  (h4 : ∀ s f, x4 (ix2 s f) = o s f) (h5 : ∀ s f, x5 (ix2 s f) = u s f) (h6 : ∀ s k, x6 (ix2 s k) = d s k) (h7 : ∀ s k, x7 (ix2 s k) = e s k)

theorem two {a b : ℕ} (y : Shape.Idx ⟨2, ![a, b]⟩) : ∃ (p : Fin a) (q : Fin b), y = ix2 p q :=
  ⟨y 0, y 1, by funext e; match e with | 0 => rfl | 1 => rfl⟩

theorem three {a b d : ℕ} (y : Shape.Idx ⟨3, ![a, b, d]⟩) : ∃ (p : Fin a) (q : Fin b) (r : Fin d), y = ix3 p q r :=
  ⟨y 0, y 1, y 2, by funext e; match e with | 0 => rfl | 1 => rfl | 2 => rfl⟩

include h1 in
theorem v0_model (k n : Fin 1024) : val_main_v0 (F := Ideal) x1 (ix2 k n) = w k n := by
  rw [← h1]
  unfold val_main_v0
  pointwise

include h0 h1 h2 in
/-- The residual stream. -/
theorem v2_model (s : Fin 4096) (n : Fin 1024) : val_main_v2 (F := Ideal) x0 x1 x2 (ix2 s n) = Out.x1 mg w xs s n := by
  rw [val_main_v2_apply, val_main_v1_apply, h2]
  refine congrArg (xs s n + ·) (Finset.sum_congr rfl fun k _ => congrArg₂ (· * ·) (Eq.trans (congrArg x0 ?_) (h0 s k))
    (Eq.trans (congrArg (val_main_v0 (F := Ideal) x1) ?_) (v0_model h1 k n)))
  · funext a; match a with | 0 => rfl | 1 => rfl
  · funext a; match a with | 0 => rfl | 1 => rfl

include h0 h1 h2 in
theorem v4_model (s : Fin 4096) : val_main_v4 (F := Ideal) x0 x1 x2 (ix1 s) = ∑ j, Out.x1 mg w xs s j * Out.x1 mg w xs s j := by
  pointwise [val_main_v4, val_main_v3, val_main_cst]
  simp only [v2_model h0 h1 h2]

include h0 h1 h2 in
/-- The reciprocal root mean squares. -/
theorem v10_model (s : Fin 4096) (z : Fin 1) : val_main_v10 (F := Ideal) x0 x1 x2 (ix2 s z) = Out.r2 mg w xs s := by
  pointwise [val_main_v10, val_main_v9, val_main_v8, val_main_cst_1, val_main_v7, val_main_v6, val_main_cst_0, val_main_v5]
  rw [v4_model h0 h1 h2]
  rfl

include h0 h1 h2 h3 in
theorem v14_model (s : Fin 4096) (n : Fin 1024) : val_main_v14 (F := Ideal) x0 x1 x2 x3 (ix2 s n) = Out.h2 mg w xs g s n := by
  pointwise [val_main_v14, val_main_v13, val_main_v12, val_main_v11]
  rw [v2_model h0 h1 h2, v10_model h0 h1 h2, h3]
  rfl

include h0 h1 h2 h3 in
/-- The normalised stream. -/
theorem v27_model (s : Fin 4096) (n : Fin 1024) : val_main_v27 (F := Ideal) x0 x1 x2 x3 (ix2 s n) = Out.h2 mg w xs g s n :=
  v14_model h0 h1 h2 h3 s n

include h0 h1 h2 h3 in
/-- The normalised stream, transposed. -/
theorem v29_model (n : Fin 1024) (s : Fin 4096) : val_main_v29 (F := Ideal) x0 x1 x2 x3 (ix2 n s) = Out.h2 mg w xs g s n := by
  pointwise [val_main_v29, val_main_v28]
  exact v14_model h0 h1 h2 h3 s n

include h4 h6 in
theorem v17_model (k : Fin 1024) (f : Fin 512) : val_main_v17 (F := Ideal) x4 x6 (ix2 k f) = Out.grad o d f k := by
  rw [val_main_v17_apply]
  refine Finset.sum_congr rfl fun s _ => (congrArg₂ (· * ·) (Eq.trans (congrArg x6 ?_) (h6 s k)) (Eq.trans (congrArg x4 ?_) (h4 s f))).trans (mul_comm _ _)
  · funext a; match a with | 0 => rfl | 1 => rfl
  · funext a; match a with | 0 => rfl | 1 => rfl

include h4 h6 in
theorem v24_model (b : Fin 8) (f : Fin 512) (j : Fin 128) :
    val_main_v24 (F := Ideal) x4 x6 (ix3 b f j) = Out.grad o d f (Out.col b.val j.val) := by
  rw [val_main_v24_apply, val_main_v23_apply, val_main_v18_apply]
  refine Eq.trans (congrArg (val_main_v17 (F := Ideal) x4 x6) ?_) (v17_model h4 h6 (Out.col b.val j.val) f)
  have hb := b.isLt
  have hf := f.isLt
  have hj := j.isLt
  funext a
  match a with
  | 0 => exact Fin.ext (by show ((f.val * 8 + b.val) * 128 + j.val) % 1024 = (128 * b.val + j.val) % 1024; omega)
  | 1 => exact Fin.ext (by show ((f.val * 8 + b.val) * 128 + j.val) / 1024 = f.val; omega)

include h5 h7 in
theorem v21_model (k : Fin 1024) (f : Fin 512) : val_main_v21 (F := Ideal) x5 x7 (ix2 k f) = Out.grad u e f k := by
  rw [val_main_v21_apply]
  refine Finset.sum_congr rfl fun s _ => (congrArg₂ (· * ·) (Eq.trans (congrArg x7 ?_) (h7 s k)) (Eq.trans (congrArg x5 ?_) (h5 s f))).trans (mul_comm _ _)
  · funext a; match a with | 0 => rfl | 1 => rfl
  · funext a; match a with | 0 => rfl | 1 => rfl

include h5 h7 in
theorem v26_model (b : Fin 8) (f : Fin 512) (j : Fin 128) :
    val_main_v26 (F := Ideal) x5 x7 (ix3 b f j) = Out.grad u e f (Out.col b.val j.val) := by
  rw [val_main_v26_apply, val_main_v25_apply, val_main_v22_apply]
  refine Eq.trans (congrArg (val_main_v21 (F := Ideal) x5 x7) ?_) (v21_model h5 h7 (Out.col b.val j.val) f)
  have hb := b.isLt
  have hf := f.isLt
  have hj := j.isLt
  funext a
  match a with
  | 0 => exact Fin.ext (by show ((f.val * 8 + b.val) * 128 + j.val) % 1024 = (128 * b.val + j.val) % 1024; omega)
  | 1 => exact Fin.ext (by show ((f.val * 8 + b.val) * 128 + j.val) / 1024 = f.val; omega)

end Cert.Reference4Ideal.Read

end
-- ==== Proof.SguCanon.lean ====
/- The vector functions of the spatial gating unit's backward kernel, each written once: the kernel's text repeats
   them for each of its four windows of 128 positions and for each of its four pairs of groups. -/
module

public import proofs.«01_k».proof.Proof.Gen.KernelIdeal.Skeleton

@[expose] public section

set_option maxRecDepth 16384
set_option synthInstance.maxSize 4096

noncomputable section

namespace Cert.KernelIdeal.Gen

open Idealize.ShloMosaic Idealize.SL.Sem

variable {F : FTy → Type} [FloatOps F] [Named F]

/-- The inner tanh of gelu. -/
def cTh {s : Shape} (x : FVec F s .f32) : FVec F s .f32 :=
  tanh (mulf (broadcast s (Scalar.ofBits .f32 0x3F4C422A#32))
    (addf x (mulf (broadcast s (Named.named κ "gelu_c" 0x3D372713#32)) (mulf (mulf x x) x))))

/-- gelu. -/
def cGelu {s : Shape} (x : FVec F s .f32) : FVec F s .f32 :=
  mulf (mulf (broadcast s (Scalar.ofBits .f32 0x3F000000#32)) x) (addf (broadcast s (Scalar.ofBits .f32 0x3F800000#32)) (cTh x))

/-- Its derivative. -/
def cGelud {s : Shape} (x : FVec F s .f32) : FVec F s .f32 :=
  addf (mulf (broadcast s (Scalar.ofBits .f32 0x3F000000#32)) (addf (broadcast s (Scalar.ofBits .f32 0x3F800000#32)) (cTh x)))
    (mulf (mulf (mulf (broadcast s (Scalar.ofBits .f32 0x3F000000#32)) x)
        (subf (broadcast s (Scalar.ofBits .f32 0x3F800000#32)) (mulf (cTh x) (cTh x))))
      (mulf (broadcast s (Scalar.ofBits .f32 0x3F4C422A#32))
        (addf (broadcast s (Scalar.ofBits .f32 0x3F800000#32))
          (mulf (broadcast s (Named.named κ "gelu_3c" 0x3E095D4F#32)) (mulf x x)))))

/-- The sums along the rows. -/
def cRowSum (x : FVec F S512x512 .f32) : FVec F S512 .f32 :=
  multiReduction .add [1] S512 x 0x00000000#32 reduces_S512x512_S512 (.inl rfl) rfl

/-- The rows' means, as a column. -/
def cMean (x : FVec F S512x512 .f32) : FVec F S512x1 .f32 :=
  divf (shapeCast S512x1 (cRowSum x) shapeCasts_S512_S512x1)
    (broadcast S512x1 (Scalar.ofBits .f32 0x44000000#32))

/-- The activated rows minus their means. -/
def cXc (x : FVec F S512x512 .f32) : FVec F S512x512 .f32 :=
  subf (cGelu x) (broadcastTo S512x512 (cMean (cGelu x)) broadcasts_S512x1_S512x512)

/-- The reciprocal standard deviations. -/
def cRs (x : FVec F S512x512 .f32) : FVec F S512x1 .f32 :=
  rsqrt (addf (cMean (mulf (cXc x) (cXc x))) (broadcast S512x1 (Scalar.ofBits .f32 0x358637BD#32)))

/-- The normalised rows. -/
def cXhat (x : FVec F S512x512 .f32) : FVec F S512x512 .f32 :=
  mulf (cXc x) (broadcastTo S512x512 (cRs x) broadcasts_S512x1_S512x512)

/-- The layernorm's output. -/
def cVn (g b : FVec F S1x512 .f32) (x : FVec F S512x512 .f32) : FVec F S512x512 .bf16 :=
  truncf .bf16 (addf (mulf (cXhat x) (broadcastTo S512x512 g broadcasts_S1x512_S512x512))
    (broadcastTo S512x512 b broadcasts_S1x512_S512x512)) bitsLt_bf16_f32

/-- The gradient of the gated product. -/
def cDsg (ct : FVec F S512x1024 .bf16) (wb : FVec F S1024x512 .bf16) : FVec F S512x512 .f32 :=
  matmul dot_S512x1024_S1024x512_S512x512_1_0_0_1_n_n none ct wb (constant S512x512 .f32 0x00000000#32)

/-- A pair of groups' stacked matrices applied to the pair's 128 lanes: each lane takes its own group's product. -/
def cPair (w : FVec F S256x128 .bf16) (x : FVec F S128x128 .bf16) : FVec F S128x128 .f32 :=
  select k0_pay7
    (extractStridedSlice S128x128 ![0, 0] (matmul dot_S256x128_S128x128_S256x128_1_0_0_1_n_n none w x (constant S256x128 .f32 0x00000000#32)) slices_S256x128_o0_0_S128x128)
    (extractStridedSlice S128x128 ![128, 0] (matmul dot_S256x128_S128x128_S256x128_1_0_0_1_n_n none w x (constant S256x128 .f32 0x00000000#32)) slices_S256x128_o128_0_S128x128)

/-- The mixed positions of a window. -/
def cMixed (w0 w1 w2 w3 : FVec F S256x128 .bf16) (bp : FVec F S128x512 .f32) (v : FVec F S128x512 .bf16) : FVec F S128x512 .f32 :=
  addf (concatenate S128x512 1 [⟨S128x128, cPair w0 (extractStridedSlice S128x128 ![0, 0] v slices_S128x512_o0_0_S128x128)⟩,
      ⟨S128x128, cPair w1 (extractStridedSlice S128x128 ![0, 128] v slices_S128x512_o0_128_S128x128)⟩,
      ⟨S128x128, cPair w2 (extractStridedSlice S128x128 ![0, 256] v slices_S128x512_o0_256_S128x128)⟩,
      ⟨S128x128, cPair w3 (extractStridedSlice S128x128 ![0, 384] v slices_S128x512_o0_384_S128x128)⟩]
    concatenates_S128x128_S128x128_S128x128_S128x128_S128x512_d1) bp

/-- The gradient of `u` on a window. -/
def cDu (d mx u : FVec F S128x512 .f32) : FVec F S128x512 .bf16 := truncf .bf16 (mulf (mulf d mx) (cGelud u)) bitsLt_bf16_f32

/-- The gradient of the mixed positions on a window. -/
def cDm (d u : FVec F S128x512 .f32) : FVec F S128x512 .f32 := mulf d (cGelu u)

/-- The lanes of a pair, the other group's zeroed, stacked: then one product gives both groups' matrices. -/
def cDwPair (d v : FVec F S128x128 .bf16) : FVec F S256x128 .f32 :=
  matmul dot_S256x128_S128x128_S256x128_1_1_0_0_n_n none
    (concatenate S256x128 0 [⟨S128x128, select k0_pay7 d (broadcast S128x128 (Scalar.ofBits .bf16 0x0000#16))⟩,
      ⟨S128x128, select k0_pay7 (broadcast S128x128 (Scalar.ofBits .bf16 0x0000#16)) d⟩] concatenates_S128x128_S128x128_S256x128_d0)
    v (constant S256x128 .f32 0x00000000#32)

/-- The sums along the columns. -/
def cColSum (x : FVec F S512x512 .f32) : FVec F S512 .f32 :=
  multiReduction .add [0] S512 x 0x00000000#32 reduces_S512x512_S512_2 (.inl rfl) rfl

/-- The gradient of `sv` on a block of four windows. -/
def cDsv (g : FVec F S1x512 .f32) (x d : FVec F S512x512 .f32) : FVec F S512x512 .bf16 :=
  have dx : FVec F S512x512 .f32 := mulf d (broadcastTo S512x512 g broadcasts_S1x512_S512x512)
  truncf .bf16 (mulf (mulf (broadcastTo S512x512 (cRs x) broadcasts_S512x1_S512x512)
      (subf (subf dx (broadcastTo S512x512 (cMean dx) broadcasts_S512x1_S512x512))
        (mulf (cXhat x) (broadcastTo S512x512 (cMean (mulf dx (cXhat x))) broadcasts_S512x1_S512x512))))
    (cGelud x)) bitsLt_bf16_f32

end Cert.KernelIdeal.Gen
-- ==== Proof.SguModel.lean ====
/- The gradient of the spatial gating unit as plain real mathematics: no program, no rounding, no tiles.
   A WINDOW is 128 consecutive positions; the unit mixes the positions of one window with each other, by one
   128 × 128 matrix per group of 64 lanes. -/
module

public import Idealize.ShloMosaic.Lib.Pointwise

@[expose] public section

noncomputable section

namespace Sgu

/-- The float nearest √(2/π). -/
def K : ℝ := 13386282 / 16777216

/-- The decimal 0.044715 of the tanh form of gelu. -/
def C : ℝ := 8943 / 200000

/-- Three times it, the constant of the derivative. -/
def C3 : ℝ := 26829 / 200000

/-- The float nearest 10⁻⁶, the layernorm's ε. -/
def ε : ℝ := 8796093 / 8796093022208

theorem ε_pos : 0 < ε := by unfold ε; norm_num

theorem C3_eq : C3 = 3 * C := by unfold C3 C; norm_num

/-- The inner tanh of gelu. -/
def th (x : ℝ) : ℝ := Real.tanh (K * (x + C * (x * x * x)))

/-- gelu in its tanh form. -/
def gelu (x : ℝ) : ℝ := 1 / 2 * x * (1 + th x)

/-- Its derivative. -/
def gelud (x : ℝ) : ℝ :=
  1 / 2 * (1 + th x) + 1 / 2 * x * (1 - th x * th x) * (K * (1 + C3 * (x * x)))

/-! ## One position: the layernorm of 512 lanes -/

section Row

variable (r : Fin 512 → ℝ)

/-- The mean of 512 lanes. -/
def mean : ℝ := (∑ c, r c) / 512

/-- The activated row minus its mean. -/
def xc (c : Fin 512) : ℝ := gelu (r c) - mean fun c => gelu (r c)

/-- The variance plus ε. -/
def ve : ℝ := (mean fun c => xc r c * xc r c) + ε

/-- The reciprocal standard deviation. -/
def rs : ℝ := (√(ve r))⁻¹

/-- The normalised row. -/
def xhat (c : Fin 512) : ℝ := xc r c * rs r

theorem ve_pos : 0 < ve r := by
  have : 0 ≤ ∑ c, xc r c * xc r c := Finset.sum_nonneg fun c _ => mul_self_nonneg _
  unfold ve mean
  have := ε_pos
  positivity

theorem rs_sq : rs r * rs r = (ve r)⁻¹ := by
  unfold rs
  rw [← mul_inv, Real.mul_self_sqrt (ve_pos r).le]

theorem sum_xc : ∑ c, xc r c = 0 := by
  simp only [xc, mean, Finset.sum_sub_distrib, Finset.sum_const, Finset.card_univ, Fintype.card_fin, nsmul_eq_mul]
  push_cast
  ring

/-- The gradient of the normalisation: from the gradient of the normalised row to that of the raw row. -/
def dsvRow (dx : Fin 512 → ℝ) (c : Fin 512) : ℝ :=
  rs r * (dx c - mean dx - xhat r c * mean fun c => dx c * xhat r c) * gelud (r c)

end Row

/-! ## One window: 128 positions -/

section Window

/-- The group of a lane. -/
def grp (c : Fin 512) : Fin 8 := ⟨c.val / 64, by omega⟩

/-- Lane `k` of group `g`. -/
def lane (g : Fin 8) (k : Fin 64) : Fin 512 := ⟨64 * g.val + k.val, by omega⟩

variable (W : Fin 8 → Fin 128 → Fin 128 → ℝ) (bs : Fin 8 → Fin 128 → ℝ) (wb : Fin 512 → Fin 1024 → ℝ) (g b : Fin 512 → ℝ)

/-- The layernorm's output. -/
def vn (r : Fin 512 → ℝ) (c : Fin 512) : ℝ := xhat r c * g c + b c

/-- The mixed positions of a window. -/
def mixed (v : Fin 128 → Fin 512 → ℝ) (i : Fin 128) (c : Fin 512) : ℝ := (∑ j, W (grp c) i j * v j c) + bs (grp c) i

/-- The gradient of the gated product, at one position. -/
def dsg (ct : Fin 1024 → ℝ) (c : Fin 512) : ℝ := ∑ k, ct k * wb c k

/-- The gradient of the mixed positions. -/
def dm (u : Fin 512 → ℝ) (ct : Fin 1024 → ℝ) (c : Fin 512) : ℝ := dsg wb ct c * gelu (u c)

/-- The gradient of `u`. -/
def du (u sv : Fin 128 → Fin 512 → ℝ) (ct : Fin 128 → Fin 1024 → ℝ) (i : Fin 128) (c : Fin 512) : ℝ :=
  dsg wb (ct i) c * mixed W bs (fun j => vn g b (sv j)) i c * gelud (u i c)

/-- The gradient of the layernorm's output. -/
def dvn (u : Fin 128 → Fin 512 → ℝ) (ct : Fin 128 → Fin 1024 → ℝ) (j : Fin 128) (c : Fin 512) : ℝ :=
  ∑ i, W (grp c) i j * dm wb (u i) (ct i) c

/-- A window's part of the gradient of the mixing matrices. -/
def dW (u sv : Fin 128 → Fin 512 → ℝ) (ct : Fin 128 → Fin 1024 → ℝ) (p : Fin 8) (i j : Fin 128) : ℝ :=
  ∑ k, dm wb (u i) (ct i) (lane p k) * vn g b (sv j) (lane p k)

/-- A window's part of the gradient of the mixing bias. -/
def db (u : Fin 128 → Fin 512 → ℝ) (ct : Fin 128 → Fin 1024 → ℝ) (p : Fin 8) (i : Fin 128) : ℝ :=
  ∑ k, dm wb (u i) (ct i) (lane p k)

/-- The gradient of `sv`. -/
def dsv (u sv : Fin 128 → Fin 512 → ℝ) (ct : Fin 128 → Fin 1024 → ℝ) (j : Fin 128) (c : Fin 512) : ℝ :=
  dsvRow (sv j) (fun c => dvn W wb u ct j c * g c) c

/-- A window's part of the gradient of the layernorm's gain. -/
def dg (u sv : Fin 128 → Fin 512 → ℝ) (ct : Fin 128 → Fin 1024 → ℝ) (c : Fin 512) : ℝ :=
  ∑ j, dvn W wb u ct j c * xhat (sv j) c

/-- A window's part of the gradient of the layernorm's bias. -/
def dbeta (u : Fin 128 → Fin 512 → ℝ) (ct : Fin 128 → Fin 1024 → ℝ) (c : Fin 512) : ℝ := ∑ j, dvn W wb u ct j c

end Window

/-! ## The whole sequence: 32 windows -/

/-- Position `i` of window `n`. -/
def pos (n : Fin 32) (i : Fin 128) : Fin 4096 := ⟨128 * n.val + i.val, by omega⟩

/-- The window of a position, and its place there. -/
def win (s : Fin 4096) : Fin 32 := ⟨s.val / 128, by omega⟩
def off (s : Fin 4096) : Fin 128 := ⟨s.val % 128, Nat.mod_lt _ (by norm_num)⟩

theorem pos_win_off (s : Fin 4096) : pos (win s) (off s) = s := Fin.ext (Nat.div_add_mod _ _)

/-- The rows of one window. -/
def rows {β : Type} (x : Fin 4096 → β) (n : Fin 32) : Fin 128 → β := fun i => x (pos n i)

/-- The chunk mask: a position mixes those of its own chunk of 64 and of earlier ones. -/
def masked (w : Fin 8 → Fin 128 → Fin 128 → ℝ) (p : Fin 8) (i j : Fin 128) : ℝ :=
  if j.val / 64 ≤ i.val / 64 then w p i j else 0

end Sgu
-- ==== Proof.SguReal.lean ====
/- Extended reals that are real: the literals of the two programs, and the operations on embedded reals. -/
module

public import proofs.«01_k».proof.Proof.SguModel
public import Idealize.ShloMosaic.Lib.Pointwise

@[expose] public section

set_option maxRecDepth 16384

noncomputable section

namespace Sgu

open Idealize.ShloMosaic

theorem lit_K : Ideal.ofBits .f32 0x3F4C422A#32 = ((K : ℝ) : EReal) := by
  simp [Ideal.ofBits, Ideal.ieee, -EReal.coe_mul, K]; norm_num
theorem lit_half : Ideal.ofBits .f32 0x3F000000#32 = ((1 / 2 : ℝ) : EReal) := by
  simp [Ideal.ofBits, Ideal.ieee, -EReal.coe_mul]; norm_num
theorem lit_512 : Ideal.ofBits .f32 0x44000000#32 = ((512 : ℝ) : EReal) := by
  simp [Ideal.ofBits, Ideal.ieee, -EReal.coe_mul]; norm_num
theorem lit_ε : Ideal.ofBits .f32 0x358637BD#32 = ((ε : ℝ) : EReal) := by
  simp [Ideal.ofBits, Ideal.ieee, -EReal.coe_mul, ε]; norm_num

/-- A sum of embedded reals is the embedded sum. -/
theorem coe_sum {ι : Type} (s : Finset ι) (f : ι → ℝ) : ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

theorem coe_one : (1 : EReal) = ((1 : ℝ) : EReal) := rfl
theorem coe_zero : (0 : EReal) = ((0 : ℝ) : EReal) := rfl

/-- A quotient of embedded reals, by a real that is not zero. -/
theorem coe_div (x : ℝ) {y : ℝ} (h : y ≠ 0) : Ideal.div (x : EReal) (y : EReal) = ((x / y : ℝ) : EReal) := by
  rw [Ideal.div_coe h, ← EReal.coe_mul, mul_one_div]

/-- The reciprocal square root of an embedded positive real. -/
theorem coe_rsqrt {x : ℝ} (h : 0 < x) : Ideal.rsqrt (x : EReal) = (((√x)⁻¹ : ℝ) : EReal) := by
  rw [Ideal.rsqrt_coe, if_neg (not_lt.2 h.le), if_neg h.ne']

end Sgu
-- ==== Proof.SguCanonRead.lean ====
/- The vector functions of the spatial gating unit's backward kernel read on embedded reals, entry by entry. -/
module

public import proofs.«01_k».proof.Proof.SguCanon
public import proofs.«01_k».proof.Proof.SguReal

@[expose] public section

set_option maxRecDepth 16384
set_option synthInstance.maxSize 4096

noncomputable section

namespace Cert.KernelIdeal.Gen

open Idealize.ShloMosaic Idealize.SL.Sem

theorem lit_c : (Named.named κ "gelu_c" 0x3D372713#32 : Ideal .f32) = ((Sgu.C : ℝ) : EReal) :=
  IdealRules.named_const.ideal_named_scalar _ _ _ _ rfl
theorem lit_c3 : (Named.named κ "gelu_3c" 0x3E095D4F#32 : Ideal .f32) = ((Sgu.C3 : ℝ) : EReal) :=
  IdealRules.named_const.ideal_named_scalar _ _ _ _ rfl

theorem cTh_apply {s : Shape} (x : FVec Ideal s .f32) (i : s.Idx) (r : ℝ) (h : x i = ((r : ℝ) : EReal)) :
    cTh x i = ((Sgu.th r : ℝ) : EReal) := by
  pointwise [cTh]
  simp only [h, lit_c, Sgu.lit_K, ← EReal.coe_mul, ← EReal.coe_add, Ideal.tanh_coe]
  rfl

theorem cGelu_apply {s : Shape} (x : FVec Ideal s .f32) (i : s.Idx) (r : ℝ) (h : x i = ((r : ℝ) : EReal)) :
    cGelu x i = ((Sgu.gelu r : ℝ) : EReal) := by
  pointwise [cGelu]
  simp only [h, cTh_apply x i r h, Sgu.coe_one, Sgu.lit_half, ← EReal.coe_mul, ← EReal.coe_add]
  rfl

theorem cGelud_apply {s : Shape} (x : FVec Ideal s .f32) (i : s.Idx) (r : ℝ) (h : x i = ((r : ℝ) : EReal)) :
    cGelud x i = ((Sgu.gelud r : ℝ) : EReal) := by
  pointwise [cGelud]
  simp only [h, cTh_apply x i r h, lit_c3, Sgu.lit_K, Sgu.coe_one, Sgu.lit_half, ← EReal.coe_mul, ← EReal.coe_add, ← EReal.coe_sub]
  rfl

theorem cRowSum_apply (x : FVec Ideal S512x512 .f32) (p : Fin 512) : cRowSum x (ix1 p) = ∑ c : Fin 512, x (ix2 p c) := by
  change Ideal.reduceAdd reduces_S512x512_S512 x (ix1 p) = _
  pointwise

theorem cColSum_apply (x : FVec Ideal S512x512 .f32) (c : Fin 512) : cColSum x (ix1 c) = ∑ p : Fin 512, x (ix2 p c) := by
  change Ideal.reduceAdd reduces_S512x512_S512_2 x (ix1 c) = _
  pointwise

theorem cMean_apply (x : FVec Ideal S512x512 .f32) (p : Fin 512) (z : Fin 1) (r : Fin 512 → ℝ) (h : ∀ c, x (ix2 p c) = ((r c : ℝ) : EReal)) :
    cMean x (ix2 p z) = ((Sgu.mean r : ℝ) : EReal) := by
  pointwise [cMean]
  simp only [cRowSum_apply, h, Sgu.lit_512, Sgu.coe_sum]
  rw [Sgu.coe_div _ (by norm_num)]
  rfl

section Rows
variable (x : FVec Ideal S512x512 .f32) (p : Fin 512) (r : Fin 512 → ℝ) (h : ∀ c, x (ix2 p c) = ((r c : ℝ) : EReal))
include h

theorem cXc_apply (c : Fin 512) : cXc x (ix2 p c) = ((Sgu.xc r c : ℝ) : EReal) := by
  pointwise [cXc]
  simp only [cGelu_apply x _ _ (h c), cMean_apply (cGelu x) p _ _ fun c => cGelu_apply x _ _ (h c), ← EReal.coe_sub]
  rfl

theorem cRs_apply (z : Fin 1) : cRs x (ix2 p z) = ((Sgu.rs r : ℝ) : EReal) := by
  pointwise [cRs]
  rw [cMean_apply _ p z (fun c => Sgu.xc r c * Sgu.xc r c) fun c => by
    pointwise
    rw [cXc_apply x p r h, ← EReal.coe_mul]]
  rw [Sgu.lit_ε, ← EReal.coe_add]
  exact Sgu.coe_rsqrt (Sgu.ve_pos r)

theorem cXhat_apply (c : Fin 512) : cXhat x (ix2 p c) = ((Sgu.xhat r c : ℝ) : EReal) := by
  pointwise [cXhat]
  rw [cXc_apply x p r h, cRs_apply x p r h, ← EReal.coe_mul]
  rfl

theorem cVn_apply (g b : FVec Ideal S1x512 .f32) (g' b' : Fin 512 → ℝ) (hg : ∀ c, g (ix2 0 c) = ((g' c : ℝ) : EReal))
    (hb : ∀ c, b (ix2 0 c) = ((b' c : ℝ) : EReal)) (c : Fin 512) : cVn g b x (ix2 p c) = ((Sgu.vn g' b' r c : ℝ) : EReal) := by
  pointwise [cVn]
  rw [cXhat_apply x p r h]
  erw [hg, hb]
  rw [← EReal.coe_mul, ← EReal.coe_add]
  rfl

theorem cDsv_apply (g : FVec Ideal S1x512 .f32) (g' : Fin 512 → ℝ) (hg : ∀ c, g (ix2 0 c) = ((g' c : ℝ) : EReal))
    (d : FVec Ideal S512x512 .f32) (d' : Fin 512 → ℝ) (hd : ∀ c, d (ix2 p c) = ((d' c : ℝ) : EReal)) (c : Fin 512) :
    cDsv g x d (ix2 p c) = ((Sgu.dsvRow r (fun c => d' c * g' c) c : ℝ) : EReal) := by
  have hdx : ∀ c, (mulf d (broadcastTo S512x512 g broadcasts_S1x512_S512x512)) (ix2 p c) = ((d' c * g' c : ℝ) : EReal) := fun c => by
    pointwise
    rw [hd]
    erw [hg]
    rw [← EReal.coe_mul]
  have hdxh : ∀ c, (mulf (mulf d (broadcastTo S512x512 g broadcasts_S1x512_S512x512)) (cXhat x)) (ix2 p c)
      = ((d' c * g' c * Sgu.xhat r c : ℝ) : EReal) := fun c => by
    show _ * _ = _
    erw [hdx c, cXhat_apply x p r h, ← EReal.coe_mul]
  unfold cDsv
  generalize hX : (mulf d (broadcastTo S512x512 g broadcasts_S1x512_S512x512)) = X at hdx hdxh ⊢
  pointwise
  rw [cRs_apply x p r h, cXhat_apply x p r h, hdx, cGelud_apply x _ _ (h c), cMean_apply _ p _ _ hdx, cMean_apply _ p _ _ hdxh]
  simp only [← EReal.coe_mul, ← EReal.coe_sub]
  rfl

end Rows

end Cert.KernelIdeal.Gen
-- ==== Proof.SguCanonRead2.lean ====
/- The products and the lane selections of the spatial gating unit's backward kernel, read on embedded reals. -/
module

public import proofs.«01_k».proof.Proof.SguCanonRead

@[expose] public section

set_option maxRecDepth 16384
set_option synthInstance.maxSize 4096

noncomputable section

namespace Cert.KernelIdeal.Gen

open Idealize.ShloMosaic Idealize.SL.Sem

/-- Group `h` of the pair `q`. -/
def pg (q : Fin 4) (h : Fin 2) : Fin 8 := ⟨2 * q.val + h.val, by omega⟩

/-- The matrices of the pair `q`, stacked. -/
def Stacked (W : Fin 8 → Fin 128 → Fin 128 → ℝ) (q : Fin 4) (w : FVec Ideal S256x128 .bf16) : Prop :=
  ∀ (h : Fin 2) (i j : Fin 128), w (ix2 ⟨128 * h.val + i.val, by omega⟩ j) = ((W (pg q h) i j : ℝ) : EReal)

theorem cDsg_apply (ct : FVec Ideal S512x1024 .bf16) (wb : FVec Ideal S1024x512 .bf16) (p : Fin 512) (c : Fin 512)
    (ct' : Fin 1024 → ℝ) (wb' : Fin 512 → Fin 1024 → ℝ) (hc : ∀ k, ct (ix2 p k) = ((ct' k : ℝ) : EReal))
    (hw : ∀ c k, wb (ix2 k c) = ((wb' c k : ℝ) : EReal)) :
    cDsg ct wb (ix2 p c) = ((Sgu.dsg wb' ct' c : ℝ) : EReal) := by
  pointwise [cDsg]
  simp only [hc, hw, ← EReal.coe_mul, Sgu.coe_sum]
  rfl

theorem mask_word (c : Fin 128) : IntOp.cmpi CmpIPredicate.slt (BitVec.ofNat 32 c.val) 64#32 = if c.val < 64 then 1#1 else 0#1 := by
  revert c; decide +kernel

theorem mask_apply (i c : Fin 128) : k0_pay7 (ix2 i c) = if c.val < 64 then 1#1 else 0#1 := by
  pointwise [k0_pay7]
  exact mask_word c

theorem sel_one {α : Type} (a b : α) : Scalar.select 1#1 a b = a := rfl
theorem sel_zero {α : Type} (a b : α) : Scalar.select 0#1 a b = b := rfl

theorem cPair_apply (W : Fin 8 → Fin 128 → Fin 128 → ℝ) (q : Fin 4) (w : FVec Ideal S256x128 .bf16) (hw : Stacked W q w)
    (x : FVec Ideal S128x128 .bf16) (i l : Fin 128) (c : Fin 512) (hl : c.val = 128 * q.val + l.val) (x' : Fin 128 → ℝ)
    (hx : ∀ k, x (ix2 k l) = ((x' k : ℝ) : EReal)) :
    cPair w x (ix2 i l) = ((∑ k, W (Sgu.grp c) i k * x' k : ℝ) : EReal) := by
  pointwise [cPair, mask_apply]
  by_cases h : l.val < 64
  · rw [if_pos h, sel_one]
    simp only [hx]
    rw [← Sgu.coe_sum]
    refine Finset.sum_congr rfl fun k _ => ?_
    have e := hw 0 i k
    have : pg q 0 = Sgu.grp c := Fin.ext (by simp only [pg, Sgu.grp]; show 2 * q.val + 0 = _; omega)
    rw [this] at e
    rw [EReal.coe_mul, ← e]
    congr 3
    exact Fin.ext (by show i.val = 128 * 0 + i.val; omega)
  · rw [if_neg h, sel_zero]
    simp only [hx]
    rw [← Sgu.coe_sum]
    refine Finset.sum_congr rfl fun k _ => ?_
    have e := hw 1 i k
    have : pg q 1 = Sgu.grp c := Fin.ext (by simp only [pg, Sgu.grp]; show 2 * q.val + 1 = _; omega)
    rw [this] at e
    rw [EReal.coe_mul, ← e]
    rfl

theorem cDm_apply (d u : FVec Ideal S128x512 .f32) (i : Fin 128) (c : Fin 512) (d' u' : ℝ) (hd : d (ix2 i c) = ((d' : ℝ) : EReal))
    (hu : u (ix2 i c) = ((u' : ℝ) : EReal)) : cDm d u (ix2 i c) = ((d' * Sgu.gelu u' : ℝ) : EReal) := by
  pointwise [cDm]
  rw [hd, cGelu_apply u _ _ hu, ← EReal.coe_mul]

theorem cDu_apply (d mx u : FVec Ideal S128x512 .f32) (i : Fin 128) (c : Fin 512) (d' m' u' : ℝ) (hd : d (ix2 i c) = ((d' : ℝ) : EReal))
    (hm : mx (ix2 i c) = ((m' : ℝ) : EReal))
    (hu : u (ix2 i c) = ((u' : ℝ) : EReal)) : cDu d mx u (ix2 i c) = ((d' * m' * Sgu.gelud u' : ℝ) : EReal) := by
  pointwise [cDu]
  rw [hd, hm, cGelud_apply u _ _ hu, ← EReal.coe_mul, ← EReal.coe_mul]

/-- Lane `k` of the half `h` of a pair's lanes. -/
def hl (h : Fin 2) (k : Fin 64) : Fin 128 := ⟨64 * h.val + k.val, by omega⟩

theorem cDwPair_apply (d v : FVec Ideal S128x128 .bf16) (i j : Fin 128) (h : Fin 2) :
    cDwPair d v (ix2 ⟨128 * h.val + i.val, by omega⟩ j) = ∑ k : Fin 64, d (ix2 i (hl h k)) * v (ix2 j (hl h k)) := by
  pointwise [cDwPair, mask_apply]
  obtain rfl | rfl : h = 0 ∨ h = 1 := by omega
  · have h0 : 128 * (0 : Fin 2).val + i.val < 128 := by show 128 * 0 + i.val < 128; omega
    simp only [dif_pos h0, zero_mul, Finset.sum_const_zero, add_zero]
    refine Finset.sum_congr rfl fun k _ => ?_
    congr 3
    · exact Fin.ext (by show 128 * 0 + i.val = _; omega)
    · exact Fin.ext (by show k.val = 64 * 0 + k.val; omega)
    · exact Fin.ext (by show k.val = 64 * 0 + k.val; omega)
  · have h0 : ¬ 128 * (1 : Fin 2).val + i.val < 128 := by show ¬ 128 * 1 + i.val < 128; omega
    simp only [dif_neg h0, zero_mul, Finset.sum_const_zero, zero_add]
    refine Finset.sum_congr rfl fun k _ => ?_
    congr 3
    exact Fin.ext (by show 128 * 1 + i.val - 128 = _; omega)

theorem cat4_apply (a0 a1 a2 a3 : FVec Ideal S128x128 .f32) (i : Fin 128) (c : Fin 512) :
    concatenate S128x512 1 [⟨S128x128, a0⟩, ⟨S128x128, a1⟩, ⟨S128x128, a2⟩, ⟨S128x128, a3⟩]
      concatenates_S128x128_S128x128_S128x128_S128x128_S128x512_d1 (ix2 i c)
      = if h0 : c.val < 128 then a0 (ix2 i ⟨c.val, h0⟩) else if h1 : c.val - 128 < 128 then a1 (ix2 i ⟨c.val - 128, h1⟩)
        else if h2 : c.val - 128 - 128 < 128 then a2 (ix2 i ⟨c.val - 128 - 128, h2⟩)
        else a3 (ix2 i ⟨c.val - 128 - 128 - 128, by omega⟩) := by
  pointwise

theorem cMixed_apply (W : Fin 8 → Fin 128 → Fin 128 → ℝ) (bs : Fin 8 → Fin 128 → ℝ) (w0 w1 w2 w3 : FVec Ideal S256x128 .bf16)
    (h0 : Stacked W 0 w0) (h1 : Stacked W 1 w1) (h2 : Stacked W 2 w2) (h3 : Stacked W 3 w3)
    (bp : FVec Ideal S128x512 .f32) (v : FVec Ideal S128x512 .bf16) (v' : Fin 128 → Fin 512 → ℝ)
    (hv : ∀ j c, v (ix2 j c) = ((v' j c : ℝ) : EReal)) (hb : ∀ i c, bp (ix2 i c) = ((bs (Sgu.grp c) i : ℝ) : EReal))
    (i : Fin 128) (c : Fin 512) :
    cMixed w0 w1 w2 w3 bp v (ix2 i c) = ((Sgu.mixed W bs v' i c : ℝ) : EReal) := by
  unfold cMixed
  show FloatOps.addf (concatenate S128x512 1 _ _ (ix2 i c)) (bp (ix2 i c)) = _
  rw [cat4_apply, hb, Sgu.mixed, EReal.coe_add]
  show _ + _ = _
  congr 1
  have hs : ∀ (o : ℕ) (l : Fin 128) (ho : S128x512.Slices ![0, o] S128x128) (hl : c.val = o + l.val) (k : Fin 128),
      extractStridedSlice S128x128 ![0, o] v ho (ix2 k l) = ((v' k c : ℝ) : EReal) := fun o l ho hl k => by
    rw [← hv]
    refine extractStridedSlice_apply _ _ _ _ _ fun a => ?_
    match a with
    | 0 => show k.val = 0 + k.val; omega
    | 1 => exact hl
  by_cases c0 : c.val < 128
  · rw [dif_pos c0]
    have e : c.val = 0 + (⟨c.val, c0⟩ : Fin 128).val := (Nat.zero_add _).symm
    exact cPair_apply W 0 w0 h0 _ i ⟨c.val, c0⟩ c e _ (hs 0 _ _ e)
  rw [dif_neg c0]
  by_cases c1 : c.val - 128 < 128
  · rw [dif_pos c1]
    have e : c.val = 128 + (⟨c.val - 128, c1⟩ : Fin 128).val := by show c.val = 128 + (c.val - 128); omega
    exact cPair_apply W 1 w1 h1 _ i ⟨c.val - 128, c1⟩ c e _ (hs 128 _ _ e)
  rw [dif_neg c1]
  by_cases c2 : c.val - 128 - 128 < 128
  · rw [dif_pos c2]
    have e : c.val = 256 + (⟨c.val - 128 - 128, c2⟩ : Fin 128).val := by show c.val = 256 + (c.val - 128 - 128); omega
    exact cPair_apply W 2 w2 h2 _ i ⟨c.val - 128 - 128, c2⟩ c e _ (hs 256 _ _ e)
  rw [dif_neg c2]
  have e : c.val = 384 + (⟨c.val - 128 - 128 - 128, by omega⟩ : Fin 128).val := by
    show c.val = 384 + (c.val - 128 - 128 - 128); omega
  exact cPair_apply W 3 w3 h3 _ i ⟨c.val - 128 - 128 - 128, by omega⟩ c e _ (hs 384 _ _ e)

end Cert.KernelIdeal.Gen
-- ==== Proof.SguBlock.lean ====
/- The spatial gating unit's backward kernel on one block of 512 positions: the blocks it reads as reals, and the
   values its four windows compute from them. -/
module

public import proofs.«01_k».proof.Proof.SguCanonRead2
public import Idealize.ShloMosaic.Lib.Pipeline.ValueKit

@[expose] public section

set_option maxRecDepth 16384
set_option synthInstance.maxSize 4096

noncomputable section

namespace Cert.KernelIdeal.Gen

open Idealize.ShloMosaic Idealize.SL.Sem

/-- Row `i` of the window `w` of a block. -/
def br (w : Fin 4) (i : Fin 128) : Fin 512 := ⟨128 * w.val + i.val, by omega⟩

/-- The blocks the kernel reads at one point, as embedded reals. -/
structure Blk (x0 x1 : Vec Ideal S512x512 .bf16) (x2 : Vec Ideal S512x1024 .bf16) (x3 : Vec Ideal S1024x512 .bf16)
    (x4 x5 : Vec Ideal S1x512 .f32) (x6 x7 : Vec Ideal S4x256x128 .bf16) (x8 : Vec Ideal S128x512 .f32)
    (W : Fin 8 → Fin 128 → Fin 128 → ℝ) (bs : Fin 8 → Fin 128 → ℝ) (wb : Fin 512 → Fin 1024 → ℝ) (g b : Fin 512 → ℝ)
    (u sv : Fin 512 → Fin 512 → ℝ) (ct : Fin 512 → Fin 1024 → ℝ) : Prop where
  hu : ∀ p c, x0 (ix2 p c) = ((u p c : ℝ) : EReal)
  hsv : ∀ p c, x1 (ix2 p c) = ((sv p c : ℝ) : EReal)
  hct : ∀ p k, x2 (ix2 p k) = ((ct p k : ℝ) : EReal)
  hwb : ∀ c k, x3 (ix2 k c) = ((wb c k : ℝ) : EReal)
  hg : ∀ c, x4 (ix2 0 c) = ((g c : ℝ) : EReal)
  hb : ∀ c, x5 (ix2 0 c) = ((b c : ℝ) : EReal)
  hW : ∀ (q : Fin 4) (h : Fin 2) (i j : Fin 128), x6 (ix3 q ⟨128 * h.val + i.val, by omega⟩ j) = ((W (pg q h) i j : ℝ) : EReal)
  hWt : ∀ (q : Fin 4) (h : Fin 2) (i j : Fin 128), x7 (ix3 q ⟨128 * h.val + i.val, by omega⟩ j) = ((W (pg q h) j i : ℝ) : EReal)
  hbs : ∀ i c, x8 (ix2 i c) = ((bs (Sgu.grp c) i : ℝ) : EReal)

section Words
variable {F : FTy → Type} [FloatOps F] [Named F]

/-- The gradient of the gated product on the block. -/
def bD (x2 : Vec F S512x1024 .bf16) (x3 : Vec F S1024x512 .bf16) : FVec F S512x512 .f32 :=
  cDsg (shapeCast S512x1024 x2 shapeCasts_S512x1024_S512x1024) (shapeCast S1024x512 x3 shapeCasts_S1024x512_S1024x512)

/-- The rows of `sv`, widened. -/
def bS (x1 : Vec F S512x512 .bf16) : FVec F S512x512 .f32 :=
  extf .f32 (shapeCast S512x512 x1 shapeCasts_S512x512_S512x512 : FVec F S512x512 .bf16) bitsLt_bf16_f32

/-- A window's rows of `u`, widened. -/
def bU (l : Vec F S128x512 .bf16) : FVec F S128x512 .f32 :=
  extf .f32 (shapeCast S128x512 l shapeCasts_S128x512_S128x512 : FVec F S128x512 .bf16) bitsLt_bf16_f32

/-- A pair's stacked matrices. -/
def bW (l : Vec F S1x256x128 .bf16) : FVec F S256x128 .bf16 := shapeCast S256x128 l shapeCasts_S1x256x128_S256x128

/-- A window's rows of a block. -/
def wD (o : ℕ) (h : S512x512.Slices ![o, 0] S128x512) (x2 : Vec F S512x1024 .bf16) (x3 : Vec F S1024x512 .bf16) : FVec F S128x512 .f32 :=
  extractStridedSlice S128x512 ![o, 0] (bD x2 x3) h

def wV (o : ℕ) (h : S512x512.Slices ![o, 0] S128x512) (x4 x5 : Vec F S1x512 .f32) (x1 : Vec F S512x512 .bf16) : FVec F S128x512 .bf16 :=
  extractStridedSlice S128x512 ![o, 0] (cVn x4 x5 (bS x1)) h

end Words

section Read

variable {x0 x1 : Vec Ideal S512x512 .bf16} {x2 : Vec Ideal S512x1024 .bf16} {x3 : Vec Ideal S1024x512 .bf16}
    {x4 x5 : Vec Ideal S1x512 .f32} {x6 x7 : Vec Ideal S4x256x128 .bf16} {x8 : Vec Ideal S128x512 .f32}
    {W : Fin 8 → Fin 128 → Fin 128 → ℝ} {bs : Fin 8 → Fin 128 → ℝ} {wb : Fin 512 → Fin 1024 → ℝ} {g b : Fin 512 → ℝ}
    {u sv : Fin 512 → Fin 512 → ℝ} {ct : Fin 512 → Fin 1024 → ℝ} (B : Blk x0 x1 x2 x3 x4 x5 x6 x7 x8 W bs wb g b u sv ct)
include B

theorem bD_apply (p c : Fin 512) : bD x2 x3 (ix2 p c) = ((Sgu.dsg wb (ct p) c : ℝ) : EReal) := by
  refine cDsg_apply _ _ p c (ct p) wb (fun k => ?_) (fun c k => ?_)
  · rw [← B.hct]; pointwise
  · rw [← B.hwb]; pointwise

theorem bS_apply (p c : Fin 512) : bS x1 (ix2 p c) = ((sv p c : ℝ) : EReal) := by
  rw [← B.hsv]; pointwise [bS]

theorem wD_apply (w : Fin 4) (o : ℕ) (ho : o = 128 * w.val) (h : S512x512.Slices ![o, 0] S128x512) (i : Fin 128) (c : Fin 512) :
    wD o h x2 x3 (ix2 i c) = ((Sgu.dsg wb (ct (br w i)) c : ℝ) : EReal) := by
  rw [← bD_apply B]
  refine extractStridedSlice_apply _ _ _ _ _ fun a => ?_
  match a with
  | 0 => subst ho; exact rfl
  | 1 => show c.val = 0 + c.val; omega

theorem wV_apply (w : Fin 4) (o : ℕ) (ho : o = 128 * w.val) (h : S512x512.Slices ![o, 0] S128x512) (i : Fin 128) (c : Fin 512) :
    wV o h x4 x5 x1 (ix2 i c) = ((Sgu.vn g b (sv (br w i)) c : ℝ) : EReal) := by
  rw [← cVn_apply (bS x1) (br w i) (sv (br w i)) (bS_apply B _) x4 x5 g b B.hg B.hb]
  refine extractStridedSlice_apply _ _ _ _ _ fun a => ?_
  match a with
  | 0 => subst ho; exact rfl
  | 1 => show c.val = 0 + c.val; omega

theorem bU_apply (w : Fin 4) (o : ℕ) (ho : o = 128 * w.val) (inb) (i : Fin 128) (c : Fin 512) :
    bU (View.ld x0 (Rect.unit ![o, 0] S128x512.size inb)) (ix2 i c) = ((u (br w i) c : ℝ) : EReal) := by
  rw [← B.hu]
  pointwise [bU]
  subst ho; exact rfl

theorem bW_apply (q : Fin 4) (o : ℕ) (ho : o = q.val) (inb) : Stacked W q (bW (View.ld x6 (Rect.unit ![o, 0, 0] S1x256x128.size inb))) := by
  intro h i j
  rw [← B.hW]
  pointwise [bW]
  subst ho; exact rfl

/-- The same of the transposed matrices. -/
theorem bW_apply' (q : Fin 4) (o : ℕ) (ho : o = q.val) (inb) :
    Stacked (fun p i j => W p j i) q (bW (View.ld x7 (Rect.unit ![o, 0, 0] S1x256x128.size inb))) := by
  intro h i j
  rw [← B.hWt]
  pointwise [bW]
  subst ho; exact rfl

/-- The gradient of the mixed positions on a window. -/
theorem wDm_apply (w : Fin 4) (o : ℕ) (ho : o = 128 * w.val) (h : S512x512.Slices ![o, 0] S128x512) (inb) (i : Fin 128) (c : Fin 512) :
    cDm (wD o h x2 x3) (bU (View.ld x0 (Rect.unit ![o, 0] S128x512.size inb))) (ix2 i c)
      = ((Sgu.dm wb (u (br w i)) (ct (br w i)) c : ℝ) : EReal) :=
  cDm_apply _ _ i c _ _ (wD_apply B w o ho h i c) (bU_apply B w o ho inb i c)

/-- The gradient of `u` on a window. -/
theorem wDu_apply (w : Fin 4) (o : ℕ) (ho : o = 128 * w.val) (h h' : S512x512.Slices ![o, 0] S128x512) (inb i0 i1 i2 i3) (i : Fin 128) (c : Fin 512) :
    cDu (wD o h x2 x3) (cMixed (bW (View.ld x6 (Rect.unit ![0, 0, 0] S1x256x128.size i0))) (bW (View.ld x6 (Rect.unit ![1, 0, 0] S1x256x128.size i1)))
        (bW (View.ld x6 (Rect.unit ![2, 0, 0] S1x256x128.size i2))) (bW (View.ld x6 (Rect.unit ![3, 0, 0] S1x256x128.size i3)))
        (shapeCast S128x512 x8 shapeCasts_S128x512_S128x512) (wV o h' x4 x5 x1))
      (bU (View.ld x0 (Rect.unit ![o, 0] S128x512.size inb))) (ix2 i c)
      = ((Sgu.du W bs wb g b (fun i => u (br w i)) (fun i => sv (br w i)) (fun i => ct (br w i)) i c : ℝ) : EReal) :=
  cDu_apply _ _ _ i c _ _ _ (wD_apply B w o ho h i c)
    (cMixed_apply W bs _ _ _ _ (bW_apply B 0 0 rfl i0) (bW_apply B 1 1 rfl i1) (bW_apply B 2 2 rfl i2) (bW_apply B 3 3 rfl i3) _ _ _
      (fun j c => wV_apply B w o ho h' j c) (fun i c => by rw [← B.hbs]; pointwise) i c)
    (bU_apply B w o ho inb i c)

/-- Lane `l` of the pair `q`. -/
def pl (q : Fin 4) (l : Fin 128) : Fin 512 := ⟨128 * q.val + l.val, by omega⟩

omit B in
theorem slice128_apply {α : Type} (X : S128x512.Idx → α) (q : Fin 4) (o : ℕ) (ho : o = 128 * q.val) (h : S128x512.Slices ![0, o] S128x128)
    (i l : Fin 128) : extractStridedSlice S128x128 ![0, o] X h (ix2 i l) = X (ix2 i (pl q l)) := by
  refine extractStridedSlice_apply _ _ _ _ _ fun a => ?_
  match a with
  | 0 => show i.val = 0 + i.val; omega
  | 1 => subst ho; exact rfl

/-- The gradient of the layernorm's output on a window's pair of groups. -/
theorem wDv_apply (w q : Fin 4) (o : ℕ) (ho : o = 128 * w.val) (o' : ℕ) (ho' : o' = 128 * q.val) (o'' : ℕ) (ho'' : o'' = q.val)
    (h : S512x512.Slices ![o, 0] S128x512) (h' : S128x512.Slices ![0, o'] S128x128) (inb i7) (j l : Fin 128) :
    cPair (bW (View.ld x7 (Rect.unit ![o'', 0, 0] S1x256x128.size i7)))
      (extractStridedSlice S128x128 ![0, o'] (truncf .bf16 (cDm (wD o h x2 x3) (bU (View.ld x0 (Rect.unit ![o, 0] S128x512.size inb)))) bitsLt_bf16_f32 : FVec Ideal S128x512 .bf16) h')
      (ix2 j l) = ((Sgu.dvn W wb (fun i => u (br w i)) (fun i => ct (br w i)) j (pl q l) : ℝ) : EReal) := by
  refine cPair_apply (fun p i j => W p j i) q _ (bW_apply' B q o'' ho'' i7) _ j l (pl q l) rfl
    (fun i => Sgu.dm wb (u (br w i)) (ct (br w i)) (pl q l)) (fun i => ?_)
  rw [slice128_apply _ q o' ho']
  exact wDm_apply B w o ho h inb i _

/-- A window's part of the gradient of a pair's mixing matrices. -/
theorem wDw_apply (w q : Fin 4) (o : ℕ) (ho : o = 128 * w.val) (o' : ℕ) (ho' : o' = 128 * q.val)
    (h : S512x512.Slices ![o, 0] S128x512) (h' : S128x512.Slices ![0, o'] S128x128) (h'' : S512x512.Slices ![o, o'] S128x128) (inb)
    (e : Fin 2) (i j : Fin 128) :
    cDwPair (extractStridedSlice S128x128 ![0, o'] (truncf .bf16 (cDm (wD o h x2 x3) (bU (View.ld x0 (Rect.unit ![o, 0] S128x512.size inb)))) bitsLt_bf16_f32 : FVec Ideal S128x512 .bf16) h')
      (extractStridedSlice S128x128 ![o, o'] (cVn x4 x5 (bS x1)) h'')
      (ix2 ⟨128 * e.val + i.val, by omega⟩ j)
      = ((Sgu.dW wb g b (fun i => u (br w i)) (fun i => sv (br w i)) (fun i => ct (br w i)) (pg q e) i j : ℝ) : EReal) := by
  rw [cDwPair_apply, Sgu.dW, ← Sgu.coe_sum]
  refine Finset.sum_congr rfl fun k _ => ?_
  have hlane : pl q (hl e k) = Sgu.lane (pg q e) k := Fin.ext (by show 128 * q.val + (64 * e.val + k.val) = 64 * (2 * q.val + e.val) + k.val; omega)
  rw [EReal.coe_mul, slice128_apply _ q o' ho', hlane]
  congr 1
  · exact wDm_apply B w o ho h inb i _
  · rw [← cVn_apply (bS x1) (br w j) (sv (br w j)) (bS_apply B _) x4 x5 g b B.hg B.hb, ← hlane]
    refine extractStridedSlice_apply _ _ _ _ _ fun a => ?_
    match a with
    | 0 => subst ho; exact rfl
    | 1 => subst ho'; exact rfl

end Read

end Cert.KernelIdeal.Gen
-- ==== Proof.SguOut9.lean ====
/- What the kernel leaves at one point of its grid in the blocks of the gradient of `u`. -/
module

public import proofs.«01_k».proof.Proof.Gen.KernelIdeal.Frame
public import proofs.«01_k».proof.Proof.SguBlock

@[expose] public section

set_option maxRecDepth 16384
set_option synthInstance.maxSize 4096

noncomputable section

namespace Cert.KernelIdeal.Gen

open Idealize.ShloMosaic Idealize.ShloMosaic.TcCoe Idealize.SL.Sem
open Idealize.ShloMosaic.Tactic

variable (m : (ℓ : Loc nD τ sig) → Buf (Elt Ideal) ℓ)
variable {W : Fin 8 → Fin 128 → Fin 128 → ℝ} {bs : Fin 8 → Fin 128 → ℝ} {wb : Fin 512 → Fin 1024 → ℝ} {g b : Fin 512 → ℝ}
    {u sv : Fin 512 → Fin 512 → ℝ} {ct : Fin 512 → Fin 1024 → ℝ}

/-- The blocks read at point `t` hold these reals. -/
def BlkAt (c : Dev nD) (t : Fin cfg0.N) (W : Fin 8 → Fin 128 → Fin 128 → ℝ) (bs : Fin 8 → Fin 128 → ℝ) (wb : Fin 512 → Fin 1024 → ℝ) (g b : Fin 512 → ℝ)
    (u sv : Fin 512 → Fin 512 → ℝ) (ct : Fin 512 → Fin 1024 → ℝ) : Prop :=
  Blk (X0_0 m c t) (X0_1 m c t) (iblk m c 2 t) (iblk m c 3 t) (iblk m c 4 t) (iblk m c 5 t) (iblk m c 6 t) (iblk m c 7 t) (iblk m c 8 t) W bs wb g b u sv ct

/-- The window of a row of a block, and its place there. -/
def bwin (p : Fin 512) : Fin 4 := ⟨p.val / 128, by omega⟩
def boff (p : Fin 512) : Fin 128 := ⟨p.val % 128, Nat.mod_lt _ (by norm_num)⟩

theorem br_bwin (p : Fin 512) : br (bwin p) (boff p) = p := Fin.ext (Nat.div_add_mod _ _)
theorem bwin_br (w : Fin 4) (i : Fin 128) : bwin (br w i) = w := Fin.ext (by show (128 * w.val + i.val) / 128 = w.val; omega)
theorem boff_br (w : Fin 4) (i : Fin 128) : boff (br w i) = i := Fin.ext (by show (128 * w.val + i.val) % 128 = i.val; omega)

/-- What stores that cover an entry leave there is a function's value, if every store's payload is that function's. -/
theorem read_pieces {Val : EltTy → Type} [∀ e, Nonempty (Val e)] {sig : RefSig} {κ : Kind} {sp : Space} {s : Shape} {e : EltTy}
    (v : View sig κ sp s e) (f : v.ty.Contents Val) (L : List (View.Piece Val s e)) (G : s.Idx → Val e) (y : s.Idx)
    (hc : ∃ p ∈ L, y ∈ p.1.set) (hL : ∀ p ∈ L, ∀ x : p.1.shape.Idx, p.2 x = G (p.1.emb x)) : v.read Val (v.writes Val f L) y = G y :=
  (View.read_writes_apply_eq_canon v f y L hc).trans (View.canon_apply_of_pieces G L hL y hc)

/-- The embedded reals as a block. -/
def vec2 (f : Fin 512 → Fin 512 → ℝ) : S512x512.Idx → EReal := fun y => ((f (y 0) (y 1) : ℝ) : EReal)

/-- The block of the gradient of `u`. -/
def gDu (W : Fin 8 → Fin 128 → Fin 128 → ℝ) (bs : Fin 8 → Fin 128 → ℝ) (wb : Fin 512 → Fin 1024 → ℝ) (g b : Fin 512 → ℝ)
    (u sv : Fin 512 → Fin 512 → ℝ) (ct : Fin 512 → Fin 1024 → ℝ) (p c : Fin 512) : ℝ :=
  Sgu.du W bs wb g b (fun i => u (br (bwin p) i)) (fun i => sv (br (bwin p) i)) (fun i => ct (br (bwin p) i)) (boff p) c

theorem gDu_br (w : Fin 4) (i : Fin 128) (c : Fin 512) : gDu W bs wb g b u sv ct (br w i) c
    = Sgu.du W bs wb g b (fun i => u (br w i)) (fun i => sv (br w i)) (fun i => ct (br w i)) i c := by
  unfold gDu; rw [bwin_br, boff_br]

theorem out9_A (c : Dev nD) (t : Fin cfg0.N) (h0 : t.val % 8 = 0) (B : BlkAt m c t W bs wb g b u sv ct) (y : S512x512.Idx) :
    (outsAt0 m c t.val t.isLt).1 y = ((gDu W bs wb g b u sv ct (y 0) (y 1) : ℝ) : EReal) := by
  rw [outsAt0_A m c t h0]
  dsimp only
  unfold out0_A_9
  refine read_pieces (Val := Elt Ideal) (e := .bf16) _ _ _ (vec2 (gDu W bs wb g b u sv ct)) y ?_ (fun p hp => ?_)
  · apply cover0_A_9
  frame_out at hp
  simp only [List.mem_cons, List.not_mem_nil, or_false] at hp
  obtain rfl | rfl | rfl | rfl := hp
  · intro x
    obtain ⟨i, cc, rfl⟩ : ∃ (i : Fin 128) (cc : Fin 512), x = ix2 i cc := ⟨x 0, x 1, by funext a; match a with | 0 => rfl | 1 => rfl⟩
    have e := (wDu_apply B 3 384 rfl slices_S512x512_o384_0_S128x512 slices_S512x512_o384_0_S128x512 inb_S512x512_S128x512_384_0 inb_S4x256x128_S1x256x128_0_0_0 inb_S4x256x128_S1x256x128_1_0_0 inb_S4x256x128_S1x256x128_2_0_0 inb_S4x256x128_S1x256x128_3_0_0 i cc).trans
      (congrArg (fun r : ℝ => (r : EReal)) (gDu_br 3 i cc).symm)
    dsimp only
    refine (congrFun (g := cDu (wD 384 slices_S512x512_o384_0_S128x512 (iblk m c 2 t) (iblk m c 3 t)) (cMixed
        (bW (View.ld (iblk m c 6 t) (Rect.unit ![0, 0, 0] S1x256x128.size inb_S4x256x128_S1x256x128_0_0_0)))
        (bW (View.ld (iblk m c 6 t) (Rect.unit ![1, 0, 0] S1x256x128.size inb_S4x256x128_S1x256x128_1_0_0)))
        (bW (View.ld (iblk m c 6 t) (Rect.unit ![2, 0, 0] S1x256x128.size inb_S4x256x128_S1x256x128_2_0_0)))
        (bW (View.ld (iblk m c 6 t) (Rect.unit ![3, 0, 0] S1x256x128.size inb_S4x256x128_S1x256x128_3_0_0)))
        (shapeCast S128x512 (iblk m c 8 t) shapeCasts_S128x512_S128x512) (wV 384 slices_S512x512_o384_0_S128x512 (iblk m c 4 t) (iblk m c 5 t) (X0_1 m c t)))
        (bU (View.ld (X0_0 m c t) (Rect.unit ![384, 0] S128x512.size inb_S512x512_S128x512_384_0)))) ?_ (ix2 i cc)).trans (e.trans ?_)
    · rfl
    congr 2
    · exact Fin.ext (by show 128 * 3 + i.val = 384 + 1 * i.val; omega)
    · exact Fin.ext (by show cc.val = 0 + 1 * cc.val; omega)
  · intro x
    obtain ⟨i, cc, rfl⟩ : ∃ (i : Fin 128) (cc : Fin 512), x = ix2 i cc := ⟨x 0, x 1, by funext a; match a with | 0 => rfl | 1 => rfl⟩
    have e := (wDu_apply B 2 256 rfl slices_S512x512_o256_0_S128x512 slices_S512x512_o256_0_S128x512 inb_S512x512_S128x512_256_0 inb_S4x256x128_S1x256x128_0_0_0 inb_S4x256x128_S1x256x128_1_0_0 inb_S4x256x128_S1x256x128_2_0_0 inb_S4x256x128_S1x256x128_3_0_0 i cc).trans
      (congrArg (fun r : ℝ => (r : EReal)) (gDu_br 2 i cc).symm)
    dsimp only
    refine (congrFun (g := cDu (wD 256 slices_S512x512_o256_0_S128x512 (iblk m c 2 t) (iblk m c 3 t)) (cMixed
        (bW (View.ld (iblk m c 6 t) (Rect.unit ![0, 0, 0] S1x256x128.size inb_S4x256x128_S1x256x128_0_0_0)))
        (bW (View.ld (iblk m c 6 t) (Rect.unit ![1, 0, 0] S1x256x128.size inb_S4x256x128_S1x256x128_1_0_0)))
        (bW (View.ld (iblk m c 6 t) (Rect.unit ![2, 0, 0] S1x256x128.size inb_S4x256x128_S1x256x128_2_0_0)))
        (bW (View.ld (iblk m c 6 t) (Rect.unit ![3, 0, 0] S1x256x128.size inb_S4x256x128_S1x256x128_3_0_0)))
        (shapeCast S128x512 (iblk m c 8 t) shapeCasts_S128x512_S128x512) (wV 256 slices_S512x512_o256_0_S128x512 (iblk m c 4 t) (iblk m c 5 t) (X0_1 m c t)))
        (bU (View.ld (X0_0 m c t) (Rect.unit ![256, 0] S128x512.size inb_S512x512_S128x512_256_0)))) ?_ (ix2 i cc)).trans (e.trans ?_)
    · rfl
    congr 2
    · exact Fin.ext (by show 128 * 2 + i.val = 256 + 1 * i.val; omega)
    · exact Fin.ext (by show cc.val = 0 + 1 * cc.val; omega)
  · intro x
    obtain ⟨i, cc, rfl⟩ : ∃ (i : Fin 128) (cc : Fin 512), x = ix2 i cc := ⟨x 0, x 1, by funext a; match a with | 0 => rfl | 1 => rfl⟩
    have e := (wDu_apply B 1 128 rfl slices_S512x512_o128_0_S128x512 slices_S512x512_o128_0_S128x512 inb_S512x512_S128x512_128_0 inb_S4x256x128_S1x256x128_0_0_0 inb_S4x256x128_S1x256x128_1_0_0 inb_S4x256x128_S1x256x128_2_0_0 inb_S4x256x128_S1x256x128_3_0_0 i cc).trans
      (congrArg (fun r : ℝ => (r : EReal)) (gDu_br 1 i cc).symm)
    dsimp only
    refine (congrFun (g := cDu (wD 128 slices_S512x512_o128_0_S128x512 (iblk m c 2 t) (iblk m c 3 t)) (cMixed
        (bW (View.ld (iblk m c 6 t) (Rect.unit ![0, 0, 0] S1x256x128.size inb_S4x256x128_S1x256x128_0_0_0)))
        (bW (View.ld (iblk m c 6 t) (Rect.unit ![1, 0, 0] S1x256x128.size inb_S4x256x128_S1x256x128_1_0_0)))
        (bW (View.ld (iblk m c 6 t) (Rect.unit ![2, 0, 0] S1x256x128.size inb_S4x256x128_S1x256x128_2_0_0)))
        (bW (View.ld (iblk m c 6 t) (Rect.unit ![3, 0, 0] S1x256x128.size inb_S4x256x128_S1x256x128_3_0_0)))
        (shapeCast S128x512 (iblk m c 8 t) shapeCasts_S128x512_S128x512) (wV 128 slices_S512x512_o128_0_S128x512 (iblk m c 4 t) (iblk m c 5 t) (X0_1 m c t)))
        (bU (View.ld (X0_0 m c t) (Rect.unit ![128, 0] S128x512.size inb_S512x512_S128x512_128_0)))) ?_ (ix2 i cc)).trans (e.trans ?_)
    · rfl
    congr 2
    · exact Fin.ext (by show 128 * 1 + i.val = 128 + 1 * i.val; omega)
    · exact Fin.ext (by show cc.val = 0 + 1 * cc.val; omega)
  · intro x
    obtain ⟨i, cc, rfl⟩ : ∃ (i : Fin 128) (cc : Fin 512), x = ix2 i cc := ⟨x 0, x 1, by funext a; match a with | 0 => rfl | 1 => rfl⟩
    have e := (wDu_apply B 0 0 rfl slices_S512x512_o0_0_S128x512 slices_S512x512_o0_0_S128x512 inb_S512x512_S128x512_0_0 inb_S4x256x128_S1x256x128_0_0_0 inb_S4x256x128_S1x256x128_1_0_0 inb_S4x256x128_S1x256x128_2_0_0 inb_S4x256x128_S1x256x128_3_0_0 i cc).trans
      (congrArg (fun r : ℝ => (r : EReal)) (gDu_br 0 i cc).symm)
    dsimp only
    refine (congrFun (g := cDu (wD 0 slices_S512x512_o0_0_S128x512 (iblk m c 2 t) (iblk m c 3 t)) (cMixed
        (bW (View.ld (iblk m c 6 t) (Rect.unit ![0, 0, 0] S1x256x128.size inb_S4x256x128_S1x256x128_0_0_0)))
        (bW (View.ld (iblk m c 6 t) (Rect.unit ![1, 0, 0] S1x256x128.size inb_S4x256x128_S1x256x128_1_0_0)))
        (bW (View.ld (iblk m c 6 t) (Rect.unit ![2, 0, 0] S1x256x128.size inb_S4x256x128_S1x256x128_2_0_0)))
        (bW (View.ld (iblk m c 6 t) (Rect.unit ![3, 0, 0] S1x256x128.size inb_S4x256x128_S1x256x128_3_0_0)))
        (shapeCast S128x512 (iblk m c 8 t) shapeCasts_S128x512_S128x512) (wV 0 slices_S512x512_o0_0_S128x512 (iblk m c 4 t) (iblk m c 5 t) (X0_1 m c t)))
        (bU (View.ld (X0_0 m c t) (Rect.unit ![0, 0] S128x512.size inb_S512x512_S128x512_0_0)))) ?_ (ix2 i cc)).trans (e.trans ?_)
    · rfl
    congr 2
    · exact Fin.ext (by show 128 * 0 + i.val = 0 + 1 * i.val; omega)
    · exact Fin.ext (by show cc.val = 0 + 1 * cc.val; omega)

theorem out9_B (c : Dev nD) (t : Fin cfg0.N) (h0 : ¬t.val % 8 = 0) (B : BlkAt m c t W bs wb g b u sv ct) (y : S512x512.Idx) :
    (outsAt0 m c t.val t.isLt).1 y = ((gDu W bs wb g b u sv ct (y 0) (y 1) : ℝ) : EReal) := by
  rw [outsAt0_B m c t h0]
  dsimp only
  unfold out0_B_9
  refine read_pieces (Val := Elt Ideal) (e := .bf16) _ _ _ (vec2 (gDu W bs wb g b u sv ct)) y ?_ (fun p hp => ?_)
  · apply cover0_B_9
  frame_out at hp
  simp only [List.mem_cons, List.not_mem_nil, or_false] at hp
  obtain rfl | rfl | rfl | rfl := hp
  · intro x
    obtain ⟨i, cc, rfl⟩ : ∃ (i : Fin 128) (cc : Fin 512), x = ix2 i cc := ⟨x 0, x 1, by funext a; match a with | 0 => rfl | 1 => rfl⟩
    have e := (wDu_apply B 3 384 rfl slices_S512x512_o384_0_S128x512 slices_S512x512_o384_0_S128x512 inb_S512x512_S128x512_384_0 inb_S4x256x128_S1x256x128_0_0_0 inb_S4x256x128_S1x256x128_1_0_0 inb_S4x256x128_S1x256x128_2_0_0 inb_S4x256x128_S1x256x128_3_0_0 i cc).trans
      (congrArg (fun r : ℝ => (r : EReal)) (gDu_br 3 i cc).symm)
    dsimp only
    refine (congrFun (g := cDu (wD 384 slices_S512x512_o384_0_S128x512 (iblk m c 2 t) (iblk m c 3 t)) (cMixed
        (bW (View.ld (iblk m c 6 t) (Rect.unit ![0, 0, 0] S1x256x128.size inb_S4x256x128_S1x256x128_0_0_0)))
        (bW (View.ld (iblk m c 6 t) (Rect.unit ![1, 0, 0] S1x256x128.size inb_S4x256x128_S1x256x128_1_0_0)))
        (bW (View.ld (iblk m c 6 t) (Rect.unit ![2, 0, 0] S1x256x128.size inb_S4x256x128_S1x256x128_2_0_0)))
        (bW (View.ld (iblk m c 6 t) (Rect.unit ![3, 0, 0] S1x256x128.size inb_S4x256x128_S1x256x128_3_0_0)))
        (shapeCast S128x512 (iblk m c 8 t) shapeCasts_S128x512_S128x512) (wV 384 slices_S512x512_o384_0_S128x512 (iblk m c 4 t) (iblk m c 5 t) (X0_1 m c t)))
        (bU (View.ld (X0_0 m c t) (Rect.unit ![384, 0] S128x512.size inb_S512x512_S128x512_384_0)))) ?_ (ix2 i cc)).trans (e.trans ?_)
    · rfl
    congr 2
    · exact Fin.ext (by show 128 * 3 + i.val = 384 + 1 * i.val; omega)
    · exact Fin.ext (by show cc.val = 0 + 1 * cc.val; omega)
  · intro x
    obtain ⟨i, cc, rfl⟩ : ∃ (i : Fin 128) (cc : Fin 512), x = ix2 i cc := ⟨x 0, x 1, by funext a; match a with | 0 => rfl | 1 => rfl⟩
    have e := (wDu_apply B 2 256 rfl slices_S512x512_o256_0_S128x512 slices_S512x512_o256_0_S128x512 inb_S512x512_S128x512_256_0 inb_S4x256x128_S1x256x128_0_0_0 inb_S4x256x128_S1x256x128_1_0_0 inb_S4x256x128_S1x256x128_2_0_0 inb_S4x256x128_S1x256x128_3_0_0 i cc).trans
      (congrArg (fun r : ℝ => (r : EReal)) (gDu_br 2 i cc).symm)
    dsimp only
    refine (congrFun (g := cDu (wD 256 slices_S512x512_o256_0_S128x512 (iblk m c 2 t) (iblk m c 3 t)) (cMixed
        (bW (View.ld (iblk m c 6 t) (Rect.unit ![0, 0, 0] S1x256x128.size inb_S4x256x128_S1x256x128_0_0_0)))
        (bW (View.ld (iblk m c 6 t) (Rect.unit ![1, 0, 0] S1x256x128.size inb_S4x256x128_S1x256x128_1_0_0)))
        (bW (View.ld (iblk m c 6 t) (Rect.unit ![2, 0, 0] S1x256x128.size inb_S4x256x128_S1x256x128_2_0_0)))
        (bW (View.ld (iblk m c 6 t) (Rect.unit ![3, 0, 0] S1x256x128.size inb_S4x256x128_S1x256x128_3_0_0)))
        (shapeCast S128x512 (iblk m c 8 t) shapeCasts_S128x512_S128x512) (wV 256 slices_S512x512_o256_0_S128x512 (iblk m c 4 t) (iblk m c 5 t) (X0_1 m c t)))
        (bU (View.ld (X0_0 m c t) (Rect.unit ![256, 0] S128x512.size inb_S512x512_S128x512_256_0)))) ?_ (ix2 i cc)).trans (e.trans ?_)
    · rfl
    congr 2
    · exact Fin.ext (by show 128 * 2 + i.val = 256 + 1 * i.val; omega)
    · exact Fin.ext (by show cc.val = 0 + 1 * cc.val; omega)
  · intro x
    obtain ⟨i, cc, rfl⟩ : ∃ (i : Fin 128) (cc : Fin 512), x = ix2 i cc := ⟨x 0, x 1, by funext a; match a with | 0 => rfl | 1 => rfl⟩
    have e := (wDu_apply B 1 128 rfl slices_S512x512_o128_0_S128x512 slices_S512x512_o128_0_S128x512 inb_S512x512_S128x512_128_0 inb_S4x256x128_S1x256x128_0_0_0 inb_S4x256x128_S1x256x128_1_0_0 inb_S4x256x128_S1x256x128_2_0_0 inb_S4x256x128_S1x256x128_3_0_0 i cc).trans
      (congrArg (fun r : ℝ => (r : EReal)) (gDu_br 1 i cc).symm)
    dsimp only
    refine (congrFun (g := cDu (wD 128 slices_S512x512_o128_0_S128x512 (iblk m c 2 t) (iblk m c 3 t)) (cMixed
        (bW (View.ld (iblk m c 6 t) (Rect.unit ![0, 0, 0] S1x256x128.size inb_S4x256x128_S1x256x128_0_0_0)))
        (bW (View.ld (iblk m c 6 t) (Rect.unit ![1, 0, 0] S1x256x128.size inb_S4x256x128_S1x256x128_1_0_0)))
        (bW (View.ld (iblk m c 6 t) (Rect.unit ![2, 0, 0] S1x256x128.size inb_S4x256x128_S1x256x128_2_0_0)))
        (bW (View.ld (iblk m c 6 t) (Rect.unit ![3, 0, 0] S1x256x128.size inb_S4x256x128_S1x256x128_3_0_0)))
        (shapeCast S128x512 (iblk m c 8 t) shapeCasts_S128x512_S128x512) (wV 128 slices_S512x512_o128_0_S128x512 (iblk m c 4 t) (iblk m c 5 t) (X0_1 m c t)))
        (bU (View.ld (X0_0 m c t) (Rect.unit ![128, 0] S128x512.size inb_S512x512_S128x512_128_0)))) ?_ (ix2 i cc)).trans (e.trans ?_)
    · rfl
    congr 2
    · exact Fin.ext (by show 128 * 1 + i.val = 128 + 1 * i.val; omega)
    · exact Fin.ext (by show cc.val = 0 + 1 * cc.val; omega)
  · intro x
    obtain ⟨i, cc, rfl⟩ : ∃ (i : Fin 128) (cc : Fin 512), x = ix2 i cc := ⟨x 0, x 1, by funext a; match a with | 0 => rfl | 1 => rfl⟩
    have e := (wDu_apply B 0 0 rfl slices_S512x512_o0_0_S128x512 slices_S512x512_o0_0_S128x512 inb_S512x512_S128x512_0_0 inb_S4x256x128_S1x256x128_0_0_0 inb_S4x256x128_S1x256x128_1_0_0 inb_S4x256x128_S1x256x128_2_0_0 inb_S4x256x128_S1x256x128_3_0_0 i cc).trans
      (congrArg (fun r : ℝ => (r : EReal)) (gDu_br 0 i cc).symm)
    dsimp only
    refine (congrFun (g := cDu (wD 0 slices_S512x512_o0_0_S128x512 (iblk m c 2 t) (iblk m c 3 t)) (cMixed
        (bW (View.ld (iblk m c 6 t) (Rect.unit ![0, 0, 0] S1x256x128.size inb_S4x256x128_S1x256x128_0_0_0)))
        (bW (View.ld (iblk m c 6 t) (Rect.unit ![1, 0, 0] S1x256x128.size inb_S4x256x128_S1x256x128_1_0_0)))
        (bW (View.ld (iblk m c 6 t) (Rect.unit ![2, 0, 0] S1x256x128.size inb_S4x256x128_S1x256x128_2_0_0)))
        (bW (View.ld (iblk m c 6 t) (Rect.unit ![3, 0, 0] S1x256x128.size inb_S4x256x128_S1x256x128_3_0_0)))
        (shapeCast S128x512 (iblk m c 8 t) shapeCasts_S128x512_S128x512) (wV 0 slices_S512x512_o0_0_S128x512 (iblk m c 4 t) (iblk m c 5 t) (X0_1 m c t)))
        (bU (View.ld (X0_0 m c t) (Rect.unit ![0, 0] S128x512.size inb_S512x512_S128x512_0_0)))) ?_ (ix2 i cc)).trans (e.trans ?_)
    · rfl
    congr 2
    · exact Fin.ext (by show 128 * 0 + i.val = 0 + 1 * i.val; omega)
    · exact Fin.ext (by show cc.val = 0 + 1 * cc.val; omega)

end Cert.KernelIdeal.Gen
-- ==== Proof.SguScratch.lean ====
/- The gradient of the layernorm's output on a block: what the kernel's scratch holds after its sixteen stores. -/
module

public import proofs.«01_k».proof.Proof.SguOut9

@[expose] public section

set_option maxRecDepth 16384
set_option synthInstance.maxSize 4096

noncomputable section

namespace Cert.KernelIdeal.Gen

open Idealize.ShloMosaic Idealize.ShloMosaic.TcCoe Idealize.SL.Sem
open Idealize.ShloMosaic.Tactic

section Words
variable {F : FTy → Type} [FloatOps F] [Named F]

/-- The sixteen stores, newest first. -/
def dvPieces (x0 : Vec F S512x512 .bf16) (x2 : Vec F S512x1024 .bf16) (x3 : Vec F S1024x512 .bf16) (x7 : Vec F S4x256x128 .bf16) :
    List (View.Piece (Elt F) S512x512 .f32) :=
  [⟨Rect.unit ![384, 384] ![128, 128] inb_S512x512_S128x128_384_384,
      (shapeCast S128x128 (cPair (bW (View.ld x7 (Rect.unit ![3, 0, 0] S1x256x128.size inb_S4x256x128_S1x256x128_3_0_0)))
        (extractStridedSlice S128x128 ![0, 384] (truncf .bf16 (cDm (wD 384 slices_S512x512_o384_0_S128x512 x2 x3) (bU (View.ld x0 (Rect.unit ![384, 0] S128x512.size inb_S512x512_S128x512_384_0)))) bitsLt_bf16_f32 : FVec F S128x512 .bf16) slices_S128x512_o0_384_S128x128)) shapeCasts_S128x128_S128x128 : FVec F S128x128 .f32)⟩,
    ⟨Rect.unit ![384, 256] ![128, 128] inb_S512x512_S128x128_384_256,
      (shapeCast S128x128 (cPair (bW (View.ld x7 (Rect.unit ![2, 0, 0] S1x256x128.size inb_S4x256x128_S1x256x128_2_0_0)))
        (extractStridedSlice S128x128 ![0, 256] (truncf .bf16 (cDm (wD 384 slices_S512x512_o384_0_S128x512 x2 x3) (bU (View.ld x0 (Rect.unit ![384, 0] S128x512.size inb_S512x512_S128x512_384_0)))) bitsLt_bf16_f32 : FVec F S128x512 .bf16) slices_S128x512_o0_256_S128x128)) shapeCasts_S128x128_S128x128 : FVec F S128x128 .f32)⟩,
    ⟨Rect.unit ![384, 128] ![128, 128] inb_S512x512_S128x128_384_128,
      (shapeCast S128x128 (cPair (bW (View.ld x7 (Rect.unit ![1, 0, 0] S1x256x128.size inb_S4x256x128_S1x256x128_1_0_0)))
        (extractStridedSlice S128x128 ![0, 128] (truncf .bf16 (cDm (wD 384 slices_S512x512_o384_0_S128x512 x2 x3) (bU (View.ld x0 (Rect.unit ![384, 0] S128x512.size inb_S512x512_S128x512_384_0)))) bitsLt_bf16_f32 : FVec F S128x512 .bf16) slices_S128x512_o0_128_S128x128)) shapeCasts_S128x128_S128x128 : FVec F S128x128 .f32)⟩,
    ⟨Rect.unit ![384, 0] ![128, 128] inb_S512x512_S128x128_384_0,
      (shapeCast S128x128 (cPair (bW (View.ld x7 (Rect.unit ![0, 0, 0] S1x256x128.size inb_S4x256x128_S1x256x128_0_0_0)))
        (extractStridedSlice S128x128 ![0, 0] (truncf .bf16 (cDm (wD 384 slices_S512x512_o384_0_S128x512 x2 x3) (bU (View.ld x0 (Rect.unit ![384, 0] S128x512.size inb_S512x512_S128x512_384_0)))) bitsLt_bf16_f32 : FVec F S128x512 .bf16) slices_S128x512_o0_0_S128x128)) shapeCasts_S128x128_S128x128 : FVec F S128x128 .f32)⟩,
    ⟨Rect.unit ![256, 384] ![128, 128] inb_S512x512_S128x128_256_384,
      (shapeCast S128x128 (cPair (bW (View.ld x7 (Rect.unit ![3, 0, 0] S1x256x128.size inb_S4x256x128_S1x256x128_3_0_0)))
        (extractStridedSlice S128x128 ![0, 384] (truncf .bf16 (cDm (wD 256 slices_S512x512_o256_0_S128x512 x2 x3) (bU (View.ld x0 (Rect.unit ![256, 0] S128x512.size inb_S512x512_S128x512_256_0)))) bitsLt_bf16_f32 : FVec F S128x512 .bf16) slices_S128x512_o0_384_S128x128)) shapeCasts_S128x128_S128x128 : FVec F S128x128 .f32)⟩,
    ⟨Rect.unit ![256, 256] ![128, 128] inb_S512x512_S128x128_256_256,
      (shapeCast S128x128 (cPair (bW (View.ld x7 (Rect.unit ![2, 0, 0] S1x256x128.size inb_S4x256x128_S1x256x128_2_0_0)))
        (extractStridedSlice S128x128 ![0, 256] (truncf .bf16 (cDm (wD 256 slices_S512x512_o256_0_S128x512 x2 x3) (bU (View.ld x0 (Rect.unit ![256, 0] S128x512.size inb_S512x512_S128x512_256_0)))) bitsLt_bf16_f32 : FVec F S128x512 .bf16) slices_S128x512_o0_256_S128x128)) shapeCasts_S128x128_S128x128 : FVec F S128x128 .f32)⟩,
    ⟨Rect.unit ![256, 128] ![128, 128] inb_S512x512_S128x128_256_128,
      (shapeCast S128x128 (cPair (bW (View.ld x7 (Rect.unit ![1, 0, 0] S1x256x128.size inb_S4x256x128_S1x256x128_1_0_0)))
        (extractStridedSlice S128x128 ![0, 128] (truncf .bf16 (cDm (wD 256 slices_S512x512_o256_0_S128x512 x2 x3) (bU (View.ld x0 (Rect.unit ![256, 0] S128x512.size inb_S512x512_S128x512_256_0)))) bitsLt_bf16_f32 : FVec F S128x512 .bf16) slices_S128x512_o0_128_S128x128)) shapeCasts_S128x128_S128x128 : FVec F S128x128 .f32)⟩,
    ⟨Rect.unit ![256, 0] ![128, 128] inb_S512x512_S128x128_256_0,
      (shapeCast S128x128 (cPair (bW (View.ld x7 (Rect.unit ![0, 0, 0] S1x256x128.size inb_S4x256x128_S1x256x128_0_0_0)))
        (extractStridedSlice S128x128 ![0, 0] (truncf .bf16 (cDm (wD 256 slices_S512x512_o256_0_S128x512 x2 x3) (bU (View.ld x0 (Rect.unit ![256, 0] S128x512.size inb_S512x512_S128x512_256_0)))) bitsLt_bf16_f32 : FVec F S128x512 .bf16) slices_S128x512_o0_0_S128x128)) shapeCasts_S128x128_S128x128 : FVec F S128x128 .f32)⟩,
    ⟨Rect.unit ![128, 384] ![128, 128] inb_S512x512_S128x128_128_384,
      (shapeCast S128x128 (cPair (bW (View.ld x7 (Rect.unit ![3, 0, 0] S1x256x128.size inb_S4x256x128_S1x256x128_3_0_0)))
        (extractStridedSlice S128x128 ![0, 384] (truncf .bf16 (cDm (wD 128 slices_S512x512_o128_0_S128x512 x2 x3) (bU (View.ld x0 (Rect.unit ![128, 0] S128x512.size inb_S512x512_S128x512_128_0)))) bitsLt_bf16_f32 : FVec F S128x512 .bf16) slices_S128x512_o0_384_S128x128)) shapeCasts_S128x128_S128x128 : FVec F S128x128 .f32)⟩,
    ⟨Rect.unit ![128, 256] ![128, 128] inb_S512x512_S128x128_128_256,
      (shapeCast S128x128 (cPair (bW (View.ld x7 (Rect.unit ![2, 0, 0] S1x256x128.size inb_S4x256x128_S1x256x128_2_0_0)))
        (extractStridedSlice S128x128 ![0, 256] (truncf .bf16 (cDm (wD 128 slices_S512x512_o128_0_S128x512 x2 x3) (bU (View.ld x0 (Rect.unit ![128, 0] S128x512.size inb_S512x512_S128x512_128_0)))) bitsLt_bf16_f32 : FVec F S128x512 .bf16) slices_S128x512_o0_256_S128x128)) shapeCasts_S128x128_S128x128 : FVec F S128x128 .f32)⟩,
    ⟨Rect.unit ![128, 128] ![128, 128] inb_S512x512_S128x128_128_128,
      (shapeCast S128x128 (cPair (bW (View.ld x7 (Rect.unit ![1, 0, 0] S1x256x128.size inb_S4x256x128_S1x256x128_1_0_0)))
        (extractStridedSlice S128x128 ![0, 128] (truncf .bf16 (cDm (wD 128 slices_S512x512_o128_0_S128x512 x2 x3) (bU (View.ld x0 (Rect.unit ![128, 0] S128x512.size inb_S512x512_S128x512_128_0)))) bitsLt_bf16_f32 : FVec F S128x512 .bf16) slices_S128x512_o0_128_S128x128)) shapeCasts_S128x128_S128x128 : FVec F S128x128 .f32)⟩,
    ⟨Rect.unit ![128, 0] ![128, 128] inb_S512x512_S128x128_128_0,
      (shapeCast S128x128 (cPair (bW (View.ld x7 (Rect.unit ![0, 0, 0] S1x256x128.size inb_S4x256x128_S1x256x128_0_0_0)))
        (extractStridedSlice S128x128 ![0, 0] (truncf .bf16 (cDm (wD 128 slices_S512x512_o128_0_S128x512 x2 x3) (bU (View.ld x0 (Rect.unit ![128, 0] S128x512.size inb_S512x512_S128x512_128_0)))) bitsLt_bf16_f32 : FVec F S128x512 .bf16) slices_S128x512_o0_0_S128x128)) shapeCasts_S128x128_S128x128 : FVec F S128x128 .f32)⟩,
    ⟨Rect.unit ![0, 384] ![128, 128] inb_S512x512_S128x128_0_384,
      (shapeCast S128x128 (cPair (bW (View.ld x7 (Rect.unit ![3, 0, 0] S1x256x128.size inb_S4x256x128_S1x256x128_3_0_0)))
        (extractStridedSlice S128x128 ![0, 384] (truncf .bf16 (cDm (wD 0 slices_S512x512_o0_0_S128x512 x2 x3) (bU (View.ld x0 (Rect.unit ![0, 0] S128x512.size inb_S512x512_S128x512_0_0)))) bitsLt_bf16_f32 : FVec F S128x512 .bf16) slices_S128x512_o0_384_S128x128)) shapeCasts_S128x128_S128x128 : FVec F S128x128 .f32)⟩,
    ⟨Rect.unit ![0, 256] ![128, 128] inb_S512x512_S128x128_0_256,
      (shapeCast S128x128 (cPair (bW (View.ld x7 (Rect.unit ![2, 0, 0] S1x256x128.size inb_S4x256x128_S1x256x128_2_0_0)))
        (extractStridedSlice S128x128 ![0, 256] (truncf .bf16 (cDm (wD 0 slices_S512x512_o0_0_S128x512 x2 x3) (bU (View.ld x0 (Rect.unit ![0, 0] S128x512.size inb_S512x512_S128x512_0_0)))) bitsLt_bf16_f32 : FVec F S128x512 .bf16) slices_S128x512_o0_256_S128x128)) shapeCasts_S128x128_S128x128 : FVec F S128x128 .f32)⟩,
    ⟨Rect.unit ![0, 128] ![128, 128] inb_S512x512_S128x128_0_128,
      (shapeCast S128x128 (cPair (bW (View.ld x7 (Rect.unit ![1, 0, 0] S1x256x128.size inb_S4x256x128_S1x256x128_1_0_0)))
        (extractStridedSlice S128x128 ![0, 128] (truncf .bf16 (cDm (wD 0 slices_S512x512_o0_0_S128x512 x2 x3) (bU (View.ld x0 (Rect.unit ![0, 0] S128x512.size inb_S512x512_S128x512_0_0)))) bitsLt_bf16_f32 : FVec F S128x512 .bf16) slices_S128x512_o0_128_S128x128)) shapeCasts_S128x128_S128x128 : FVec F S128x128 .f32)⟩,
    ⟨Rect.unit ![0, 0] ![128, 128] inb_S512x512_S128x128_0_0,
      (shapeCast S128x128 (cPair (bW (View.ld x7 (Rect.unit ![0, 0, 0] S1x256x128.size inb_S4x256x128_S1x256x128_0_0_0)))
        (extractStridedSlice S128x128 ![0, 0] (truncf .bf16 (cDm (wD 0 slices_S512x512_o0_0_S128x512 x2 x3) (bU (View.ld x0 (Rect.unit ![0, 0] S128x512.size inb_S512x512_S128x512_0_0)))) bitsLt_bf16_f32 : FVec F S128x512 .bf16) slices_S128x512_o0_0_S128x128)) shapeCasts_S128x128_S128x128 : FVec F S128x128 .f32)⟩]

/-- The scratch after them. -/
def dvBlk (x0 : Vec F S512x512 .bf16) (x2 : Vec F S512x1024 .bf16) (x3 : Vec F S1024x512 .bf16) (x7 : Vec F S4x256x128 .bf16) : FVec F S512x512 .f32 :=
  (View.whole cc0_scratch0).readCov (dvPieces x0 x2 x3 x7) (Rect.unit (s := S512x512) ![0, 0] ![512, 512] inb_S512x512_S512x512_0_0).toLoadRect

end Words

theorem dvPieces_cover (x0 : Vec Ideal S512x512 .bf16) (x2 : Vec Ideal S512x1024 .bf16) (x3 : Vec Ideal S1024x512 .bf16) (x7 : Vec Ideal S4x256x128 .bf16)
    (y : S512x512.Idx) : ∃ p ∈ dvPieces x0 x2 x3 x7, y ∈ p.1.set :=
  View.cover_of_tiledL (dvPieces x0 x2 x3 x7) S128x128.size (by sl_kernel_rfl) y

section Read

variable {x0 x1 : Vec Ideal S512x512 .bf16} {x2 : Vec Ideal S512x1024 .bf16} {x3 : Vec Ideal S1024x512 .bf16}
    {x4 x5 : Vec Ideal S1x512 .f32} {x6 x7 : Vec Ideal S4x256x128 .bf16} {x8 : Vec Ideal S128x512 .f32}
    {W : Fin 8 → Fin 128 → Fin 128 → ℝ} {bs : Fin 8 → Fin 128 → ℝ} {wb : Fin 512 → Fin 1024 → ℝ} {g b : Fin 512 → ℝ}
    {u sv : Fin 512 → Fin 512 → ℝ} {ct : Fin 512 → Fin 1024 → ℝ} (B : Blk x0 x1 x2 x3 x4 x5 x6 x7 x8 W bs wb g b u sv ct)
include B

/-- Its entries as a real function of the block. -/
def gDvn (W : Fin 8 → Fin 128 → Fin 128 → ℝ) (wb : Fin 512 → Fin 1024 → ℝ) (u : Fin 512 → Fin 512 → ℝ) (ct : Fin 512 → Fin 1024 → ℝ) (p c : Fin 512) : ℝ :=
  Sgu.dvn W wb (fun i => u (br (bwin p) i)) (fun i => ct (br (bwin p) i)) (boff p) c

omit B in
theorem gDvn_br (w : Fin 4) (i : Fin 128) (c : Fin 512) : gDvn W wb u ct (br w i) c
    = Sgu.dvn W wb (fun i => u (br w i)) (fun i => ct (br w i)) i c := by
  unfold gDvn; rw [bwin_br, boff_br]

theorem dvPiece_apply (w q : Fin 4) (o : ℕ) (ho : o = 128 * w.val) (o' : ℕ) (ho' : o' = 128 * q.val) (o'' : ℕ) (ho'' : o'' = q.val)
    (h : S512x512.Slices ![o, 0] S128x512) (h' : S128x512.Slices ![0, o'] S128x128) (inb i7) (inb' : ∀ a, (![o, o'] : Fin 2 → ℕ) a + (![128, 128] : Fin 2 → ℕ) a ≤ S512x512.size a)
    (x : S128x128.Idx) :
    (shapeCast S128x128 (cPair (bW (View.ld x7 (Rect.unit ![o'', 0, 0] S1x256x128.size i7)))
      (extractStridedSlice S128x128 ![0, o'] (truncf .bf16 (cDm (wD o h x2 x3) (bU (View.ld x0 (Rect.unit ![o, 0] S128x512.size inb)))) bitsLt_bf16_f32 : FVec Ideal S128x512 .bf16) h'))
      shapeCasts_S128x128_S128x128 : FVec Ideal S128x128 .f32) x
      = vec2 (gDvn W wb u ct) ((Rect.unit (s := S512x512) ![o, o'] ![128, 128] inb').emb x) := by
  obtain ⟨j, l, rfl⟩ : ∃ (j l : Fin 128), x = ix2 j l := ⟨x 0, x 1, by funext a; match a with | 0 => rfl | 1 => rfl⟩
  have e := (wDv_apply B w q o ho o' ho' o'' ho'' h h' inb i7 j l).trans (congrArg (fun r : ℝ => (r : EReal)) (gDvn_br w j (pl q l)).symm)
  refine Eq.trans (by pointwise) (e.trans ?_)
  unfold vec2
  congr 2
  · exact Fin.ext (by subst ho; show 128 * w.val + j.val = 128 * w.val + 1 * j.val; omega)
  · exact Fin.ext (by subst ho'; show 128 * q.val + l.val = 128 * q.val + 1 * l.val; omega)

theorem dvBlk_apply (p c : Fin 512) : dvBlk x0 x2 x3 x7 (ix2 p c) = ((gDvn W wb u ct p c : ℝ) : EReal) := by
  unfold dvBlk
  rw [View.readCov_eq_canon']
  refine (View.canon_apply_of_pieces (Val := Elt Ideal) (e := .f32) (vec2 (gDvn W wb u ct)) _ (fun pc hp => ?_) _ (dvPieces_cover x0 x2 x3 x7 _)).trans ?_
  · unfold dvPieces at hp
    simp only [List.mem_cons, List.not_mem_nil, or_false] at hp
    obtain rfl | rfl | rfl | rfl | rfl | rfl | rfl | rfl | rfl | rfl | rfl | rfl | rfl | rfl | rfl | rfl := hp
    · exact dvPiece_apply B 3 3 384 rfl 384 rfl 3 rfl _ _ _ _ inb_S512x512_S128x128_384_384
    · exact dvPiece_apply B 3 2 384 rfl 256 rfl 2 rfl _ _ _ _ inb_S512x512_S128x128_384_256
    · exact dvPiece_apply B 3 1 384 rfl 128 rfl 1 rfl _ _ _ _ inb_S512x512_S128x128_384_128
    · exact dvPiece_apply B 3 0 384 rfl 0 rfl 0 rfl _ _ _ _ inb_S512x512_S128x128_384_0
    · exact dvPiece_apply B 2 3 256 rfl 384 rfl 3 rfl _ _ _ _ inb_S512x512_S128x128_256_384
    · exact dvPiece_apply B 2 2 256 rfl 256 rfl 2 rfl _ _ _ _ inb_S512x512_S128x128_256_256
    · exact dvPiece_apply B 2 1 256 rfl 128 rfl 1 rfl _ _ _ _ inb_S512x512_S128x128_256_128
    · exact dvPiece_apply B 2 0 256 rfl 0 rfl 0 rfl _ _ _ _ inb_S512x512_S128x128_256_0
    · exact dvPiece_apply B 1 3 128 rfl 384 rfl 3 rfl _ _ _ _ inb_S512x512_S128x128_128_384
    · exact dvPiece_apply B 1 2 128 rfl 256 rfl 2 rfl _ _ _ _ inb_S512x512_S128x128_128_256
    · exact dvPiece_apply B 1 1 128 rfl 128 rfl 1 rfl _ _ _ _ inb_S512x512_S128x128_128_128
    · exact dvPiece_apply B 1 0 128 rfl 0 rfl 0 rfl _ _ _ _ inb_S512x512_S128x128_128_0
    · exact dvPiece_apply B 0 3 0 rfl 384 rfl 3 rfl _ _ _ _ inb_S512x512_S128x128_0_384
    · exact dvPiece_apply B 0 2 0 rfl 256 rfl 2 rfl _ _ _ _ inb_S512x512_S128x128_0_256
    · exact dvPiece_apply B 0 1 0 rfl 128 rfl 1 rfl _ _ _ _ inb_S512x512_S128x128_0_128
    · exact dvPiece_apply B 0 0 0 rfl 0 rfl 0 rfl _ _ _ _ inb_S512x512_S128x128_0_0
  · unfold vec2
    congr 2
    · exact Fin.ext (by show 0 + 1 * p.val = p.val; omega)
    · exact Fin.ext (by show 0 + 1 * c.val = c.val; omega)

end Read

end Cert.KernelIdeal.Gen
-- ==== Proof.SguSmall.lean ====
/- What a block adds to the blocks of the gradient of `sv` and of the small gradients. -/
module

public import proofs.«01_k».proof.Proof.SguScratch

@[expose] public section

set_option maxRecDepth 16384
set_option synthInstance.maxSize 4096

noncomputable section

namespace Cert.KernelIdeal.Gen

open Idealize.ShloMosaic Idealize.ShloMosaic.TcCoe Idealize.SL.Sem
open Idealize.ShloMosaic.Tactic

variable {x0 x1 : Vec Ideal S512x512 .bf16} {x2 : Vec Ideal S512x1024 .bf16} {x3 : Vec Ideal S1024x512 .bf16}
    {x4 x5 : Vec Ideal S1x512 .f32} {x6 x7 : Vec Ideal S4x256x128 .bf16} {x8 : Vec Ideal S128x512 .f32}
variable {W : Fin 8 → Fin 128 → Fin 128 → ℝ} {bs : Fin 8 → Fin 128 → ℝ} {wb : Fin 512 → Fin 1024 → ℝ} {g b : Fin 512 → ℝ}
    {u sv : Fin 512 → Fin 512 → ℝ} {ct : Fin 512 → Fin 1024 → ℝ}

theorem acc4_apply (old X0 X1 X2 X3 : FVec Ideal S128x512 .f32) (y : S128x512.Idx) :
    addf (shapeCast S128x512 old shapeCasts_S128x512_S128x512) (addf (addf (addf (addf (broadcast S128x512 (Scalar.ofBits .f32 0x00000000#32))
      X0) X1) X2) X3) y = old y + (X0 y + X1 y + X2 y + X3 y) := by
  pointwise

theorem accRow_apply (old : FVec Ideal S1x512 .f32) (r : FVec Ideal S512 .f32) (z : Fin 1) (cc : Fin 512) :
    addf (shapeCast S1x512 old shapeCasts_S1x512_S1x512) (shapeCast S1x512 r shapeCasts_S512_S1x512) (ix2 z cc)
      = old (ix2 z cc) + r (ix1 cc) := by
  pointwise

theorem accCol_apply (old : FVec Ideal S1x512 .f32) (X : FVec Ideal S512x512 .f32) (f : Fin 512 → ℝ) (z : Fin 1) (cc : Fin 512)
    (h : ∀ p, X (ix2 p cc) = ((f p : ℝ) : EReal)) :
    addf (shapeCast S1x512 old shapeCasts_S1x512_S1x512) (shapeCast S1x512 (cColSum X) shapeCasts_S512_S1x512) (ix2 z cc)
      = old (ix2 z cc) + ((∑ p : Fin 512, f p : ℝ) : EReal) := by
  refine (accRow_apply old (cColSum X) z cc).trans (congrArg (old (ix2 z cc) + ·) ?_)
  refine (cColSum_apply X cc).trans ?_
  rw [← Sgu.coe_sum]
  exact Finset.sum_congr rfl fun p _ => h p

/-- The block of the gradient of `sv`. -/
def gDsv (W : Fin 8 → Fin 128 → Fin 128 → ℝ) (wb : Fin 512 → Fin 1024 → ℝ) (g : Fin 512 → ℝ)
    (u sv : Fin 512 → Fin 512 → ℝ) (ct : Fin 512 → Fin 1024 → ℝ) (p c : Fin 512) : ℝ :=
  Sgu.dsvRow (sv p) (fun c => gDvn W wb u ct p c * g c) c

/-- A block's part of the gradient of the mixing bias, before the lanes of a group are summed. -/
def gDb (wb : Fin 512 → Fin 1024 → ℝ) (u : Fin 512 → Fin 512 → ℝ) (ct : Fin 512 → Fin 1024 → ℝ) (i : Fin 128) (c : Fin 512) : ℝ :=
  ∑ w : Fin 4, Sgu.dm wb (u (br w i)) (ct (br w i)) c

/-- A block's parts of the gradients of the layernorm's gain and bias. -/
def gDg (W : Fin 8 → Fin 128 → Fin 128 → ℝ) (wb : Fin 512 → Fin 1024 → ℝ)
    (u sv : Fin 512 → Fin 512 → ℝ) (ct : Fin 512 → Fin 1024 → ℝ) (c : Fin 512) : ℝ := ∑ p : Fin 512, gDvn W wb u ct p c * Sgu.xhat (sv p) c
def gDbeta (W : Fin 8 → Fin 128 → Fin 128 → ℝ) (wb : Fin 512 → Fin 1024 → ℝ)
    (u : Fin 512 → Fin 512 → ℝ) (ct : Fin 512 → Fin 1024 → ℝ) (c : Fin 512) : ℝ := ∑ p : Fin 512, gDvn W wb u ct p c

theorem gDsv_apply (B : Blk x0 x1 x2 x3 x4 x5 x6 x7 x8 W bs wb g b u sv ct) (p cc : Fin 512) :
    cDsv x4 (bS x1) (dvBlk x0 x2 x3 x7) (ix2 p cc)
      = ((gDsv W wb g u sv ct p cc : ℝ) : EReal) :=
  cDsv_apply _ p _ (bS_apply B p) _ g B.hg _ _ (fun c => dvBlk_apply B p c) cc

theorem db_apply (B : Blk x0 x1 x2 x3 x4 x5 x6 x7 x8 W bs wb g b u sv ct) (i : Fin 128) (cc : Fin 512) (old : FVec Ideal S128x512 .f32) :
    addf (shapeCast S128x512 old shapeCasts_S128x512_S128x512) (addf (addf (addf (addf (broadcast S128x512 (Scalar.ofBits .f32 0x00000000#32))
      (cDm (wD 0 slices_S512x512_o0_0_S128x512 x2 x3) (bU (View.ld x0 (Rect.unit ![0, 0] S128x512.size inb_S512x512_S128x512_0_0))))) (cDm (wD 128 slices_S512x512_o128_0_S128x512 x2 x3) (bU (View.ld x0 (Rect.unit ![128, 0] S128x512.size inb_S512x512_S128x512_128_0))))) (cDm (wD 256 slices_S512x512_o256_0_S128x512 x2 x3) (bU (View.ld x0 (Rect.unit ![256, 0] S128x512.size inb_S512x512_S128x512_256_0))))) (cDm (wD 384 slices_S512x512_o384_0_S128x512 x2 x3) (bU (View.ld x0 (Rect.unit ![384, 0] S128x512.size inb_S512x512_S128x512_384_0))))) (ix2 i cc) = old (ix2 i cc) + ((gDb wb u ct i cc : ℝ) : EReal) := by
  have e0 := wDm_apply B 0 0 rfl slices_S512x512_o0_0_S128x512 inb_S512x512_S128x512_0_0 i cc
  have e1 := wDm_apply B 1 128 rfl slices_S512x512_o128_0_S128x512 inb_S512x512_S128x512_128_0 i cc
  have e2 := wDm_apply B 2 256 rfl slices_S512x512_o256_0_S128x512 inb_S512x512_S128x512_256_0 i cc
  have e3 := wDm_apply B 3 384 rfl slices_S512x512_o384_0_S128x512 inb_S512x512_S128x512_384_0 i cc
  rw [acc4_apply, e0, e1, e2, e3, gDb, Fin.sum_univ_four]
  simp only [EReal.coe_add]

theorem dg_apply (B : Blk x0 x1 x2 x3 x4 x5 x6 x7 x8 W bs wb g b u sv ct) (z : Fin 1) (cc : Fin 512) (old : FVec Ideal S1x512 .f32) :
    addf (shapeCast S1x512 old shapeCasts_S1x512_S1x512) (shapeCast S1x512 (cColSum (mulf (dvBlk x0 x2 x3 x7)
      (cXhat (bS x1)))) shapeCasts_S512_S1x512) (ix2 z cc) = old (ix2 z cc) + ((gDg W wb u sv ct cc : ℝ) : EReal) := by
  refine accCol_apply old _ (fun p => gDvn W wb u ct p cc * Sgu.xhat (sv p) cc) z cc (fun p => ?_)
  show FloatOps.mulf (F := Ideal) (φ := .f32) _ _ = _
  rw [dvBlk_apply B, cXhat_apply _ p _ (bS_apply B p), EReal.coe_mul]
  rfl

theorem dbeta_apply (B : Blk x0 x1 x2 x3 x4 x5 x6 x7 x8 W bs wb g b u sv ct) (z : Fin 1) (cc : Fin 512) (old : FVec Ideal S1x512 .f32) :
    addf (shapeCast S1x512 old shapeCasts_S1x512_S1x512) (shapeCast S1x512 (cColSum (dvBlk x0 x2 x3 x7))
      shapeCasts_S512_S1x512) (ix2 z cc) = old (ix2 z cc) + ((gDbeta W wb u ct cc : ℝ) : EReal) := by
  exact accCol_apply old _ (fun p => gDvn W wb u ct p cc) z cc (fun p => dvBlk_apply B p cc)

end Cert.KernelIdeal.Gen
-- ==== Proof.SguOut15.lean ====
/- What the kernel leaves at one point of its grid in the block that holds both gradients transposed. -/
module

public import proofs.«01_k».proof.Proof.SguSmall
public import proofs.«01_k».proof.Proof.SguOut9

@[expose] public section

set_option maxRecDepth 16384
set_option synthInstance.maxSize 4096

noncomputable section

namespace Cert.KernelIdeal.Gen

open Idealize.ShloMosaic Idealize.ShloMosaic.TcCoe Idealize.SL.Sem
open Idealize.ShloMosaic.Tactic

theorem transW_apply (X : FVec Ideal S128x512 .bf16) (cc : Fin 512) (i : Fin 128) :
    transpose S512x128 [1, 0] X transposes_S128x512_p1_0_S512x128 (ix2 cc i) = X (ix2 i cc) := by
  pointwise

theorem transB_apply (X : FVec Ideal S512x512 .bf16) (cc p : Fin 512) :
    transpose S512x512 [1, 0] X transposes_S512x512_p1_0_S512x512 (ix2 cc p) = X (ix2 p cc) := by
  pointwise

variable (m : (ℓ : Loc nD τ sig) → Buf (Elt Ideal) ℓ)
variable {W : Fin 8 → Fin 128 → Fin 128 → ℝ} {bs : Fin 8 → Fin 128 → ℝ} {wb : Fin 512 → Fin 1024 → ℝ} {g b : Fin 512 → ℝ}
    {u sv : Fin 512 → Fin 512 → ℝ} {ct : Fin 512 → Fin 1024 → ℝ}

/-- Both gradients, one above the other, transposed. -/
def gT (W : Fin 8 → Fin 128 → Fin 128 → ℝ) (bs : Fin 8 → Fin 128 → ℝ) (wb : Fin 512 → Fin 1024 → ℝ) (g b : Fin 512 → ℝ)
    (u sv : Fin 512 → Fin 512 → ℝ) (ct : Fin 512 → Fin 1024 → ℝ) (r : Fin 1024) (p : Fin 512) : ℝ :=
  if h : r.val < 512 then gDu W bs wb g b u sv ct p ⟨r.val, h⟩ else gDsv W wb g u sv ct p ⟨r.val - 512, by omega⟩

theorem gT_lo (r : Fin 1024) (p c : Fin 512) (h : r.val = c.val) : gT W bs wb g b u sv ct r p = gDu W bs wb g b u sv ct p c := by
  unfold gT
  rw [dif_pos (by omega)]
  congr 1
  exact Fin.ext h

theorem gT_hi (r : Fin 1024) (p c : Fin 512) (h : r.val = 512 + c.val) : gT W bs wb g b u sv ct r p = gDsv W wb g u sv ct p c := by
  unfold gT
  rw [dif_neg (by omega)]
  congr 1
  exact Fin.ext (by show r.val - 512 = c.val; omega)

/-- The embedded reals as a block. -/
def vecT (f : Fin 1024 → Fin 512 → ℝ) : S1024x512.Idx → EReal := fun y => ((f (y 0) (y 1) : ℝ) : EReal)

theorem out15_A (c : Dev nD) (t : Fin cfg0.N) (h0 : t.val % 8 = 0) (B : BlkAt m c t W bs wb g b u sv ct) (y : S1024x512.Idx) :
    (outsAt0 m c t.val t.isLt).2.2.2.2.2.2 y = ((gT W bs wb g b u sv ct (y 0) (y 1) : ℝ) : EReal) := by
  rw [outsAt0_A m c t h0]
  dsimp only
  unfold out0_A_15
  refine read_pieces (Val := Elt Ideal) (e := .bf16) _ _ _ (vecT (gT W bs wb g b u sv ct)) y ?_ (fun p hp => ?_)
  · apply cover0_A_15
  frame_out at hp
  simp only [List.mem_cons, List.not_mem_nil, or_false] at hp
  obtain rfl | rfl | rfl | rfl | rfl := hp
  · intro x
    obtain ⟨cc, p, rfl⟩ : ∃ (cc : Fin 512) (p : Fin 512), x = ix2 cc p := ⟨x 0, x 1, by funext a; match a with | 0 => rfl | 1 => rfl⟩
    have e := (transB_apply (cDsv (iblk m c 4 t) (bS (X0_1 m c t)) (dvBlk (X0_0 m c t) (iblk m c 2 t) (iblk m c 3 t) (iblk m c 7 t))) cc p).trans (gDsv_apply B p cc)
    dsimp only
    refine Eq.trans ?_ (e.trans ?_)
    · exact congrFun (by rfl) (ix2 cc p)
    · refine congrArg (fun r : ℝ => (r : EReal)) ((gT_hi _ _ cc ?_).trans (congrArg (fun p => gDsv W wb g u sv ct p cc) (Fin.ext ?_))).symm
      · show 512 + 1 * cc.val = 512 + cc.val; omega
      · show 0 + 1 * p.val = p.val; omega
  · intro x
    obtain ⟨cc, i, rfl⟩ : ∃ (cc : Fin 512) (i : Fin 128), x = ix2 cc i := ⟨x 0, x 1, by funext a; match a with | 0 => rfl | 1 => rfl⟩
    have e := (transW_apply _ cc i).trans ((wDu_apply B 3 384 rfl slices_S512x512_o384_0_S128x512 slices_S512x512_o384_0_S128x512 inb_S512x512_S128x512_384_0 inb_S4x256x128_S1x256x128_0_0_0 inb_S4x256x128_S1x256x128_1_0_0 inb_S4x256x128_S1x256x128_2_0_0 inb_S4x256x128_S1x256x128_3_0_0 i cc).trans
      (congrArg (fun r : ℝ => (r : EReal)) (gDu_br 3 i cc).symm))
    dsimp only
    refine Eq.trans ?_ (e.trans ?_)
    · exact congrFun (by rfl) (ix2 cc i)
    · refine congrArg (fun r : ℝ => (r : EReal)) ((gT_lo _ _ cc ?_).trans (congrArg (fun p => gDu W bs wb g b u sv ct p cc) (Fin.ext ?_))).symm
      · show 0 + 1 * cc.val = cc.val; omega
      · show 384 + 1 * i.val = 128 * 3 + i.val; omega
  · intro x
    obtain ⟨cc, i, rfl⟩ : ∃ (cc : Fin 512) (i : Fin 128), x = ix2 cc i := ⟨x 0, x 1, by funext a; match a with | 0 => rfl | 1 => rfl⟩
    have e := (transW_apply _ cc i).trans ((wDu_apply B 2 256 rfl slices_S512x512_o256_0_S128x512 slices_S512x512_o256_0_S128x512 inb_S512x512_S128x512_256_0 inb_S4x256x128_S1x256x128_0_0_0 inb_S4x256x128_S1x256x128_1_0_0 inb_S4x256x128_S1x256x128_2_0_0 inb_S4x256x128_S1x256x128_3_0_0 i cc).trans
      (congrArg (fun r : ℝ => (r : EReal)) (gDu_br 2 i cc).symm))
    dsimp only
    refine Eq.trans ?_ (e.trans ?_)
    · exact congrFun (by rfl) (ix2 cc i)
    · refine congrArg (fun r : ℝ => (r : EReal)) ((gT_lo _ _ cc ?_).trans (congrArg (fun p => gDu W bs wb g b u sv ct p cc) (Fin.ext ?_))).symm
      · show 0 + 1 * cc.val = cc.val; omega
      · show 256 + 1 * i.val = 128 * 2 + i.val; omega
  · intro x
    obtain ⟨cc, i, rfl⟩ : ∃ (cc : Fin 512) (i : Fin 128), x = ix2 cc i := ⟨x 0, x 1, by funext a; match a with | 0 => rfl | 1 => rfl⟩
    have e := (transW_apply _ cc i).trans ((wDu_apply B 1 128 rfl slices_S512x512_o128_0_S128x512 slices_S512x512_o128_0_S128x512 inb_S512x512_S128x512_128_0 inb_S4x256x128_S1x256x128_0_0_0 inb_S4x256x128_S1x256x128_1_0_0 inb_S4x256x128_S1x256x128_2_0_0 inb_S4x256x128_S1x256x128_3_0_0 i cc).trans
      (congrArg (fun r : ℝ => (r : EReal)) (gDu_br 1 i cc).symm))
    dsimp only
    refine Eq.trans ?_ (e.trans ?_)
    · exact congrFun (by rfl) (ix2 cc i)
    · refine congrArg (fun r : ℝ => (r : EReal)) ((gT_lo _ _ cc ?_).trans (congrArg (fun p => gDu W bs wb g b u sv ct p cc) (Fin.ext ?_))).symm
      · show 0 + 1 * cc.val = cc.val; omega
      · show 128 + 1 * i.val = 128 * 1 + i.val; omega
  · intro x
    obtain ⟨cc, i, rfl⟩ : ∃ (cc : Fin 512) (i : Fin 128), x = ix2 cc i := ⟨x 0, x 1, by funext a; match a with | 0 => rfl | 1 => rfl⟩
    have e := (transW_apply _ cc i).trans ((wDu_apply B 0 0 rfl slices_S512x512_o0_0_S128x512 slices_S512x512_o0_0_S128x512 inb_S512x512_S128x512_0_0 inb_S4x256x128_S1x256x128_0_0_0 inb_S4x256x128_S1x256x128_1_0_0 inb_S4x256x128_S1x256x128_2_0_0 inb_S4x256x128_S1x256x128_3_0_0 i cc).trans
      (congrArg (fun r : ℝ => (r : EReal)) (gDu_br 0 i cc).symm))
    dsimp only
    refine Eq.trans ?_ (e.trans ?_)
    · exact congrFun (by rfl) (ix2 cc i)
    · refine congrArg (fun r : ℝ => (r : EReal)) ((gT_lo _ _ cc ?_).trans (congrArg (fun p => gDu W bs wb g b u sv ct p cc) (Fin.ext ?_))).symm
      · show 0 + 1 * cc.val = cc.val; omega
      · show 0 + 1 * i.val = 128 * 0 + i.val; omega

theorem out15_B (c : Dev nD) (t : Fin cfg0.N) (h0 : ¬t.val % 8 = 0) (B : BlkAt m c t W bs wb g b u sv ct) (y : S1024x512.Idx) :
    (outsAt0 m c t.val t.isLt).2.2.2.2.2.2 y = ((gT W bs wb g b u sv ct (y 0) (y 1) : ℝ) : EReal) := by
  rw [outsAt0_B m c t h0]
  dsimp only
  unfold out0_B_15
  refine read_pieces (Val := Elt Ideal) (e := .bf16) _ _ _ (vecT (gT W bs wb g b u sv ct)) y ?_ (fun p hp => ?_)
  · apply cover0_B_15
  frame_out at hp
  simp only [List.mem_cons, List.not_mem_nil, or_false] at hp
  obtain rfl | rfl | rfl | rfl | rfl := hp
  · intro x
    obtain ⟨cc, p, rfl⟩ : ∃ (cc : Fin 512) (p : Fin 512), x = ix2 cc p := ⟨x 0, x 1, by funext a; match a with | 0 => rfl | 1 => rfl⟩
    have e := (transB_apply (cDsv (iblk m c 4 t) (bS (X0_1 m c t)) (dvBlk (X0_0 m c t) (iblk m c 2 t) (iblk m c 3 t) (iblk m c 7 t))) cc p).trans (gDsv_apply B p cc)
    dsimp only
    refine Eq.trans ?_ (e.trans ?_)
    · exact congrFun (by rfl) (ix2 cc p)
    · refine congrArg (fun r : ℝ => (r : EReal)) ((gT_hi _ _ cc ?_).trans (congrArg (fun p => gDsv W wb g u sv ct p cc) (Fin.ext ?_))).symm
      · show 512 + 1 * cc.val = 512 + cc.val; omega
      · show 0 + 1 * p.val = p.val; omega
  · intro x
    obtain ⟨cc, i, rfl⟩ : ∃ (cc : Fin 512) (i : Fin 128), x = ix2 cc i := ⟨x 0, x 1, by funext a; match a with | 0 => rfl | 1 => rfl⟩
    have e := (transW_apply _ cc i).trans ((wDu_apply B 3 384 rfl slices_S512x512_o384_0_S128x512 slices_S512x512_o384_0_S128x512 inb_S512x512_S128x512_384_0 inb_S4x256x128_S1x256x128_0_0_0 inb_S4x256x128_S1x256x128_1_0_0 inb_S4x256x128_S1x256x128_2_0_0 inb_S4x256x128_S1x256x128_3_0_0 i cc).trans
      (congrArg (fun r : ℝ => (r : EReal)) (gDu_br 3 i cc).symm))
    dsimp only
    refine Eq.trans ?_ (e.trans ?_)
    · exact congrFun (by rfl) (ix2 cc i)
    · refine congrArg (fun r : ℝ => (r : EReal)) ((gT_lo _ _ cc ?_).trans (congrArg (fun p => gDu W bs wb g b u sv ct p cc) (Fin.ext ?_))).symm
      · show 0 + 1 * cc.val = cc.val; omega
      · show 384 + 1 * i.val = 128 * 3 + i.val; omega
  · intro x
    obtain ⟨cc, i, rfl⟩ : ∃ (cc : Fin 512) (i : Fin 128), x = ix2 cc i := ⟨x 0, x 1, by funext a; match a with | 0 => rfl | 1 => rfl⟩
    have e := (transW_apply _ cc i).trans ((wDu_apply B 2 256 rfl slices_S512x512_o256_0_S128x512 slices_S512x512_o256_0_S128x512 inb_S512x512_S128x512_256_0 inb_S4x256x128_S1x256x128_0_0_0 inb_S4x256x128_S1x256x128_1_0_0 inb_S4x256x128_S1x256x128_2_0_0 inb_S4x256x128_S1x256x128_3_0_0 i cc).trans
      (congrArg (fun r : ℝ => (r : EReal)) (gDu_br 2 i cc).symm))
    dsimp only
    refine Eq.trans ?_ (e.trans ?_)
    · exact congrFun (by rfl) (ix2 cc i)
    · refine congrArg (fun r : ℝ => (r : EReal)) ((gT_lo _ _ cc ?_).trans (congrArg (fun p => gDu W bs wb g b u sv ct p cc) (Fin.ext ?_))).symm
      · show 0 + 1 * cc.val = cc.val; omega
      · show 256 + 1 * i.val = 128 * 2 + i.val; omega
  · intro x
    obtain ⟨cc, i, rfl⟩ : ∃ (cc : Fin 512) (i : Fin 128), x = ix2 cc i := ⟨x 0, x 1, by funext a; match a with | 0 => rfl | 1 => rfl⟩
    have e := (transW_apply _ cc i).trans ((wDu_apply B 1 128 rfl slices_S512x512_o128_0_S128x512 slices_S512x512_o128_0_S128x512 inb_S512x512_S128x512_128_0 inb_S4x256x128_S1x256x128_0_0_0 inb_S4x256x128_S1x256x128_1_0_0 inb_S4x256x128_S1x256x128_2_0_0 inb_S4x256x128_S1x256x128_3_0_0 i cc).trans
      (congrArg (fun r : ℝ => (r : EReal)) (gDu_br 1 i cc).symm))
    dsimp only
    refine Eq.trans ?_ (e.trans ?_)
    · exact congrFun (by rfl) (ix2 cc i)
    · refine congrArg (fun r : ℝ => (r : EReal)) ((gT_lo _ _ cc ?_).trans (congrArg (fun p => gDu W bs wb g b u sv ct p cc) (Fin.ext ?_))).symm
      · show 0 + 1 * cc.val = cc.val; omega
      · show 128 + 1 * i.val = 128 * 1 + i.val; omega
  · intro x
    obtain ⟨cc, i, rfl⟩ : ∃ (cc : Fin 512) (i : Fin 128), x = ix2 cc i := ⟨x 0, x 1, by funext a; match a with | 0 => rfl | 1 => rfl⟩
    have e := (transW_apply _ cc i).trans ((wDu_apply B 0 0 rfl slices_S512x512_o0_0_S128x512 slices_S512x512_o0_0_S128x512 inb_S512x512_S128x512_0_0 inb_S4x256x128_S1x256x128_0_0_0 inb_S4x256x128_S1x256x128_1_0_0 inb_S4x256x128_S1x256x128_2_0_0 inb_S4x256x128_S1x256x128_3_0_0 i cc).trans
      (congrArg (fun r : ℝ => (r : EReal)) (gDu_br 0 i cc).symm))
    dsimp only
    refine Eq.trans ?_ (e.trans ?_)
    · exact congrFun (by rfl) (ix2 cc i)
    · refine congrArg (fun r : ℝ => (r : EReal)) ((gT_lo _ _ cc ?_).trans (congrArg (fun p => gDu W bs wb g b u sv ct p cc) (Fin.ext ?_))).symm
      · show 0 + 1 * cc.val = cc.val; omega
      · show 0 + 1 * i.val = 128 * 0 + i.val; omega

end Cert.KernelIdeal.Gen
-- ==== Proof.SguPair.lean ====
/- One store of the kernel into the gradient of the mixing matrices, and what it leaves there. -/
module

public import proofs.«01_k».proof.Proof.SguOut9

@[expose] public section

set_option maxRecDepth 16384
set_option synthInstance.maxSize 4096

noncomputable section

namespace Cert.KernelIdeal.Gen

open Idealize.ShloMosaic Idealize.ShloMosaic.TcCoe Idealize.SL.Sem
open Idealize.ShloMosaic.Tactic

theorem ix3_eq {x : S4x256x128.Idx} : ∃ (q : Fin 4) (r : Fin 256) (j : Fin 128), x = ix3 q r j :=
  ⟨x 0, x 1, x 2, by funext a; match a with | 0 => rfl | 1 => rfl | 2 => rfl⟩

/-- A window's part of a pair's gradient added to what is there. -/
def cDwStep (old : FVec Ideal S1x256x128 .f32) (d : FVec Ideal S256x128 .f32) : FVec Ideal S1x256x128 .f32 :=
  shapeCast S1x256x128 (addf (shapeCast S256x128 old shapeCasts_S1x256x128_S256x128) d) shapeCasts_S256x128_S1x256x128

theorem cDwStep_apply (old : FVec Ideal S1x256x128 .f32) (d : FVec Ideal S256x128 .f32) (r : Fin 256) (j : Fin 128) :
    cDwStep old d (ix3 0 r j) = old (ix3 0 r j) + d (ix2 r j) := by
  pointwise [cDwStep]

/-- The word for a window's part of a pair's gradient. -/
def wDw (o o' : ℕ) (h : S512x512.Slices ![o, 0] S128x512) (h' : S128x512.Slices ![0, o'] S128x128) (h'' : S512x512.Slices ![o, o'] S128x128)
    (inb : ∀ a, ![o, 0] a + S128x512.size a ≤ S512x512.size a) (x0 x1 : Vec Ideal S512x512 .bf16) (x2 : Vec Ideal S512x1024 .bf16) (x3 : Vec Ideal S1024x512 .bf16)
    (x4 x5 : Vec Ideal S1x512 .f32) : FVec Ideal S256x128 .f32 :=
  cDwPair (extractStridedSlice S128x128 ![0, o'] (truncf .bf16 (cDm (wD o h x2 x3) (bU (View.ld x0 (Rect.unit ![o, 0] S128x512.size inb)))) bitsLt_bf16_f32 : FVec Ideal S128x512 .bf16) h')
    (extractStridedSlice S128x128 ![o, o'] (cVn x4 x5 (bS x1)) h'')

theorem idx_pair (q : Fin 4) (inb : ∀ a, ![q.val, 0, 0] a + S1x256x128.size a ≤ S4x256x128.size a) (r : Fin 256) (j : Fin 128) :
    (Rect.unit (s := S4x256x128) ![q.val, 0, 0] S1x256x128.size inb).emb (ix3 0 r j) = ix3 q r j := by
  funext a
  match a with
  | 0 => exact Fin.ext (by show q.val + 1 * 0 = q.val; omega)
  | 1 => exact Fin.ext (by show 0 + 1 * r.val = r.val; omega)
  | 2 => exact Fin.ext (by show 0 + 1 * j.val = j.val; omega)

/-- A store of one pair changes that pair's entries. -/
theorem pair_apply (L : List (View.Piece (Elt Ideal) S4x256x128 .f32)) (o : Fin 3 → ℕ) (q : Fin 4) (ho : o = ![q.val, 0, 0])
    (inb : ∀ a, o a + S1x256x128.size a ≤ S4x256x128.size a) (pay : Vec Ideal S1x256x128 .f32) (q' : Fin 4) (r : Fin 256) (j : Fin 128) :
    View.canon ((⟨Rect.unit (s := S4x256x128) o S1x256x128.size inb, pay⟩ : View.Piece (Elt Ideal) S4x256x128 .f32) :: L) (ix3 q' r j)
      = if q' = q then pay (ix3 0 r j) else View.canon L (ix3 q' r j) := by
  subst ho
  by_cases h : q' = q
  · subst h
    rw [if_pos rfl, ← idx_pair q' inb r j]
    exact View.canon_cons_emb _ _ _ _
  · rw [if_neg h]
    refine View.canon_cons_of_not_mem _ L ?_
    intro hm
    have e := (Rect.mem_set_unit (inb := inb)).mp hm 0
    have e1 : q.val ≤ q'.val := e.1
    have e2 : q'.val < q.val + 1 := e.2
    exact h (Fin.ext (by omega))

/-- A store that adds to a pair what was read from it adds to that pair. -/
theorem step_apply (v : View sig .tc .vmem S4x256x128 .f32) (L : List (View.Piece (Elt Ideal) S4x256x128 .f32)) (o : Fin 3 → ℕ) (q : Fin 4) (ho : o = ![q.val, 0, 0])
    (inb : ∀ a, o a + S1x256x128.size a ≤ S4x256x128.size a) (pay : Vec Ideal S1x256x128 .f32) (d : FVec Ideal S256x128 .f32)
    (hp : pay = cDwStep (v.readCov L (Rect.unit (s := S4x256x128) o S1x256x128.size inb).toLoadRect) d) (q' : Fin 4) (r : Fin 256) (j : Fin 128) :
    View.canon ((⟨Rect.unit (s := S4x256x128) o S1x256x128.size inb, pay⟩ : View.Piece (Elt Ideal) S4x256x128 .f32) :: L) (ix3 q' r j)
      = View.canon L (ix3 q' r j) + if q' = q then d (ix2 r j) else 0 := by
  rw [pair_apply L o q ho inb pay q' r j]
  subst ho
  by_cases h : q' = q
  · subst h
    rw [if_pos rfl, if_pos rfl, hp, cDwStep_apply, View.readCov_eq_canon']
    exact congrArg (· + d (ix2 r j)) (congrArg (View.canon L) (idx_pair q' inb r j))
  · rw [if_neg h, if_neg h, add_zero]

/-- A store that adds to a pair what the block held. -/
theorem first_apply (x : Vec Ideal S4x256x128 .f32) (L : List (View.Piece (Elt Ideal) S4x256x128 .f32)) (o : Fin 3 → ℕ) (q : Fin 4) (ho : o = ![q.val, 0, 0])
    (inb : ∀ a, o a + S1x256x128.size a ≤ S4x256x128.size a) (pay : Vec Ideal S1x256x128 .f32) (d : FVec Ideal S256x128 .f32)
    (hp : pay = cDwStep (View.ld x (Rect.unit (s := S4x256x128) o S1x256x128.size inb)) d) (q' : Fin 4) (r : Fin 256) (j : Fin 128) :
    View.canon ((⟨Rect.unit (s := S4x256x128) o S1x256x128.size inb, pay⟩ : View.Piece (Elt Ideal) S4x256x128 .f32) :: L) (ix3 q' r j)
      = if q' = q then x (ix3 q' r j) + d (ix2 r j) else View.canon L (ix3 q' r j) := by
  rw [pair_apply L o q ho inb pay q' r j]
  subst ho
  by_cases h : q' = q
  · subst h
    rw [if_pos rfl, if_pos rfl, hp, cDwStep_apply]
    exact congrArg (· + d (ix2 r j)) (congrArg x (idx_pair q' inb r j))
  · rw [if_neg h, if_neg h]

/-- Sixteen additions, each to one pair, add four to each. -/
theorem sixteen (base : EReal) (D : Fin 4 → Fin 4 → EReal) (q : Fin 4) :
    base + (if q = 0 then D 0 0 else 0) + (if q = 1 then D 0 1 else 0) + (if q = 2 then D 0 2 else 0) + (if q = 3 then D 0 3 else 0)
      + (if q = 0 then D 1 0 else 0) + (if q = 1 then D 1 1 else 0) + (if q = 2 then D 1 2 else 0) + (if q = 3 then D 1 3 else 0)
      + (if q = 0 then D 2 0 else 0) + (if q = 1 then D 2 1 else 0) + (if q = 2 then D 2 2 else 0) + (if q = 3 then D 2 3 else 0)
      + (if q = 0 then D 3 0 else 0) + (if q = 1 then D 3 1 else 0) + (if q = 2 then D 3 2 else 0) + (if q = 3 then D 3 3 else 0)
      = base + (D 0 q + D 1 q + D 2 q + D 3 q) := by
  match q with
  | 0 => simp [← add_assoc]
  | 1 => simp [← add_assoc]
  | 2 => simp [← add_assoc]
  | 3 => simp [← add_assoc]

/-- Twelve additions after four first stores. -/
theorem twelve (x : EReal) (z : EReal) (D : Fin 4 → Fin 4 → EReal) (q : Fin 4) :
    (if q = 3 then x + D 0 3 else if q = 2 then x + D 0 2 else if q = 1 then x + D 0 1 else if q = 0 then x + D 0 0 else z)
      + (if q = 0 then D 1 0 else 0) + (if q = 1 then D 1 1 else 0) + (if q = 2 then D 1 2 else 0) + (if q = 3 then D 1 3 else 0)
      + (if q = 0 then D 2 0 else 0) + (if q = 1 then D 2 1 else 0) + (if q = 2 then D 2 2 else 0) + (if q = 3 then D 2 3 else 0)
      + (if q = 0 then D 3 0 else 0) + (if q = 1 then D 3 1 else 0) + (if q = 2 then D 3 2 else 0) + (if q = 3 then D 3 3 else 0)
      = x + (D 0 q + D 1 q + D 2 q + D 3 q) := by
  match q with
  | 0 => simp [← add_assoc]
  | 1 => simp [← add_assoc]
  | 2 => simp [← add_assoc]
  | 3 => simp [← add_assoc]

end Cert.KernelIdeal.Gen
-- ==== Proof.SguPairA.lean ====
/- The stores into the gradient of the mixing matrices, one after another, at the first point. -/
module

public import proofs.«01_k».proof.Proof.SguPair

@[expose] public section

set_option maxRecDepth 16384
set_option synthInstance.maxSize 4096

noncomputable section

namespace Cert.KernelIdeal.Gen

open Idealize.ShloMosaic Idealize.ShloMosaic.TcCoe Idealize.SL.Sem
open Idealize.ShloMosaic.Tactic

variable (c : Dev nD) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1x512 .f32) (harg6 : arg6.IsWhole) (arg12 : Memref sig .tc .vmem S4x256x128 .f32) (harg12 : arg12.IsWhole)
    (x0 x1 : Vec Ideal S512x512 .bf16) (x2 : Vec Ideal S512x1024 .bf16) (x3 : Vec Ideal S1024x512 .bf16) (x4 x5 : Vec Ideal S1x512 .f32) (xo11 : Vec Ideal S4x256x128 .f32)

theorem pairA_2 (q' : Fin 4) (r : Fin 256) (j : Fin 128) :
    View.canon (kernelRun0_A.sl.H11_2 c arg1 harg1 arg2 harg2 arg3 harg3 arg4 harg4 arg5 harg5 arg6 harg6 arg12 x0 x1 x2 x3 x4 x5) (ix3 q' r j) = View.canon (kernelRun0_A.sl.H11_1 (F := Ideal)) (ix3 q' r j)
      + if q' = 0 then wDw 0 0 slices_S512x512_o0_0_S128x512 slices_S128x512_o0_0_S128x128 slices_S512x512_o0_0_S128x128 inb_S512x512_S128x512_0_0 x0 x1 x2 x3 x4 x5 (ix2 r j) else 0 := by
  unfold kernelRun0_A.sl.H11_2
  refine step_apply arg12.view _ ![0, 0, 0] 0 rfl _ _ _ ?_ q' r j
  simp (disch := decide) only [kernelRun0_A.sl.r_2, kernelRun0_A.sl.r_11, kernelRun0_A.sl.v150, kernelRun0_A.sl.r_4, kernelRun0_A.sl.r_12, kernelRun0_A.sl.r_5, kernelRun0_A.sl.r_1, View.ld_unit_lit', View.readAt_eq_ld, Memref.IsWhole.read_unread]
  rfl

theorem pairA_3 (q' : Fin 4) (r : Fin 256) (j : Fin 128) :
    View.canon (kernelRun0_A.sl.H11_3 c arg1 harg1 arg2 harg2 arg3 harg3 arg4 harg4 arg5 harg5 arg6 harg6 arg12 x0 x1 x2 x3 x4 x5) (ix3 q' r j) = View.canon (kernelRun0_A.sl.H11_2 c arg1 harg1 arg2 harg2 arg3 harg3 arg4 harg4 arg5 harg5 arg6 harg6 arg12 x0 x1 x2 x3 x4 x5) (ix3 q' r j)
      + if q' = 1 then wDw 0 128 slices_S512x512_o0_0_S128x512 slices_S128x512_o0_128_S128x128 slices_S512x512_o0_128_S128x128 inb_S512x512_S128x512_0_0 x0 x1 x2 x3 x4 x5 (ix2 r j) else 0 := by
  unfold kernelRun0_A.sl.H11_3
  refine step_apply arg12.view _ ![1, 0, 0] 1 rfl _ _ _ ?_ q' r j
  simp (disch := decide) only [kernelRun0_A.sl.r_2, kernelRun0_A.sl.r_11, kernelRun0_A.sl.v172, kernelRun0_A.sl.r_4, kernelRun0_A.sl.r_12, kernelRun0_A.sl.r_5, kernelRun0_A.sl.r_21, kernelRun0_A.sl.r_1, View.ld_unit_lit', View.readAt_eq_ld, Memref.IsWhole.read_unread]
  rfl

theorem pairA_4 (q' : Fin 4) (r : Fin 256) (j : Fin 128) :
    View.canon (kernelRun0_A.sl.H11_4 c arg1 harg1 arg2 harg2 arg3 harg3 arg4 harg4 arg5 harg5 arg6 harg6 arg12 x0 x1 x2 x3 x4 x5) (ix3 q' r j) = View.canon (kernelRun0_A.sl.H11_3 c arg1 harg1 arg2 harg2 arg3 harg3 arg4 harg4 arg5 harg5 arg6 harg6 arg12 x0 x1 x2 x3 x4 x5) (ix3 q' r j)
      + if q' = 2 then wDw 0 256 slices_S512x512_o0_0_S128x512 slices_S128x512_o0_256_S128x128 slices_S512x512_o0_256_S128x128 inb_S512x512_S128x512_0_0 x0 x1 x2 x3 x4 x5 (ix2 r j) else 0 := by
  unfold kernelRun0_A.sl.H11_4
  refine step_apply arg12.view _ ![2, 0, 0] 2 rfl _ _ _ ?_ q' r j
  simp (disch := decide) only [kernelRun0_A.sl.r_2, kernelRun0_A.sl.r_11, kernelRun0_A.sl.r_4, kernelRun0_A.sl.r_12, kernelRun0_A.sl.v194, kernelRun0_A.sl.r_5, kernelRun0_A.sl.r_20, kernelRun0_A.sl.r_22, kernelRun0_A.sl.r_1, View.ld_unit_lit', View.readAt_eq_ld, Memref.IsWhole.read_unread]
  rfl

theorem pairA_5 (q' : Fin 4) (r : Fin 256) (j : Fin 128) :
    View.canon (kernelRun0_A.sl.H11_5 c arg1 harg1 arg2 harg2 arg3 harg3 arg4 harg4 arg5 harg5 arg6 harg6 arg12 x0 x1 x2 x3 x4 x5) (ix3 q' r j) = View.canon (kernelRun0_A.sl.H11_4 c arg1 harg1 arg2 harg2 arg3 harg3 arg4 harg4 arg5 harg5 arg6 harg6 arg12 x0 x1 x2 x3 x4 x5) (ix3 q' r j)
      + if q' = 3 then wDw 0 384 slices_S512x512_o0_0_S128x512 slices_S128x512_o0_384_S128x128 slices_S512x512_o0_384_S128x128 inb_S512x512_S128x512_0_0 x0 x1 x2 x3 x4 x5 (ix2 r j) else 0 := by
  unfold kernelRun0_A.sl.H11_5
  refine step_apply arg12.view _ ![3, 0, 0] 3 rfl _ _ _ ?_ q' r j
  simp (disch := decide) only [kernelRun0_A.sl.r_2, kernelRun0_A.sl.r_11, kernelRun0_A.sl.r_4, kernelRun0_A.sl.v216, kernelRun0_A.sl.r_12, kernelRun0_A.sl.r_5, kernelRun0_A.sl.r_20, kernelRun0_A.sl.r_1, View.ld_unit_lit', View.readAt_eq_ld, Memref.IsWhole.read_unread]
  rfl

theorem pairA_6 (q' : Fin 4) (r : Fin 256) (j : Fin 128) :
    View.canon (kernelRun0_A.sl.H11_6 c arg1 harg1 arg2 harg2 arg3 harg3 arg4 harg4 arg5 harg5 arg6 harg6 arg12 x0 x1 x2 x3 x4 x5) (ix3 q' r j) = View.canon (kernelRun0_A.sl.H11_5 c arg1 harg1 arg2 harg2 arg3 harg3 arg4 harg4 arg5 harg5 arg6 harg6 arg12 x0 x1 x2 x3 x4 x5) (ix3 q' r j)
      + if q' = 0 then wDw 128 0 slices_S512x512_o128_0_S128x512 slices_S128x512_o0_0_S128x128 slices_S512x512_o128_0_S128x128 inb_S512x512_S128x512_128_0 x0 x1 x2 x3 x4 x5 (ix2 r j) else 0 := by
  unfold kernelRun0_A.sl.H11_6
  refine step_apply arg12.view _ ![0, 0, 0] 0 rfl _ _ _ ?_ q' r j
  simp (disch := decide) only [kernelRun0_A.sl.r_10, kernelRun0_A.sl.r_24, kernelRun0_A.sl.r_32, kernelRun0_A.sl.r_2, kernelRun0_A.sl.r_4, kernelRun0_A.sl.r_5, kernelRun0_A.sl.r_23, kernelRun0_A.sl.v315, kernelRun0_A.sl.r_1, View.ld_unit_lit', View.readAt_eq_ld, Memref.IsWhole.read_unread]
  rfl

theorem pairA_7 (q' : Fin 4) (r : Fin 256) (j : Fin 128) :
    View.canon (kernelRun0_A.sl.H11_7 c arg1 harg1 arg2 harg2 arg3 harg3 arg4 harg4 arg5 harg5 arg6 harg6 arg12 x0 x1 x2 x3 x4 x5) (ix3 q' r j) = View.canon (kernelRun0_A.sl.H11_6 c arg1 harg1 arg2 harg2 arg3 harg3 arg4 harg4 arg5 harg5 arg6 harg6 arg12 x0 x1 x2 x3 x4 x5) (ix3 q' r j)
      + if q' = 1 then wDw 128 128 slices_S512x512_o128_0_S128x512 slices_S128x512_o0_128_S128x128 slices_S512x512_o128_128_S128x128 inb_S512x512_S128x512_128_0 x0 x1 x2 x3 x4 x5 (ix2 r j) else 0 := by
  unfold kernelRun0_A.sl.H11_7
  refine step_apply arg12.view _ ![1, 0, 0] 1 rfl _ _ _ ?_ q' r j
  simp (disch := decide) only [kernelRun0_A.sl.r_10, kernelRun0_A.sl.r_24, kernelRun0_A.sl.r_2, kernelRun0_A.sl.r_4, kernelRun0_A.sl.v337, kernelRun0_A.sl.r_5, kernelRun0_A.sl.r_23, kernelRun0_A.sl.r_1, kernelRun0_A.sl.r_31, View.ld_unit_lit', View.readAt_eq_ld, Memref.IsWhole.read_unread]
  rfl

theorem pairA_8 (q' : Fin 4) (r : Fin 256) (j : Fin 128) :
    View.canon (kernelRun0_A.sl.H11_8 c arg1 harg1 arg2 harg2 arg3 harg3 arg4 harg4 arg5 harg5 arg6 harg6 arg12 x0 x1 x2 x3 x4 x5) (ix3 q' r j) = View.canon (kernelRun0_A.sl.H11_7 c arg1 harg1 arg2 harg2 arg3 harg3 arg4 harg4 arg5 harg5 arg6 harg6 arg12 x0 x1 x2 x3 x4 x5) (ix3 q' r j)
      + if q' = 2 then wDw 128 256 slices_S512x512_o128_0_S128x512 slices_S128x512_o0_256_S128x128 slices_S512x512_o128_256_S128x128 inb_S512x512_S128x512_128_0 x0 x1 x2 x3 x4 x5 (ix2 r j) else 0 := by
  unfold kernelRun0_A.sl.H11_8
  refine step_apply arg12.view _ ![2, 0, 0] 2 rfl _ _ _ ?_ q' r j
  simp (disch := decide) only [kernelRun0_A.sl.r_10, kernelRun0_A.sl.r_24, kernelRun0_A.sl.v359, kernelRun0_A.sl.r_2, kernelRun0_A.sl.r_4, kernelRun0_A.sl.r_5, kernelRun0_A.sl.r_23, kernelRun0_A.sl.r_33, kernelRun0_A.sl.r_1, kernelRun0_A.sl.r_31, View.ld_unit_lit', View.readAt_eq_ld, Memref.IsWhole.read_unread]
  rfl

theorem pairA_9 (q' : Fin 4) (r : Fin 256) (j : Fin 128) :
    View.canon (kernelRun0_A.sl.H11_9 c arg1 harg1 arg2 harg2 arg3 harg3 arg4 harg4 arg5 harg5 arg6 harg6 arg12 x0 x1 x2 x3 x4 x5) (ix3 q' r j) = View.canon (kernelRun0_A.sl.H11_8 c arg1 harg1 arg2 harg2 arg3 harg3 arg4 harg4 arg5 harg5 arg6 harg6 arg12 x0 x1 x2 x3 x4 x5) (ix3 q' r j)
      + if q' = 3 then wDw 128 384 slices_S512x512_o128_0_S128x512 slices_S128x512_o0_384_S128x128 slices_S512x512_o128_384_S128x128 inb_S512x512_S128x512_128_0 x0 x1 x2 x3 x4 x5 (ix2 r j) else 0 := by
  unfold kernelRun0_A.sl.H11_9
  refine step_apply arg12.view _ ![3, 0, 0] 3 rfl _ _ _ ?_ q' r j
  simp (disch := decide) only [kernelRun0_A.sl.r_10, kernelRun0_A.sl.r_24, kernelRun0_A.sl.r_2, kernelRun0_A.sl.v381, kernelRun0_A.sl.r_4, kernelRun0_A.sl.r_5, kernelRun0_A.sl.r_36, kernelRun0_A.sl.r_23, kernelRun0_A.sl.cst_163, kernelRun0_A.sl.r_35, kernelRun0_A.sl.r_1, kernelRun0_A.sl.r_37, kernelRun0_A.sl.r_31, View.ld_unit_lit', View.readAt_eq_ld, Memref.IsWhole.read_unread]
  rfl

theorem pairA_10 (q' : Fin 4) (r : Fin 256) (j : Fin 128) :
    View.canon (kernelRun0_A.sl.H11_10 c arg1 harg1 arg2 harg2 arg3 harg3 arg4 harg4 arg5 harg5 arg6 harg6 arg12 x0 x1 x2 x3 x4 x5) (ix3 q' r j) = View.canon (kernelRun0_A.sl.H11_9 c arg1 harg1 arg2 harg2 arg3 harg3 arg4 harg4 arg5 harg5 arg6 harg6 arg12 x0 x1 x2 x3 x4 x5) (ix3 q' r j)
      + if q' = 0 then wDw 256 0 slices_S512x512_o256_0_S128x512 slices_S128x512_o0_0_S128x128 slices_S512x512_o256_0_S128x128 inb_S512x512_S128x512_256_0 x0 x1 x2 x3 x4 x5 (ix2 r j) else 0 := by
  unfold kernelRun0_A.sl.H11_10
  refine step_apply arg12.view _ ![0, 0, 0] 0 rfl _ _ _ ?_ q' r j
  simp (disch := decide) only [kernelRun0_A.sl.r_10, kernelRun0_A.sl.r_2, kernelRun0_A.sl.r_4, kernelRun0_A.sl.r_46, kernelRun0_A.sl.v480, kernelRun0_A.sl.r_5, kernelRun0_A.sl.r_38, kernelRun0_A.sl.r_39, kernelRun0_A.sl.r_1, View.ld_unit_lit', View.readAt_eq_ld, Memref.IsWhole.read_unread]
  rfl

theorem pairA_11 (q' : Fin 4) (r : Fin 256) (j : Fin 128) :
    View.canon (kernelRun0_A.sl.H11_11 c arg1 harg1 arg2 harg2 arg3 harg3 arg4 harg4 arg5 harg5 arg6 harg6 arg12 x0 x1 x2 x3 x4 x5) (ix3 q' r j) = View.canon (kernelRun0_A.sl.H11_10 c arg1 harg1 arg2 harg2 arg3 harg3 arg4 harg4 arg5 harg5 arg6 harg6 arg12 x0 x1 x2 x3 x4 x5) (ix3 q' r j)
      + if q' = 1 then wDw 256 128 slices_S512x512_o256_0_S128x512 slices_S128x512_o0_128_S128x128 slices_S512x512_o256_128_S128x128 inb_S512x512_S128x512_256_0 x0 x1 x2 x3 x4 x5 (ix2 r j) else 0 := by
  unfold kernelRun0_A.sl.H11_11
  refine step_apply arg12.view _ ![1, 0, 0] 1 rfl _ _ _ ?_ q' r j
  simp (disch := decide) only [kernelRun0_A.sl.r_10, kernelRun0_A.sl.r_45, kernelRun0_A.sl.r_2, kernelRun0_A.sl.r_50, kernelRun0_A.sl.r_4, kernelRun0_A.sl.v502, kernelRun0_A.sl.r_5, kernelRun0_A.sl.cst_163, kernelRun0_A.sl.r_49, kernelRun0_A.sl.r_48, kernelRun0_A.sl.r_38, kernelRun0_A.sl.r_39, kernelRun0_A.sl.r_1, View.ld_unit_lit', View.readAt_eq_ld, Memref.IsWhole.read_unread]
  rfl

theorem pairA_12 (q' : Fin 4) (r : Fin 256) (j : Fin 128) :
    View.canon (kernelRun0_A.sl.H11_12 c arg1 harg1 arg2 harg2 arg3 harg3 arg4 harg4 arg5 harg5 arg6 harg6 arg12 x0 x1 x2 x3 x4 x5) (ix3 q' r j) = View.canon (kernelRun0_A.sl.H11_11 c arg1 harg1 arg2 harg2 arg3 harg3 arg4 harg4 arg5 harg5 arg6 harg6 arg12 x0 x1 x2 x3 x4 x5) (ix3 q' r j)
      + if q' = 2 then wDw 256 256 slices_S512x512_o256_0_S128x512 slices_S128x512_o0_256_S128x128 slices_S512x512_o256_256_S128x128 inb_S512x512_S128x512_256_0 x0 x1 x2 x3 x4 x5 (ix2 r j) else 0 := by
  unfold kernelRun0_A.sl.H11_12
  refine step_apply arg12.view _ ![2, 0, 0] 2 rfl _ _ _ ?_ q' r j
  simp (disch := decide) only [kernelRun0_A.sl.r_10, kernelRun0_A.sl.r_45, kernelRun0_A.sl.v524, kernelRun0_A.sl.r_2, kernelRun0_A.sl.r_4, kernelRun0_A.sl.r_5, kernelRun0_A.sl.r_38, kernelRun0_A.sl.r_39, kernelRun0_A.sl.r_1, View.ld_unit_lit', View.readAt_eq_ld, Memref.IsWhole.read_unread]
  rfl

theorem pairA_13 (q' : Fin 4) (r : Fin 256) (j : Fin 128) :
    View.canon (kernelRun0_A.sl.H11_13 c arg1 harg1 arg2 harg2 arg3 harg3 arg4 harg4 arg5 harg5 arg6 harg6 arg12 x0 x1 x2 x3 x4 x5) (ix3 q' r j) = View.canon (kernelRun0_A.sl.H11_12 c arg1 harg1 arg2 harg2 arg3 harg3 arg4 harg4 arg5 harg5 arg6 harg6 arg12 x0 x1 x2 x3 x4 x5) (ix3 q' r j)
      + if q' = 3 then wDw 256 384 slices_S512x512_o256_0_S128x512 slices_S128x512_o0_384_S128x128 slices_S512x512_o256_384_S128x128 inb_S512x512_S128x512_256_0 x0 x1 x2 x3 x4 x5 (ix2 r j) else 0 := by
  unfold kernelRun0_A.sl.H11_13
  refine step_apply arg12.view _ ![3, 0, 0] 3 rfl _ _ _ ?_ q' r j
  simp (disch := decide) only [kernelRun0_A.sl.r_10, kernelRun0_A.sl.r_45, kernelRun0_A.sl.r_2, kernelRun0_A.sl.r_4, kernelRun0_A.sl.r_5, kernelRun0_A.sl.r_51, kernelRun0_A.sl.v546, kernelRun0_A.sl.r_38, kernelRun0_A.sl.r_39, kernelRun0_A.sl.r_1, View.ld_unit_lit', View.readAt_eq_ld, Memref.IsWhole.read_unread]
  rfl

theorem pairA_14 (q' : Fin 4) (r : Fin 256) (j : Fin 128) :
    View.canon (kernelRun0_A.sl.H11_14 c arg1 harg1 arg2 harg2 arg3 harg3 arg4 harg4 arg5 harg5 arg6 harg6 arg12 x0 x1 x2 x3 x4 x5) (ix3 q' r j) = View.canon (kernelRun0_A.sl.H11_13 c arg1 harg1 arg2 harg2 arg3 harg3 arg4 harg4 arg5 harg5 arg6 harg6 arg12 x0 x1 x2 x3 x4 x5) (ix3 q' r j)
      + if q' = 0 then wDw 384 0 slices_S512x512_o384_0_S128x512 slices_S128x512_o0_0_S128x128 slices_S512x512_o384_0_S128x128 inb_S512x512_S128x512_384_0 x0 x1 x2 x3 x4 x5 (ix2 r j) else 0 := by
  unfold kernelRun0_A.sl.H11_14
  refine step_apply arg12.view _ ![0, 0, 0] 0 rfl _ _ _ ?_ q' r j
  simp (disch := decide) only [kernelRun0_A.sl.r_10, kernelRun0_A.sl.r_2, kernelRun0_A.sl.r_4, kernelRun0_A.sl.r_57, kernelRun0_A.sl.r_5, kernelRun0_A.sl.r_54, kernelRun0_A.sl.v645, kernelRun0_A.sl.r_53, kernelRun0_A.sl.cst_292, kernelRun0_A.sl.r_1, View.ld_unit_lit', View.readAt_eq_ld, Memref.IsWhole.read_unread]
  rfl

theorem pairA_15 (q' : Fin 4) (r : Fin 256) (j : Fin 128) :
    View.canon (kernelRun0_A.sl.H11_15 c arg1 harg1 arg2 harg2 arg3 harg3 arg4 harg4 arg5 harg5 arg6 harg6 arg12 x0 x1 x2 x3 x4 x5) (ix3 q' r j) = View.canon (kernelRun0_A.sl.H11_14 c arg1 harg1 arg2 harg2 arg3 harg3 arg4 harg4 arg5 harg5 arg6 harg6 arg12 x0 x1 x2 x3 x4 x5) (ix3 q' r j)
      + if q' = 1 then wDw 384 128 slices_S512x512_o384_0_S128x512 slices_S128x512_o0_128_S128x128 slices_S512x512_o384_128_S128x128 inb_S512x512_S128x512_384_0 x0 x1 x2 x3 x4 x5 (ix2 r j) else 0 := by
  unfold kernelRun0_A.sl.H11_15
  refine step_apply arg12.view _ ![1, 0, 0] 1 rfl _ _ _ ?_ q' r j
  simp (disch := decide) only [kernelRun0_A.sl.r_10, kernelRun0_A.sl.r_2, kernelRun0_A.sl.v667, kernelRun0_A.sl.r_4, kernelRun0_A.sl.r_57, kernelRun0_A.sl.r_5, kernelRun0_A.sl.r_54, kernelRun0_A.sl.r_53, kernelRun0_A.sl.r_60, kernelRun0_A.sl.cst_292, kernelRun0_A.sl.r_1, View.ld_unit_lit', View.readAt_eq_ld, Memref.IsWhole.read_unread]
  rfl

theorem pairA_16 (q' : Fin 4) (r : Fin 256) (j : Fin 128) :
    View.canon (kernelRun0_A.sl.H11_16 c arg1 harg1 arg2 harg2 arg3 harg3 arg4 harg4 arg5 harg5 arg6 harg6 arg12 x0 x1 x2 x3 x4 x5) (ix3 q' r j) = View.canon (kernelRun0_A.sl.H11_15 c arg1 harg1 arg2 harg2 arg3 harg3 arg4 harg4 arg5 harg5 arg6 harg6 arg12 x0 x1 x2 x3 x4 x5) (ix3 q' r j)
      + if q' = 2 then wDw 384 256 slices_S512x512_o384_0_S128x512 slices_S128x512_o0_256_S128x128 slices_S512x512_o384_256_S128x128 inb_S512x512_S128x512_384_0 x0 x1 x2 x3 x4 x5 (ix2 r j) else 0 := by
  unfold kernelRun0_A.sl.H11_16
  refine step_apply arg12.view _ ![2, 0, 0] 2 rfl _ _ _ ?_ q' r j
  simp (disch := decide) only [kernelRun0_A.sl.r_10, kernelRun0_A.sl.r_2, kernelRun0_A.sl.r_4, kernelRun0_A.sl.r_57, kernelRun0_A.sl.r_5, kernelRun0_A.sl.r_54, kernelRun0_A.sl.r_62, kernelRun0_A.sl.r_53, kernelRun0_A.sl.r_59, kernelRun0_A.sl.v689, kernelRun0_A.sl.cst_292, kernelRun0_A.sl.r_1, View.ld_unit_lit', View.readAt_eq_ld, Memref.IsWhole.read_unread]
  rfl

end Cert.KernelIdeal.Gen
-- ==== Proof.SguPairB.lean ====
/- The stores into the gradient of the mixing matrices, one after another, at a later point. -/
module

public import proofs.«01_k».proof.Proof.SguPair

@[expose] public section

set_option maxRecDepth 16384
set_option synthInstance.maxSize 4096

noncomputable section

namespace Cert.KernelIdeal.Gen

open Idealize.ShloMosaic Idealize.ShloMosaic.TcCoe Idealize.SL.Sem
open Idealize.ShloMosaic.Tactic

variable (c : Dev nD) (arg1 : Memref sig .tc .vmem S512x512 .bf16) (harg1 : arg1.IsWhole) (arg2 : Memref sig .tc .vmem S512x512 .bf16) (harg2 : arg2.IsWhole) (arg3 : Memref sig .tc .vmem S512x1024 .bf16) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1x512 .f32) (harg6 : arg6.IsWhole) (arg12 : Memref sig .tc .vmem S4x256x128 .f32) (harg12 : arg12.IsWhole)
    (x0 x1 : Vec Ideal S512x512 .bf16) (x2 : Vec Ideal S512x1024 .bf16) (x3 : Vec Ideal S1024x512 .bf16) (x4 x5 : Vec Ideal S1x512 .f32) (xo11 : Vec Ideal S4x256x128 .f32)

theorem pairB_5 (q' : Fin 4) (r : Fin 256) (j : Fin 128) :
    View.canon (kernelRun0_B.sl.H11_5 c arg1 harg1 arg2 harg2 arg3 harg3 arg4 harg4 arg5 harg5 arg6 harg6 arg12 harg12 x0 x1 x2 x3 x4 x5 xo11) (ix3 q' r j) = View.canon (kernelRun0_B.sl.H11_4 c arg1 harg1 arg2 harg2 arg3 harg3 arg4 harg4 arg5 harg5 arg6 harg6 arg12 harg12 x0 x1 x2 x3 x4 x5 xo11) (ix3 q' r j)
      + if q' = 0 then wDw 128 0 slices_S512x512_o128_0_S128x512 slices_S128x512_o0_0_S128x128 slices_S512x512_o128_0_S128x128 inb_S512x512_S128x512_128_0 x0 x1 x2 x3 x4 x5 (ix2 r j) else 0 := by
  unfold kernelRun0_B.sl.H11_5
  refine step_apply arg12.view _ ![0, 0, 0] 0 rfl _ _ _ ?_ q' r j
  simp (disch := decide) only [kernelRun0_B.sl.r_4, kernelRun0_B.sl.r_32, kernelRun0_B.sl.r_1, kernelRun0_B.sl.r_10, kernelRun0_B.sl.v315, kernelRun0_B.sl.r_24, kernelRun0_B.sl.r_23, kernelRun0_B.sl.r_5, kernelRun0_B.sl.r_2, View.ld_unit_lit', View.readAt_eq_ld, Memref.IsWhole.read_unread]
  rfl

theorem pairB_6 (q' : Fin 4) (r : Fin 256) (j : Fin 128) :
    View.canon (kernelRun0_B.sl.H11_6 c arg1 harg1 arg2 harg2 arg3 harg3 arg4 harg4 arg5 harg5 arg6 harg6 arg12 harg12 x0 x1 x2 x3 x4 x5 xo11) (ix3 q' r j) = View.canon (kernelRun0_B.sl.H11_5 c arg1 harg1 arg2 harg2 arg3 harg3 arg4 harg4 arg5 harg5 arg6 harg6 arg12 harg12 x0 x1 x2 x3 x4 x5 xo11) (ix3 q' r j)
      + if q' = 1 then wDw 128 128 slices_S512x512_o128_0_S128x512 slices_S128x512_o0_128_S128x128 slices_S512x512_o128_128_S128x128 inb_S512x512_S128x512_128_0 x0 x1 x2 x3 x4 x5 (ix2 r j) else 0 := by
  unfold kernelRun0_B.sl.H11_6
  refine step_apply arg12.view _ ![1, 0, 0] 1 rfl _ _ _ ?_ q' r j
  simp (disch := decide) only [kernelRun0_B.sl.r_4, kernelRun0_B.sl.r_1, kernelRun0_B.sl.r_10, kernelRun0_B.sl.r_31, kernelRun0_B.sl.v337, kernelRun0_B.sl.r_24, kernelRun0_B.sl.r_23, kernelRun0_B.sl.r_5, kernelRun0_B.sl.r_2, View.ld_unit_lit', View.readAt_eq_ld, Memref.IsWhole.read_unread]
  rfl

theorem pairB_7 (q' : Fin 4) (r : Fin 256) (j : Fin 128) :
    View.canon (kernelRun0_B.sl.H11_7 c arg1 harg1 arg2 harg2 arg3 harg3 arg4 harg4 arg5 harg5 arg6 harg6 arg12 harg12 x0 x1 x2 x3 x4 x5 xo11) (ix3 q' r j) = View.canon (kernelRun0_B.sl.H11_6 c arg1 harg1 arg2 harg2 arg3 harg3 arg4 harg4 arg5 harg5 arg6 harg6 arg12 harg12 x0 x1 x2 x3 x4 x5 xo11) (ix3 q' r j)
      + if q' = 2 then wDw 128 256 slices_S512x512_o128_0_S128x512 slices_S128x512_o0_256_S128x128 slices_S512x512_o128_256_S128x128 inb_S512x512_S128x512_128_0 x0 x1 x2 x3 x4 x5 (ix2 r j) else 0 := by
  unfold kernelRun0_B.sl.H11_7
  refine step_apply arg12.view _ ![2, 0, 0] 2 rfl _ _ _ ?_ q' r j
  simp (disch := decide) only [kernelRun0_B.sl.r_33, kernelRun0_B.sl.r_4, kernelRun0_B.sl.r_1, kernelRun0_B.sl.r_10, kernelRun0_B.sl.r_31, kernelRun0_B.sl.r_24, kernelRun0_B.sl.r_23, kernelRun0_B.sl.r_5, kernelRun0_B.sl.r_2, kernelRun0_B.sl.v359, View.ld_unit_lit', View.readAt_eq_ld, Memref.IsWhole.read_unread]
  rfl

theorem pairB_8 (q' : Fin 4) (r : Fin 256) (j : Fin 128) :
    View.canon (kernelRun0_B.sl.H11_8 c arg1 harg1 arg2 harg2 arg3 harg3 arg4 harg4 arg5 harg5 arg6 harg6 arg12 harg12 x0 x1 x2 x3 x4 x5 xo11) (ix3 q' r j) = View.canon (kernelRun0_B.sl.H11_7 c arg1 harg1 arg2 harg2 arg3 harg3 arg4 harg4 arg5 harg5 arg6 harg6 arg12 harg12 x0 x1 x2 x3 x4 x5 xo11) (ix3 q' r j)
      + if q' = 3 then wDw 128 384 slices_S512x512_o128_0_S128x512 slices_S128x512_o0_384_S128x128 slices_S512x512_o128_384_S128x128 inb_S512x512_S128x512_128_0 x0 x1 x2 x3 x4 x5 (ix2 r j) else 0 := by
  unfold kernelRun0_B.sl.H11_8
  refine step_apply arg12.view _ ![3, 0, 0] 3 rfl _ _ _ ?_ q' r j
  simp (disch := decide) only [kernelRun0_B.sl.r_4, kernelRun0_B.sl.cst_163, kernelRun0_B.sl.r_1, kernelRun0_B.sl.r_10, kernelRun0_B.sl.r_31, kernelRun0_B.sl.v381, kernelRun0_B.sl.r_24, kernelRun0_B.sl.r_23, kernelRun0_B.sl.r_5, kernelRun0_B.sl.r_35, kernelRun0_B.sl.r_36, kernelRun0_B.sl.r_37, kernelRun0_B.sl.r_2, View.ld_unit_lit', View.readAt_eq_ld, Memref.IsWhole.read_unread]
  rfl

theorem pairB_9 (q' : Fin 4) (r : Fin 256) (j : Fin 128) :
    View.canon (kernelRun0_B.sl.H11_9 c arg1 harg1 arg2 harg2 arg3 harg3 arg4 harg4 arg5 harg5 arg6 harg6 arg12 harg12 x0 x1 x2 x3 x4 x5 xo11) (ix3 q' r j) = View.canon (kernelRun0_B.sl.H11_8 c arg1 harg1 arg2 harg2 arg3 harg3 arg4 harg4 arg5 harg5 arg6 harg6 arg12 harg12 x0 x1 x2 x3 x4 x5 xo11) (ix3 q' r j)
      + if q' = 0 then wDw 256 0 slices_S512x512_o256_0_S128x512 slices_S128x512_o0_0_S128x128 slices_S512x512_o256_0_S128x128 inb_S512x512_S128x512_256_0 x0 x1 x2 x3 x4 x5 (ix2 r j) else 0 := by
  unfold kernelRun0_B.sl.H11_9
  refine step_apply arg12.view _ ![0, 0, 0] 0 rfl _ _ _ ?_ q' r j
  simp (disch := decide) only [kernelRun0_B.sl.r_4, kernelRun0_B.sl.r_1, kernelRun0_B.sl.v480, kernelRun0_B.sl.r_10, kernelRun0_B.sl.r_39, kernelRun0_B.sl.r_5, kernelRun0_B.sl.r_2, kernelRun0_B.sl.r_46, kernelRun0_B.sl.r_38, View.ld_unit_lit', View.readAt_eq_ld, Memref.IsWhole.read_unread]
  rfl

theorem pairB_10 (q' : Fin 4) (r : Fin 256) (j : Fin 128) :
    View.canon (kernelRun0_B.sl.H11_10 c arg1 harg1 arg2 harg2 arg3 harg3 arg4 harg4 arg5 harg5 arg6 harg6 arg12 harg12 x0 x1 x2 x3 x4 x5 xo11) (ix3 q' r j) = View.canon (kernelRun0_B.sl.H11_9 c arg1 harg1 arg2 harg2 arg3 harg3 arg4 harg4 arg5 harg5 arg6 harg6 arg12 harg12 x0 x1 x2 x3 x4 x5 xo11) (ix3 q' r j)
      + if q' = 1 then wDw 256 128 slices_S512x512_o256_0_S128x512 slices_S128x512_o0_128_S128x128 slices_S512x512_o256_128_S128x128 inb_S512x512_S128x512_256_0 x0 x1 x2 x3 x4 x5 (ix2 r j) else 0 := by
  unfold kernelRun0_B.sl.H11_10
  refine step_apply arg12.view _ ![1, 0, 0] 1 rfl _ _ _ ?_ q' r j
  simp (disch := decide) only [kernelRun0_B.sl.r_4, kernelRun0_B.sl.cst_163, kernelRun0_B.sl.r_1, kernelRun0_B.sl.r_45, kernelRun0_B.sl.v502, kernelRun0_B.sl.r_10, kernelRun0_B.sl.r_49, kernelRun0_B.sl.r_39, kernelRun0_B.sl.r_48, kernelRun0_B.sl.r_50, kernelRun0_B.sl.r_5, kernelRun0_B.sl.r_2, kernelRun0_B.sl.r_38, View.ld_unit_lit', View.readAt_eq_ld, Memref.IsWhole.read_unread]
  rfl

theorem pairB_11 (q' : Fin 4) (r : Fin 256) (j : Fin 128) :
    View.canon (kernelRun0_B.sl.H11_11 c arg1 harg1 arg2 harg2 arg3 harg3 arg4 harg4 arg5 harg5 arg6 harg6 arg12 harg12 x0 x1 x2 x3 x4 x5 xo11) (ix3 q' r j) = View.canon (kernelRun0_B.sl.H11_10 c arg1 harg1 arg2 harg2 arg3 harg3 arg4 harg4 arg5 harg5 arg6 harg6 arg12 harg12 x0 x1 x2 x3 x4 x5 xo11) (ix3 q' r j)
      + if q' = 2 then wDw 256 256 slices_S512x512_o256_0_S128x512 slices_S128x512_o0_256_S128x128 slices_S512x512_o256_256_S128x128 inb_S512x512_S128x512_256_0 x0 x1 x2 x3 x4 x5 (ix2 r j) else 0 := by
  unfold kernelRun0_B.sl.H11_11
  refine step_apply arg12.view _ ![2, 0, 0] 2 rfl _ _ _ ?_ q' r j
  simp (disch := decide) only [kernelRun0_B.sl.r_4, kernelRun0_B.sl.r_1, kernelRun0_B.sl.r_45, kernelRun0_B.sl.r_10, kernelRun0_B.sl.r_39, kernelRun0_B.sl.v524, kernelRun0_B.sl.r_5, kernelRun0_B.sl.r_2, kernelRun0_B.sl.r_38, View.ld_unit_lit', View.readAt_eq_ld, Memref.IsWhole.read_unread]
  rfl

theorem pairB_12 (q' : Fin 4) (r : Fin 256) (j : Fin 128) :
    View.canon (kernelRun0_B.sl.H11_12 c arg1 harg1 arg2 harg2 arg3 harg3 arg4 harg4 arg5 harg5 arg6 harg6 arg12 harg12 x0 x1 x2 x3 x4 x5 xo11) (ix3 q' r j) = View.canon (kernelRun0_B.sl.H11_11 c arg1 harg1 arg2 harg2 arg3 harg3 arg4 harg4 arg5 harg5 arg6 harg6 arg12 harg12 x0 x1 x2 x3 x4 x5 xo11) (ix3 q' r j)
      + if q' = 3 then wDw 256 384 slices_S512x512_o256_0_S128x512 slices_S128x512_o0_384_S128x128 slices_S512x512_o256_384_S128x128 inb_S512x512_S128x512_256_0 x0 x1 x2 x3 x4 x5 (ix2 r j) else 0 := by
  unfold kernelRun0_B.sl.H11_12
  refine step_apply arg12.view _ ![3, 0, 0] 3 rfl _ _ _ ?_ q' r j
  simp (disch := decide) only [kernelRun0_B.sl.r_4, kernelRun0_B.sl.r_1, kernelRun0_B.sl.r_45, kernelRun0_B.sl.r_10, kernelRun0_B.sl.r_39, kernelRun0_B.sl.r_51, kernelRun0_B.sl.v546, kernelRun0_B.sl.r_5, kernelRun0_B.sl.r_2, kernelRun0_B.sl.r_38, View.ld_unit_lit', View.readAt_eq_ld, Memref.IsWhole.read_unread]
  rfl

theorem pairB_13 (q' : Fin 4) (r : Fin 256) (j : Fin 128) :
    View.canon (kernelRun0_B.sl.H11_13 c arg1 harg1 arg2 harg2 arg3 harg3 arg4 harg4 arg5 harg5 arg6 harg6 arg12 harg12 x0 x1 x2 x3 x4 x5 xo11) (ix3 q' r j) = View.canon (kernelRun0_B.sl.H11_12 c arg1 harg1 arg2 harg2 arg3 harg3 arg4 harg4 arg5 harg5 arg6 harg6 arg12 harg12 x0 x1 x2 x3 x4 x5 xo11) (ix3 q' r j)
      + if q' = 0 then wDw 384 0 slices_S512x512_o384_0_S128x512 slices_S128x512_o0_0_S128x128 slices_S512x512_o384_0_S128x128 inb_S512x512_S128x512_384_0 x0 x1 x2 x3 x4 x5 (ix2 r j) else 0 := by
  unfold kernelRun0_B.sl.H11_13
  refine step_apply arg12.view _ ![0, 0, 0] 0 rfl _ _ _ ?_ q' r j
  simp (disch := decide) only [kernelRun0_B.sl.r_4, kernelRun0_B.sl.cst_292, kernelRun0_B.sl.r_1, kernelRun0_B.sl.r_10, kernelRun0_B.sl.r_57, kernelRun0_B.sl.r_53, kernelRun0_B.sl.r_54, kernelRun0_B.sl.v645, kernelRun0_B.sl.r_5, kernelRun0_B.sl.r_2, View.ld_unit_lit', View.readAt_eq_ld, Memref.IsWhole.read_unread]
  rfl

theorem pairB_14 (q' : Fin 4) (r : Fin 256) (j : Fin 128) :
    View.canon (kernelRun0_B.sl.H11_14 c arg1 harg1 arg2 harg2 arg3 harg3 arg4 harg4 arg5 harg5 arg6 harg6 arg12 harg12 x0 x1 x2 x3 x4 x5 xo11) (ix3 q' r j) = View.canon (kernelRun0_B.sl.H11_13 c arg1 harg1 arg2 harg2 arg3 harg3 arg4 harg4 arg5 harg5 arg6 harg6 arg12 harg12 x0 x1 x2 x3 x4 x5 xo11) (ix3 q' r j)
      + if q' = 1 then wDw 384 128 slices_S512x512_o384_0_S128x512 slices_S128x512_o0_128_S128x128 slices_S512x512_o384_128_S128x128 inb_S512x512_S128x512_384_0 x0 x1 x2 x3 x4 x5 (ix2 r j) else 0 := by
  unfold kernelRun0_B.sl.H11_14
  refine step_apply arg12.view _ ![1, 0, 0] 1 rfl _ _ _ ?_ q' r j
  simp (disch := decide) only [kernelRun0_B.sl.r_4, kernelRun0_B.sl.cst_292, kernelRun0_B.sl.r_1, kernelRun0_B.sl.r_10, kernelRun0_B.sl.v667, kernelRun0_B.sl.r_57, kernelRun0_B.sl.r_53, kernelRun0_B.sl.r_54, kernelRun0_B.sl.r_5, kernelRun0_B.sl.r_60, kernelRun0_B.sl.r_2, View.ld_unit_lit', View.readAt_eq_ld, Memref.IsWhole.read_unread]
  rfl

theorem pairB_15 (q' : Fin 4) (r : Fin 256) (j : Fin 128) :
    View.canon (kernelRun0_B.sl.H11_15 c arg1 harg1 arg2 harg2 arg3 harg3 arg4 harg4 arg5 harg5 arg6 harg6 arg12 harg12 x0 x1 x2 x3 x4 x5 xo11) (ix3 q' r j) = View.canon (kernelRun0_B.sl.H11_14 c arg1 harg1 arg2 harg2 arg3 harg3 arg4 harg4 arg5 harg5 arg6 harg6 arg12 harg12 x0 x1 x2 x3 x4 x5 xo11) (ix3 q' r j)
      + if q' = 2 then wDw 384 256 slices_S512x512_o384_0_S128x512 slices_S128x512_o0_256_S128x128 slices_S512x512_o384_256_S128x128 inb_S512x512_S128x512_384_0 x0 x1 x2 x3 x4 x5 (ix2 r j) else 0 := by
  unfold kernelRun0_B.sl.H11_15
  refine step_apply arg12.view _ ![2, 0, 0] 2 rfl _ _ _ ?_ q' r j
  simp (disch := decide) only [kernelRun0_B.sl.v689, kernelRun0_B.sl.r_4, kernelRun0_B.sl.cst_292, kernelRun0_B.sl.r_1, kernelRun0_B.sl.r_10, kernelRun0_B.sl.r_57, kernelRun0_B.sl.r_53, kernelRun0_B.sl.r_54, kernelRun0_B.sl.r_5, kernelRun0_B.sl.r_62, kernelRun0_B.sl.r_2, kernelRun0_B.sl.r_59, View.ld_unit_lit', View.readAt_eq_ld, Memref.IsWhole.read_unread]
  rfl

theorem pairB_4 (q' : Fin 4) (r : Fin 256) (j : Fin 128) :
    View.canon (kernelRun0_B.sl.H11_4 c arg1 harg1 arg2 harg2 arg3 harg3 arg4 harg4 arg5 harg5 arg6 harg6 arg12 harg12 x0 x1 x2 x3 x4 x5 xo11) (ix3 q' r j)
      = if q' = 3 then xo11 (ix3 q' r j) + wDw 0 384 slices_S512x512_o0_0_S128x512 slices_S128x512_o0_384_S128x128 slices_S512x512_o0_384_S128x128 inb_S512x512_S128x512_0_0 x0 x1 x2 x3 x4 x5 (ix2 r j)
        else if q' = 2 then xo11 (ix3 q' r j) + wDw 0 256 slices_S512x512_o0_0_S128x512 slices_S128x512_o0_256_S128x128 slices_S512x512_o0_256_S128x128 inb_S512x512_S128x512_0_0 x0 x1 x2 x3 x4 x5 (ix2 r j)
        else if q' = 1 then xo11 (ix3 q' r j) + wDw 0 128 slices_S512x512_o0_0_S128x512 slices_S128x512_o0_128_S128x128 slices_S512x512_o0_128_S128x128 inb_S512x512_S128x512_0_0 x0 x1 x2 x3 x4 x5 (ix2 r j)
        else if q' = 0 then xo11 (ix3 q' r j) + wDw 0 0 slices_S512x512_o0_0_S128x512 slices_S128x512_o0_0_S128x128 slices_S512x512_o0_0_S128x128 inb_S512x512_S128x512_0_0 x0 x1 x2 x3 x4 x5 (ix2 r j)
        else View.canon [] (ix3 q' r j) := by
  unfold kernelRun0_B.sl.H11_4
  rw [first_apply xo11 _ ![3, 0, 0] 3 rfl _ _ (wDw 0 384 slices_S512x512_o0_0_S128x512 slices_S128x512_o0_384_S128x128 slices_S512x512_o0_384_S128x128 inb_S512x512_S128x512_0_0 x0 x1 x2 x3 x4 x5) ?_ q' r j, first_apply xo11 _ ![2, 0, 0] 2 rfl _ _ (wDw 0 256 slices_S512x512_o0_0_S128x512 slices_S128x512_o0_256_S128x128 slices_S512x512_o0_256_S128x128 inb_S512x512_S128x512_0_0 x0 x1 x2 x3 x4 x5) ?_ q' r j,
    first_apply xo11 _ ![1, 0, 0] 1 rfl _ _ (wDw 0 128 slices_S512x512_o0_0_S128x512 slices_S128x512_o0_128_S128x128 slices_S512x512_o0_128_S128x128 inb_S512x512_S128x512_0_0 x0 x1 x2 x3 x4 x5) ?_ q' r j, first_apply xo11 _ ![0, 0, 0] 0 rfl _ _ (wDw 0 0 slices_S512x512_o0_0_S128x512 slices_S128x512_o0_0_S128x128 slices_S512x512_o0_0_S128x128 inb_S512x512_S128x512_0_0 x0 x1 x2 x3 x4 x5) ?_ q' r j]
  all_goals
    simp (disch := decide) only [kernelRun0_B.sl.r_4, kernelRun0_B.sl.v172, kernelRun0_B.sl.r_1, kernelRun0_B.sl.r_22, kernelRun0_B.sl.r_11, kernelRun0_B.sl.v216, kernelRun0_B.sl.r_20, kernelRun0_B.sl.r_5, kernelRun0_B.sl.r_2, kernelRun0_B.sl.v194, kernelRun0_B.sl.r_12, kernelRun0_B.sl.r_21, View.ld_unit_lit', View.readAt_eq_ld, Memref.IsWhole.read_unread]
    rfl

end Cert.KernelIdeal.Gen
-- ==== Proof.SguOut11.lean ====
/- What the kernel leaves at one point of its grid in the gradient of the mixing matrices. -/
module

public import proofs.«01_k».proof.Proof.SguPairA
public import proofs.«01_k».proof.Proof.SguPairB
public import proofs.«01_k».proof.Proof.SguSmall

@[expose] public section

set_option maxRecDepth 16384
set_option synthInstance.maxSize 4096

noncomputable section

namespace Cert.KernelIdeal.Gen

open Idealize.ShloMosaic Idealize.ShloMosaic.TcCoe Idealize.SL.Sem
open Idealize.ShloMosaic.Tactic

variable {W : Fin 8 → Fin 128 → Fin 128 → ℝ} {bs : Fin 8 → Fin 128 → ℝ} {wb : Fin 512 → Fin 1024 → ℝ} {g b : Fin 512 → ℝ}
    {u sv : Fin 512 → Fin 512 → ℝ} {ct : Fin 512 → Fin 1024 → ℝ}

/-- A window's part of the gradient of a mixing matrix. -/
def gDwW (wb : Fin 512 → Fin 1024 → ℝ) (g b : Fin 512 → ℝ) (u sv : Fin 512 → Fin 512 → ℝ) (ct : Fin 512 → Fin 1024 → ℝ)
    (e : Fin 2) (i j : Fin 128) (w q : Fin 4) : ℝ :=
  Sgu.dW wb g b (fun i => u (br w i)) (fun i => sv (br w i)) (fun i => ct (br w i)) (pg q e) i j

/-- A block's part of it. -/
def gDw (wb : Fin 512 → Fin 1024 → ℝ) (g b : Fin 512 → ℝ) (u sv : Fin 512 → Fin 512 → ℝ) (ct : Fin 512 → Fin 1024 → ℝ)
    (e : Fin 2) (i j : Fin 128) (q : Fin 4) : ℝ := ∑ w : Fin 4, gDwW wb g b u sv ct e i j w q

/-- The row of a matrix of a pair. -/
def pr (e : Fin 2) (i : Fin 128) : Fin 256 := ⟨128 * e.val + i.val, by omega⟩

section
variable {x0 x1 : Vec Ideal S512x512 .bf16} {x2 : Vec Ideal S512x1024 .bf16} {x3 : Vec Ideal S1024x512 .bf16}
    {x4 x5 : Vec Ideal S1x512 .f32} {x6 x7 : Vec Ideal S4x256x128 .bf16} {x8 : Vec Ideal S128x512 .f32}
    (B : Blk x0 x1 x2 x3 x4 x5 x6 x7 x8 W bs wb g b u sv ct)
include B

theorem wDw_real (w q : Fin 4) (o : ℕ) (ho : o = 128 * w.val) (o' : ℕ) (ho' : o' = 128 * q.val)
    (h : S512x512.Slices ![o, 0] S128x512) (h' : S128x512.Slices ![0, o'] S128x128) (h'' : S512x512.Slices ![o, o'] S128x128) (inb)
    (e : Fin 2) (i j : Fin 128) :
    wDw o o' h h' h'' inb x0 x1 x2 x3 x4 x5 (ix2 (pr e i) j) = ((gDwW wb g b u sv ct e i j w q : ℝ) : EReal) :=
  wDw_apply B w q o ho o' ho' h h' h'' inb e i j
end

theorem gDw_coe (e : Fin 2) (i j : Fin 128) (q : Fin 4) :
    (((gDwW wb g b u sv ct e i j 0 q : ℝ) : EReal) + ((gDwW wb g b u sv ct e i j 1 q : ℝ) : EReal) + ((gDwW wb g b u sv ct e i j 2 q : ℝ) : EReal)
      + ((gDwW wb g b u sv ct e i j 3 q : ℝ) : EReal)) = ((gDw wb g b u sv ct e i j q : ℝ) : EReal) := by
  rw [gDw, Fin.sum_univ_four]
  simp only [EReal.coe_add]

variable (m : (ℓ : Loc nD τ sig) → Buf (Elt Ideal) ℓ)

theorem out11_A (c : Dev nD) (t : Fin cfg0.N) (h0 : t.val % 8 = 0) (B : BlkAt m c t W bs wb g b u sv ct) (q : Fin 4) (e : Fin 2) (i j : Fin 128) :
    (outsAt0 m c t.val t.isLt).2.2.1 (ix3 q (pr e i) j) = 0 + ((gDw wb g b u sv ct e i j q : ℝ) : EReal) := by
  rw [outsAt0_A m c t h0]
  dsimp only
  unfold out0_A_11
  rw [View.read_writes_junk_eq_canon]
  unfold kernelRun0_A
  dsimp only
  refine (step_apply (ms0_11 t).view _ ![3, 0, 0] 3 rfl _ _ (wDw 384 384 slices_S512x512_o384_0_S128x512 slices_S128x512_o0_384_S128x128 slices_S512x512_o384_384_S128x128 inb_S512x512_S128x512_384_0 (X0_0 m c t) (X0_1 m c t) (iblk m c 2 t) (iblk m c 3 t) (iblk m c 4 t) (iblk m c 5 t)) ?_ q (pr e i) j).trans ?_
  · simp (disch := decide) only [kernelRun0_A.sl.v711, kernelRun0_A.sl.r_10, kernelRun0_A.sl.r_2, kernelRun0_A.sl.r_4, kernelRun0_A.sl.r_57, kernelRun0_A.sl.r_5, kernelRun0_A.sl.r_54, kernelRun0_A.sl.r_53, kernelRun0_A.sl.r_59, kernelRun0_A.sl.cst_292, kernelRun0_A.sl.r_1, View.ld_unit_lit', View.readAt_eq_ld, Memref.IsWhole.read_unread]
    rfl
  rw [pairA_16, pairA_15, pairA_14, pairA_13, pairA_12, pairA_11, pairA_10, pairA_9, pairA_8, pairA_7, pairA_6, pairA_5, pairA_4, pairA_3, pairA_2]
  rw [wDw_real B 0 0 0 rfl 0 rfl slices_S512x512_o0_0_S128x512 slices_S128x512_o0_0_S128x128 slices_S512x512_o0_0_S128x128 inb_S512x512_S128x512_0_0 e i j, wDw_real B 0 1 0 rfl 128 rfl slices_S512x512_o0_0_S128x512 slices_S128x512_o0_128_S128x128 slices_S512x512_o0_128_S128x128 inb_S512x512_S128x512_0_0 e i j, wDw_real B 0 2 0 rfl 256 rfl slices_S512x512_o0_0_S128x512 slices_S128x512_o0_256_S128x128 slices_S512x512_o0_256_S128x128 inb_S512x512_S128x512_0_0 e i j, wDw_real B 0 3 0 rfl 384 rfl slices_S512x512_o0_0_S128x512 slices_S128x512_o0_384_S128x128 slices_S512x512_o0_384_S128x128 inb_S512x512_S128x512_0_0 e i j, wDw_real B 1 0 128 rfl 0 rfl slices_S512x512_o128_0_S128x512 slices_S128x512_o0_0_S128x128 slices_S512x512_o128_0_S128x128 inb_S512x512_S128x512_128_0 e i j, wDw_real B 1 1 128 rfl 128 rfl slices_S512x512_o128_0_S128x512 slices_S128x512_o0_128_S128x128 slices_S512x512_o128_128_S128x128 inb_S512x512_S128x512_128_0 e i j, wDw_real B 1 2 128 rfl 256 rfl slices_S512x512_o128_0_S128x512 slices_S128x512_o0_256_S128x128 slices_S512x512_o128_256_S128x128 inb_S512x512_S128x512_128_0 e i j, wDw_real B 1 3 128 rfl 384 rfl slices_S512x512_o128_0_S128x512 slices_S128x512_o0_384_S128x128 slices_S512x512_o128_384_S128x128 inb_S512x512_S128x512_128_0 e i j, wDw_real B 2 0 256 rfl 0 rfl slices_S512x512_o256_0_S128x512 slices_S128x512_o0_0_S128x128 slices_S512x512_o256_0_S128x128 inb_S512x512_S128x512_256_0 e i j, wDw_real B 2 1 256 rfl 128 rfl slices_S512x512_o256_0_S128x512 slices_S128x512_o0_128_S128x128 slices_S512x512_o256_128_S128x128 inb_S512x512_S128x512_256_0 e i j, wDw_real B 2 2 256 rfl 256 rfl slices_S512x512_o256_0_S128x512 slices_S128x512_o0_256_S128x128 slices_S512x512_o256_256_S128x128 inb_S512x512_S128x512_256_0 e i j, wDw_real B 2 3 256 rfl 384 rfl slices_S512x512_o256_0_S128x512 slices_S128x512_o0_384_S128x128 slices_S512x512_o256_384_S128x128 inb_S512x512_S128x512_256_0 e i j, wDw_real B 3 0 384 rfl 0 rfl slices_S512x512_o384_0_S128x512 slices_S128x512_o0_0_S128x128 slices_S512x512_o384_0_S128x128 inb_S512x512_S128x512_384_0 e i j, wDw_real B 3 1 384 rfl 128 rfl slices_S512x512_o384_0_S128x512 slices_S128x512_o0_128_S128x128 slices_S512x512_o384_128_S128x128 inb_S512x512_S128x512_384_0 e i j, wDw_real B 3 2 384 rfl 256 rfl slices_S512x512_o384_0_S128x512 slices_S128x512_o0_256_S128x128 slices_S512x512_o384_256_S128x128 inb_S512x512_S128x512_384_0 e i j, wDw_real B 3 3 384 rfl 384 rfl slices_S512x512_o384_0_S128x512 slices_S128x512_o0_384_S128x128 slices_S512x512_o384_384_S128x128 inb_S512x512_S128x512_384_0 e i j]
  refine (sixteen _ (fun w q => ((gDwW wb g b u sv ct e i j w q : ℝ) : EReal)) q).trans ?_
  congr 1
  · unfold kernelRun0_A.sl.H11_1
    simp (disch := decide) only [View.canon_cons_unit_lit']
    pointwise [k0_pay3]
  · exact gDw_coe e i j q

theorem out11_B (c : Dev nD) (t : Fin cfg0.N) (h0 : ¬t.val % 8 = 0) (B : BlkAt m c t W bs wb g b u sv ct) (q : Fin 4) (e : Fin 2) (i j : Fin 128) :
    (outsAt0 m c t.val t.isLt).2.2.1 (ix3 q (pr e i) j) = (outsAt0 m c (t.val - 1) (Nat.lt_of_le_of_lt (Nat.sub_le _ _) t.isLt)).2.2.1 (ix3 q (pr e i) j) + ((gDw wb g b u sv ct e i j q : ℝ) : EReal) := by
  rw [outsAt0_B m c t h0]
  dsimp only
  unfold out0_B_11
  rw [View.read_writes_junk_eq_canon]
  unfold kernelRun0_B
  dsimp only
  refine (step_apply (ms0_11 t).view _ ![3, 0, 0] 3 rfl _ _ (wDw 384 384 slices_S512x512_o384_0_S128x512 slices_S128x512_o0_384_S128x128 slices_S512x512_o384_384_S128x128 inb_S512x512_S128x512_384_0 (X0_0 m c t) (X0_1 m c t) (iblk m c 2 t) (iblk m c 3 t) (iblk m c 4 t) (iblk m c 5 t)) ?_ q (pr e i) j).trans ?_
  · simp (disch := decide) only [kernelRun0_B.sl.v711, kernelRun0_B.sl.r_4, kernelRun0_B.sl.cst_292, kernelRun0_B.sl.r_1, kernelRun0_B.sl.r_10, kernelRun0_B.sl.r_57, kernelRun0_B.sl.r_53, kernelRun0_B.sl.r_54, kernelRun0_B.sl.r_5, kernelRun0_B.sl.r_2, kernelRun0_B.sl.r_59, View.ld_unit_lit', View.readAt_eq_ld, Memref.IsWhole.read_unread]
    rfl
  rw [pairB_15, pairB_14, pairB_13, pairB_12, pairB_11, pairB_10, pairB_9, pairB_8, pairB_7, pairB_6, pairB_5, pairB_4]
  rw [wDw_real B 0 0 0 rfl 0 rfl slices_S512x512_o0_0_S128x512 slices_S128x512_o0_0_S128x128 slices_S512x512_o0_0_S128x128 inb_S512x512_S128x512_0_0 e i j, wDw_real B 0 1 0 rfl 128 rfl slices_S512x512_o0_0_S128x512 slices_S128x512_o0_128_S128x128 slices_S512x512_o0_128_S128x128 inb_S512x512_S128x512_0_0 e i j, wDw_real B 0 2 0 rfl 256 rfl slices_S512x512_o0_0_S128x512 slices_S128x512_o0_256_S128x128 slices_S512x512_o0_256_S128x128 inb_S512x512_S128x512_0_0 e i j, wDw_real B 0 3 0 rfl 384 rfl slices_S512x512_o0_0_S128x512 slices_S128x512_o0_384_S128x128 slices_S512x512_o0_384_S128x128 inb_S512x512_S128x512_0_0 e i j, wDw_real B 1 0 128 rfl 0 rfl slices_S512x512_o128_0_S128x512 slices_S128x512_o0_0_S128x128 slices_S512x512_o128_0_S128x128 inb_S512x512_S128x512_128_0 e i j, wDw_real B 1 1 128 rfl 128 rfl slices_S512x512_o128_0_S128x512 slices_S128x512_o0_128_S128x128 slices_S512x512_o128_128_S128x128 inb_S512x512_S128x512_128_0 e i j, wDw_real B 1 2 128 rfl 256 rfl slices_S512x512_o128_0_S128x512 slices_S128x512_o0_256_S128x128 slices_S512x512_o128_256_S128x128 inb_S512x512_S128x512_128_0 e i j, wDw_real B 1 3 128 rfl 384 rfl slices_S512x512_o128_0_S128x512 slices_S128x512_o0_384_S128x128 slices_S512x512_o128_384_S128x128 inb_S512x512_S128x512_128_0 e i j, wDw_real B 2 0 256 rfl 0 rfl slices_S512x512_o256_0_S128x512 slices_S128x512_o0_0_S128x128 slices_S512x512_o256_0_S128x128 inb_S512x512_S128x512_256_0 e i j, wDw_real B 2 1 256 rfl 128 rfl slices_S512x512_o256_0_S128x512 slices_S128x512_o0_128_S128x128 slices_S512x512_o256_128_S128x128 inb_S512x512_S128x512_256_0 e i j, wDw_real B 2 2 256 rfl 256 rfl slices_S512x512_o256_0_S128x512 slices_S128x512_o0_256_S128x128 slices_S512x512_o256_256_S128x128 inb_S512x512_S128x512_256_0 e i j, wDw_real B 2 3 256 rfl 384 rfl slices_S512x512_o256_0_S128x512 slices_S128x512_o0_384_S128x128 slices_S512x512_o256_384_S128x128 inb_S512x512_S128x512_256_0 e i j, wDw_real B 3 0 384 rfl 0 rfl slices_S512x512_o384_0_S128x512 slices_S128x512_o0_0_S128x128 slices_S512x512_o384_0_S128x128 inb_S512x512_S128x512_384_0 e i j, wDw_real B 3 1 384 rfl 128 rfl slices_S512x512_o384_0_S128x512 slices_S128x512_o0_128_S128x128 slices_S512x512_o384_128_S128x128 inb_S512x512_S128x512_384_0 e i j, wDw_real B 3 2 384 rfl 256 rfl slices_S512x512_o384_0_S128x512 slices_S128x512_o0_256_S128x128 slices_S512x512_o384_256_S128x128 inb_S512x512_S128x512_384_0 e i j, wDw_real B 3 3 384 rfl 384 rfl slices_S512x512_o384_0_S128x512 slices_S128x512_o0_384_S128x128 slices_S512x512_o384_384_S128x128 inb_S512x512_S128x512_384_0 e i j]
  refine (twelve _ _ (fun w q => ((gDwW wb g b u sv ct e i j w q : ℝ) : EReal)) q).trans ?_
  congr 1
  exact gDw_coe e i j q

end Cert.KernelIdeal.Gen
-- ==== Proof.SguTotal.lean ====
/- The gradients of the spatial gating unit over all positions, as real functions, and as sums over blocks. -/
module

public import proofs.«01_k».proof.Proof.SguOut9
public import proofs.«01_k».proof.Proof.SguSmall
public import proofs.«01_k».proof.Proof.SguOut15
public import proofs.«01_k».proof.Proof.SguOut11

@[expose] public section

set_option maxRecDepth 16384
set_option synthInstance.maxSize 4096

noncomputable section

namespace Cert.KernelIdeal.Gen

open Idealize.ShloMosaic Idealize.ShloMosaic.TcCoe Idealize.SL.Sem
open Idealize.ShloMosaic.Tactic

variable (W : Fin 8 → Fin 128 → Fin 128 → ℝ) (bs : Fin 8 → Fin 128 → ℝ) (wb : Fin 512 → Fin 1024 → ℝ) (g b : Fin 512 → ℝ)
    (u sv : Fin 4096 → Fin 512 → ℝ) (ct : Fin 4096 → Fin 1024 → ℝ)

/-- Position `p` of block `t`. -/
def bpos (t : ℕ) (p : Fin 512) : Fin 4096 := ⟨(512 * t + p.val) % 4096, Nat.mod_lt _ (by norm_num)⟩

/-- The rows of block `t`. -/
def blkOf {β : Type} (x : Fin 4096 → β) (t : ℕ) : Fin 512 → β := fun p => x (bpos t p)

/-- The gradient of `u`. -/
def tDu (s : Fin 4096) (c : Fin 512) : ℝ :=
  Sgu.du W bs wb g b (Sgu.rows u (Sgu.win s)) (Sgu.rows sv (Sgu.win s)) (Sgu.rows ct (Sgu.win s)) (Sgu.off s) c

/-- The gradient of the layernorm's output. -/
def tDvn (s : Fin 4096) (c : Fin 512) : ℝ := Sgu.dvn W wb (Sgu.rows u (Sgu.win s)) (Sgu.rows ct (Sgu.win s)) (Sgu.off s) c

/-- The gradient of `sv`. -/
def tDsv (s : Fin 4096) (c : Fin 512) : ℝ := Sgu.dsvRow (sv s) (fun c => tDvn W wb u ct s c * g c) c

/-- The gradient of a mixing matrix, unmasked. -/
def tDw (p : Fin 8) (i j : Fin 128) : ℝ := ∑ n : Fin 32, Sgu.dW wb g b (Sgu.rows u n) (Sgu.rows sv n) (Sgu.rows ct n) p i j

/-- The gradient of the mixing bias, before the lanes of a group are summed. -/
def tDb (i : Fin 128) (c : Fin 512) : ℝ := ∑ n : Fin 32, Sgu.dm wb (u (Sgu.pos n i)) (ct (Sgu.pos n i)) c

/-- The gradients of the layernorm's gain and bias. -/
def tDg (c : Fin 512) : ℝ := ∑ s : Fin 4096, tDvn W wb u ct s c * Sgu.xhat (sv s) c
def tDbeta (c : Fin 512) : ℝ := ∑ s : Fin 4096, tDvn W wb u ct s c

/-- Window `w` of block `t`. -/
def bwn (t : ℕ) (w : Fin 4) : Fin 32 := ⟨(4 * t + w.val) % 32, Nat.mod_lt _ (by norm_num)⟩

theorem bpos_br (t : ℕ) (w : Fin 4) (i : Fin 128) : bpos t (br w i) = Sgu.pos (bwn t w) i :=
  Fin.ext (by show (512 * t + (128 * w.val + i.val)) % 4096 = 128 * ((4 * t + w.val) % 32) + i.val; omega)

theorem win_bpos (t : ℕ) (p : Fin 512) : Sgu.win (bpos t p) = bwn t (bwin p) :=
  Fin.ext (by show (512 * t + p.val) % 4096 / 128 = (4 * t + p.val / 128) % 32; omega)

theorem off_bpos (t : ℕ) (p : Fin 512) : Sgu.off (bpos t p) = boff p :=
  Fin.ext (by show (512 * t + p.val) % 4096 % 128 = p.val % 128; omega)

theorem blkOf_rows {β : Type} (x : Fin 4096 → β) (t : ℕ) (w : Fin 4) : (fun i => blkOf x t (br w i)) = Sgu.rows x (bwn t w) := by
  funext i
  show x (bpos t (br w i)) = x (Sgu.pos (bwn t w) i)
  rw [bpos_br]

theorem gDu_blk (t : ℕ) (p c : Fin 512) :
    gDu W bs wb g b (blkOf u t) (blkOf sv t) (blkOf ct t) p c = tDu W bs wb g b u sv ct (bpos t p) c := by
  unfold gDu tDu
  rw [blkOf_rows, blkOf_rows, blkOf_rows, win_bpos, off_bpos]

theorem gDvn_blk (t : ℕ) (p c : Fin 512) : gDvn W wb (blkOf u t) (blkOf ct t) p c = tDvn W wb u ct (bpos t p) c := by
  unfold gDvn tDvn
  rw [blkOf_rows, blkOf_rows, win_bpos, off_bpos]

theorem gDsv_blk (t : ℕ) (p c : Fin 512) : gDsv W wb g (blkOf u t) (blkOf sv t) (blkOf ct t) p c = tDsv W wb g u sv ct (bpos t p) c := by
  unfold gDsv tDsv
  simp only [gDvn_blk]
  rfl

theorem sum_windows (F : Fin 32 → ℝ) : ∑ t ∈ Finset.range 8, ∑ w : Fin 4, F (bwn t w) = ∑ n : Fin 32, F n := by
  rw [Finset.sum_range fun t => ∑ w : Fin 4, F (bwn t w)]
  rw [← Fintype.sum_prod_type' (fun (t : Fin 8) (w : Fin 4) => F (bwn t.val w))]
  refine Fintype.sum_equiv (finProdFinEquiv (m := 8) (n := 4)) _ _ fun x => congrArg F (Fin.ext ?_)
  show (4 * x.1.val + x.2.val) % 32 = x.2.val + 4 * x.1.val
  omega

theorem sum_positions (F : Fin 4096 → ℝ) : ∑ t ∈ Finset.range 8, ∑ p : Fin 512, F (bpos t p) = ∑ s : Fin 4096, F s := by
  rw [Finset.sum_range fun t => ∑ p : Fin 512, F (bpos t p)]
  rw [← Fintype.sum_prod_type' (fun (t : Fin 8) (p : Fin 512) => F (bpos t.val p))]
  refine Fintype.sum_equiv (finProdFinEquiv (m := 8) (n := 512)) _ _ fun x => congrArg F (Fin.ext ?_)
  show (512 * x.1.val + x.2.val) % 4096 = x.2.val + 512 * x.1.val
  omega

theorem gDw_sum (e : Fin 2) (i j : Fin 128) (q : Fin 4) :
    ∑ t ∈ Finset.range 8, gDw wb g b (blkOf u t) (blkOf sv t) (blkOf ct t) e i j q = tDw wb g b u sv ct (pg q e) i j := by
  unfold gDw gDwW tDw
  rw [← sum_windows]
  simp only [blkOf_rows]

theorem gDb_sum (i : Fin 128) (c : Fin 512) :
    ∑ t ∈ Finset.range 8, gDb wb (blkOf u t) (blkOf ct t) i c = tDb wb u ct i c := by
  unfold gDb tDb
  rw [← sum_windows]
  refine Finset.sum_congr rfl fun t _ => Finset.sum_congr rfl fun w _ => ?_
  show Sgu.dm wb (u (bpos t (br w i))) (ct (bpos t (br w i))) c = _
  rw [bpos_br]

theorem gDg_sum (c : Fin 512) :
    ∑ t ∈ Finset.range 8, gDg W wb (blkOf u t) (blkOf sv t) (blkOf ct t) c = tDg W wb u sv ct c := by
  unfold gDg tDg
  rw [← sum_positions]
  simp only [gDvn_blk]
  rfl

theorem gDbeta_sum (c : Fin 512) :
    ∑ t ∈ Finset.range 8, gDbeta W wb (blkOf u t) (blkOf ct t) c = tDbeta W wb u ct c := by
  unfold gDbeta tDbeta
  rw [← sum_positions]
  simp only [gDvn_blk]

end Cert.KernelIdeal.Gen
-- ==== Proof.SguOuts.lean ====
/- What the kernel leaves at one point of its grid in the blocks of the gradient of `sv` and of the small gradients. -/
module

public import proofs.«01_k».proof.Proof.SguSmall
public import proofs.«01_k».proof.Proof.SguOut9

@[expose] public section

set_option maxRecDepth 16384
set_option synthInstance.maxSize 4096

noncomputable section

namespace Cert.KernelIdeal.Gen

open Idealize.ShloMosaic Idealize.ShloMosaic.TcCoe Idealize.SL.Sem
open Idealize.ShloMosaic.Tactic

variable (m : (ℓ : Loc nD τ sig) → Buf (Elt Ideal) ℓ)
variable {W : Fin 8 → Fin 128 → Fin 128 → ℝ} {bs : Fin 8 → Fin 128 → ℝ} {wb : Fin 512 → Fin 1024 → ℝ} {g b : Fin 512 → ℝ}
    {u sv : Fin 512 → Fin 512 → ℝ} {ct : Fin 512 → Fin 1024 → ℝ}

theorem out10_A (c : Dev nD) (t : Fin cfg0.N) (h0 : t.val % 8 = 0) (B : BlkAt m c t W bs wb g b u sv ct) (p cc : Fin 512) :
    (outsAt0 m c t.val t.isLt).2.1 (ix2 p cc) = ((gDsv W wb g u sv ct p cc : ℝ) : EReal) := by
  rw [outsAt0_A m c t h0]
  frame_out
  refine Eq.trans ?_ (gDsv_apply B p cc)
  exact congrFun (by rfl) (ix2 p cc)

theorem out12_A (c : Dev nD) (t : Fin cfg0.N) (h0 : t.val % 8 = 0) (B : BlkAt m c t W bs wb g b u sv ct) (i : Fin 128) (cc : Fin 512) :
    (outsAt0 m c t.val t.isLt).2.2.2.1 (ix2 i cc) = 0 + ((gDb wb u ct i cc : ℝ) : EReal) := by
  rw [outsAt0_A m c t h0]
  frame_out
  refine Eq.trans ?_ ((db_apply B i cc (broadcast S128x512 (Scalar.ofBits .f32 0x00000000#32))).trans ?_)
  · exact congrFun (by rfl) (ix2 i cc)
  · congr 1
    pointwise

theorem out13_A (c : Dev nD) (t : Fin cfg0.N) (h0 : t.val % 8 = 0) (B : BlkAt m c t W bs wb g b u sv ct) (i : Fin 1) (cc : Fin 512) :
    (outsAt0 m c t.val t.isLt).2.2.2.2.1 (ix2 i cc) = 0 + ((gDg W wb u sv ct cc : ℝ) : EReal) := by
  rw [outsAt0_A m c t h0]
  frame_out
  refine Eq.trans ?_ ((dg_apply B i cc (broadcast S1x512 (Scalar.ofBits .f32 0x00000000#32))).trans ?_)
  · exact congrFun (by rfl) (ix2 i cc)
  · congr 1
    pointwise

theorem out14_A (c : Dev nD) (t : Fin cfg0.N) (h0 : t.val % 8 = 0) (B : BlkAt m c t W bs wb g b u sv ct) (i : Fin 1) (cc : Fin 512) :
    (outsAt0 m c t.val t.isLt).2.2.2.2.2.1 (ix2 i cc) = 0 + ((gDbeta W wb u ct cc : ℝ) : EReal) := by
  rw [outsAt0_A m c t h0]
  frame_out
  refine Eq.trans ?_ ((dbeta_apply B i cc (broadcast S1x512 (Scalar.ofBits .f32 0x00000000#32))).trans ?_)
  · exact congrFun (by rfl) (ix2 i cc)
  · congr 1
    pointwise

theorem out10_B (c : Dev nD) (t : Fin cfg0.N) (h0 : ¬t.val % 8 = 0) (B : BlkAt m c t W bs wb g b u sv ct) (p cc : Fin 512) :
    (outsAt0 m c t.val t.isLt).2.1 (ix2 p cc) = ((gDsv W wb g u sv ct p cc : ℝ) : EReal) := by
  rw [outsAt0_B m c t h0]
  frame_out
  refine Eq.trans ?_ (gDsv_apply B p cc)
  exact congrFun (by rfl) (ix2 p cc)

theorem out12_B (c : Dev nD) (t : Fin cfg0.N) (h0 : ¬t.val % 8 = 0) (B : BlkAt m c t W bs wb g b u sv ct) (i : Fin 128) (cc : Fin 512) :
    (outsAt0 m c t.val t.isLt).2.2.2.1 (ix2 i cc) = (outsAt0 m c (t.val - 1) (Nat.lt_of_le_of_lt (Nat.sub_le _ _) t.isLt)).2.2.2.1 (ix2 i cc) + ((gDb wb u ct i cc : ℝ) : EReal) := by
  rw [outsAt0_B m c t h0]
  frame_out
  refine Eq.trans ?_ ((db_apply B i cc ((outsAt0 m c (t.val - 1) (Nat.lt_of_le_of_lt (Nat.sub_le _ _) t.isLt)).2.2.2.1)).trans ?_)
  · exact congrFun (by rfl) (ix2 i cc)
  · congr 1

theorem out13_B (c : Dev nD) (t : Fin cfg0.N) (h0 : ¬t.val % 8 = 0) (B : BlkAt m c t W bs wb g b u sv ct) (i : Fin 1) (cc : Fin 512) :
    (outsAt0 m c t.val t.isLt).2.2.2.2.1 (ix2 i cc) = (outsAt0 m c (t.val - 1) (Nat.lt_of_le_of_lt (Nat.sub_le _ _) t.isLt)).2.2.2.2.1 (ix2 i cc) + ((gDg W wb u sv ct cc : ℝ) : EReal) := by
  rw [outsAt0_B m c t h0]
  frame_out
  refine Eq.trans ?_ ((dg_apply B i cc ((outsAt0 m c (t.val - 1) (Nat.lt_of_le_of_lt (Nat.sub_le _ _) t.isLt)).2.2.2.2.1)).trans ?_)
  · exact congrFun (by rfl) (ix2 i cc)
  · congr 1

theorem out14_B (c : Dev nD) (t : Fin cfg0.N) (h0 : ¬t.val % 8 = 0) (B : BlkAt m c t W bs wb g b u sv ct) (i : Fin 1) (cc : Fin 512) :
    (outsAt0 m c t.val t.isLt).2.2.2.2.2.1 (ix2 i cc) = (outsAt0 m c (t.val - 1) (Nat.lt_of_le_of_lt (Nat.sub_le _ _) t.isLt)).2.2.2.2.2.1 (ix2 i cc) + ((gDbeta W wb u ct cc : ℝ) : EReal) := by
  rw [outsAt0_B m c t h0]
  frame_out
  refine Eq.trans ?_ ((dbeta_apply B i cc ((outsAt0 m c (t.val - 1) (Nat.lt_of_le_of_lt (Nat.sub_le _ _) t.isLt)).2.2.2.2.2.1)).trans ?_)
  · exact congrFun (by rfl) (ix2 i cc)
  · congr 1

end Cert.KernelIdeal.Gen
-- ==== Proof.SguArrays.lean ====
/- The arrays the kernel leaves after the run of its grid. -/
module

public import proofs.«01_k».proof.Proof.SguTotal
public import proofs.«01_k».proof.Proof.SguOuts

@[expose] public section

set_option maxRecDepth 16384
set_option synthInstance.maxSize 4096

noncomputable section

namespace Cert.KernelIdeal.Gen

open Idealize.ShloMosaic Idealize.ShloMosaic.TcCoe Idealize.SL.Sem
open Idealize.ShloMosaic.Tactic

variable (m : (ℓ : Loc nD τ sig) → Buf (Elt Ideal) ℓ) (c : Dev nD)
variable {W : Fin 8 → Fin 128 → Fin 128 → ℝ} {bs : Fin 8 → Fin 128 → ℝ} {wb : Fin 512 → Fin 1024 → ℝ} {g b : Fin 512 → ℝ}
    {u sv : Fin 4096 → Fin 512 → ℝ} {ct : Fin 4096 → Fin 1024 → ℝ}
    (H : ∀ t : Fin cfg0.N, BlkAt m c t W bs wb g b (blkOf u t.val) (blkOf sv t.val) (blkOf ct t.val))
include H

theorem acc11 (n : ℕ) (hn : n < cfg0.N) (q : Fin 4) (e : Fin 2) (i j : Fin 128) :
    (outsAt0 m c n hn).2.2.1 (ix3 q (pr e i) j) = ((∑ t ∈ Finset.range (n + 1), gDw wb g b (blkOf u t) (blkOf sv t) (blkOf ct t) e i j q : ℝ) : EReal) := by
  have hN : cfg0.N = 8 := rfl
  induction n with
  | zero =>
    refine (out11_A m c ⟨0, hn⟩ rfl (H ⟨0, hn⟩) q e i j).trans ?_
    rw [Finset.sum_range_one, zero_add]
  | succ n ih =>
    refine (out11_B m c ⟨n + 1, hn⟩ (by show ¬(n + 1) % 8 = 0; omega) (H ⟨n + 1, hn⟩) q e i j).trans ?_
    rw [Finset.sum_range_succ, EReal.coe_add]
    exact congrArg (· + _) (ih (Nat.lt_of_succ_lt hn))

theorem acc12 (n : ℕ) (hn : n < cfg0.N) (i : Fin 128) (cc : Fin 512) :
    (outsAt0 m c n hn).2.2.2.1 (ix2 i cc) = ((∑ t ∈ Finset.range (n + 1), gDb wb (blkOf u t) (blkOf ct t) i cc : ℝ) : EReal) := by
  have hN : cfg0.N = 8 := rfl
  induction n with
  | zero =>
    refine (out12_A m c ⟨0, hn⟩ rfl (H ⟨0, hn⟩) i cc).trans ?_
    rw [Finset.sum_range_one, zero_add]
  | succ n ih =>
    refine (out12_B m c ⟨n + 1, hn⟩ (by show ¬(n + 1) % 8 = 0; omega) (H ⟨n + 1, hn⟩) i cc).trans ?_
    rw [Finset.sum_range_succ, EReal.coe_add]
    exact congrArg (· + _) (ih (Nat.lt_of_succ_lt hn))

theorem acc13 (n : ℕ) (hn : n < cfg0.N) (i : Fin 1) (cc : Fin 512) :
    (outsAt0 m c n hn).2.2.2.2.1 (ix2 i cc) = ((∑ t ∈ Finset.range (n + 1), gDg W wb (blkOf u t) (blkOf sv t) (blkOf ct t) cc : ℝ) : EReal) := by
  have hN : cfg0.N = 8 := rfl
  induction n with
  | zero =>
    refine (out13_A m c ⟨0, hn⟩ rfl (H ⟨0, hn⟩) i cc).trans ?_
    rw [Finset.sum_range_one, zero_add]
  | succ n ih =>
    refine (out13_B m c ⟨n + 1, hn⟩ (by show ¬(n + 1) % 8 = 0; omega) (H ⟨n + 1, hn⟩) i cc).trans ?_
    rw [Finset.sum_range_succ, EReal.coe_add]
    exact congrArg (· + _) (ih (Nat.lt_of_succ_lt hn))

theorem acc14 (n : ℕ) (hn : n < cfg0.N) (i : Fin 1) (cc : Fin 512) :
    (outsAt0 m c n hn).2.2.2.2.2.1 (ix2 i cc) = ((∑ t ∈ Finset.range (n + 1), gDbeta W wb (blkOf u t) (blkOf ct t) cc : ℝ) : EReal) := by
  have hN : cfg0.N = 8 := rfl
  induction n with
  | zero =>
    refine (out14_A m c ⟨0, hn⟩ rfl (H ⟨0, hn⟩) i cc).trans ?_
    rw [Finset.sum_range_one, zero_add]
  | succ n ih =>
    refine (out14_B m c ⟨n + 1, hn⟩ (by show ¬(n + 1) % 8 = 0; omega) (H ⟨n + 1, hn⟩) i cc).trans ?_
    rw [Finset.sum_range_succ, EReal.coe_add]
    exact congrArg (· + _) (ih (Nat.lt_of_succ_lt hn))

omit H in
theorem idxOut : ∀ t : Fin cfg0.N, win0_9.index t = ![t.val, 0] ∧ win0_10.index t = ![t.val, 0] ∧ win0_15.index t = ![0, t.val] :=
  (by decide +kernel : ∀ t : Fin grid0.N, _)

/-- The matrix of a pair a row belongs to, and the row there. -/
def prE (r : Fin 256) : Fin 2 := ⟨r.val / 128, by omega⟩
def prI (r : Fin 256) : Fin 128 := ⟨r.val % 128, Nat.mod_lt _ (by norm_num)⟩

omit H in
theorem pr_prE (r : Fin 256) : pr (prE r) (prI r) = r := Fin.ext (Nat.div_add_mod _ _)

theorem out9 (t : Fin cfg0.N) (y : S512x512.Idx) :
    (outsAt0 m c t.val t.isLt).1 y = ((tDu W bs wb g b u sv ct (bpos t.val (y 0)) (y 1) : ℝ) : EReal) := by
  refine Eq.trans ?_ (congrArg (fun r : ℝ => (r : EReal)) (gDu_blk W bs wb g b u sv ct t.val (y 0) (y 1)))
  by_cases h : t.val % 8 = 0
  · exact out9_A m c t h (H t) y
  · exact out9_B m c t h (H t) y

theorem out10 (t : Fin cfg0.N) (p cc : Fin 512) :
    (outsAt0 m c t.val t.isLt).2.1 (ix2 p cc) = ((tDsv W wb g u sv ct (bpos t.val p) cc : ℝ) : EReal) := by
  refine Eq.trans ?_ (congrArg (fun r : ℝ => (r : EReal)) (gDsv_blk W wb g u sv ct t.val p cc))
  by_cases h : t.val % 8 = 0
  · exact out10_A m c t h (H t) p cc
  · exact out10_B m c t h (H t) p cc

/-- Both gradients, one above the other, transposed. -/
def tT (W : Fin 8 → Fin 128 → Fin 128 → ℝ) (bs : Fin 8 → Fin 128 → ℝ) (wb : Fin 512 → Fin 1024 → ℝ) (g b : Fin 512 → ℝ)
    (u sv : Fin 4096 → Fin 512 → ℝ) (ct : Fin 4096 → Fin 1024 → ℝ) (r : Fin 1024) (s : Fin 4096) : ℝ :=
  if h : r.val < 512 then tDu W bs wb g b u sv ct s ⟨r.val, h⟩ else tDsv W wb g u sv ct s ⟨r.val - 512, by omega⟩

omit H in
theorem gT_blk (W : Fin 8 → Fin 128 → Fin 128 → ℝ) (bs : Fin 8 → Fin 128 → ℝ) (wb : Fin 512 → Fin 1024 → ℝ) (g b : Fin 512 → ℝ)
    (u sv : Fin 4096 → Fin 512 → ℝ) (ct : Fin 4096 → Fin 1024 → ℝ) (t : ℕ) (r : Fin 1024) (p : Fin 512) :
    gT W bs wb g b (blkOf u t) (blkOf sv t) (blkOf ct t) r p = tT W bs wb g b u sv ct r (bpos t p) := by
  unfold gT tT
  simp only [gDu_blk, gDsv_blk]

theorem out15 (t : Fin cfg0.N) (y : S1024x512.Idx) :
    (outsAt0 m c t.val t.isLt).2.2.2.2.2.2 y = ((tT W bs wb g b u sv ct (y 0) (bpos t.val (y 1)) : ℝ) : EReal) := by
  refine Eq.trans ?_ (congrArg (fun r : ℝ => (r : EReal)) (gT_blk W bs wb g b u sv ct t.val (y 0) (y 1)))
  by_cases h : t.val % 8 = 0
  · exact out15_A m c t h (H t) y
  · exact out15_B m c t h (H t) y

/-- The gradient of `u`. -/
theorem arr9 : (dats m 0 c).arrAt 9 cfg0.N = (fun y : S4096x512.Idx => ((tDu W bs wb g b u sv ct (y 0) (y 1) : ℝ) : EReal)) := by
  refine (dats m 0 c).arrAt_eq_of_covers 9 _ (by decide +kernel) fun t _ y => ?_
  blk_simp
  rw [after0_9]
  have hN : t.val < 8 := t.isLt
  refine (out9 m c H t y).trans ?_
  refine congrArg (fun r : ℝ => (r : EReal)) (congrArg₂ (tDu W bs wb g b u sv ct) (Fin.ext ?_) (Fin.ext ?_))
  · have hy : (y 0).val < 512 := (y 0).isLt
    blk_simp [(idxOut t).1]
    show (512 * t.val + (y 0).val) % 4096 = t.val * 512 + (y 0).val
    omega
  · blk_simp [(idxOut t).1]

/-- The gradient of `sv`. -/
theorem arr10 : (dats m 0 c).arrAt 10 cfg0.N = (fun y : S4096x512.Idx => ((tDsv W wb g u sv ct (y 0) (y 1) : ℝ) : EReal)) := by
  refine (dats m 0 c).arrAt_eq_of_covers 10 _ (by decide +kernel) fun t _ y => ?_
  blk_simp
  rw [after0_10]
  have hN : t.val < 8 := t.isLt
  obtain ⟨p, cc, rfl⟩ : ∃ (p : Fin 512) (cc : Fin 512), y = ix2 p cc := ⟨y 0, y 1, by funext a; match a with | 0 => rfl | 1 => rfl⟩
  refine (out10 m c H t p cc).trans ?_
  refine congrArg (fun r : ℝ => (r : EReal)) (congrArg₂ (tDsv W wb g u sv ct) (Fin.ext ?_) (Fin.ext ?_))
  · have hy : p.val < 512 := p.isLt
    blk_simp [(idxOut t).2.1]
    show (512 * t.val + p.val) % 4096 = t.val * 512 + p.val
    omega
  · blk_simp [(idxOut t).2.1]

/-- Both, transposed. -/
theorem arr15 : (dats m 0 c).arrAt 15 cfg0.N = (fun y : S1024x4096.Idx => ((tT W bs wb g b u sv ct (y 0) (y 1) : ℝ) : EReal)) := by
  refine (dats m 0 c).arrAt_eq_of_covers 15 _ (by decide +kernel) fun t _ y => ?_
  blk_simp
  rw [after0_15]
  have hN : t.val < 8 := t.isLt
  refine (out15 m c H t y).trans ?_
  refine congrArg (fun r : ℝ => (r : EReal)) (congrArg₂ (tT W bs wb g b u sv ct) (Fin.ext ?_) (Fin.ext ?_))
  · blk_simp [(idxOut t).2.2]
  · have hy : (y 1).val < 512 := (y 1).isLt
    blk_simp [(idxOut t).2.2]
    show (512 * t.val + (y 1).val) % 4096 = t.val * 512 + (y 1).val
    omega

/-- The gradient of the mixing matrices, unmasked, two to a pair. -/
theorem arr11 : (dats m 0 c).arrAt 11 cfg0.N = (fun y : S4x256x128.Idx =>
    ((tDw wb g b u sv ct (pg (y 0) (prE (y 1))) (prI (y 1)) (y 2) : ℝ) : EReal)) := by
  refine (dats m 0 c).arrAt_eq_of_after_last 11 ⟨7, by decide⟩ (by decide +kernel) (hG := fun y => ?_)
  refine (congrFun (after0_11 m c ⟨7, by decide⟩) y).trans ?_
  obtain ⟨q, r, j, rfl⟩ := ix3_eq (x := y)
  have e := acc11 m c H 7 (by decide) q (prE r) (prI r) j
  rw [pr_prE, gDw_sum] at e
  exact e

theorem arr12 : (dats m 0 c).arrAt 12 cfg0.N = (fun y : S128x512.Idx => ((tDb wb u ct (y 0) (y 1) : ℝ) : EReal)) := by
  refine (dats m 0 c).arrAt_eq_of_after_last 12 ⟨7, by decide⟩ (by decide +kernel) (hG := fun y => ?_)
  refine (congrFun (after0_12 m c ⟨7, by decide⟩) y).trans ?_
  obtain ⟨i, cc, rfl⟩ : ∃ (i : Fin 128) (cc : Fin 512), y = ix2 i cc := ⟨y 0, y 1, by funext a; match a with | 0 => rfl | 1 => rfl⟩
  have e := acc12 m c H 7 (by decide) i cc
  rw [gDb_sum] at e
  exact e

theorem arr13 : (dats m 0 c).arrAt 13 cfg0.N = (fun y : S1x512.Idx => ((tDg W wb u sv ct (y 1) : ℝ) : EReal)) := by
  refine (dats m 0 c).arrAt_eq_of_after_last 13 ⟨7, by decide⟩ (by decide +kernel) (hG := fun y => ?_)
  refine (congrFun (after0_13 m c ⟨7, by decide⟩) y).trans ?_
  obtain ⟨i, cc, rfl⟩ : ∃ (i : Fin 1) (cc : Fin 512), y = ix2 i cc := ⟨y 0, y 1, by funext a; match a with | 0 => rfl | 1 => rfl⟩
  have e := acc13 m c H 7 (by decide) i cc
  rw [gDg_sum] at e
  exact e

theorem arr14 : (dats m 0 c).arrAt 14 cfg0.N = (fun y : S1x512.Idx => ((tDbeta W wb u ct (y 1) : ℝ) : EReal)) := by
  refine (dats m 0 c).arrAt_eq_of_after_last 14 ⟨7, by decide⟩ (by decide +kernel) (hG := fun y => ?_)
  refine (congrFun (after0_14 m c ⟨7, by decide⟩) y).trans ?_
  obtain ⟨i, cc, rfl⟩ : ∃ (i : Fin 1) (cc : Fin 512), y = ix2 i cc := ⟨y 0, y 1, by funext a; match a with | 0 => rfl | 1 => rfl⟩
  have e := acc14 m c H 7 (by decide) i cc
  rw [gDbeta_sum] at e
  exact e

end Cert.KernelIdeal.Gen
-- ==== Proof.SguHost.lean ====
/- What the host prepares for the kernel: the two operands cut from one array, the masked matrices, the biases spread over their channels and the transposed weight, and from them the blocks at every point. -/
module

public import proofs.«01_k».proof.Proof.SguArrays
public import Idealize.ShloMosaic.Lib.StableHlo.ReadAt
public import Idealize.ShloMosaic.Lib.Claim

@[expose] public section

set_option maxRecDepth 16384
set_option synthInstance.maxSize 4096

noncomputable section

namespace Cert.KernelIdeal.Gen

open Idealize.ShloMosaic Idealize.ShloMosaic.TcCoe Idealize.SL.Sem
open Idealize.ShloMosaic.Tactic

/-- The chunk of 64 a position belongs to. -/
def hFloor : (⟨S128, .i32⟩ : BufTy).Contents (Elt Ideal) :=
  select
      (andi
        (cmpi CmpIPredicate.ne (signi (iotaInDim S128 32 0))
          (broadcastInDim S128 ![] bcast_S_S128 (signi (id (constantI S_ 32 64#32)))))
        (cmpi CmpIPredicate.ne
          (Host.remsi (iotaInDim S128 32 0) (broadcastInDim S128 ![] bcast_S_S128 (id (constantI S_ 32 64#32))))
          (broadcastInDim S128 ![] bcast_S_S128 (constantI S_ 32 0#32))))
      (subi (Host.divsi (iotaInDim S128 32 0) (broadcastInDim S128 ![] bcast_S_S128 (id (constantI S_ 32 64#32))))
        (broadcastInDim S128 ![] bcast_S_S128 (constantI S_ 32 1#32)))
      (Host.divsi (iotaInDim S128 32 0) (broadcastInDim S128 ![] bcast_S_S128 (id (constantI S_ 32 64#32))))
theorem hFloor_apply (j : Fin 128) : hFloor (ix1 j) = BitVec.ofNat 32 (j.val / 64) := by
  revert j; decide +kernel
/-- The chunk mask. -/
def hMask : (⟨S128x128, .i1⟩ : BufTy).Contents (Elt Ideal) :=
  cmpi CmpIPredicate.sle
      (broadcastInDim S128x128 ![0, 1] bcast_S1x128_S128x128_0_1 (broadcastInDim S1x128 ![1] bcast_S128_S1x128_1 hFloor))
      (broadcastInDim S128x128 ![0, 1] bcast_S128x1_S128x128_0_1 (broadcastInDim S128x1 ![0] bcast_S128_S128x1_0 hFloor))
theorem hMask_apply (i j : Fin 128) : hMask (ix2 i j) = if j.val / 64 ≤ i.val / 64 then 1#1 else 0#1 := by
  have e : hMask (ix2 i j) = IntOp.cmpi .sle (hFloor (ix1 j)) (hFloor (ix1 i)) := by unfold hMask; pointwise
  rw [e, hFloor_apply, hFloor_apply]
  have hi : i.val / 64 < 2 := by omega
  have hj : j.val / 64 < 2 := by omega
  generalize i.val / 64 = x at hi ⊢
  generalize j.val / 64 = y at hj ⊢
  have h : ∀ x y : Fin 2, IntOp.cmpi .sle (BitVec.ofNat 32 y.val) (BitVec.ofNat 32 x.val) = if y.val ≤ x.val then 1#1 else 0#1 := by decide
  exact h ⟨x, hi⟩ ⟨y, hj⟩
/-- The masked matrices. -/
def hW (x : Vec Ideal S1x8x128x128 .f32) : Vec Ideal S8x128x128 .f32 :=
  select (broadcastInDim S8x128x128 ![0, 1, 2] bcast_S1x128x128_S8x128x128_0_1_2
              (broadcastInDim S1x128x128 ![1, 2] bcast_S128x128_S1x128x128_1_2 hMask)) (shapeCast S8x128x128 x shapeCasts_S1x8x128x128_S8x128x128)
            (broadcastInDim S8x128x128 ![] bcast_S_S8x128x128 (id (constant S_ FTy.f32 0#32 : FVec Ideal S_ .f32)))
theorem hW_apply (x : Vec Ideal S1x8x128x128 .f32) (p : Fin 8) (i j : Fin 128) :
    hW x (ix3 p i j) = if j.val / 64 ≤ i.val / 64 then x (ix4 0 p i j) else ((0 : ℝ) : EReal) := by
  have e : hW x (ix3 p i j) = if hMask (ix2 i j) = 1 then x (ix4 0 p i j) else ((0 : ℝ) : EReal) := by
    have z : (id (constant S_ FTy.f32 0#32 : FVec Ideal S_ .f32)) ix0 = ((0 : ℝ) : EReal) := by
      show Ideal.ofBits .f32 0#32 = _
      simp [Ideal.ofBits, Ideal.ieee]
    unfold hW; pointwise
    rw [z]
    rfl
  rw [e, hMask_apply]
  by_cases h : j.val / 64 ≤ i.val / 64 <;> simp [h]
theorem cc (A0 A1 : Vec Ideal S4096x512 .f32) (A2 : Vec Ideal S4096x2048 .f32) (A3 : Vec Ideal S4096x128 .f32) (s : Fin 4096) (k : Fin 512) :
  (truncf FTy.bf16 (concatenate S4096x3200 1
        [⟨S4096x512, A0⟩, ⟨S4096x512, A1⟩, ⟨S4096x2048, A2⟩, ⟨S4096x128, A3⟩] concatenates_S4096x512_S4096x512_S4096x2048_S4096x128_S4096x3200_d1 : FVec Ideal S4096x3200 .f32) bitsLt_bf16_f32 : FVec Ideal S4096x3200 .bf16) (ix2 s ⟨k.val, by omega⟩) = A0 (ix2 s k) := by
  pointwise
theorem cc1 (A0 A1 : Vec Ideal S4096x512 .f32) (A2 : Vec Ideal S4096x2048 .f32) (A3 : Vec Ideal S4096x128 .f32) (s : Fin 4096) (k : Fin 512) :
  (truncf FTy.bf16 (concatenate S4096x3200 1
        [⟨S4096x512, A0⟩, ⟨S4096x512, A1⟩, ⟨S4096x2048, A2⟩, ⟨S4096x128, A3⟩] concatenates_S4096x512_S4096x512_S4096x2048_S4096x128_S4096x3200_d1 : FVec Ideal S4096x3200 .f32) bitsLt_bf16_f32 : FVec Ideal S4096x3200 .bf16) (ix2 s ⟨512 + k.val, by omega⟩) = A1 (ix2 s k) := by
  pointwise
variable (m : (ℓ : Loc nD τ sig) → Buf (Elt Ideal) ℓ) (c : Dev nD)

theorem V_v25 : V m c main_v25 = (truncf (F := Ideal) .bf16 ((m (c.tc.loc main_arg9)) : FVec Ideal S4096x1024 .f32) bitsLt_bf16_f32) := by
  unfold V V0
  simp only [List.flatten_cons, List.flatten_nil, List.cons_append, List.nil_append, List.append_nil]
  after_reads_simp
  try simp -implicitDefEqProofs only [StableHlo.TRef.toBuf, StableHlo.TRef.ofBuf, cast_cast, cast_eq]
  first | done | rfl

theorem V_v24 : V m c main_v24 = (truncf (F := Ideal) .bf16 (transpose S1024x512 [1, 0] (shapeCast S512x1024 (m (c.tc.loc main_arg8)) shapeCasts_S1x512x1024_S512x1024) transposes_S512x1024_S1024x512_1_0 : FVec Ideal S1024x512 .f32) bitsLt_bf16_f32) := by
  unfold V V0
  simp only [List.flatten_cons, List.flatten_nil, List.cons_append, List.nil_append, List.append_nil]
  after_reads_simp
  try simp -implicitDefEqProofs only [StableHlo.TRef.toBuf, StableHlo.TRef.ofBuf, cast_cast, cast_eq]
  first | done | rfl

theorem V_v21 : V m c main_v21 = (transpose S128x512 [1, 0] (shapeCast S512x128 (broadcastInDim S8x64x128 ![0, 2] bcast_S8x128_S8x64x128_0_2 (shapeCast S8x128 (m (c.tc.loc main_arg7)) shapeCasts_S1x8x128_S8x128)) shapeCasts_S8x64x128_S512x128) transposes_S512x128_S128x512_1_0) := by
  unfold V V0
  simp only [List.flatten_cons, List.flatten_nil, List.cons_append, List.nil_append, List.append_nil]
  after_reads_simp
  try simp -implicitDefEqProofs only [StableHlo.TRef.toBuf, StableHlo.TRef.ofBuf, cast_cast, cast_eq]
  first | done | rfl

theorem V_v9 : V m c main_v9 = hMask := by
  unfold V V0
  simp only [List.flatten_cons, List.flatten_nil, List.cons_append, List.nil_append, List.append_nil]
  after_reads_simp
  try simp -implicitDefEqProofs only [StableHlo.TRef.toBuf, StableHlo.TRef.ofBuf, cast_cast, cast_eq]
  first | done | rfl

theorem V_v14 : V m c main_v14 = (truncf (F := Ideal) .bf16 (shapeCast S4x256x128 (hW (m (c.tc.loc main_arg6))) shapeCasts_S8x128x128_S4x256x128 : FVec Ideal S4x256x128 .f32) bitsLt_bf16_f32) := by
  unfold V V0
  simp only [List.flatten_cons, List.flatten_nil, List.cons_append, List.nil_append, List.append_nil]
  after_reads_simp
  try simp -implicitDefEqProofs only [StableHlo.TRef.toBuf, StableHlo.TRef.ofBuf, cast_cast, cast_eq]
  first | done | rfl

theorem V_v17 : V m c main_v17 = (truncf (F := Ideal) .bf16 (shapeCast S4x256x128 (transpose S8x128x128 [0, 2, 1] (hW (m (c.tc.loc main_arg6))) transposes_S8x128x128_S8x128x128_0_2_1) shapeCasts_S8x128x128_S4x256x128 : FVec Ideal S4x256x128 .f32) bitsLt_bf16_f32) := by
  unfold V V0
  simp only [List.flatten_cons, List.flatten_nil, List.cons_append, List.nil_append, List.append_nil]
  after_reads_simp
  try simp -implicitDefEqProofs only [StableHlo.TRef.toBuf, StableHlo.TRef.ofBuf, cast_cast, cast_eq]
  first | done | rfl

theorem V_v2_0 (s : Fin 4096) (k : Fin 512) : V m c main_v2 (ix2 s ⟨k.val, by omega⟩) = (m (c.tc.loc main_arg0) : Vec Ideal S4096x512 .f32) (ix2 s k) := by
  unfold V V0
  simp only [List.flatten_cons, List.flatten_nil, List.cons_append, List.nil_append, List.append_nil]
  after_reads_simp
  refine (cc _ _ _ _ s k).trans ?_
  change StableHlo.upto _ _ _ (Proc.devRef .tc main_arg0) _ = _
  after_reads_simp

theorem V_v2_1 (s : Fin 4096) (k : Fin 512) : V m c main_v2 (ix2 s ⟨512 + k.val, by omega⟩) = (m (c.tc.loc main_arg1) : Vec Ideal S4096x512 .f32) (ix2 s k) := by
  unfold V V0
  simp only [List.flatten_cons, List.flatten_nil, List.cons_append, List.nil_append, List.append_nil]
  after_reads_simp
  refine (cc1 _ _ _ _ s k).trans ?_
  change StableHlo.upto _ _ _ (Proc.devRef .tc main_arg1) _ = _
  after_reads_simp

/-- The arguments as real arrays. -/
structure Args (W : Fin 8 → Fin 128 → Fin 128 → ℝ) (bs : Fin 8 → Fin 128 → ℝ) (wb : Fin 512 → Fin 1024 → ℝ) (g b : Fin 512 → ℝ)
    (u sv : Fin 4096 → Fin 512 → ℝ) (ct : Fin 4096 → Fin 1024 → ℝ) : Prop where
  hu : ∀ s k, (m (c.tc.loc main_arg0) : Vec Ideal S4096x512 .f32) (ix2 s k) = ((u s k : ℝ) : EReal)
  hsv : ∀ s k, (m (c.tc.loc main_arg1) : Vec Ideal S4096x512 .f32) (ix2 s k) = ((sv s k : ℝ) : EReal)
  hg : ∀ k, (m (c.tc.loc main_arg4) : Vec Ideal S1x512 .f32) (ix2 0 k) = ((g k : ℝ) : EReal)
  hb : ∀ k, (m (c.tc.loc main_arg5) : Vec Ideal S1x512 .f32) (ix2 0 k) = ((b k : ℝ) : EReal)
  hW : ∀ p i j, (m (c.tc.loc main_arg6) : Vec Ideal S1x8x128x128 .f32) (ix4 0 p i j) = ((W p i j : ℝ) : EReal)
  hbs : ∀ p i, (m (c.tc.loc main_arg7) : Vec Ideal S1x8x128 .f32) (ix3 0 p i) = ((bs p i : ℝ) : EReal)
  hwb : ∀ k n, (m (c.tc.loc main_arg8) : Vec Ideal S1x512x1024 .f32) (ix3 0 k n) = ((wb k n : ℝ) : EReal)
  hct : ∀ s n, (m (c.tc.loc main_arg9) : Vec Ideal S4096x1024 .f32) (ix2 s n) = ((ct s n : ℝ) : EReal)

theorem idxIn : ∀ t : Fin cfg0.N, win0_0.index t = ![t.val, 0] ∧ win0_1.index t = ![t.val, 1] ∧ win0_2.index t = ![t.val, 0] ∧ win0_3.index t = ![0, 0]
    ∧ win0_4.index t = ![0, 0] ∧ win0_5.index t = ![0, 0] ∧ win0_6.index t = ![0, 0, 0] ∧ win0_7.index t = ![0, 0, 0] ∧ win0_8.index t = ![0, 0] :=
  (by decide +kernel : ∀ t : Fin grid0.N, _)

theorem stackAt (x : Vec Ideal S8x128x128 .f32) (q : Fin 4) (h : Fin 2) (i j : Fin 128) :
    (truncf (F := Ideal) .bf16 (shapeCast S4x256x128 x shapeCasts_S8x128x128_S4x256x128 : FVec Ideal S4x256x128 .f32) bitsLt_bf16_f32)
      (ix3 q ⟨128 * h.val + i.val, by omega⟩ j) = x (ix3 (pg q h) i j) := by
  pointwise
  exact congrArg (fun e => x (ix3 e i j)) (Fin.ext (by show q.val * 2 + (128 * h.val + i.val) / 128 = 2 * q.val + h.val; omega))

theorem wbAt (x : Vec Ideal S1x512x1024 .f32) (k : Fin 512) (n : Fin 1024) :
    (truncf (F := Ideal) .bf16 (transpose S1024x512 [1, 0] (shapeCast S512x1024 x shapeCasts_S1x512x1024_S512x1024)
      transposes_S512x1024_S1024x512_1_0 : FVec Ideal S1024x512 .f32) bitsLt_bf16_f32) (ix2 n k) = x (ix3 0 k n) := by
  pointwise

theorem biasAt (x : Vec Ideal S1x8x128 .f32) (i : Fin 128) (k : Fin 512) :
    (transpose S128x512 [1, 0] (shapeCast S512x128 (broadcastInDim S8x64x128 ![0, 2] bcast_S8x128_S8x64x128_0_2
      (shapeCast S8x128 x shapeCasts_S1x8x128_S8x128)) shapeCasts_S8x64x128_S512x128) transposes_S512x128_S128x512_1_0) (ix2 i k) = x (ix3 0 (Sgu.grp k) i) := by
  pointwise
  rfl

theorem swapAt (x : Vec Ideal S8x128x128 .f32) (p : Fin 8) (i j : Fin 128) :
    (transpose S8x128x128 [0, 2, 1] x transposes_S8x128x128_S8x128x128_0_2_1) (ix3 p i j) = x (ix3 p j i) := by
  pointwise

section Blocks
variable {m c} {W : Fin 8 → Fin 128 → Fin 128 → ℝ} {bs : Fin 8 → Fin 128 → ℝ} {wb : Fin 512 → Fin 1024 → ℝ} {g b : Fin 512 → ℝ}
  {u sv : Fin 4096 → Fin 512 → ℝ} {ct : Fin 4096 → Fin 1024 → ℝ} (A : Args m c W bs wb g b u sv ct)
include A

theorem blkU (t : Fin cfg0.N) (p k : Fin 512) : X0_0 m c t (ix2 p k) = ((blkOf u t.val p k : ℝ) : EReal) := by
  unfold X0_0 Pipeline.Window.fill
  rw [dif_pos (moved0_0 t _)]
  blk_simp [iblk]
  have hN : t.val < 8 := t.isLt
  refine (congrArg (V m c main_v2) (show _ = ix2 (bpos t.val p) ⟨k.val, by omega⟩ from ?_)).trans ((V_v2_0 m c _ k).trans (A.hu _ k))
  funext a
  match a with
  | 0 => exact Fin.ext (by blk_simp [(idxIn t).1]; show t.val * 512 + p.val = (512 * t.val + p.val) % 4096; omega)
  | 1 => exact Fin.ext (by blk_simp [(idxIn t).1])

theorem blkSv (t : Fin cfg0.N) (p k : Fin 512) : X0_1 m c t (ix2 p k) = ((blkOf sv t.val p k : ℝ) : EReal) := by
  unfold X0_1 Pipeline.Window.fill
  rw [dif_pos (moved0_1 t _)]
  blk_simp [iblk]
  have hN : t.val < 8 := t.isLt
  refine (congrArg (V m c main_v2) (show _ = ix2 (bpos t.val p) ⟨512 + k.val, by omega⟩ from ?_)).trans ((V_v2_1 m c _ k).trans (A.hsv _ k))
  funext a
  match a with
  | 0 => exact Fin.ext (by blk_simp [(idxIn t).2.1]; show t.val * 512 + p.val = (512 * t.val + p.val) % 4096; omega)
  | 1 => exact Fin.ext (by blk_simp [(idxIn t).2.1])

theorem blkCt (t : Fin cfg0.N) (p : Fin 512) (k : Fin 1024) : iblk m c 2 t (ix2 p k) = ((blkOf ct t.val p k : ℝ) : EReal) := by
  blk_simp [iblk]
  have hN : t.val < 8 := t.isLt
  rw [V_v25]
  refine (congrArg (m (c.tc.loc main_arg9)) (show _ = ix2 (bpos t.val p) k from ?_)).trans (A.hct _ k)
  funext a
  match a with
  | 0 => exact Fin.ext (by blk_simp [(idxIn t).2.2.1]; show t.val * 512 + p.val = (512 * t.val + p.val) % 4096; omega)
  | 1 => exact Fin.ext (by blk_simp [(idxIn t).2.2.1])

theorem blkWb (t : Fin cfg0.N) (k : Fin 512) (n : Fin 1024) : iblk m c 3 t (ix2 n k) = ((wb k n : ℝ) : EReal) := by
  blk_simp [iblk]
  refine (congrArg (V m c main_v24) (show _ = ix2 n k from ?_)).trans ?_
  · funext a
    match a with
    | 0 => exact Fin.ext (by blk_simp [(idxIn t).2.2.2.1])
    | 1 => exact Fin.ext (by blk_simp [(idxIn t).2.2.2.1])
  · rw [V_v24]
    exact (wbAt _ k n).trans (A.hwb k n)

theorem blkG (t : Fin cfg0.N) (k : Fin 512) : iblk m c 4 t (ix2 0 k) = ((g k : ℝ) : EReal) := by
  blk_simp [iblk]
  refine (congrArg (V m c main_arg4) (show _ = ix2 0 k from ?_)).trans ?_
  · funext a
    match a with
    | 0 => exact Fin.ext (by blk_simp [(idxIn t).2.2.2.2.1])
    | 1 => exact Fin.ext (by blk_simp [(idxIn t).2.2.2.2.1])
  · rw [V_main_arg4]
    exact A.hg k

theorem blkB (t : Fin cfg0.N) (k : Fin 512) : iblk m c 5 t (ix2 0 k) = ((b k : ℝ) : EReal) := by
  blk_simp [iblk]
  refine (congrArg (V m c main_arg5) (show _ = ix2 0 k from ?_)).trans ?_
  · funext a
    match a with
    | 0 => exact Fin.ext (by blk_simp [(idxIn t).2.2.2.2.2.1])
    | 1 => exact Fin.ext (by blk_simp [(idxIn t).2.2.2.2.2.1])
  · rw [V_main_arg5]
    exact A.hb k

theorem hW_masked (p : Fin 8) (i j : Fin 128) : hW (m (c.tc.loc main_arg6)) (ix3 p i j) = ((Sgu.masked W p i j : ℝ) : EReal) := by
  rw [hW_apply, A.hW]
  unfold Sgu.masked
  split_ifs <;> rfl

theorem blkW (t : Fin cfg0.N) (q : Fin 4) (h : Fin 2) (i j : Fin 128) : iblk m c 6 t (ix3 q ⟨128*h.val+i.val, by omega⟩ j) = ((Sgu.masked W (pg q h) i j : ℝ) : EReal) := by
  blk_simp [iblk]
  refine (congrArg (V m c main_v14) (show _ = ix3 q ⟨128*h.val+i.val, by omega⟩ j from ?_)).trans ?_
  · funext a
    match a with
    | 0 => exact Fin.ext (by blk_simp [(idxIn t).2.2.2.2.2.2.1])
    | 1 => exact Fin.ext (by blk_simp [(idxIn t).2.2.2.2.2.2.1])
    | 2 => exact Fin.ext (by blk_simp [(idxIn t).2.2.2.2.2.2.1])
  · rw [V_v14, stackAt]
    exact hW_masked A _ i j

theorem blkWt (t : Fin cfg0.N) (q : Fin 4) (h : Fin 2) (i j : Fin 128) : iblk m c 7 t (ix3 q ⟨128*h.val+i.val, by omega⟩ j) = ((Sgu.masked W (pg q h) j i : ℝ) : EReal) := by
  blk_simp [iblk]
  refine (congrArg (V m c main_v17) (show _ = ix3 q ⟨128*h.val+i.val, by omega⟩ j from ?_)).trans ?_
  · funext a
    match a with
    | 0 => exact Fin.ext (by blk_simp [(idxIn t).2.2.2.2.2.2.2.1])
    | 1 => exact Fin.ext (by blk_simp [(idxIn t).2.2.2.2.2.2.2.1])
    | 2 => exact Fin.ext (by blk_simp [(idxIn t).2.2.2.2.2.2.2.1])
  · rw [V_v17, stackAt]
    exact (swapAt _ _ i j).trans (hW_masked A _ j i)

theorem blkBs (t : Fin cfg0.N) (i : Fin 128) (k : Fin 512) : iblk m c 8 t (ix2 i k) = ((bs (Sgu.grp k) i : ℝ) : EReal) := by
  blk_simp [iblk]
  refine (congrArg (V m c main_v21) (show _ = ix2 i k from ?_)).trans ?_
  · funext a
    match a with
    | 0 => exact Fin.ext (by blk_simp [(idxIn t).2.2.2.2.2.2.2.2])
    | 1 => exact Fin.ext (by blk_simp [(idxIn t).2.2.2.2.2.2.2.2])
  · rw [V_v21]
    exact (biasAt _ i k).trans (A.hbs _ i)

theorem blkAt (t : Fin cfg0.N) : BlkAt m c t (Sgu.masked W) bs wb g b (blkOf u t.val) (blkOf sv t.val) (blkOf ct t.val) :=
  ⟨blkU A t, blkSv A t, blkCt A t, blkWb A t, blkG A t, blkB A t, blkW A t, blkWt A t, blkBs A t⟩

end Blocks
end Cert.KernelIdeal.Gen
-- ==== Proof.SguTail.lean ====
/- What the host makes of the kernel's results: the mask put on the gradient of the mixing matrices, and the lanes of a group summed in the gradient of the biases. -/
module

public import proofs.«01_k».proof.Proof.SguHost

@[expose] public section

set_option maxRecDepth 16384
set_option synthInstance.maxSize 4096

noncomputable section

namespace Cert.KernelIdeal.Gen

open Idealize.ShloMosaic Idealize.ShloMosaic.TcCoe Idealize.SL.Sem
open Idealize.ShloMosaic.Tactic

open Idealize.ShloMosaic.Pipeline

variable (m : (ℓ : Loc nD τ sig) → Buf (Elt Ideal) ℓ) (c : Dev nD)

/-- The buffers when the kernel has run. -/
abbrev Wx : Valuation τ sig (Elt Ideal) := withArrays (cfgs 0).spec c (V0 m c) fun w => (dats m 0 c).arrAt w (cfgs 0).N

theorem Wx_out (w : Fin (cfgs 0).W) : Wx m c (Proc.devRef .tc (arrRef (cfgs 0).spec w)) = (dats m 0 c).arrAt w (cfgs 0).N :=
  withArrays_arr_shared _ c (V0 m c) _ ((dats m 0 c).arrAt_sharedIn sharedIn0 (V0 m c) (fun w => A_eq m c w) _) w

theorem Wx_v9 : Wx m c (Proc.devRef .tc main_v9) = hMask :=
  (withArrays_of_ne _ c (V0 m c) _ main_v9 (by exact (by decide : ∀ w, arrRef spec0 w ≠ main_v9))).trans (V_v9 m c)

theorem tail_v33 : afterTail₀ cfgs (dats m) 0 (V0 m) [hostOps1, hostOps1_1, hostOps1_2] c main_v33 =
    broadcastInDim S1x8x128x128 ![1, 2, 3] bcast_S8x128x128_S1x8x128x128_1_2_3
      (select (broadcastInDim S8x128x128 ![0, 1, 2] bcast_S1x128x128_S8x128x128_0_1_2
              (broadcastInDim S1x128x128 ![1, 2] bcast_S128x128_S1x128x128_1_2 hMask))
        (shapeCast S8x128x128 ((dats m 0 c).arrAt 11 cfg0.N : Vec Ideal S4x256x128 .f32) shapeCasts_S4x256x128_S8x128x128)
        (broadcastInDim S8x128x128 ![] bcast_S_S8x128x128 (id (constant S_ FTy.f32 0#32 : FVec Ideal S_ .f32)))) := by
  unfold afterTail₀
  simp only [List.flatten_cons, List.flatten_nil, List.cons_append, List.nil_append, List.append_nil]
  after_reads_simp
  try simp -implicitDefEqProofs only [StableHlo.TRef.toBuf, StableHlo.TRef.ofBuf, cast_cast, cast_eq]
  have e1 : withArrays (cfgs 0).spec c (V0 m c) (fun w => (dats m 0 c).arrAt w (cfgs 0).N) (Proc.devRef .tc main_v9) = hMask := Wx_v9 m c
  have e2 : withArrays (cfgs 0).spec c (V0 m c) (fun w => (dats m 0 c).arrAt w (cfgs 0).N) (Proc.devRef .tc main_v26_2) = (dats m 0 c).arrAt 11 cfg0.N :=
    Wx_out m c 11
  rw [e1, e2]
  rfl

theorem tail_v34 : afterTail₀ cfgs (dats m) 0 (V0 m) [hostOps1, hostOps1_1, hostOps1_2] c main_v34 =
    broadcastInDim S1x8x128 ![1, 2] bcast_S8x128_S1x8x128_1_2
      (transpose S8x128 [1, 0] (Host.reduceAdd (shapeCast S128x8x64 ((dats m 0 c).arrAt 12 cfg0.N : Vec Ideal S128x512 .f32) shapeCasts_S128x512_S128x8x64)
        (constant S_ FTy.f32 0#32 : FVec Ideal S_ .f32) reducesTo_S128x8x64_S128x8_d2 h_S_) transposes_S128x8_S8x128_1_0) := by
  unfold afterTail₀
  simp only [List.flatten_cons, List.flatten_nil, List.cons_append, List.nil_append, List.append_nil]
  after_reads_simp
  have e2 : withArrays (cfgs 0).spec c (V0 m c) (fun w => (dats m 0 c).arrAt w (cfgs 0).N) (Proc.devRef .tc main_v26_3) = (dats m 0 c).arrAt 12 cfg0.N :=
    Wx_out m c 12
  rw [e2]
  rfl

/-- The masked gradient, read. -/
theorem dwAt (x : Vec Ideal S4x256x128 .f32) (p : Fin 8) (i j : Fin 128) :
    (broadcastInDim S1x8x128x128 ![1, 2, 3] bcast_S8x128x128_S1x8x128x128_1_2_3
      (select (broadcastInDim S8x128x128 ![0, 1, 2] bcast_S1x128x128_S8x128x128_0_1_2
              (broadcastInDim S1x128x128 ![1, 2] bcast_S128x128_S1x128x128_1_2 hMask))
        (shapeCast S8x128x128 x shapeCasts_S4x256x128_S8x128x128)
        (broadcastInDim S8x128x128 ![] bcast_S_S8x128x128 (id (constant S_ FTy.f32 0#32 : FVec Ideal S_ .f32))) : Vec Ideal S8x128x128 .f32)) (ix4 0 p i j) =
      if j.val / 64 ≤ i.val / 64 then x (ix3 ⟨p.val / 2, by omega⟩ ⟨128 * (p.val % 2) + i.val, by omega⟩ j) else ((0 : ℝ) : EReal) := by
  have z : (id (constant S_ FTy.f32 0#32 : FVec Ideal S_ .f32)) ix0 = ((0 : ℝ) : EReal) := by
    show Ideal.ofBits .f32 0#32 = _
    simp [Ideal.ofBits, Ideal.ieee]
  pointwise
  rw [z, hMask_apply]
  have e : ∀ h h', (ix3 (⟨p.val / 2, by omega⟩ : Fin 4) (⟨p.val % 2 * 128 + i.val, h⟩ : Fin 256) j) = ix3 ⟨p.val / 2, by omega⟩ ⟨128 * (p.val % 2) + i.val, h'⟩ j :=
    fun _ _ => congrArg (fun e => ix3 _ e j) (Fin.ext (by show p.val % 2 * 128 + i.val = 128 * (p.val % 2) + i.val; omega))
  by_cases h : j.val / 64 ≤ i.val / 64
  · rw [if_pos h, if_pos h, ← e]
    rfl
  · rw [if_neg h, if_neg h]
    rfl

/-- The summed gradient of the biases, read. -/
theorem dbAt (x : Vec Ideal S128x512 .f32) (f : Fin 128 → Fin 512 → ℝ) (h : ∀ i k, x (ix2 i k) = ((f i k : ℝ) : EReal)) (p : Fin 8) (i : Fin 128) :
    (broadcastInDim S1x8x128 ![1, 2] bcast_S8x128_S1x8x128_1_2
      (transpose S8x128 [1, 0] (Host.reduceAdd (shapeCast S128x8x64 x shapeCasts_S128x512_S128x8x64)
        (constant S_ FTy.f32 0#32 : FVec Ideal S_ .f32) reducesTo_S128x8x64_S128x8_d2 h_S_) transposes_S128x8_S8x128_1_0 : FVec Ideal S8x128 .f32)) (ix3 0 p i) =
      ((∑ k : Fin 64, f i ⟨64 * p.val + k.val, by omega⟩ : ℝ) : EReal) := by
  pointwise
  rw [← Sgu.coe_sum]
  refine Finset.sum_congr rfl fun k _ => ?_
  rw [h]
  exact congrArg (fun e => ((f i e : ℝ) : EReal)) (Fin.ext (by show p.val * 64 + k.val = 64 * p.val + k.val; omega))

section Results
variable {m c} {W : Fin 8 → Fin 128 → Fin 128 → ℝ} {bs : Fin 8 → Fin 128 → ℝ} {wb : Fin 512 → Fin 1024 → ℝ} {g b : Fin 512 → ℝ}
  {u sv : Fin 4096 → Fin 512 → ℝ} {ct : Fin 4096 → Fin 1024 → ℝ} (A : Args m c W bs wb g b u sv ct)
include A

/-- The gradient of the mixing matrices, where the mask lets a position in. -/
theorem res_dw (p : Fin 8) (i j : Fin 128) :
    (afterTail₀ cfgs (dats m) 0 (V0 m) [hostOps1, hostOps1_1, hostOps1_2] c main_v33 : Vec Ideal S1x8x128x128 .f32) (ix4 0 p i j) =
      ((if j.val / 64 ≤ i.val / 64 then tDw wb g b u sv ct p i j else 0 : ℝ) : EReal) := by
  rw [tail_v33, dwAt, arr11 m c (fun t => blkAt A t)]
  by_cases h : j.val / 64 ≤ i.val / 64
  · rw [if_pos h, if_pos h]
    refine congrArg (fun r : ℝ => (r : EReal)) ?_
    have e1 : pg ⟨p.val / 2, by omega⟩ (prE ⟨128 * (p.val % 2) + i.val, by omega⟩) = p :=
      Fin.ext (by show 2 * (p.val / 2) + (128 * (p.val % 2) + i.val) / 128 = p.val; omega)
    have e2 : prI ⟨128 * (p.val % 2) + i.val, by omega⟩ = i := Fin.ext (by show (128 * (p.val % 2) + i.val) % 128 = i.val; omega)
    show tDw wb g b u sv ct (pg ⟨p.val / 2, _⟩ (prE ⟨128 * (p.val % 2) + i.val, _⟩)) (prI ⟨128 * (p.val % 2) + i.val, _⟩) j = _
    rw [e1, e2]
  · rw [if_neg h, if_neg h]

/-- The gradient of the biases. -/
theorem res_db (p : Fin 8) (i : Fin 128) :
    (afterTail₀ cfgs (dats m) 0 (V0 m) [hostOps1, hostOps1_1, hostOps1_2] c main_v34 : Vec Ideal S1x8x128 .f32) (ix3 0 p i) =
      ((∑ k : Fin 64, tDb wb u ct i ⟨64 * p.val + k.val, by omega⟩ : ℝ) : EReal) := by
  rw [tail_v34]
  refine dbAt _ (tDb wb u ct) (fun i k => ?_) p i
  exact congrFun (arr12 m c (fun t => blkAt A t)) (ix2 i k)

end Results

end Cert.KernelIdeal.Gen
-- ==== Proof.SguRefA.lean ====
/- The reference's forward values as reals: gelu and its pieces, and the layernorm. -/
module

public import proofs.«01_k».proof.Proof.SguReal
public import proofs.«01_k».proof.Proof.Gen.ReferenceIdeal.Read
public import Idealize.ShloMosaic.Lib.Pointwise

@[expose] public section

set_option maxRecDepth 16384
set_option synthInstance.maxSize 4096

noncomputable section

namespace Cert.ReferenceIdeal.Read

open Cert.ReferenceIdeal Cert.ReferenceIdeal.Gen Idealize.ShloMosaic Idealize.ShloMosaic.TcCoe Idealize.SL.Sem
open Idealize.ShloMosaic.Tactic

theorem lit_3 : Ideal.ofBits .f32 0x40400000#32 = ((3 : ℝ) : EReal) := by
  simp [Ideal.ofBits, Ideal.ieee, -EReal.coe_mul]; norm_num
theorem lit_44715 : Ideal.ofBits .f32 0x472EAB00#32 = ((44715 : ℝ) : EReal) := by
  simp [Ideal.ofBits, Ideal.ieee, -EReal.coe_mul]; norm_num
theorem lit_1e6 : Ideal.ofBits .f32 0x49742400#32 = ((1000000 : ℝ) : EReal) := by
  simp [Ideal.ofBits, Ideal.ieee, -EReal.coe_mul]; norm_num
theorem lit_mhalf : Ideal.ofBits .f32 0xBF000000#32 = ((-(1 / 2) : ℝ) : EReal) := by
  simp [Ideal.ofBits, Ideal.ieee, -EReal.coe_mul]; norm_num

/-- A real array's contents, embedded. -/
abbrev X2 := (⟨S4096x512, .f32⟩ : BufTy).Contents (Elt Ideal)

section Gelu0
variable (x : X2) (i : S4096x512.Idx) (r : ℝ) (h : x i = ((r : ℝ) : EReal))
include h
theorem r_v12 : val_main_v12 x i = ((Sgu.th r : ℝ) : EReal) := by
  pointwise [val_main_v0, val_main_v1, val_main_v5, val_main_v6, val_main_v7, val_main_v8, val_main_v9, val_main_v10, val_main_v11, val_main_v12, val_main_cst_0, val_main_cst_1, val_main_cst_2]
  simp only [h, lit_44715, lit_1e6, Sgu.lit_K, ← EReal.coe_mul, Sgu.coe_div _ (show (1000000 : ℝ) ≠ 0 by norm_num), ← EReal.coe_add, Ideal.tanh_coe]
  refine congrArg (fun r : ℝ => (r : EReal)) ?_
  unfold Sgu.th Sgu.C
  congr 1
  ring
theorem r_v4 : val_main_v4 x i = ((3 * (r * r) : ℝ) : EReal) := by
  pointwise [val_main_v2, val_main_v3, val_main_v4, val_main_cst]
  simp only [h, lit_3, ← EReal.coe_mul]
theorem r_v17 : val_main_v17 x i = (((1 + Sgu.th r) * (1 - Sgu.th r) : ℝ) : EReal) := by
  pointwise [val_main_v13, val_main_v14, val_main_v15, val_main_v16, val_main_v17, val_main_cst_3, val_main_cst_4]
  simp only [r_v12 x i r h, Sgu.coe_one, ← EReal.coe_mul, ← EReal.coe_add, ← EReal.coe_sub]
theorem r_v21 : val_main_v21 x i = ((1 / 2 * (1 + Sgu.th r) : ℝ) : EReal) := by
  pointwise [val_main_v18, val_main_v19, val_main_v20, val_main_v21, val_main_cst_5, val_main_cst_6]
  simp only [r_v12 x i r h, Sgu.coe_one, Sgu.lit_half, ← EReal.coe_mul, ← EReal.coe_add]
theorem r_v22 : val_main_v22 x i = ((Sgu.gelu r : ℝ) : EReal) := by
  pointwise [val_main_v22]
  rw [r_v21 x i r h, h, ← EReal.coe_mul]
  refine congrArg (fun r : ℝ => (r : EReal)) ?_
  unfold Sgu.gelu
  ring
end Gelu0

section Gelu1
variable (x : X2) (i : S4096x512.Idx) (r : ℝ) (h : x i = ((r : ℝ) : EReal))
include h
theorem r_v35 : val_main_v35 x i = ((Sgu.th r : ℝ) : EReal) := by
  pointwise [val_main_v23, val_main_v24, val_main_v28, val_main_v29, val_main_v30, val_main_v31, val_main_v32, val_main_v33, val_main_v34, val_main_v35, val_main_cst_8, val_main_cst_9, val_main_cst_10]
  simp only [h, lit_44715, lit_1e6, Sgu.lit_K, ← EReal.coe_mul, Sgu.coe_div _ (show (1000000 : ℝ) ≠ 0 by norm_num), ← EReal.coe_add, Ideal.tanh_coe]
  refine congrArg (fun r : ℝ => (r : EReal)) ?_
  unfold Sgu.th Sgu.C
  congr 1
  ring
theorem r_v27 : val_main_v27 x i = ((3 * (r * r) : ℝ) : EReal) := by
  pointwise [val_main_v25, val_main_v26, val_main_v27, val_main_cst_7]
  simp only [h, lit_3, ← EReal.coe_mul]
theorem r_v40 : val_main_v40 x i = (((1 + Sgu.th r) * (1 - Sgu.th r) : ℝ) : EReal) := by
  pointwise [val_main_v36, val_main_v37, val_main_v38, val_main_v39, val_main_v40, val_main_cst_11, val_main_cst_12]
  simp only [r_v35 x i r h, Sgu.coe_one, ← EReal.coe_mul, ← EReal.coe_add, ← EReal.coe_sub]
theorem r_v44 : val_main_v44 x i = ((1 / 2 * (1 + Sgu.th r) : ℝ) : EReal) := by
  pointwise [val_main_v41, val_main_v42, val_main_v43, val_main_v44, val_main_cst_13, val_main_cst_14]
  simp only [r_v35 x i r h, Sgu.coe_one, Sgu.lit_half, ← EReal.coe_mul, ← EReal.coe_add]
theorem r_v45 : val_main_v45 x i = ((Sgu.gelu r : ℝ) : EReal) := by
  pointwise [val_main_v45]
  rw [r_v44 x i r h, h, ← EReal.coe_mul]
  refine congrArg (fun r : ℝ => (r : EReal)) ?_
  unfold Sgu.gelu
  ring
end Gelu1

section Norm
variable (x : X2) (s : Fin 4096) (r : Fin 512 → ℝ) (h : ∀ c, x (ix2 s c) = ((r c : ℝ) : EReal))
include h

theorem r_v53 (z : Fin 1) : val_main_v53 x (ix2 s z) = ((Sgu.mean (fun c => Sgu.gelu (r c)) : ℝ) : EReal) := by
  pointwise [val_main_v53, val_main_v51, val_main_v50, val_main_cst_15, val_main_v52, val_main_cst_16]
  simp only [fun c => r_v45 x (ix2 s c) _ (h c), Sgu.lit_512, Sgu.coe_sum]
  rw [Sgu.coe_div _ (by norm_num)]
  rfl

theorem r_v55 (c : Fin 512) : val_main_v55 x (ix2 s c) = ((Sgu.xc r c : ℝ) : EReal) := by
  pointwise [val_main_v55, val_main_v54]
  rw [r_v45 x _ _ (h c), r_v53 x s r h, ← EReal.coe_sub]
  rfl

theorem r_v62 (z : Fin 1) : val_main_v62 x (ix2 s z) = ((Sgu.ve r : ℝ) : EReal) := by
  pointwise [val_main_v62, val_main_v60, val_main_v58, val_main_v57, val_main_v56, val_main_cst_17, val_main_v59, val_main_cst_18, val_main_v61, val_main_cst_19]
  simp only [fun c => r_v55 x s r h c, Sgu.lit_512, Sgu.lit_ε, ← EReal.coe_mul, Sgu.coe_sum]
  rw [Sgu.coe_div _ (by norm_num), ← EReal.coe_add]
  rfl

theorem r_v63 (z : Fin 1) : val_main_v63 x (ix2 s z) = ((Sgu.rs r : ℝ) : EReal) := by
  pointwise [val_main_v63]
  rw [r_v62 x s r h]
  exact Sgu.coe_rsqrt (Sgu.ve_pos r)

theorem r_v66 (z : Fin 1) : val_main_v66 x (ix2 s z) = ((-(1 / 2) * (Sgu.rs r / Sgu.ve r) : ℝ) : EReal) := by
  pointwise [val_main_v66, val_main_v65, val_main_cst_20, val_main_v64]
  rw [r_v62 x s r h, r_v63 x s r h, lit_mhalf, Sgu.coe_div _ (Sgu.ve_pos r).ne', ← EReal.coe_mul]

theorem r_v68 (c : Fin 512) : val_main_v68 x (ix2 s c) = ((Sgu.xhat r c : ℝ) : EReal) := by
  pointwise [val_main_v68, val_main_v67]
  rw [r_v55 x s r h, r_v63 x s r h, ← EReal.coe_mul]
  rfl

theorem r_v74 (x4 x5 : (⟨S1x512, .f32⟩ : BufTy).Contents (Elt Ideal)) (g b : Fin 512 → ℝ) (hg : ∀ c, x4 (ix2 0 c) = ((g c : ℝ) : EReal))
    (hb : ∀ c, x5 (ix2 0 c) = ((b c : ℝ) : EReal)) (c : Fin 512) : val_main_v74 x x4 x5 (ix2 s c) = ((Sgu.vn g b r c : ℝ) : EReal) := by
  pointwise [val_main_v74, val_main_v73, val_main_v72, val_main_v71, val_main_v70, val_main_v69, val_main_v46, val_main_v47]
  simp only [r_v68 x s r h, hg, hb, ← EReal.coe_mul, ← EReal.coe_add]
  rfl

end Norm

end Cert.ReferenceIdeal.Read
-- ==== Proof.SguRefB.lean ====
/- The reference's mixing of positions and the gradients up to the layernorm's output, as reals. -/
module

public import proofs.«01_k».proof.Proof.SguRefA
public import proofs.«01_k».proof.Proof.SguTotal

@[expose] public section

set_option maxRecDepth 16384
set_option synthInstance.maxSize 4096

noncomputable section

namespace Cert.ReferenceIdeal.Read

open Cert.ReferenceIdeal Cert.ReferenceIdeal.Gen Idealize.ShloMosaic Idealize.ShloMosaic.TcCoe Idealize.SL.Sem
open Idealize.ShloMosaic.Tactic

/-- The arrays the reference is given are real: `W` the mixing matrices, `bs` their bias, `wb` the projection, `g`, `b` the layernorm,
`u`, `sv` the two halves and `ct` the cotangent. -/
structure RArgs (x0 x1 : X2) (x4 x5 : (⟨S1x512, .f32⟩ : BufTy).Contents (Elt Ideal)) (x6 : (⟨S1x8x128x128, .f32⟩ : BufTy).Contents (Elt Ideal))
    (x7 : (⟨S1x8x128, .f32⟩ : BufTy).Contents (Elt Ideal)) (x8 : (⟨S1x512x1024, .f32⟩ : BufTy).Contents (Elt Ideal))
    (x9 : (⟨S4096x1024, .f32⟩ : BufTy).Contents (Elt Ideal))
    (W : Fin 8 → Fin 128 → Fin 128 → ℝ) (bs : Fin 8 → Fin 128 → ℝ) (wb : Fin 512 → Fin 1024 → ℝ) (g b : Fin 512 → ℝ)
    (u sv : Fin 4096 → Fin 512 → ℝ) (ct : Fin 4096 → Fin 1024 → ℝ) : Prop where
  hu : ∀ s k, x0 (ix2 s k) = ((u s k : ℝ) : EReal)
  hsv : ∀ s k, x1 (ix2 s k) = ((sv s k : ℝ) : EReal)
  hg : ∀ k, x4 (ix2 0 k) = ((g k : ℝ) : EReal)
  hb : ∀ k, x5 (ix2 0 k) = ((b k : ℝ) : EReal)
  hW : ∀ p i j, x6 (ix4 0 p i j) = ((W p i j : ℝ) : EReal)
  hbs : ∀ p i, x7 (ix3 0 p i) = ((bs p i : ℝ) : EReal)
  hwb : ∀ k n, x8 (ix3 0 k n) = ((wb k n : ℝ) : EReal)
  hct : ∀ s n, x9 (ix2 s n) = ((ct s n : ℝ) : EReal)

theorem lit_0 : Ideal.ofBits .f32 0x00000000#32 = ((0 : ℝ) : EReal) := by
  simp [Ideal.ofBits, Ideal.ieee]

theorem pos_eq (n : Fin 32) (i : Fin 128) (h : n.val * 128 + i.val < 4096) : (⟨n.val * 128 + i.val, h⟩ : Fin 4096) = Sgu.pos n i :=
  Fin.ext (by show n.val * 128 + i.val = 128 * n.val + i.val; omega)
theorem lane_eq (p : Fin 8) (k : Fin 64) (h : p.val * 64 + k.val < 512) : (⟨p.val * 64 + k.val, h⟩ : Fin 512) = Sgu.lane p k :=
  Fin.ext (by show p.val * 64 + k.val = 64 * p.val + k.val; omega)

theorem r_v77 (j : Fin 128) : val_main_v77 (F := Ideal) (ix1 j) = BitVec.ofNat 32 (j.val / 64) := by
  revert j; decide +kernel

theorem r_v82 (i j : Fin 128) : val_main_v82 (F := Ideal) (ix2 i j) = if j.val / 64 ≤ i.val / 64 then 1#1 else 0#1 := by
  have e : val_main_v82 (F := Ideal) (ix2 i j) = IntOp.cmpi .sle (val_main_v77 (F := Ideal) (ix1 j)) (val_main_v77 (F := Ideal) (ix1 i)) := by
    pointwise [val_main_v82, val_main_v81, val_main_v80, val_main_v79, val_main_v78]
  rw [e, r_v77, r_v77]
  have hi : i.val / 64 < 2 := by omega
  have hj : j.val / 64 < 2 := by omega
  generalize i.val / 64 = x at hi ⊢
  generalize j.val / 64 = y at hj ⊢
  have h : ∀ x y : Fin 2, IntOp.cmpi .sle (BitVec.ofNat 32 y.val) (BitVec.ofNat 32 x.val) = if y.val ≤ x.val then 1#1 else 0#1 := by decide
  exact h ⟨x, hi⟩ ⟨y, hj⟩

theorem r_v84_1 (p : Fin 8) (i j : Fin 128) : val_main_v84_1 (F := Ideal) (ix3 p i j) = if j.val / 64 ≤ i.val / 64 then 1#1 else 0#1 := by
  rw [← r_v82]
  pointwise [val_main_v84_1, val_main_v83]

section
variable {x0 x1 : X2} {x4 x5 : (⟨S1x512, .f32⟩ : BufTy).Contents (Elt Ideal)} {x6 : (⟨S1x8x128x128, .f32⟩ : BufTy).Contents (Elt Ideal)}
    {x7 : (⟨S1x8x128, .f32⟩ : BufTy).Contents (Elt Ideal)} {x8 : (⟨S1x512x1024, .f32⟩ : BufTy).Contents (Elt Ideal)}
    {x9 : (⟨S4096x1024, .f32⟩ : BufTy).Contents (Elt Ideal)}
    {W : Fin 8 → Fin 128 → Fin 128 → ℝ} {bs : Fin 8 → Fin 128 → ℝ} {wb : Fin 512 → Fin 1024 → ℝ} {g b : Fin 512 → ℝ}
    {u sv : Fin 4096 → Fin 512 → ℝ} {ct : Fin 4096 → Fin 1024 → ℝ}
    (A : RArgs x0 x1 x4 x5 x6 x7 x8 x9 W bs wb g b u sv ct)
include A

theorem r_v84_0 (p : Fin 8) (i j : Fin 128) : val_main_v84_0 x6 (ix3 p i j) = ((Sgu.masked W p i j : ℝ) : EReal) := by
  have e : val_main_v84_0 x6 (ix3 p i j) = if val_main_v84_1 (F := Ideal) (ix3 p i j) = 1 then x6 (ix4 0 p i j) else val_main_call1_v2 (F := Ideal) (ix3 p i j) := by
    pointwise [val_main_v84_0, val_main_v48]
    rfl
  have z : val_main_call1_v2 (F := Ideal) (ix3 p i j) = ((0 : ℝ) : EReal) := by
    pointwise [val_main_call1_v2, val_main_call1_v0, val_main_c_21]
    simp [FloatOps.sitofp]
  rw [e, z, r_v84_1, A.hW]
  unfold Sgu.masked
  by_cases h : j.val / 64 ≤ i.val / 64 <;> simp [h]

theorem r_v75 (n : Fin 32) (i : Fin 128) (p : Fin 8) (k : Fin 64) :
    val_main_v75 x1 x4 x5 (ix4 n i p k) = ((Sgu.vn g b (sv (Sgu.pos n i)) (Sgu.lane p k) : ℝ) : EReal) := by
  rw [← r_v74 x1 (Sgu.pos n i) _ (A.hsv _) x4 x5 g b A.hg A.hb]
  pointwise [val_main_v75]
  rw [pos_eq, lane_eq]

theorem r_v85 (p : Fin 8) (n : Fin 32) (k : Fin 64) (i : Fin 128) :
    val_main_v85 x1 x4 x5 x6 (ix4 p n k i) = ((∑ j, Sgu.vn g b (sv (Sgu.pos n j)) (Sgu.lane p k) * Sgu.masked W p i j : ℝ) : EReal) := by
  pointwise [val_main_v85]
  simp only [r_v75 A, r_v84_0 A, ← EReal.coe_mul, Sgu.coe_sum]

theorem r_v90 (n : Fin 32) (i : Fin 128) (p : Fin 8) (k : Fin 64) :
    val_main_v90 x1 x4 x5 x6 x7 (ix4 n i p k)
      = (((∑ j, Sgu.vn g b (sv (Sgu.pos n j)) (Sgu.lane p k) * Sgu.masked W p i j) + bs p i : ℝ) : EReal) := by
  pointwise [val_main_v90, val_main_v86, val_main_v89, val_main_v88, val_main_v87, val_main_v49]
  simp only [r_v85 A, A.hbs, ← EReal.coe_add]

theorem r_v91 (s : Fin 4096) (c : Fin 512) :
    val_main_v91 x1 x4 x5 x6 x7 (ix2 s c)
      = ((Sgu.mixed (Sgu.masked W) bs (fun j => Sgu.vn g b (Sgu.rows sv (Sgu.win s) j)) (Sgu.off s) c : ℝ) : EReal) := by
  have e : val_main_v91 x1 x4 x5 x6 x7 (ix2 s c)
      = val_main_v90 x1 x4 x5 x6 x7 (ix4 (Sgu.win s) (Sgu.off s) (Sgu.grp c) ⟨c.val % 64, Nat.mod_lt _ (by norm_num)⟩) := by
    pointwise [val_main_v91]
    rfl
  rw [e, r_v90 A]
  have hl : Sgu.lane (Sgu.grp c) ⟨c.val % 64, Nat.mod_lt _ (by norm_num)⟩ = c := Fin.ext (Nat.div_add_mod _ _)
  rw [hl]
  refine congrArg (fun r : ℝ => (r : EReal)) ?_
  unfold Sgu.mixed Sgu.rows
  simp only [mul_comm]

theorem r_v95 (s : Fin 4096) (c : Fin 512) : val_main_v95 x8 x9 (ix2 s c) = ((Sgu.dsg wb (ct s) c : ℝ) : EReal) := by
  pointwise [val_main_v95, val_main_v93]
  simp only [A.hct, A.hwb, ← EReal.coe_mul, Sgu.coe_sum]
  rfl

theorem r_v96 (s : Fin 4096) (c : Fin 512) : val_main_v96 x0 x8 x9 (ix2 s c) = ((Sgu.dm wb (u s) (ct s) c : ℝ) : EReal) := by
  pointwise [val_main_v96]
  rw [r_v22 x0 _ _ (A.hu s c), r_v95 A, ← EReal.coe_mul, mul_comm]
  rfl

theorem r_v98 (n : Fin 32) (i : Fin 128) (p : Fin 8) (k : Fin 64) :
    val_main_v98 x0 x8 x9 (ix4 n i p k) = ((Sgu.dm wb (u (Sgu.pos n i)) (ct (Sgu.pos n i)) (Sgu.lane p k) : ℝ) : EReal) := by
  rw [← r_v96 A]
  pointwise [val_main_v98]
  rw [pos_eq, lane_eq]

theorem r_v103 (p : Fin 8) (n : Fin 32) (k : Fin 64) (i : Fin 128) :
    val_main_v103 x0 x8 x9 (ix4 p n k i) = ((Sgu.dm wb (u (Sgu.pos n i)) (ct (Sgu.pos n i)) (Sgu.lane p k) : ℝ) : EReal) := by
  rw [← r_v98 A]
  pointwise [val_main_v103]

theorem r_v105 (p : Fin 8) (n : Fin 32) (k : Fin 64) (j : Fin 128) :
    val_main_v105 x0 x6 x8 x9 (ix4 p n k j)
      = ((∑ i, Sgu.dm wb (u (Sgu.pos n i)) (ct (Sgu.pos n i)) (Sgu.lane p k) * Sgu.masked W p i j : ℝ) : EReal) := by
  pointwise [val_main_v105]
  simp only [r_v103 A, r_v84_0 A, ← EReal.coe_mul, Sgu.coe_sum]

theorem r_v108 (s : Fin 4096) (c : Fin 512) :
    val_main_v108 x0 x6 x8 x9 (ix2 s c) = ((Cert.KernelIdeal.Gen.tDvn (Sgu.masked W) wb u ct s c : ℝ) : EReal) := by
  have e : val_main_v108 x0 x6 x8 x9 (ix2 s c)
      = val_main_v105 x0 x6 x8 x9 (ix4 (Sgu.grp c) (Sgu.win s) ⟨c.val % 64, Nat.mod_lt _ (by norm_num)⟩ (Sgu.off s)) := by
    pointwise [val_main_v108, val_main_v106]
    rfl
  rw [e, r_v105 A]
  have hl : Sgu.lane (Sgu.grp c) ⟨c.val % 64, Nat.mod_lt _ (by norm_num)⟩ = c := Fin.ext (Nat.div_add_mod _ _)
  rw [hl]
  refine congrArg (fun r : ℝ => (r : EReal)) ?_
  unfold Cert.KernelIdeal.Gen.tDvn Sgu.dvn Sgu.rows
  simp only [mul_comm]

end

end Cert.ReferenceIdeal.Read
-- ==== Proof.SguRefC.lean ====
/- The reference's results as reals. -/
module

public import proofs.«01_k».proof.Proof.SguRefB

@[expose] public section

set_option maxRecDepth 16384
set_option synthInstance.maxSize 4096

noncomputable section

namespace Cert.ReferenceIdeal.Read

open Cert.ReferenceIdeal Cert.ReferenceIdeal.Gen Idealize.ShloMosaic Idealize.ShloMosaic.TcCoe Idealize.SL.Sem
open Idealize.ShloMosaic.Tactic

open Cert.KernelIdeal.Gen (tDu tDvn tDsv tDw tDb tDg tDbeta)

/-- The gradient through a layernorm, as the reference arranges it, is the one the kernel computes. -/
theorem ln_grad (r dx : Fin 512 → ℝ) (c : Fin 512) (q : ℝ)
    (hq : q = (∑ k, Sgu.xc r k * dx k) * (-(1 / 2) * (Sgu.rs r / Sgu.ve r)) / 512) :
    (dx c * Sgu.rs r + Sgu.xc r c * q + q * Sgu.xc r c) + (∑ k, -(dx k * Sgu.rs r + Sgu.xc r k * q + q * Sgu.xc r k)) / 512
      = Sgu.rs r * (dx c - Sgu.mean dx - Sgu.xhat r c * Sgu.mean fun k => dx k * Sgu.xhat r k) := by
  have h1 : ∑ k, -(dx k * Sgu.rs r + Sgu.xc r k * q + q * Sgu.xc r k) = -(Sgu.rs r * ∑ k, dx k) := by
    have e : ∀ k, -(dx k * Sgu.rs r + Sgu.xc r k * q + q * Sgu.xc r k) = -Sgu.rs r * dx k + -(2 * q) * Sgu.xc r k := fun k => by ring
    simp only [e, Finset.sum_add_distrib, ← Finset.mul_sum, Sgu.sum_xc]
    ring
  have h2 : ∑ k, dx k * Sgu.xhat r k = Sgu.rs r * ∑ k, Sgu.xc r k * dx k := by
    rw [Finset.mul_sum]
    refine Finset.sum_congr rfl fun k _ => ?_
    unfold Sgu.xhat
    ring
  have h3 : Sgu.rs r / Sgu.ve r = Sgu.rs r * (Sgu.rs r * Sgu.rs r) := by rw [Sgu.rs_sq, div_eq_mul_inv]
  rw [h1, hq, h3]
  unfold Sgu.mean
  rw [h2]
  unfold Sgu.xhat
  ring

/-- The gradient through gelu, as the reference arranges it. -/
theorem gelu_grad (d x : ℝ) :
    (d * (1 / 2 * (1 + Sgu.th x)) + Sgu.K * (1 / 2 * (x * d) * ((1 + Sgu.th x) * (1 - Sgu.th x))))
        + 44715 * (Sgu.K * (1 / 2 * (x * d) * ((1 + Sgu.th x) * (1 - Sgu.th x))) / 1000000) * (3 * (x * x))
      = d * Sgu.gelud x := by
  unfold Sgu.gelud Sgu.C3
  ring

/-- A sum over the first and the last of four axes. -/
theorem reduce_ends {a b c d : ℕ} (h : (⟨4, ![a, b, c, d]⟩ : Shape).ReducesTo [0, 3] ⟨2, ![b, c]⟩) (x : (⟨4, ![a, b, c, d]⟩ : Shape).Idx → EReal)
    (init : EReal) (i : Fin b) (p : Fin c) :
    Ideal.hostReduceAdd h x init (ix2 i p) = init + ∑ n : Fin a, ∑ k : Fin d, x (ix4 n i p k) := by
  unfold Ideal.hostReduceAdd
  refine congrArg (init + ·) ?_
  rw [← Finset.sum_product']
  have hd : ∀ y : (⟨4, ![a, b, c, d]⟩ : Shape).Idx, h.drop y = ix2 i p ↔ (y 1 = i ∧ y 2 = p) := by
    intro y
    rw [funext_iff, Fin.forall_fin_two]
    simp only [Fin.ext_iff, h.drop_apply_val_of_eq y 0 1 Nat.zero_lt_two rfl, h.drop_apply_val_of_eq y 1 2 Nat.one_lt_two rfl]
    exact ⟨fun q => ⟨Fin.ext q.1, Fin.ext q.2⟩, fun q => ⟨congrArg Fin.val q.1, congrArg Fin.val q.2⟩⟩
  refine Finset.sum_nbij' (fun y => (y 0, y 3)) (fun q => ix4 q.1 i p q.2) ?_ ?_ ?_ ?_ ?_
  · intro y _; exact Finset.mem_univ _
  · intro q _; exact Finset.mem_filter.mpr ⟨Finset.mem_univ _, (hd _).mpr ⟨rfl, rfl⟩⟩
  · intro y hy
    obtain ⟨h1, h2⟩ := (hd y).mp (Finset.mem_filter.mp hy).2
    subst h1 h2
    funext z
    match z with
    | ⟨0, _⟩ => rfl
    | ⟨1, _⟩ => rfl
    | ⟨2, _⟩ => rfl
    | ⟨3, _⟩ => rfl
  · intro q _; rfl
  · intro y hy
    obtain ⟨h1, h2⟩ := (hd y).mp (Finset.mem_filter.mp hy).2
    subst h1 h2
    refine congrArg x (funext fun z => ?_)
    match z with
    | ⟨0, _⟩ => rfl
    | ⟨1, _⟩ => rfl
    | ⟨2, _⟩ => rfl
    | ⟨3, _⟩ => rfl

section
variable {x0 x1 : X2} {x4 x5 : (⟨S1x512, .f32⟩ : BufTy).Contents (Elt Ideal)} {x6 : (⟨S1x8x128x128, .f32⟩ : BufTy).Contents (Elt Ideal)}
    {x7 : (⟨S1x8x128, .f32⟩ : BufTy).Contents (Elt Ideal)} {x8 : (⟨S1x512x1024, .f32⟩ : BufTy).Contents (Elt Ideal)}
    {x9 : (⟨S4096x1024, .f32⟩ : BufTy).Contents (Elt Ideal)}
    {W : Fin 8 → Fin 128 → Fin 128 → ℝ} {bs : Fin 8 → Fin 128 → ℝ} {wb : Fin 512 → Fin 1024 → ℝ} {g b : Fin 512 → ℝ}
    {u sv : Fin 4096 → Fin 512 → ℝ} {ct : Fin 4096 → Fin 1024 → ℝ}
    (A : RArgs x0 x1 x4 x5 x6 x7 x8 x9 W bs wb g b u sv ct)
include A

theorem r_v97 (s : Fin 4096) (c : Fin 512) :
    val_main_v97 x1 x4 x5 x6 x7 x8 x9 (ix2 s c)
      = ((Sgu.dsg wb (ct s) c * Sgu.mixed (Sgu.masked W) bs (fun j => Sgu.vn g b (Sgu.rows sv (Sgu.win s) j)) (Sgu.off s) c : ℝ) : EReal) := by
  pointwise [val_main_v97]
  rw [r_v95 A, r_v91 A, ← EReal.coe_mul]

/-- The gradient of `u`. -/
theorem r_v171 (s : Fin 4096) (c : Fin 512) :
    val_main_v171 x0 x1 x4 x5 x6 x7 x8 x9 (ix2 s c) = ((tDu (Sgu.masked W) bs wb g b u sv ct s c : ℝ) : EReal) := by
  pointwise [val_main_v158, val_main_v159, val_main_v160, val_main_v161, val_main_v162, val_main_v163, val_main_v164, val_main_v165, val_main_v166, val_main_v167, val_main_v168, val_main_v169, val_main_v170, val_main_v171, val_main_cst_38, val_main_cst_39, val_main_cst_40, val_main_cst_41]
  simp only [r_v97 A, r_v4 x0 _ _ (A.hu s c), r_v17 x0 _ _ (A.hu s c), r_v21 x0 _ _ (A.hu s c), A.hu, lit_44715, lit_1e6, Sgu.lit_K,
    Sgu.lit_half, ← EReal.coe_mul, Sgu.coe_div _ (show (1000000 : ℝ) ≠ 0 by norm_num), ← EReal.coe_add]
  refine congrArg (fun r : ℝ => (r : EReal)) ((gelu_grad _ _).trans ?_)
  unfold tDu Sgu.du Sgu.rows
  rw [Sgu.pos_win_off]

theorem r_v172 (s : Fin 4096) (c : Fin 512) :
    val_main_v172 x0 x1 x4 x5 x6 x7 x8 x9 (ix2 s c) = ((tDu (Sgu.masked W) bs wb g b u sv ct s c : ℝ) : EReal) := by
  rw [← r_v171 A]
  pointwise [val_main_v172]

theorem r_v116 (s : Fin 4096) (c : Fin 512) :
    val_main_v116 x0 x4 x6 x8 x9 (ix2 s c) = ((tDvn (Sgu.masked W) wb u ct s c * g c : ℝ) : EReal) := by
  pointwise [val_main_v116, val_main_v115, val_main_v69, val_main_v46]
  rw [r_v108 A, A.hg, ← EReal.coe_mul]

theorem r_v127 (s : Fin 4096) (c : Fin 512) :
    val_main_v127 x0 x1 x4 x6 x8 x9 (ix2 s c)
      = (((∑ k, Sgu.xc (sv s) k * (tDvn (Sgu.masked W) wb u ct s k * g k)) * (-(1 / 2) * (Sgu.rs (sv s) / Sgu.ve (sv s))) / 512 : ℝ) : EReal) := by
  pointwise [val_main_v127, val_main_v126, val_main_v125, val_main_v124, val_main_v123, val_main_v120, val_main_v119, val_main_v118, val_main_cst_28, val_main_cst_29, val_main_cst_30]
  simp only [fun k => r_v55 x1 s _ (A.hsv s) k, r_v116 A, fun z => r_v66 x1 s _ (A.hsv s) z, Sgu.lit_512, ← EReal.coe_mul, Sgu.coe_sum,
    Sgu.coe_div _ (show (512 : ℝ) ≠ 0 by norm_num), Fin.sum_univ_one]

theorem r_v131 (s : Fin 4096) (c : Fin 512) (q : ℝ)
    (hq : q = (∑ k, Sgu.xc (sv s) k * (tDvn (Sgu.masked W) wb u ct s k * g k)) * (-(1 / 2) * (Sgu.rs (sv s) / Sgu.ve (sv s))) / 512) :
    val_main_v131 x0 x1 x4 x6 x8 x9 (ix2 s c)
      = ((tDvn (Sgu.masked W) wb u ct s c * g c * Sgu.rs (sv s) + Sgu.xc (sv s) c * q + q * Sgu.xc (sv s) c : ℝ) : EReal) := by
  pointwise [val_main_v131, val_main_v130, val_main_v129, val_main_v128, val_main_v122, val_main_v121]
  simp only [r_v127 A, r_v116 A, fun k => r_v55 x1 s _ (A.hsv s) k, fun z => r_v63 x1 s _ (A.hsv s) z, ← hq, ← EReal.coe_mul, ← EReal.coe_add]

theorem r_v138 (s : Fin 4096) (c : Fin 512) (q : ℝ)
    (hq : q = (∑ k, Sgu.xc (sv s) k * (tDvn (Sgu.masked W) wb u ct s k * g k)) * (-(1 / 2) * (Sgu.rs (sv s) / Sgu.ve (sv s))) / 512) :
    val_main_v138 x0 x1 x4 x6 x8 x9 (ix2 s c)
      = (((∑ k, -(tDvn (Sgu.masked W) wb u ct s k * g k * Sgu.rs (sv s) + Sgu.xc (sv s) k * q + q * Sgu.xc (sv s) k)) / 512 : ℝ) : EReal) := by
  pointwise [val_main_v138, val_main_v137, val_main_v136, val_main_v135, val_main_v134, val_main_v133, val_main_v132, val_main_cst_31, val_main_cst_32, val_main_cst_33]
  simp only [fun k => r_v131 A s k q hq, Sgu.lit_512, ← EReal.coe_neg, Sgu.coe_sum, Sgu.coe_div _ (show (512 : ℝ) ≠ 0 by norm_num), Fin.sum_univ_one]

theorem r_v139 (s : Fin 4096) (c : Fin 512) :
    val_main_v139 x0 x1 x4 x6 x8 x9 (ix2 s c)
      = ((Sgu.rs (sv s) * (tDvn (Sgu.masked W) wb u ct s c * g c - (Sgu.mean fun k => tDvn (Sgu.masked W) wb u ct s k * g k)
          - Sgu.xhat (sv s) c * Sgu.mean fun k => tDvn (Sgu.masked W) wb u ct s k * g k * Sgu.xhat (sv s) k) : ℝ) : EReal) := by
  pointwise [val_main_v139]
  rw [r_v131 A s c _ rfl, r_v138 A s c _ rfl, ← EReal.coe_add]
  exact congrArg (fun r : ℝ => (r : EReal)) (ln_grad (sv s) (fun k => tDvn (Sgu.masked W) wb u ct s k * g k) c _ rfl)

/-- The gradient of `sv`. -/
theorem r_v157 (s : Fin 4096) (c : Fin 512) :
    val_main_v157 x0 x1 x4 x6 x8 x9 (ix2 s c) = ((tDsv (Sgu.masked W) wb g u sv ct s c : ℝ) : EReal) := by
  pointwise [val_main_v144, val_main_v145, val_main_v146, val_main_v147, val_main_v148, val_main_v149, val_main_v150, val_main_v151, val_main_v152, val_main_v153, val_main_v154, val_main_v155, val_main_v156, val_main_v157, val_main_cst_34, val_main_cst_35, val_main_cst_36, val_main_cst_37]
  simp only [r_v139 A, r_v27 x1 _ _ (A.hsv s c), r_v40 x1 _ _ (A.hsv s c), r_v44 x1 _ _ (A.hsv s c), A.hsv, lit_44715, lit_1e6, Sgu.lit_K,
    Sgu.lit_half, ← EReal.coe_mul, Sgu.coe_div _ (show (1000000 : ℝ) ≠ 0 by norm_num), ← EReal.coe_add]
  exact congrArg (fun r : ℝ => (r : EReal)) (gelu_grad _ _)

theorem r_v173 (s : Fin 4096) (c : Fin 512) :
    val_main_v173 x0 x1 x4 x6 x8 x9 (ix2 s c) = ((tDsv (Sgu.masked W) wb g u sv ct s c : ℝ) : EReal) := by
  rw [← r_v157 A]
  pointwise [val_main_v173]

theorem r_v104 (p : Fin 8) (i j : Fin 128) :
    val_main_v104 x0 x1 x4 x5 x8 x9 (ix3 p i j) = ((tDw wb g b u sv ct p i j : ℝ) : EReal) := by
  pointwise [val_main_v104]
  simp only [r_v103 A, r_v75 A, ← EReal.coe_mul, Sgu.coe_sum]
  rfl

/-- The gradient of the mixing matrices. -/
theorem r_v141 (p : Fin 8) (i j : Fin 128) :
    val_main_v141 x0 x1 x4 x5 x8 x9 (ix4 0 p i j) = ((if j.val / 64 ≤ i.val / 64 then tDw wb g b u sv ct p i j else 0 : ℝ) : EReal) := by
  have e : val_main_v141 x0 x1 x4 x5 x8 x9 (ix4 0 p i j)
      = if val_main_v84_1 (F := Ideal) (ix3 p i j) = 1 then val_main_v104 x0 x1 x4 x5 x8 x9 (ix3 p i j) else val_main_call2_v0 (F := Ideal) (ix3 p i j) := by
    pointwise [val_main_v141, val_main_v107]
    rfl
  have z : val_main_call2_v0 (F := Ideal) (ix3 p i j) = ((0 : ℝ) : EReal) := by
    pointwise [val_main_call2_v0, val_main_call2_cst]
    rfl
  rw [e, z, r_v84_1, r_v104 A]
  by_cases h : j.val / 64 ≤ i.val / 64 <;> simp [h]

theorem r_v99 (i : Fin 128) (p : Fin 8) :
    val_main_v99 x0 x8 x9 (ix2 i p) = ((∑ n : Fin 32, ∑ k : Fin 64, Sgu.dm wb (u (Sgu.pos n i)) (ct (Sgu.pos n i)) (Sgu.lane p k) : ℝ) : EReal) := by
  pointwise [val_main_v99, val_main_cst_22]
  rw [reduce_ends, zero_add]
  simp only [r_v98 A, Sgu.coe_sum]

/-- The gradient of the mixing bias. -/
theorem r_v140 (p : Fin 8) (i : Fin 128) :
    val_main_v140 x0 x8 x9 (ix3 0 p i) = ((∑ k : Fin 64, tDb wb u ct i (Sgu.lane p k) : ℝ) : EReal) := by
  pointwise [val_main_v140, val_main_v102, val_main_v101, val_main_v100, val_main_cst_23]
  rw [reduce_ends, zero_add]
  pointwise [val_main_v100]
  simp only [r_v99 A, Fin.sum_univ_one]
  refine congrArg (fun r : ℝ => (r : EReal)) ?_
  unfold tDb
  exact Finset.sum_comm

/-- The gradient of the layernorm's bias. -/
theorem r_v142 (c : Fin 512) : val_main_v142 x0 x6 x8 x9 (ix2 0 c) = ((tDbeta (Sgu.masked W) wb u ct c : ℝ) : EReal) := by
  pointwise [val_main_v142, val_main_v111, val_main_v110, val_main_v109, val_main_cst_24, val_main_cst_25]
  simp only [r_v108 A, Sgu.coe_sum, Fin.sum_univ_one]
  rfl

/-- The gradient of the layernorm's gain. -/
theorem r_v143 (c : Fin 512) : val_main_v143 x0 x1 x6 x8 x9 (ix2 0 c) = ((tDg (Sgu.masked W) wb u sv ct c : ℝ) : EReal) := by
  pointwise [val_main_v143, val_main_v117, val_main_v114, val_main_v113, val_main_v112, val_main_cst_26, val_main_cst_27]
  simp only [r_v108 A, fun s k => r_v68 x1 s _ (A.hsv s) k, ← EReal.coe_mul, Sgu.coe_sum, Fin.sum_univ_one]
  refine congrArg (fun r : ℝ => (r : EReal)) ?_
  unfold tDg
  simp only [mul_comm]

/-- The two gradients transposed, one above the other. -/
theorem r_v176_u (s : Fin 4096) (c : Fin 512) :
    val_main_v176 x0 x1 x4 x5 x6 x7 x8 x9 (ix2 ⟨c.val, by omega⟩ s) = ((tDu (Sgu.masked W) bs wb g b u sv ct s c : ℝ) : EReal) := by
  rw [← r_v172 A]
  pointwise [val_main_v176, val_main_v174]

theorem r_v176_sv (s : Fin 4096) (c : Fin 512) :
    val_main_v176 x0 x1 x4 x5 x6 x7 x8 x9 (ix2 ⟨512 + c.val, by omega⟩ s) = ((tDsv (Sgu.masked W) wb g u sv ct s c : ℝ) : EReal) := by
  rw [← r_v173 A]
  pointwise [val_main_v176, val_main_v175]

end

end Cert.ReferenceIdeal.Read
-- ==== Proof.SguPre.lean ====
/- What the precondition says: the arrays it names are real. -/
module

public import proofs.«01_k».proof.Defs
public import proofs.«01_k».proof.Proof.SguHost

@[expose] public section

set_option maxRecDepth 16384

noncomputable section

namespace Cert.KernelIdeal.Gen

open Cert.KernelIdeal Idealize.ShloMosaic Idealize.ShloMosaic.TcCoe Idealize.SL.Sem
open Idealize.ShloMosaic.Tactic

theorem pre_facts : Cert.Pre_finite.Facts where
  bcast_S_S4096x512 := by decide
  bcast_S_S1x512 := by decide
  bcast_S_S1x8x128x128 := by decide
  bcast_S_S1x8x128 := by decide
  bcast_S_S1x512x1024 := by decide
  bcast_S_S4096x1024 := by decide

theorem lit_inf : Ideal.ofBits .f32 0x7F800000#32 = (⊤ : EReal) := by
  simp [Ideal.ofBits, Ideal.ieee]

theorem real_of_lt (x : EReal) (h : Ideal.cmp .olt (max x (-x)) (Ideal.ofBits .f32 0x7F800000#32) = 1#1) : ∃ r : ℝ, x = ((r : ℝ) : EReal) := by
  rw [lit_inf] at h
  induction x with
  | bot => simp [Ideal.cmp] at h
  | top => simp [Ideal.cmp] at h
  | coe r => exact ⟨r, rfl⟩

/-- An array every element of which passes the test is real. -/
theorem real_of_test {S : Shape} (x : FVec Ideal S .f32) (hb : S_.BroadcastsInDim S (![] : Fin 0 → Fin S.rank))
    (h : cmpf .olt (Host.absf x) (broadcastInDim S ![] hb (constant S_ .f32 0x7F800000#32 : FVec Ideal S_ .f32)) = fun _ => 1#1) :
    ∃ r : S.Idx → ℝ, ∀ i, x i = ((r i : ℝ) : EReal) := by
  have e : ∀ i, ∃ r : ℝ, x i = ((r : ℝ) : EReal) := fun i => real_of_lt (x i) (congrFun h i)
  choose r hr using e
  exact ⟨r, hr⟩

attribute [local instance] pre_facts in
theorem args_of_pre (m : (ℓ : Loc nD τ sig) → Buf (Elt Ideal) ℓ) (h : Cert.Pre_KernelIdeal_finite m) (c : Dev nD) :
    ∃ W bs wb g b u sv ct, Args m c W bs wb g b u sv ct := by
  obtain ⟨h0, h1, h4, h5, h6, h7, h8, h9⟩ := h c
  obtain ⟨r0, e0⟩ := real_of_test _ _ h0
  obtain ⟨r1, e1⟩ := real_of_test _ _ h1
  obtain ⟨r4, e4⟩ := real_of_test _ _ h4
  obtain ⟨r5, e5⟩ := real_of_test _ _ h5
  obtain ⟨r6, e6⟩ := real_of_test _ _ h6
  obtain ⟨r7, e7⟩ := real_of_test _ _ h7
  obtain ⟨r8, e8⟩ := real_of_test _ _ h8
  obtain ⟨r9, e9⟩ := real_of_test _ _ h9
  exact ⟨fun p i j => r6 (ix4 0 p i j), fun p i => r7 (ix3 0 p i), fun k n => r8 (ix3 0 k n), fun k => r4 (ix2 0 k), fun k => r5 (ix2 0 k),
    fun s k => r0 (ix2 s k), fun s k => r1 (ix2 s k), fun s n => r9 (ix2 s n),
    { hu := fun _ _ => e0 _, hsv := fun _ _ => e1 _, hg := fun _ => e4 _, hb := fun _ => e5 _, hW := fun _ _ _ => e6 _,
      hbs := fun _ _ => e7 _, hwb := fun _ _ => e8 _, hct := fun _ _ => e9 _ }⟩

end Cert.KernelIdeal.Gen
-- ==== Proof.SguMatch.lean ====
/- From real arguments the reference's results are the kernel's. -/
module

public import proofs.«01_k».proof.Proof.SguTail
public import proofs.«01_k».proof.Proof.SguRefC
public import proofs.«01_k».proof.Proof.SguPre

@[expose] public section

set_option maxRecDepth 16384

noncomputable section

namespace Cert.KernelIdeal.Gen

open Cert.KernelIdeal Idealize.ShloMosaic Idealize.ShloMosaic.TcCoe Idealize.SL.Sem
open Idealize.ShloMosaic.Tactic Idealize.ShloMosaic.Pipeline

section Match
variable {m : (ℓ : Loc nD τ sig) → Buf (Elt Ideal) ℓ} {c : Dev nD}
  {W : Fin 8 → Fin 128 → Fin 128 → ℝ} {bs : Fin 8 → Fin 128 → ℝ} {wb : Fin 512 → Fin 1024 → ℝ} {g b : Fin 512 → ℝ}
  {u sv : Fin 4096 → Fin 512 → ℝ} {ct : Fin 4096 → Fin 1024 → ℝ}

abbrev R2 := (⟨Cert.ReferenceIdeal.S4096x512, .f32⟩ : BufTy).Contents (Elt Ideal)

variable {x0 x1 : R2} {x4 x5 : (⟨Cert.ReferenceIdeal.S1x512, .f32⟩ : BufTy).Contents (Elt Ideal)}
    {x6 : (⟨Cert.ReferenceIdeal.S1x8x128x128, .f32⟩ : BufTy).Contents (Elt Ideal)}
    {x7 : (⟨Cert.ReferenceIdeal.S1x8x128, .f32⟩ : BufTy).Contents (Elt Ideal)} {x8 : (⟨Cert.ReferenceIdeal.S1x512x1024, .f32⟩ : BufTy).Contents (Elt Ideal)}
    {x9 : (⟨Cert.ReferenceIdeal.S4096x1024, .f32⟩ : BufTy).Contents (Elt Ideal)}

open Cert.ReferenceIdeal.Read

theorem rArgs (A : Args m c W bs wb g b u sv ct)
    (h0 : x0 = m (c.tc.loc main_arg0)) (h1 : x1 = m (c.tc.loc main_arg1)) (h4 : x4 = m (c.tc.loc main_arg4)) (h5 : x5 = m (c.tc.loc main_arg5))
    (h6 : x6 = m (c.tc.loc main_arg6)) (h7 : x7 = m (c.tc.loc main_arg7)) (h8 : x8 = m (c.tc.loc main_arg8)) (h9 : x9 = m (c.tc.loc main_arg9)) :
    RArgs x0 x1 x4 x5 x6 x7 x8 x9 W bs wb g b u sv ct := by
  subst h0 h1 h4 h5 h6 h7 h8 h9
  exact { hu := A.hu, hsv := A.hsv, hg := A.hg, hb := A.hb, hW := A.hW, hbs := A.hbs, hwb := A.hwb, hct := A.hct }

variable (A : Args m c W bs wb g b u sv ct) (R : RArgs x0 x1 x4 x5 x6 x7 x8 x9 W bs wb g b u sv ct)
include A R

theorem match_du : val_main_v172 (F := Ideal) x0 x1 x4 x5 x6 x7 x8 x9 = ((dats m 0 c).arrAt 9 cfg0.N : Vec Ideal S4096x512 .bf16) := by
  rw [arr9 m c (fun t => blkAt A t)]
  funext y
  obtain ⟨s, k, rfl⟩ : ∃ (s : Fin 4096) (k : Fin 512), y = ix2 s k := ⟨y 0, y 1, by funext a; match a with | 0 => rfl | 1 => rfl⟩
  exact r_v172 R s k

theorem match_dsv : val_main_v173 (F := Ideal) x0 x1 x4 x6 x8 x9 = ((dats m 0 c).arrAt 10 cfg0.N : Vec Ideal S4096x512 .bf16) := by
  rw [arr10 m c (fun t => blkAt A t)]
  funext y
  obtain ⟨s, k, rfl⟩ : ∃ (s : Fin 4096) (k : Fin 512), y = ix2 s k := ⟨y 0, y 1, by funext a; match a with | 0 => rfl | 1 => rfl⟩
  exact r_v173 R s k

theorem match_dusvt : val_main_v176 (F := Ideal) x0 x1 x4 x5 x6 x7 x8 x9 = ((dats m 0 c).arrAt 15 cfg0.N : Vec Ideal S1024x4096 .bf16) := by
  rw [arr15 m c (fun t => blkAt A t)]
  funext y
  obtain ⟨r, s, rfl⟩ : ∃ (r : Fin 1024) (s : Fin 4096), y = ix2 r s := ⟨y 0, y 1, by funext a; match a with | 0 => rfl | 1 => rfl⟩
  by_cases h : r.val < 512
  · have e := r_v176_u R s ⟨r.val, h⟩
    refine Eq.trans e (congrArg (fun q : ℝ => (q : EReal)) ?_)
    show _ = tT _ _ _ _ _ _ _ _ r s
    unfold tT
    rw [dif_pos h]
  · have e := r_v176_sv R s ⟨r.val - 512, by omega⟩
    have hr : (⟨512 + (r.val - 512), by omega⟩ : Fin 1024) = r := Fin.ext (by show 512 + (r.val - 512) = r.val; omega)
    have e' : val_main_v176 (F := Ideal) x0 x1 x4 x5 x6 x7 x8 x9 (ix2 r s) = _ := (congrArg (fun q : Fin 1024 => val_main_v176 (F := Ideal) x0 x1 x4 x5 x6 x7 x8 x9 (ix2 q s)) hr.symm).trans e
    refine Eq.trans e' (congrArg (fun q : ℝ => (q : EReal)) ?_)
    show _ = tT _ _ _ _ _ _ _ _ r s
    unfold tT
    rw [dif_neg h]

theorem match_dg : val_main_v143 (F := Ideal) x0 x1 x6 x8 x9 = ((dats m 0 c).arrAt 13 cfg0.N : Vec Ideal S1x512 .f32) := by
  rw [arr13 m c (fun t => blkAt A t)]
  funext y
  obtain ⟨z, k, rfl⟩ : ∃ (z : Fin 1) (k : Fin 512), y = ix2 z k := ⟨y 0, y 1, by funext a; match a with | 0 => rfl | 1 => rfl⟩
  obtain rfl : z = 0 := Subsingleton.elim _ _
  exact r_v143 R k

theorem match_dbeta : val_main_v142 (F := Ideal) x0 x6 x8 x9 = ((dats m 0 c).arrAt 14 cfg0.N : Vec Ideal S1x512 .f32) := by
  rw [arr14 m c (fun t => blkAt A t)]
  funext y
  obtain ⟨z, k, rfl⟩ : ∃ (z : Fin 1) (k : Fin 512), y = ix2 z k := ⟨y 0, y 1, by funext a; match a with | 0 => rfl | 1 => rfl⟩
  obtain rfl : z = 0 := Subsingleton.elim _ _
  exact r_v142 R k

theorem match_dw : val_main_v141 (F := Ideal) x0 x1 x4 x5 x8 x9
    = (afterTail₀ cfgs (dats m) 0 (V0 m) [hostOps1, hostOps1_1, hostOps1_2] c main_v33 : Vec Ideal S1x8x128x128 .f32) := by
  funext y
  obtain ⟨z, p, i, j, rfl⟩ : ∃ (z : Fin 1) (p : Fin 8) (i j : Fin 128), y = ix4 z p i j :=
    ⟨y 0, y 1, y 2, y 3, by funext a; match a with | 0 => rfl | 1 => rfl | 2 => rfl | 3 => rfl⟩
  obtain rfl : z = 0 := Subsingleton.elim _ _
  exact (r_v141 R p i j).trans (res_dw A p i j).symm

theorem match_db : val_main_v140 (F := Ideal) x0 x8 x9
    = (afterTail₀ cfgs (dats m) 0 (V0 m) [hostOps1, hostOps1_1, hostOps1_2] c main_v34 : Vec Ideal S1x8x128 .f32) := by
  funext y
  obtain ⟨z, p, i, rfl⟩ : ∃ (z : Fin 1) (p : Fin 8) (i : Fin 128), y = ix3 z p i :=
    ⟨y 0, y 1, y 2, by funext a; match a with | 0 => rfl | 1 => rfl | 2 => rfl⟩
  obtain rfl : z = 0 := Subsingleton.elim _ _
  exact (r_v140 R p i).trans (res_db A p i).symm

end Match

end Cert.KernelIdeal.Gen
-- ==== Proof.MlpRun.lean ====
/- The whole run of the MLP program: every buffer at the end, and every semaphore at zero. -/
module

public import proofs.«01_k».proof.Proof.Gen.Kernel2Ideal.Frame

@[expose] public section

set_option maxRecDepth 16384
set_option synthInstance.maxSize 4096

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- At the end every buffer of the program holds what its four regions leave, and every semaphore is at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.Kernel2Ideal.Gen

end
-- ==== Proof.MlpModel.lean ====
/- The squared-ReLU MLP over the extended reals: its first product, its activation, and the gradients of its backward pass. -/
module

public import Idealize.ShloMosaic.Lib.Pipeline.ValueKit

@[expose] public section

set_option maxRecDepth 16384
set_option synthInstance.maxSize 4096

noncomputable section

namespace Mlp

open Idealize.ShloMosaic

/-- A matrix of extended reals. -/
abbrev Mat (a b : ℕ) : Type := Fin a → Fin b → EReal

/-- The product of the normalised input with the first weight. -/
def up (h : Mat 4096 1024) (wu : Mat 1024 4096) : Mat 4096 4096 := fun s f => ∑ k, h s k * wu k f

/-- The activation: the square of the positive part. -/
def act (h : Mat 4096 1024) (wu : Mat 1024 4096) : Mat 4096 4096 := fun s f => max (up h wu s f) 0 * max (up h wu s f) 0

/-- The gradient of the activation: the output's gradient times the second weight, transposed. -/
def dAct (wd : Mat 4096 1024) (ct : Mat 4096 1024) : Mat 4096 4096 := fun s f => ∑ k, ct s k * wd f k

/-- The gradient of the first product, from the activation alone. -/
def da (h : Mat 4096 1024) (wu : Mat 1024 4096) (wd ct : Mat 4096 1024) : Mat 4096 4096 :=
  fun s f => dAct wd ct s f * (2 * Ideal.sqrt (act h wu s f))

/-- The gradient of the second weight. -/
def gDown (h : Mat 4096 1024) (wu : Mat 1024 4096) (ct : Mat 4096 1024) : Mat 4096 1024 :=
  fun f k => ∑ s, act h wu s f * ct s k

/-- The gradient of the first weight. -/
def gUp (h : Mat 4096 1024) (wu : Mat 1024 4096) (wd ct : Mat 4096 1024) : Mat 1024 4096 :=
  fun k f => ∑ s, h s k * da h wu wd ct s f

/-- The square root of a square of a value that is not negative is the value, infinity included. -/
theorem sqrt_sq (x : EReal) (hx : 0 ≤ x) : Ideal.sqrt (x * x) = x := by
  induction x with
  | bot => simp at hx
  | top => rw [EReal.top_mul_top, Ideal.sqrt_top]
  | coe r =>
    have hr : 0 ≤ r := EReal.coe_nonneg.mp hx
    rw [← EReal.coe_mul, Ideal.sqrt_coe, if_neg (not_lt.mpr (mul_nonneg hr hr)), Real.sqrt_mul_self hr]

/-- The derivative of the squared positive part, chosen by the sign, is the one read off the activation. -/
theorem da_eq (u d : EReal) : (if 0 < u then d * (2 * max u 0) else 0) = d * (2 * Ideal.sqrt (max u 0 * max u 0)) := by
  rw [sqrt_sq _ (le_max_right _ _)]
  split
  · rfl
  · rename_i h
    rw [max_eq_right (not_lt.mp h), mul_zero, mul_zero]

end Mlp

end
-- ==== Proof.MlpPay.lean ====
/- What the four bodies of the MLP compute, read at an index. -/
module

public import proofs.«01_k».proof.Proof.Gen.Kernel2Ideal.Skeleton
public import proofs.«01_k».proof.Proof.MlpModel

@[expose] public section

set_option maxRecDepth 16384
set_option synthInstance.maxSize 4096

noncomputable section

namespace Cert.Kernel2Ideal.Gen

open Idealize.ShloMosaic Idealize.ShloMosaic.TcCoe Idealize.SL.Sem
open Idealize.ShloMosaic.Tactic

theorem two_word : Ideal.ofBits .f32 0x40000000#32 = (2 : EReal) := by
  simp [Ideal.ofBits, Ideal.ieee, -EReal.coe_mul]; norm_num; rfl

theorem zero_word : Ideal.ofBits .f32 0x00000000#32 = (0 : EReal) := by
  simp [Ideal.ofBits, Ideal.ieee, -EReal.coe_mul]

theorem pay_act (x0 x1 : Vec Ideal S1024x1024 .bf16) (p q : Fin 1024) :
    k0_pay1 x0 x1 (ix2 p q) = max (∑ k : Fin 1024, x0 (ix2 p k) * x1 (ix2 q k)) 0 * max (∑ k : Fin 1024, x0 (ix2 p k) * x1 (ix2 q k)) 0 := by
  pointwise [k0_pay1]

theorem pay_actT (x0 x1 : Vec Ideal S1024x1024 .bf16) (p q : Fin 1024) : k0_pay2 x0 x1 (ix2 p q) = k0_pay1 x0 x1 (ix2 q p) := by
  pointwise [k0_pay2]

theorem pay_da (x0 x1 x2 : Vec Ideal S1024x1024 .bf16) (p q : Fin 1024) :
    k1_pay1 x0 x1 x2 (ix2 p q) = (∑ k : Fin 1024, x0 (ix2 p k) * x1 (ix2 q k)) * (2 * Ideal.sqrt (x2 (ix2 p q))) := by
  pointwise [k1_pay1]
  simp only [two_word]

theorem pay_gDown (x1 : Vec Ideal S4096x1024 .bf16) (x0 : Vec Ideal S1024x4096 .bf16) (p q : Fin 1024) :
    k2_pay1 x1 x0 (ix2 p q) = ∑ s : Fin 4096, x0 (ix2 p s) * x1 (ix2 s q) := by
  pointwise [k2_pay1]

theorem pay_gUp0 (x1 : Vec Ideal S4096x1024 .bf16) (x0 : Vec Ideal S1024x4096 .bf16) (z : Fin 1) (p : Fin 1024) (q : Fin 512) :
    k3_pay3 x1 x0 (ix3 z p q) = ∑ s : Fin 4096, x0 (ix2 p s) * x1 (ix2 s ⟨q.val, by omega⟩) := by
  pointwise [k3_pay3, k3_pay2, k3_pay1]

theorem pay_gUp1 (x1 : Vec Ideal S4096x1024 .bf16) (x0 : Vec Ideal S1024x4096 .bf16) (z : Fin 1) (p : Fin 1024) (q : Fin 512) :
    k3_pay6 x1 x0 (ix3 z p q) = ∑ s : Fin 4096, x0 (ix2 p s) * x1 (ix2 s ⟨512 + q.val, by omega⟩) := by
  pointwise [k3_pay6, k3_pay5, k3_pay1]

end Cert.Kernel2Ideal.Gen

end
-- ==== Proof.MlpArr.lean ====
/- The activation, its transpose and the gradient of the first product: what the first two regions leave. -/
module

public import proofs.«01_k».proof.Proof.Gen.Kernel2Ideal.Frame
public import proofs.«01_k».proof.Proof.MlpPay
public import Idealize.ShloMosaic.Lib.Pipeline.ValueKit
public import Idealize.ShloMosaic.Lib.Claim

@[expose] public section

set_option maxRecDepth 16384
set_option synthInstance.maxSize 4096

noncomputable section

namespace Cert.Kernel2Ideal.Gen

open Idealize.ShloMosaic Idealize.ShloMosaic.TcCoe Idealize.SL.Sem
open Idealize.ShloMosaic.Tactic

theorem idx0 : ∀ t : Fin cfg0.N, win0_0.index t = ![t.val / 4, 0] ∧ win0_1.index t = ![t.val % 4, 0] ∧ win0_2.index t = ![t.val / 4, t.val % 4]
    ∧ win0_3.index t = ![t.val % 4, t.val / 4] :=
  (by decide +kernel : ∀ t : Fin grid0.N, _)

theorem idx1 : ∀ t : Fin cfg1.N, win1_0.index t = ![t.val / 4, 0] ∧ win1_1.index t = ![t.val % 4, 0] ∧ win1_2.index t = ![t.val / 4, t.val % 4]
    ∧ win1_3.index t = ![t.val / 4, t.val % 4] :=
  (by decide +kernel : ∀ t : Fin grid1.N, _)

theorem split2 {a b : ℕ} (y : Shape.Idx ⟨2, ![a, b]⟩) : y = ix2 (y 0) (y 1) := by
  funext d; match d with | 0 => rfl | 1 => rfl

/-- Row `p` of the block `q`. -/
def at4 (q : ℕ) (p : Fin 1024) : Fin 4096 := ⟨(1024 * q + p.val) % 4096, Nat.mod_lt _ (by norm_num)⟩

variable (V : (c : Dev nD) → (b : Ref sig .tc) → Buf (Elt Ideal) ((c : Thread nD τ).loc b)) (c : Dev nD)

section Region0
variable {h : Mlp.Mat 4096 1024} {wu : Mlp.Mat 1024 4096}
  (hh : ∀ s k, V c main_v0 (ix2 s k) = h s k) (hw : ∀ f k, V c main_v4 (ix2 f k) = wu k f)

include hh in
theorem blkH (t : Fin cfg0.N) (p k : Fin 1024) : iblk0 V c 0 t (ix2 p k) = h (at4 (t.val / 4) p) k := by
  blk_simp [iblk0]
  have hN : t.val < 16 := t.isLt
  refine (congrArg (V c main_v0) (show _ = ix2 (at4 (t.val / 4) p) k from ?_)).trans (hh _ _)
  funext a
  match a with
  | 0 => exact Fin.ext (by blk_simp [(idx0 t).1]; show t.val / 4 * 1024 + p.val = (1024 * (t.val / 4) + p.val) % 4096; omega)
  | 1 => exact Fin.ext (by blk_simp [(idx0 t).1])

include hw in
theorem blkWu (t : Fin cfg0.N) (q k : Fin 1024) : iblk0 V c 1 t (ix2 q k) = wu k (at4 (t.val % 4) q) := by
  blk_simp [iblk0]
  have hN : t.val < 16 := t.isLt
  refine (congrArg (V c main_v4) (show _ = ix2 (at4 (t.val % 4) q) k from ?_)).trans (hw _ _)
  funext a
  match a with
  | 0 => exact Fin.ext (by blk_simp [(idx0 t).2.1]; show t.val % 4 * 1024 + q.val = (1024 * (t.val % 4) + q.val) % 4096; omega)
  | 1 => exact Fin.ext (by blk_simp [(idx0 t).2.1])

include hh hw

/-- The activation. -/
theorem arrAct : (dat0 V c).arrAt 2 cfg0.N = (fun y : S4096x4096.Idx => Mlp.act h wu (y 0) (y 1)) := by
  refine (dat0 V c).arrAt_eq_of_covers 2 _ (by decide +kernel) fun t _ y => ?_
  blk_simp
  rw [after0_2]; frame_out
  obtain ⟨p, q, rfl⟩ : ∃ (p q : Fin 1024), y = ix2 p q := ⟨y 0, y 1, split2 y⟩
  have hN : t.val < 16 := t.isLt
  refine (pay_act _ _ p q).trans ?_
  simp only [blkH V c hh, blkWu V c hw]
  show Mlp.act h wu (at4 (t.val / 4) p) (at4 (t.val % 4) q) = _
  refine congrArg₂ (Mlp.act h wu) (Fin.ext ?_) (Fin.ext ?_)
  · blk_simp [(idx0 t).2.2.1]
    show (1024 * (t.val / 4) + p.val) % 4096 = t.val / 4 * 1024 + p.val
    omega
  · blk_simp [(idx0 t).2.2.1]
    show (1024 * (t.val % 4) + q.val) % 4096 = t.val % 4 * 1024 + q.val
    omega

/-- The activation, transposed. -/
theorem arrActT : (dat0 V c).arrAt 3 cfg0.N = (fun y : S4096x4096.Idx => Mlp.act h wu (y 1) (y 0)) := by
  refine (dat0 V c).arrAt_eq_of_covers 3 _ (by decide +kernel) fun t _ y => ?_
  blk_simp
  rw [after0_3]; frame_out
  obtain ⟨q, p, rfl⟩ : ∃ (q p : Fin 1024), y = ix2 q p := ⟨y 0, y 1, split2 y⟩
  have hN : t.val < 16 := t.isLt
  refine (pay_actT _ _ q p).trans ((pay_act _ _ p q).trans ?_)
  simp only [blkH V c hh, blkWu V c hw]
  show Mlp.act h wu (at4 (t.val / 4) p) (at4 (t.val % 4) q) = _
  refine congrArg₂ (Mlp.act h wu) (Fin.ext ?_) (Fin.ext ?_)
  · blk_simp [(idx0 t).2.2.2]
    show (1024 * (t.val / 4) + p.val) % 4096 = t.val / 4 * 1024 + p.val
    omega
  · blk_simp [(idx0 t).2.2.2]
    show (1024 * (t.val % 4) + q.val) % 4096 = t.val % 4 * 1024 + q.val
    omega

end Region0

section Region1
variable {h : Mlp.Mat 4096 1024} {wu : Mlp.Mat 1024 4096} {wd ct : Mlp.Mat 4096 1024}
  (hc : ∀ s k, V c main_v7 (ix2 s k) = ct s k) (hw : ∀ f k, V c main_v6 (ix2 f k) = wd f k)
  (ha : ∀ s f, V c main_v8_0 (ix2 s f) = Mlp.act h wu s f)

include hc in
theorem blkCt (t : Fin cfg1.N) (p k : Fin 1024) : iblk1 V c 0 t (ix2 p k) = ct (at4 (t.val / 4) p) k := by
  blk_simp [iblk1]
  have hN : t.val < 16 := t.isLt
  refine (congrArg (V c main_v7) (show _ = ix2 (at4 (t.val / 4) p) k from ?_)).trans (hc _ _)
  funext a
  match a with
  | 0 => exact Fin.ext (by blk_simp [(idx1 t).1]; show t.val / 4 * 1024 + p.val = (1024 * (t.val / 4) + p.val) % 4096; omega)
  | 1 => exact Fin.ext (by blk_simp [(idx1 t).1])

include hw in
theorem blkWd (t : Fin cfg1.N) (q k : Fin 1024) : iblk1 V c 1 t (ix2 q k) = wd (at4 (t.val % 4) q) k := by
  blk_simp [iblk1]
  have hN : t.val < 16 := t.isLt
  refine (congrArg (V c main_v6) (show _ = ix2 (at4 (t.val % 4) q) k from ?_)).trans (hw _ _)
  funext a
  match a with
  | 0 => exact Fin.ext (by blk_simp [(idx1 t).2.1]; show t.val % 4 * 1024 + q.val = (1024 * (t.val % 4) + q.val) % 4096; omega)
  | 1 => exact Fin.ext (by blk_simp [(idx1 t).2.1])

include ha in
theorem blkAct (t : Fin cfg1.N) (p q : Fin 1024) : iblk1 V c 2 t (ix2 p q) = Mlp.act h wu (at4 (t.val / 4) p) (at4 (t.val % 4) q) := by
  blk_simp [iblk1]
  have hN : t.val < 16 := t.isLt
  refine (congrArg (V c main_v8_0) (show _ = ix2 (at4 (t.val / 4) p) (at4 (t.val % 4) q) from ?_)).trans (ha _ _)
  funext a
  match a with
  | 0 => exact Fin.ext (by blk_simp [(idx1 t).2.2.1]; show t.val / 4 * 1024 + p.val = (1024 * (t.val / 4) + p.val) % 4096; omega)
  | 1 => exact Fin.ext (by blk_simp [(idx1 t).2.2.1]; show t.val % 4 * 1024 + q.val = (1024 * (t.val % 4) + q.val) % 4096; omega)

include hc hw ha

/-- The gradient of the first product. -/
theorem arrDa : (dat1 V c).arrAt 3 cfg1.N = (fun y : S4096x4096.Idx => Mlp.da h wu wd ct (y 0) (y 1)) := by
  refine (dat1 V c).arrAt_eq_of_covers 3 _ (by decide +kernel) fun t _ y => ?_
  blk_simp
  rw [after1_3]; frame_out
  obtain ⟨p, q, rfl⟩ : ∃ (p q : Fin 1024), y = ix2 p q := ⟨y 0, y 1, split2 y⟩
  have hN : t.val < 16 := t.isLt
  refine (pay_da _ _ _ p q).trans ?_
  simp only [blkCt V c hc, blkWd V c hw, blkAct V c ha]
  show Mlp.da h wu wd ct (at4 (t.val / 4) p) (at4 (t.val % 4) q) = _
  refine congrArg₂ (Mlp.da h wu wd ct) (Fin.ext ?_) (Fin.ext ?_)
  · blk_simp [(idx1 t).2.2.2]
    show (1024 * (t.val / 4) + p.val) % 4096 = t.val / 4 * 1024 + p.val
    omega
  · blk_simp [(idx1 t).2.2.2]
    show (1024 * (t.val % 4) + q.val) % 4096 = t.val % 4 * 1024 + q.val
    omega

end Region1

end Cert.Kernel2Ideal.Gen

end
-- ==== Proof.MlpGrad.lean ====
/- The gradients of the two weights: what the last two regions leave. -/
module

public import proofs.«01_k».proof.Proof.MlpArr
public import Idealize.ShloMosaic.Lib.Pipeline.ValueKit.Tiles

@[expose] public section

set_option maxRecDepth 16384
set_option synthInstance.maxSize 4096

noncomputable section

namespace Cert.Kernel2Ideal.Gen

open Idealize.ShloMosaic Idealize.ShloMosaic.TcCoe Idealize.SL.Sem
open Idealize.ShloMosaic.Tactic

theorem idx2 : ∀ t : Fin cfg2.N, win2_0.index t = ![t.val, 0] ∧ win2_1.index t = ![0, 0] ∧ win2_2.index t = ![t.val, 0] :=
  (by decide +kernel : ∀ t : Fin grid2.N, _)

theorem idx3 : ∀ t : Fin cfg3.N, win3_0.index t = ![0, 0] ∧ win3_1.index t = ![0, t.val] ∧ win3_2.index t = ![t.val, 0, 0] :=
  (by decide +kernel : ∀ t : Fin grid3.N, _)

theorem split3 {a b d : ℕ} (y : Shape.Idx ⟨3, ![a, b, d]⟩) : y = ix3 (y 0) (y 1) (y 2) := by
  funext e; match e with | 0 => rfl | 1 => rfl | 2 => rfl

/-- Column `q` of the chip `r`'s block of 512. -/
def chip (r q : ℕ) : Fin 4096 := ⟨(512 * r + q) % 4096, Nat.mod_lt _ (by norm_num)⟩

variable (V : (c : Dev nD) → (b : Ref sig .tc) → Buf (Elt Ideal) ((c : Thread nD τ).loc b)) (c : Dev nD)

section Region2
variable {h : Mlp.Mat 4096 1024} {wu : Mlp.Mat 1024 4096} {ct : Mlp.Mat 4096 1024}
  (ha : ∀ f s, V c main_v8_1 (ix2 f s) = Mlp.act h wu s f) (hc : ∀ s k, V c main_v7 (ix2 s k) = ct s k)

include ha in
theorem blkActT (t : Fin cfg2.N) (p : Fin 1024) (s : Fin 4096) : iblk2 V c 0 t (ix2 p s) = Mlp.act h wu s (at4 t.val p) := by
  blk_simp [iblk2]
  have hN : t.val < 4 := t.isLt
  refine (congrArg (V c main_v8_1) (show _ = ix2 (at4 t.val p) s from ?_)).trans (ha _ _)
  funext a
  match a with
  | 0 => exact Fin.ext (by blk_simp [(idx2 t).1]; show t.val * 1024 + p.val = (1024 * t.val + p.val) % 4096; omega)
  | 1 => exact Fin.ext (by blk_simp [(idx2 t).1])

include hc in
theorem blkCt2 (t : Fin cfg2.N) (s : Fin 4096) (k : Fin 1024) : iblk2 V c 1 t (ix2 s k) = ct s k := by
  blk_simp [iblk2]
  refine (congrArg (V c main_v7) (show _ = ix2 s k from ?_)).trans (hc _ _)
  funext a
  match a with
  | 0 => exact Fin.ext (by blk_simp [(idx2 t).2.1])
  | 1 => exact Fin.ext (by blk_simp [(idx2 t).2.1])

include ha hc

/-- The gradient of the second weight. -/
theorem arrGDown : (dat2 V c).arrAt 2 cfg2.N = (fun y : S4096x1024.Idx => Mlp.gDown h wu ct (y 0) (y 1)) := by
  refine (dat2 V c).arrAt_eq_of_covers 2 _ (by decide +kernel) fun t _ y => ?_
  blk_simp
  rw [after2_2]; unfold outsAt2; frame_out
  obtain ⟨p, q, rfl⟩ : ∃ (p q : Fin 1024), y = ix2 p q := ⟨y 0, y 1, split2 y⟩
  have hN : t.val < 4 := t.isLt
  refine (pay_gDown _ _ p q).trans ?_
  simp only [blkActT V c ha, blkCt2 V c hc]
  show Mlp.gDown h wu ct (at4 t.val p) q = _
  refine congrArg₂ (Mlp.gDown h wu ct) (Fin.ext ?_) (Fin.ext ?_)
  · blk_simp [(idx2 t).2.2]
    show (1024 * t.val + p.val) % 4096 = t.val * 1024 + p.val
    omega
  · blk_simp [(idx2 t).2.2]

end Region2

section Region3
variable {h : Mlp.Mat 4096 1024} {wu : Mlp.Mat 1024 4096} {wd ct : Mlp.Mat 4096 1024}
  (hh : ∀ k s, V c main_v1 (ix2 k s) = h s k) (hd : ∀ s f, V c main_v9 (ix2 s f) = Mlp.da h wu wd ct s f)

include hh in
theorem blkHt (t : Fin cfg3.N) (k : Fin 1024) (s : Fin 4096) : iblk3 V c 0 t (ix2 k s) = h s k := by
  blk_simp [iblk3]
  refine (congrArg (V c main_v1) (show _ = ix2 k s from ?_)).trans (hh _ _)
  funext a
  match a with
  | 0 => exact Fin.ext (by blk_simp [(idx3 t).1])
  | 1 => exact Fin.ext (by blk_simp [(idx3 t).1])

include hd in
theorem blkDa (t : Fin cfg3.N) (s : Fin 4096) (q : Fin 1024) : iblk3 V c 1 t (ix2 s q) = Mlp.da h wu wd ct s (at4 t.val q) := by
  blk_simp [iblk3]
  have hN : t.val < 4 := t.isLt
  refine (congrArg (V c main_v9) (show _ = ix2 s (at4 t.val q) from ?_)).trans (hd _ _)
  funext a
  match a with
  | 0 => exact Fin.ext (by blk_simp [(idx3 t).2.1])
  | 1 => exact Fin.ext (by blk_simp [(idx3 t).2.1]; show t.val * 1024 + q.val = (1024 * t.val + q.val) % 4096; omega)

include hh hd

/-- The gradient of the first weight, in the layout the exchange reads: a block of 512 columns to each chip. -/
theorem arrGUp : (dat3 V c).arrAt 2 cfg3.N
    = (fun y : S8x1024x512.Idx => Mlp.gUp h wu wd ct (y 1) (chip (y 0).val (y 2).val)) := by
  refine (dat3 V c).arrAt_eq_of_covers 2 _ (by decide +kernel) fun t _ y => ?_
  blk_simp
  rw [after3_2]; unfold outsAt3
  have hN : t.val < 4 := t.isLt
  obtain ⟨r, p, q, rfl⟩ : ∃ (r : Fin 2) (p : Fin 1024) (q : Fin 512), y = ix3 r p q := ⟨y 0, y 1, y 2, split3 y⟩
  refine Eq.trans (b := Mlp.gUp h wu wd ct p (chip (2 * t.val + r.val) q.val)) ?_ (congrArg₂ (Mlp.gUp h wu wd ct) (Fin.ext ?_) (congrArg₂ chip ?_ ?_))
  · frame_out
    canon_tiles x hx
    · obtain ⟨z, p', q', rfl⟩ : ∃ (z : Fin 1) (p' : Fin 1024) (q' : Fin 512), x = ix3 z p' q' := ⟨x 0, x 1, x 2, split3 x⟩
      have e0 : r.val = 1 + z.val := hx0
      have e1 : p = p' := Fin.ext hx1
      have e2 : q = q' := Fin.ext hx2
      subst e1 e2
      refine (pay_gUp1 _ _ z p q).trans ?_
      simp only [blkHt V c hh, blkDa V c hd]
      have e : at4 t.val ⟨512 + q.val, by omega⟩ = chip (2 * t.val + r.val) q.val :=
        Fin.ext (by show (1024 * t.val + (512 + q.val)) % 4096 = (512 * (2 * t.val + r.val) + q.val) % 4096; omega)
      rw [e]
      rfl
    · obtain ⟨z, p', q', rfl⟩ : ∃ (z : Fin 1) (p' : Fin 1024) (q' : Fin 512), x = ix3 z p' q' := ⟨x 0, x 1, x 2, split3 x⟩
      have e0 : r.val = z.val := hx0
      have e1 : p = p' := Fin.ext hx1
      have e2 : q = q' := Fin.ext hx2
      subst e1 e2
      refine (pay_gUp0 _ _ z p q).trans ?_
      simp only [blkHt V c hh, blkDa V c hd]
      have e : at4 t.val ⟨q.val, by omega⟩ = chip (2 * t.val + r.val) q.val :=
        Fin.ext (by show (1024 * t.val + (q.val)) % 4096 = (512 * (2 * t.val + r.val) + q.val) % 4096; omega)
      rw [e]
      rfl
  · blk_simp [(idx3 t).2.2]
  · blk_simp [(idx3 t).2.2]
    show 2 * t.val + r.val = t.val * 2 + r.val
    omega
  · blk_simp [(idx3 t).2.2]

end Region3

end Cert.Kernel2Ideal.Gen

end
-- ==== Proof.MlpHost.lean ====
/- What the host prepares for the four regions, and what the program leaves in the four results. -/
module

public import proofs.«01_k».proof.Proof.MlpGrad
public import Idealize.ShloMosaic.Lib.StableHlo.ReadAt

@[expose] public section

set_option maxRecDepth 16384
set_option synthInstance.maxSize 4096

noncomputable section

namespace Cert.Kernel2Ideal.Gen

open Idealize.ShloMosaic Idealize.ShloMosaic.TcCoe Idealize.SL.Sem
open Idealize.ShloMosaic.Tactic

variable (m : (ℓ : Loc nD τ sig) → Buf (Elt Ideal) ℓ) (ρ : Dev nD → PrngReg) (c : Dev nD)

theorem cast_v4 (x : Vec Ideal S1x1024x4096 .f32) (f : Fin 4096) (k : Fin 1024) :
    (truncf (F := Ideal) .bf16 (transpose S4096x1024 [1, 0] (shapeCast S1024x4096 x shapeCasts_S1x1024x4096_S1024x4096) transposes_S1024x4096_S4096x1024_1_0 : FVec Ideal S4096x1024 .f32) bitsLt_bf16_f32) (ix2 f k) = x (ix3 0 k f) := by
  pointwise

theorem cast_v6 (x : Vec Ideal S1x4096x1024 .f32) (f : Fin 4096) (k : Fin 1024) :
    (truncf (F := Ideal) .bf16 (shapeCast S4096x1024 x shapeCasts_S1x4096x1024_S4096x1024 : FVec Ideal S4096x1024 .f32) bitsLt_bf16_f32) (ix2 f k) = x (ix3 0 f k) := by
  pointwise

/-- The normalised input. -/
def argH : Mlp.Mat 4096 1024 := fun s k => (m ((c.tc : Thread nD τ).loc main_arg0)) (ix2 s k)
/-- The first weight. -/
def argWu : Mlp.Mat 1024 4096 := fun k f => (m ((c.tc : Thread nD τ).loc main_arg1)) (ix3 0 k f)
/-- The second weight. -/
def argWd : Mlp.Mat 4096 1024 := fun f k => (m ((c.tc : Thread nD τ).loc main_arg2)) (ix3 0 f k)
/-- The gradient of the output. -/
def argCt : Mlp.Mat 4096 1024 := fun s k => (m ((c.tc : Thread nD τ).loc main_arg3)) (ix2 s k)

theorem host_v0 : V1 m ρ c main_v0 = (truncf (F := Ideal) .bf16 (m ((c.tc : Thread nD τ).loc main_arg0) : FVec Ideal S4096x1024 .f32) bitsLt_bf16_f32) := by
  after_reads_simp
  try simp -implicitDefEqProofs only [StableHlo.TRef.toBuf, StableHlo.TRef.ofBuf, cast_cast, cast_eq]
  first | done | rfl

theorem host_v0_apply (s : Fin 4096) (k : Fin 1024) : V1 m ρ c main_v0 (ix2 s k) = m ((c.tc : Thread nD τ).loc main_arg0) (ix2 s k) := by
  rw [host_v0]
  pointwise

theorem host_v1 : V1 m ρ c main_v1 = (transpose S1024x4096 [1, 0] (truncf (F := Ideal) .bf16 (m ((c.tc : Thread nD τ).loc main_arg0) : FVec Ideal S4096x1024 .f32) bitsLt_bf16_f32) transposes_S4096x1024_S1024x4096_1_0) := by
  after_reads_simp
  try simp -implicitDefEqProofs only [StableHlo.TRef.toBuf, StableHlo.TRef.ofBuf, cast_cast, cast_eq]
  first | done | rfl

theorem host_v1_apply (k : Fin 1024) (s : Fin 4096) : V1 m ρ c main_v1 (ix2 k s) = m ((c.tc : Thread nD τ).loc main_arg0) (ix2 s k) := by
  rw [host_v1]
  pointwise

theorem host_v4 : V1 m ρ c main_v4 = (truncf (F := Ideal) .bf16 (transpose S4096x1024 [1, 0] (shapeCast S1024x4096 (m ((c.tc : Thread nD τ).loc main_arg1) : FVec Ideal S1x1024x4096 .f32) shapeCasts_S1x1024x4096_S1024x4096) transposes_S1024x4096_S4096x1024_1_0 : FVec Ideal S4096x1024 .f32) bitsLt_bf16_f32) := by
  after_reads_simp
  try simp -implicitDefEqProofs only [StableHlo.TRef.toBuf, StableHlo.TRef.ofBuf, cast_cast, cast_eq]
  first | done | rfl

theorem host_v4_apply (f : Fin 4096) (k : Fin 1024) : V1 m ρ c main_v4 (ix2 f k) = m ((c.tc : Thread nD τ).loc main_arg1) (ix3 0 k f) := by
  rw [host_v4]
  exact cast_v4 _ f k

theorem host_v6 : V1 m ρ c main_v6 = (truncf (F := Ideal) .bf16 (shapeCast S4096x1024 (m ((c.tc : Thread nD τ).loc main_arg2) : FVec Ideal S1x4096x1024 .f32) shapeCasts_S1x4096x1024_S4096x1024 : FVec Ideal S4096x1024 .f32) bitsLt_bf16_f32) := by
  after_reads_simp
  try simp -implicitDefEqProofs only [StableHlo.TRef.toBuf, StableHlo.TRef.ofBuf, cast_cast, cast_eq]
  first | done | rfl

theorem host_v6_apply (f : Fin 4096) (k : Fin 1024) : V1 m ρ c main_v6 (ix2 f k) = m ((c.tc : Thread nD τ).loc main_arg2) (ix3 0 f k) := by
  rw [host_v6]
  exact cast_v6 _ f k

theorem host_v7 : V1 m ρ c main_v7 = (truncf (F := Ideal) .bf16 (m ((c.tc : Thread nD τ).loc main_arg3) : FVec Ideal S4096x1024 .f32) bitsLt_bf16_f32) := by
  after_reads_simp
  try simp -implicitDefEqProofs only [StableHlo.TRef.toBuf, StableHlo.TRef.ofBuf, cast_cast, cast_eq]
  first | done | rfl

theorem host_v7_apply (s : Fin 4096) (k : Fin 1024) : V1 m ρ c main_v7 (ix2 s k) = m ((c.tc : Thread nD τ).loc main_arg3) (ix2 s k) := by
  rw [host_v7]
  pointwise

theorem v8_0_at2 : V2 m ρ c main_v8_0 = (fun y : S4096x4096.Idx => Mlp.act (argH m c) (argWu m c) (y 0) (y 1)) :=
  (W2_arr m ρ c 2).trans (arrAct (V1 m ρ) c (h := argH m c) (wu := argWu m c) (host_v0_apply m ρ c) (host_v4_apply m ρ c))

theorem v8_1_at2 : V2 m ρ c main_v8_1 = (fun y : S4096x4096.Idx => Mlp.act (argH m c) (argWu m c) (y 1) (y 0)) :=
  (W2_arr m ρ c 3).trans (arrActT (V1 m ρ) c (h := argH m c) (wu := argWu m c) (host_v0_apply m ρ c) (host_v4_apply m ρ c))

theorem v6_at2 : V2 m ρ c main_v6 = V1 m ρ c main_v6 := W2_of m ρ c main_v6 (by decide)
theorem v7_at2 : V2 m ρ c main_v7 = V1 m ρ c main_v7 := W2_of m ρ c main_v7 (by decide)
theorem v7_at3 : V3 m ρ c main_v7 = V1 m ρ c main_v7 := (W3_of m ρ c main_v7 (by decide)).trans (v7_at2 m ρ c)
theorem v8_1_at3 : V3 m ρ c main_v8_1 = V2 m ρ c main_v8_1 := W3_of m ρ c main_v8_1 (by decide)
theorem v1_at4 : V4 m ρ c main_v1 = V1 m ρ c main_v1 :=
  ((W4_of m ρ c main_v1 (by decide)).trans (W3_of m ρ c main_v1 (by decide))).trans (W2_of m ρ c main_v1 (by decide))

theorem v9_at3 : V3 m ρ c main_v9 = (fun y : S4096x4096.Idx => Mlp.da (argH m c) (argWu m c) (argWd m c) (argCt m c) (y 0) (y 1)) :=
  (W3_arr m ρ c 3).trans (arrDa (V2 m ρ) c (h := argH m c) (wu := argWu m c) (wd := argWd m c) (ct := argCt m c)
    (fun s k => (congrFun (v7_at2 m ρ c) _).trans (host_v7_apply m ρ c s k))
    (fun f k => (congrFun (v6_at2 m ρ c) _).trans (host_v6_apply m ρ c f k))
    (fun s f => congrFun (v8_0_at2 m ρ c) (ix2 s f)))

theorem v9_at4 : V4 m ρ c main_v9 = V3 m ρ c main_v9 := W4_of m ρ c main_v9 (by decide)

/-- The activation, at the end. -/
theorem end_act : W5 m ρ c (Proc.devRef .tc main_v8_0) = (fun y : S4096x4096.Idx => Mlp.act (argH m c) (argWu m c) (y 0) (y 1)) :=
  (((W5_of m ρ c main_v8_0 (by decide)).trans (W4_of m ρ c main_v8_0 (by decide))).trans (W3_of m ρ c main_v8_0 (by decide))).trans (v8_0_at2 m ρ c)

/-- The gradient of the first product, at the end. -/
theorem end_da : W5 m ρ c (Proc.devRef .tc main_v9)
    = (fun y : S4096x4096.Idx => Mlp.da (argH m c) (argWu m c) (argWd m c) (argCt m c) (y 0) (y 1)) :=
  ((W5_of m ρ c main_v9 (by decide)).trans (v9_at4 m ρ c)).trans (v9_at3 m ρ c)

/-- The gradient of the second weight, at the end. -/
theorem end_gDown : W5 m ρ c (Proc.devRef .tc main_v10)
    = (fun y : S4096x1024.Idx => Mlp.gDown (argH m c) (argWu m c) (argCt m c) (y 0) (y 1)) :=
  (W5_of m ρ c main_v10 (by decide)).trans ((W4_arr m ρ c 2).trans (arrGDown (V3 m ρ) c (h := argH m c) (wu := argWu m c) (ct := argCt m c)
    (fun f s => (congrFun (v8_1_at3 m ρ c) _).trans (congrFun (v8_1_at2 m ρ c) (ix2 f s)))
    (fun s k => (congrFun (v7_at3 m ρ c) _).trans (host_v7_apply m ρ c s k))))

/-- The gradient of the first weight, at the end. -/
theorem end_gUp : W5 m ρ c (Proc.devRef .tc main_v11)
    = (fun y : S8x1024x512.Idx => Mlp.gUp (argH m c) (argWu m c) (argWd m c) (argCt m c) (y 1) (chip (y 0).val (y 2).val)) :=
  (W5_arr m ρ c 2).trans (arrGUp (V4 m ρ) c (h := argH m c) (wu := argWu m c) (wd := argWd m c) (ct := argCt m c)
    (fun k s => (congrFun (v1_at4 m ρ c) _).trans (host_v1_apply m ρ c k s))
    (fun s f => (congrFun (v9_at4 m ρ c) _).trans (congrFun (v9_at3 m ρ c) (ix2 s f))))

end Cert.Kernel2Ideal.Gen

end
-- ==== Proof.MlpRef.lean ====
/- The reference of the MLP: its four results are the model. -/
module

public import proofs.«01_k».proof.Proof.Gen.Reference2Ideal.Read
public import proofs.«01_k».proof.Proof.MlpModel
public import Idealize.ShloMosaic.Lib.Pipeline.ValueKit

@[expose] public section

set_option maxRecDepth 16384
set_option synthInstance.maxSize 4096

noncomputable section

namespace Cert.Reference2Ideal.Read

open Cert.Reference2Ideal Cert.Reference2Ideal.Gen Idealize.ShloMosaic Idealize.ShloMosaic.TcCoe Idealize.SL.Sem
open Idealize.ShloMosaic.Tactic

theorem word_zero : (Ideal.ofBits .f32 0x00000000#32 : EReal) = 0 := by simp [Ideal.ofBits, Ideal.ieee]
theorem word_two : (Ideal.ofBits .f32 0x40000000#32 : EReal) = 2 := by
  simp [Ideal.ofBits, Ideal.ieee, -EReal.coe_mul]; norm_num; rfl

variable {x0 x3 : (⟨S4096x1024, .f32⟩ : BufTy).Contents (Elt Ideal)} {x1 : (⟨S1x1024x4096, .f32⟩ : BufTy).Contents (Elt Ideal)}
  {x2 : (⟨S1x4096x1024, .f32⟩ : BufTy).Contents (Elt Ideal)} {h : Mlp.Mat 4096 1024} {wu : Mlp.Mat 1024 4096} {wd ct : Mlp.Mat 4096 1024}
  (h0 : ∀ s k, x0 (ix2 s k) = h s k) (h1 : ∀ k f, x1 (ix3 0 k f) = wu k f) (h2 : ∀ f k, x2 (ix3 0 f k) = wd f k)
  (h3 : ∀ s k, x3 (ix2 s k) = ct s k)

include h1 in
theorem v0_model (k : Fin 1024) (f : Fin 4096) : val_main_v0 (F := Ideal) x1 (ix2 k f) = wu k f := by
  rw [← h1]
  unfold val_main_v0
  pointwise

include h2 in
theorem v9_model (f : Fin 4096) (k : Fin 1024) : val_main_v9 (F := Ideal) x2 (ix2 f k) = wd f k := by
  rw [← h2]
  unfold val_main_v9
  pointwise

include h0 h1 in
theorem v1_model (s f : Fin 4096) : val_main_v1 (F := Ideal) x0 x1 (ix2 s f) = Mlp.up h wu s f := by
  rw [val_main_v1_apply]
  refine Finset.sum_congr rfl fun k _ => congrArg₂ (· * ·) (Eq.trans (congrArg x0 ?_) (h0 s k))
    (Eq.trans (congrArg (val_main_v0 (F := Ideal) x1) ?_) (v0_model h1 k f))
  · funext a; match a with | 0 => rfl | 1 => rfl
  · funext a; match a with | 0 => rfl | 1 => rfl

include h0 h1 in
theorem v2_model (s f : Fin 4096) : val_main_v2 (F := Ideal) x0 x1 (ix2 s f) = max (Mlp.up h wu s f) 0 := by
  rw [val_main_v2_apply, v1_model h0 h1, val_main_call0_v0_apply]
  show max _ (Ideal.ofBits .f32 0x00000000#32) = _
  rw [word_zero]

include h0 h1 in
theorem v6_model (s f : Fin 4096) : val_main_v6 (F := Ideal) x0 x1 (ix2 s f) = Mlp.act h wu s f := by
  rw [val_main_v6_apply, v2_model h0 h1]
  rfl

include h2 h3 in
theorem v13_model (s f : Fin 4096) : val_main_v13 (F := Ideal) x2 x3 (ix2 s f) = Mlp.dAct wd ct s f := by
  rw [val_main_v13_apply]
  refine Finset.sum_congr rfl fun k _ => congrArg₂ (· * ·) (Eq.trans (congrArg x3 ?_) (h3 s k))
    (Eq.trans (congrArg (val_main_v9 (F := Ideal) x2) ?_) (v9_model h2 f k))
  · funext a; match a with | 0 => rfl | 1 => rfl
  · funext a; match a with | 0 => rfl | 1 => rfl

include h0 h1 h2 h3 in
theorem v17_model (s f : Fin 4096) : val_main_v17 (F := Ideal) x0 x1 x2 x3 (ix2 s f) = Mlp.da h wu wd ct s f := by
  rw [val_main_v17_apply, val_main_v4_apply, val_main_v15_apply, val_main_v8_apply, v1_model h0 h1, v2_model h0 h1, v13_model h2 h3,
    val_main_v3_apply, val_main_v7_apply, val_main_v16_apply]
  refine Eq.trans ?_ (Mlp.da_eq (Mlp.up h wu s f) (Mlp.dAct wd ct s f))
  have e3 : (val_main_cst (F := Ideal)) (idx_main_v3 (ix2 s f)) = (0 : EReal) := word_zero
  have e7 : (val_main_cst_1 (F := Ideal)) (idx_main_v7 (ix2 s f)) = (2 : EReal) := word_two
  have e16 : (val_main_cst_2 (F := Ideal)) (idx_main_v16 (ix2 s f)) = (0 : EReal) := word_zero
  rw [e3, e7, e16, Ideal.cmpf_def, Ideal.cmp_ogt]
  show Scalar.select _ (Mlp.dAct wd ct s f * (2 * max (Mlp.up h wu s f) 0)) (0 : EReal) = _
  unfold Scalar.select
  by_cases hp : 0 < Mlp.up h wu s f <;> simp [hp]

include h0 h1 h3 in
theorem v11_model (k : Fin 1024) (f : Fin 4096) : val_main_v11 (F := Ideal) x0 x1 x3 (ix2 k f) = Mlp.gDown h wu ct f k := by
  rw [val_main_v11_apply]
  refine Finset.sum_congr rfl fun s _ => (mul_comm _ _).trans (congrArg₂ (· * ·)
    (Eq.trans (congrArg (val_main_v6 (F := Ideal) x0 x1) ?_) (v6_model h0 h1 s f)) (Eq.trans (congrArg x3 ?_) (h3 s k)))
  · funext a; match a with | 0 => rfl | 1 => rfl
  · funext a; match a with | 0 => rfl | 1 => rfl

include h0 h1 h2 h3 in
theorem v18_model (f : Fin 4096) (k : Fin 1024) : val_main_v18 (F := Ideal) x0 x1 x2 x3 (ix2 f k) = Mlp.gUp h wu wd ct k f := by
  rw [val_main_v18_apply]
  refine Finset.sum_congr rfl fun s _ => (mul_comm _ _).trans (congrArg₂ (· * ·) (Eq.trans (congrArg x0 ?_) (h0 s k))
    (Eq.trans (congrArg (val_main_v17 (F := Ideal) x0 x1 x2 x3) ?_) (v17_model h0 h1 h2 h3 s f)))
  · funext a; match a with | 0 => rfl | 1 => rfl
  · funext a; match a with | 0 => rfl | 1 => rfl

include h0 h1 in
/-- The activation. -/
theorem v25_model (y : S4096x4096.Idx) : val_main_v25 (F := Ideal) x0 x1 y = Mlp.act h wu (y 0) (y 1) := by
  rw [val_main_v25_apply]
  obtain ⟨s, f, rfl⟩ : ∃ (s f : Fin 4096), y = ix2 s f := ⟨y 0, y 1, by funext a; match a with | 0 => rfl | 1 => rfl⟩
  exact v6_model h0 h1 s f

include h0 h1 h2 h3 in
/-- The gradient of the first product. -/
theorem v26_model (y : S4096x4096.Idx) : val_main_v26 (F := Ideal) x0 x1 x2 x3 y = Mlp.da h wu wd ct (y 0) (y 1) := by
  rw [val_main_v26_apply]
  obtain ⟨s, f, rfl⟩ : ∃ (s f : Fin 4096), y = ix2 s f := ⟨y 0, y 1, by funext a; match a with | 0 => rfl | 1 => rfl⟩
  exact v17_model h0 h1 h2 h3 s f

include h0 h1 h3 in
/-- The gradient of the second weight. -/
theorem v27_model (y : S4096x1024.Idx) : val_main_v27 (F := Ideal) x0 x1 x3 y = Mlp.gDown h wu ct (y 0) (y 1) := by
  obtain ⟨f, k, rfl⟩ : ∃ (f : Fin 4096) (k : Fin 1024), y = ix2 f k := ⟨y 0, y 1, by funext a; match a with | 0 => rfl | 1 => rfl⟩
  rw [val_main_v27_apply, val_main_v14_apply, val_main_v12_apply]
  refine Eq.trans (congrArg (val_main_v11 (F := Ideal) x0 x1 x3) ?_) (v11_model h0 h1 h3 k f)
  have hf := f.isLt
  have hk := k.isLt
  funext a
  match a with
  | 0 => exact Fin.ext (by show (f.val * 1024 + k.val) % 1024 = k.val; omega)
  | 1 => exact Fin.ext (by show (f.val * 1024 + k.val) / 1024 % 4096 = f.val; omega)

include h0 h1 h2 h3 in
/-- The gradient of the first weight, a block of 512 columns to each chip. -/
theorem v24_model (r : Fin 8) (k : Fin 1024) (q : Fin 512) (f : Fin 4096) (e : f.val = 512 * r.val + q.val) :
    val_main_v24 (F := Ideal) x0 x1 x2 x3 (ix3 r k q) = Mlp.gUp h wu wd ct k f := by
  rw [val_main_v24_apply, val_main_v23_apply, val_main_v22_apply, val_main_v21_apply, val_main_v19_apply]
  refine Eq.trans (congrArg (val_main_v18 (F := Ideal) x0 x1 x2 x3) ?_) (v18_model h0 h1 h2 h3 f k)
  have hr := r.isLt
  have hk := k.isLt
  have hq := q.isLt
  funext a
  match a with
  | 0 => exact Fin.ext (by
      show (((k.val * 8 + r.val) * 512 + q.val) / 4096 * 4096 + ((k.val * 8 + r.val) * 512 + q.val) % 4096) % 4096 = f.val
      omega)
  | 1 => exact Fin.ext (by
      show (((k.val * 8 + r.val) * 512 + q.val) / 4096 * 4096 + ((k.val * 8 + r.val) * 512 + q.val) % 4096) / 4096 % 1024 = k.val
      omega)

end Cert.Reference2Ideal.Read

end
-- ==== Proof.LossModel.lean ====
/- The last norm, the loss and their gradient over the extended reals, a row at a time and for the whole stream. -/
module

public import proofs.«01_k».proof.Proof.OutModel

@[expose] public section

set_option maxRecDepth 16384
set_option synthInstance.maxSize 4096

noncomputable section

namespace Loss

open Idealize.ShloMosaic

/-- The residual stream after the MLP's second product. -/
def x2 (a : Out.Mat 4096 4096) (w : Out.Mat 4096 1024) (x1 : Out.Mat 4096 1024) : Out.Mat 4096 1024 :=
  fun s n => x1 s n + ∑ k, a s k * w k n

/-- A row, normalised. -/
def hat (x : Fin 1024 → EReal) (j : Fin 1024) : EReal := x j * Out.rms x

/-- How far the scaled row is from its target. -/
def err (x g y : Fin 1024 → EReal) (j : Fin 1024) : EReal := hat x j * g j - y j

/-- The gradient of the loss at the norm's output. -/
def dy (x g y : Fin 1024 → EReal) (j : Fin 1024) : EReal := err x g y j * FloatOps.ofBits (F := Ideal) .f32 0x3A800000#32

/-- The gradient of the loss at a row of the stream. -/
def dx (x g y : Fin 1024 → EReal) (j : Fin 1024) : EReal :=
  Out.rms x * (dy x g y j * g j - hat x j * Ideal.div (∑ k, hat x k * (dy x g y k * g k)) (FloatOps.ofBits (F := Ideal) .f32 0x44800000#32))

/-- A row's mean square error. -/
def mse (x g y : Fin 1024 → EReal) : EReal := (∑ j, err x g y j * err x g y j) * FloatOps.ofBits (F := Ideal) .f32 0x3A800000#32

/-- The gradient of the norm's gain: the sum over the positions. -/
def gain (X : Out.Mat 4096 1024) (g : Fin 1024 → EReal) (Y : Out.Mat 4096 1024) (j : Fin 1024) : EReal :=
  ∑ s, dy (X s) g (Y s) j * hat (X s) j

/-- The loss: half the mean square errors, summed over the positions. -/
def loss (X : Out.Mat 4096 1024) (g : Fin 1024 → EReal) (Y : Out.Mat 4096 1024) : EReal :=
  FloatOps.ofBits (F := Ideal) .f32 0x3F000000#32 * ∑ s, mse (X s) g (Y s)

/-- Position `p` of the block `t` of 512 positions. -/
def row (t : ℕ) (p : Fin 512) : Fin 4096 := ⟨(512 * t + p.val) % 4096, Nat.mod_lt _ (by norm_num)⟩

/-- The part of a block in the gradient of the gain. -/
def gainB (X : Out.Mat 4096 1024) (g : Fin 1024 → EReal) (Y : Out.Mat 4096 1024) (t : ℕ) (j : Fin 1024) : EReal :=
  ∑ p : Fin 512, dy (X (row t p)) g (Y (row t p)) j * hat (X (row t p)) j

/-- The part of a block in the loss. -/
def lossB (X : Out.Mat 4096 1024) (g : Fin 1024 → EReal) (Y : Out.Mat 4096 1024) (t : ℕ) : EReal :=
  FloatOps.ofBits (F := Ideal) .f32 0x3F000000#32 * ∑ p : Fin 512, mse (X (row t p)) g (Y (row t p))

/-- The positions, a block after a block. -/
theorem sum_rows (F : Fin 4096 → EReal) : ∑ t ∈ Finset.range 8, ∑ p : Fin 512, F (row t p) = ∑ s, F s := by
  rw [Finset.sum_range fun t => ∑ p : Fin 512, F (row t p), ← Fintype.sum_prod_type']
  refine Fintype.sum_equiv (finProdFinEquiv (m := 8) (n := 512)) _ _ fun x => congrArg F (Fin.ext ?_)
  have h1 := x.1.isLt
  have h2 := x.2.isLt
  show (512 * x.1.val + x.2.val) % 4096 = x.2.val + 512 * x.1.val
  omega

theorem gain_sum (X : Out.Mat 4096 1024) (g : Fin 1024 → EReal) (Y : Out.Mat 4096 1024) (j : Fin 1024) :
    ∑ t ∈ Finset.range 8, gainB X g Y t j = gain X g Y j :=
  sum_rows fun s => dy (X s) g (Y s) j * hat (X s) j

end Loss

end
-- ==== Proof.LossPay.lean ====
/- What the body of the last norm and the loss computes, read at an index. -/
module

public import proofs.«01_k».proof.Proof.Gen.Kernel5Ideal.Skeleton
public import proofs.«01_k».proof.Proof.LossModel

@[expose] public section

set_option maxRecDepth 16384
set_option synthInstance.maxSize 4096

noncomputable section

namespace Cert.Kernel5Ideal.Gen

open Idealize.ShloMosaic Idealize.ShloMosaic.TcCoe Idealize.SL.Sem
open Idealize.ShloMosaic.Tactic

theorem pay_x2 (v0 : Vec Ideal S512x4096 .bf16) (v2 : Vec Ideal S4096x1024 .bf16) (v5 : Vec Ideal S512x1024 .f32) (p : Fin 512) (q : Fin 1024) :
    k0_pay1 v0 v2 v5 (ix2 p q) = v5 (ix2 p q) + ∑ k : Fin 4096, v0 (ix2 p k) * v2 (ix2 k q) := by
  pointwise [k0_pay1]

theorem pay_r (v0 : Vec Ideal S512x4096 .bf16) (v2 : Vec Ideal S4096x1024 .bf16) (v5 : Vec Ideal S512x1024 .f32) (p : Fin 512) (z : Fin 1) :
    k0_pay2 v0 v2 v5 (ix2 p z) = Out.rms (fun j => k0_pay1 v0 v2 v5 (ix2 p j)) := by
  pointwise [k0_pay2]
  rfl

theorem pay_hat (v0 : Vec Ideal S512x4096 .bf16) (v2 : Vec Ideal S4096x1024 .bf16) (v5 : Vec Ideal S512x1024 .f32) (p : Fin 512) (q : Fin 1024) :
    k0_pay3 v0 v2 v5 (ix2 p q) = Loss.hat (fun j => k0_pay1 v0 v2 v5 (ix2 p j)) q := by
  pointwise [k0_pay3]
  rw [pay_r]
  rfl

theorem pay_err (v0 : Vec Ideal S512x4096 .bf16) (v2 : Vec Ideal S4096x1024 .bf16) (v5 : Vec Ideal S512x1024 .f32) (v17 : Vec Ideal S1x1024 .f32) (v21 : Vec Ideal S512x1024 .f32) (p : Fin 512) (q : Fin 1024) :
    k0_pay5 v0 v2 v5 v17 v21 (ix2 p q) = Loss.err (fun j => k0_pay1 v0 v2 v5 (ix2 p j)) (fun j => v17 (ix2 0 j)) (fun j => v21 (ix2 p j)) q := by
  pointwise [k0_pay5, k0_pay4]
  rw [pay_hat]
  rfl

theorem pay_dy (v0 : Vec Ideal S512x4096 .bf16) (v2 : Vec Ideal S4096x1024 .bf16) (v5 : Vec Ideal S512x1024 .f32) (v17 : Vec Ideal S1x1024 .f32) (v21 : Vec Ideal S512x1024 .f32) (p : Fin 512) (q : Fin 1024) :
    k0_pay6 v0 v2 v5 v17 v21 (ix2 p q) = Loss.dy (fun j => k0_pay1 v0 v2 v5 (ix2 p j)) (fun j => v17 (ix2 0 j)) (fun j => v21 (ix2 p j)) q := by
  pointwise [k0_pay6]
  rw [pay_err]
  rfl

theorem pay_dx (v0 : Vec Ideal S512x4096 .bf16) (v2 : Vec Ideal S4096x1024 .bf16) (v5 : Vec Ideal S512x1024 .f32) (v17 : Vec Ideal S1x1024 .f32) (v21 : Vec Ideal S512x1024 .f32) (p : Fin 512) (q : Fin 1024) :
    k0_pay7 v0 v2 v5 v17 v21 (ix2 p q) = Loss.dx (fun j => k0_pay1 v0 v2 v5 (ix2 p j)) (fun j => v17 (ix2 0 j)) (fun j => v21 (ix2 p j)) q := by
  pointwise [k0_pay7, k0_pay4]
  simp only [pay_r, pay_hat, pay_dy]
  rfl

theorem pay_gain (v16 v24 : FVec Ideal S512x1024 .f32) (z : Fin 1) (q : Fin 1024) :
    k0_pay8 v16 v24 (ix2 z q) = ∑ p : Fin 512, v24 (ix2 p q) * v16 (ix2 p q) := by
  pointwise [k0_pay8]

theorem pay_gain_add (v16 v24 : FVec Ideal S512x1024 .f32) (v76 : Vec Ideal S1x1024 .f32) (z : Fin 1) (q : Fin 1024) :
    k0_pay9 v16 v24 v76 (ix2 z q) = v76 (ix2 z q) + k0_pay8 v16 v24 (ix2 z q) := by
  pointwise [k0_pay9]

theorem pay_loss (v22 : FVec Ideal S512x1024 .f32) (z : Fin 1) (q : Fin 128) :
    k0_pay10 v22 (ix2 z q) = FloatOps.ofBits (F := Ideal) .f32 0x3F000000#32 *
      ∑ p : Fin 512, (∑ j : Fin 1024, v22 (ix2 p j) * v22 (ix2 p j)) * FloatOps.ofBits (F := Ideal) .f32 0x3A800000#32 := by
  pointwise [k0_pay10]
  first | done | rfl

theorem pay_loss_add (v22 : FVec Ideal S512x1024 .f32) (v76 : Vec Ideal S1x128 .f32) (z : Fin 1) (q : Fin 128) :
    k0_pay11 v22 v76 (ix2 z q) = v76 (ix2 z q) + k0_pay10 v22 (ix2 z q) := by
  pointwise [k0_pay11]

theorem pay_dx16 (v36 : FVec Ideal S512x1024 .f32) (p : Fin 512) (q : Fin 1024) : k0_pay12 v36 (ix2 p q) = v36 (ix2 p q) := by
  pointwise [k0_pay12]

end Cert.Kernel5Ideal.Gen

end
-- ==== Proof.LossBlock.lean ====
/- What the kernel computes from the blocks of one point of its grid. -/
module

public import proofs.«01_k».proof.Proof.Gen.Kernel5Ideal.Frame
public import proofs.«01_k».proof.Proof.LossPay
public import Idealize.ShloMosaic.Lib.Pipeline.ValueKit

@[expose] public section

set_option maxRecDepth 16384
set_option synthInstance.maxSize 4096

noncomputable section

namespace Cert.Kernel5Ideal.Gen

open Idealize.ShloMosaic Idealize.ShloMosaic.TcCoe Idealize.SL.Sem
open Idealize.ShloMosaic.Tactic

variable (m : (ℓ : Loc nD τ sig) → Buf (Elt Ideal) ℓ) (c : Dev nD) (t : Fin cfg0.N) {X Y : Out.Mat 4096 1024} {g : Fin 1024 → EReal}
  (hx : ∀ p q, k0_pay1 (iblk m c 0 t) (iblk m c 1 t) (iblk m c 2 t) (ix2 p q) = X (Loss.row t.val p) q) (hy : ∀ p q, iblk m c 3 t (ix2 p q) = Y (Loss.row t.val p) q) (hg : ∀ q, iblk m c 4 t (ix2 0 q) = g q)
include hx hy hg

theorem b_rows (p : Fin 512) : (fun j => k0_pay1 (iblk m c 0 t) (iblk m c 1 t) (iblk m c 2 t) (ix2 p j)) = X (Loss.row t.val p) ∧ (fun j => iblk m c 4 t (ix2 0 j)) = g
    ∧ (fun j => iblk m c 3 t (ix2 p j)) = Y (Loss.row t.val p) :=
  ⟨funext (hx p), funext hg, funext (hy p)⟩

theorem b_dx (p : Fin 512) (q : Fin 1024) : k0_pay7 (iblk m c 0 t) (iblk m c 1 t) (iblk m c 2 t) (iblk m c 4 t) (iblk m c 3 t) (ix2 p q) = Loss.dx (X (Loss.row t.val p)) g (Y (Loss.row t.val p)) q := by
  obtain ⟨e1, e2, e3⟩ := b_rows m c t hx hy hg p
  rw [pay_dx, e1]
  exact congrArg₂ (fun a b => Loss.dx _ a b q) e2 e3

theorem b_dx16 (p : Fin 512) (q : Fin 1024) : k0_pay12 (k0_pay7 (iblk m c 0 t) (iblk m c 1 t) (iblk m c 2 t) (iblk m c 4 t) (iblk m c 3 t)) (ix2 p q) = Loss.dx (X (Loss.row t.val p)) g (Y (Loss.row t.val p)) q := by
  rw [pay_dx16]
  exact b_dx m c t hx hy hg p q

theorem b_gain (z : Fin 1) (q : Fin 1024) : k0_pay8 (k0_pay3 (iblk m c 0 t) (iblk m c 1 t) (iblk m c 2 t)) (k0_pay6 (iblk m c 0 t) (iblk m c 1 t) (iblk m c 2 t) (iblk m c 4 t) (iblk m c 3 t)) (ix2 z q) = Loss.gainB X g Y t.val q := by
  rw [pay_gain]
  refine Finset.sum_congr rfl fun p _ => ?_
  obtain ⟨e1, e2, e3⟩ := b_rows m c t hx hy hg p
  rw [pay_hat, pay_dy, e1]
  exact congrArg (· * _) (congrArg₂ (fun a b => Loss.dy _ a b q) e2 e3)

theorem b_loss (z : Fin 1) (q : Fin 128) : k0_pay10 (k0_pay5 (iblk m c 0 t) (iblk m c 1 t) (iblk m c 2 t) (iblk m c 4 t) (iblk m c 3 t)) (ix2 z q) = Loss.lossB X g Y t.val := by
  rw [pay_loss]
  refine congrArg (_ * ·) (Finset.sum_congr rfl fun p _ => ?_)
  obtain ⟨e1, e2, e3⟩ := b_rows m c t hx hy hg p
  refine congrArg (· * _) (Finset.sum_congr rfl fun j _ => ?_)
  rw [pay_err, e1]
  exact congrArg (fun e => e * e) (congrArg₂ (fun a b => Loss.err _ a b j) e2 e3)

end Cert.Kernel5Ideal.Gen

end
-- ==== Proof.LossOut.lean ====
/- What the kernel leaves at one point of its grid: at the first point, and at the others. -/
module

public import proofs.«01_k».proof.Proof.LossBlock

@[expose] public section

set_option maxRecDepth 16384
set_option synthInstance.maxSize 4096

noncomputable section

namespace Cert.Kernel5Ideal.Gen

open Idealize.ShloMosaic Idealize.ShloMosaic.TcCoe Idealize.SL.Sem
open Idealize.ShloMosaic.Tactic

variable (m : (ℓ : Loc nD τ sig) → Buf (Elt Ideal) ℓ) (c : Dev nD) (t : Fin cfg0.N) {X Y : Out.Mat 4096 1024} {g : Fin 1024 → EReal}
  (hx : ∀ p q, k0_pay1 (iblk m c 0 t) (iblk m c 1 t) (iblk m c 2 t) (ix2 p q) = X (Loss.row t.val p) q) (hy : ∀ p q, iblk m c 3 t (ix2 p q) = Y (Loss.row t.val p) q) (hg : ∀ q, iblk m c 4 t (ix2 0 q) = g q)
include hx hy hg

theorem out_dx_A (h0 : t.val % 8 = 0) (p : Fin 512) (q : Fin 1024) : (outsAt0 m c t.val t.isLt).1 (ix2 p q) = Loss.dx (X (Loss.row t.val p)) g (Y (Loss.row t.val p)) q := by
  rw [outsAt0_A m c t h0 (by have := t.isLt; have hN : cfg0.N = 8 := rfl; omega) h0 (by have := t.isLt; have hN : cfg0.N = 8 := rfl; omega)]
  frame_out
  refine Eq.trans (show _ = k0_pay7 (iblk m c 0 t) (iblk m c 1 t) (iblk m c 2 t) (iblk m c 4 t) (iblk m c 3 t) (ix2 p q) from congrFun (by rfl) (ix2 p q)) ?_
  exact b_dx m c t hx hy hg p q

theorem out_dx_B (h0 : ¬t.val % 8 = 0) (p : Fin 512) (q : Fin 1024) : (outsAt0 m c t.val t.isLt).1 (ix2 p q) = Loss.dx (X (Loss.row t.val p)) g (Y (Loss.row t.val p)) q := by
  rw [outsAt0_B m c t h0 (by have := t.isLt; have hN : cfg0.N = 8 := rfl; omega) h0 (by have := t.isLt; have hN : cfg0.N = 8 := rfl; omega)]
  frame_out
  refine Eq.trans (show _ = k0_pay7 (iblk m c 0 t) (iblk m c 1 t) (iblk m c 2 t) (iblk m c 4 t) (iblk m c 3 t) (ix2 p q) from congrFun (by rfl) (ix2 p q)) ?_
  exact b_dx m c t hx hy hg p q

theorem out_dx16_A (h0 : t.val % 8 = 0) (p : Fin 512) (q : Fin 1024) : (outsAt0 m c t.val t.isLt).2.2.2 (ix2 p q) = Loss.dx (X (Loss.row t.val p)) g (Y (Loss.row t.val p)) q := by
  rw [outsAt0_A m c t h0 (by have := t.isLt; have hN : cfg0.N = 8 := rfl; omega) h0 (by have := t.isLt; have hN : cfg0.N = 8 := rfl; omega)]
  frame_out
  refine Eq.trans (show _ = k0_pay12 (k0_pay7 (iblk m c 0 t) (iblk m c 1 t) (iblk m c 2 t) (iblk m c 4 t) (iblk m c 3 t)) (ix2 p q) from congrFun (by rfl) (ix2 p q)) ?_
  exact b_dx16 m c t hx hy hg p q

theorem out_dx16_B (h0 : ¬t.val % 8 = 0) (p : Fin 512) (q : Fin 1024) : (outsAt0 m c t.val t.isLt).2.2.2 (ix2 p q) = Loss.dx (X (Loss.row t.val p)) g (Y (Loss.row t.val p)) q := by
  rw [outsAt0_B m c t h0 (by have := t.isLt; have hN : cfg0.N = 8 := rfl; omega) h0 (by have := t.isLt; have hN : cfg0.N = 8 := rfl; omega)]
  frame_out
  refine Eq.trans (show _ = k0_pay12 (k0_pay7 (iblk m c 0 t) (iblk m c 1 t) (iblk m c 2 t) (iblk m c 4 t) (iblk m c 3 t)) (ix2 p q) from congrFun (by rfl) (ix2 p q)) ?_
  exact b_dx16 m c t hx hy hg p q

theorem out_gain_A (h0 : t.val % 8 = 0) (z : Fin 1) (q : Fin 1024) : (outsAt0 m c t.val t.isLt).2.1 (ix2 z q) = Loss.gainB X g Y t.val q := by
  rw [outsAt0_A m c t h0 (by have := t.isLt; have hN : cfg0.N = 8 := rfl; omega) h0 (by have := t.isLt; have hN : cfg0.N = 8 := rfl; omega)]
  frame_out
  refine Eq.trans (show _ = k0_pay8 (k0_pay3 (iblk m c 0 t) (iblk m c 1 t) (iblk m c 2 t)) (k0_pay6 (iblk m c 0 t) (iblk m c 1 t) (iblk m c 2 t) (iblk m c 4 t) (iblk m c 3 t)) (ix2 z q) from congrFun (by rfl) (ix2 z q)) ?_
  exact b_gain m c t hx hy hg z q

theorem out_gain_B (h0 : ¬t.val % 8 = 0) (z : Fin 1) (q : Fin 1024) : (outsAt0 m c t.val t.isLt).2.1 (ix2 z q) = (outsAt0 m c (t.val - 1) (Nat.lt_of_le_of_lt (Nat.sub_le _ _) t.isLt)).2.1 (ix2 z q) + Loss.gainB X g Y t.val q := by
  rw [outsAt0_B m c t h0 (by have := t.isLt; have hN : cfg0.N = 8 := rfl; omega) h0 (by have := t.isLt; have hN : cfg0.N = 8 := rfl; omega)]
  frame_out
  refine Eq.trans (show _ = k0_pay9 (k0_pay3 (iblk m c 0 t) (iblk m c 1 t) (iblk m c 2 t)) (k0_pay6 (iblk m c 0 t) (iblk m c 1 t) (iblk m c 2 t) (iblk m c 4 t) (iblk m c 3 t)) (outsAt0 m c (t.val - 1) (Nat.lt_of_le_of_lt (Nat.sub_le _ _) t.isLt)).2.1 (ix2 z q) from congrFun (by rfl) (ix2 z q)) ?_
  rw [pay_gain_add]
  exact congrArg (_ + ·) (b_gain m c t hx hy hg z q)

theorem out_loss_A (h0 : t.val % 8 = 0) (z : Fin 1) (q : Fin 128) : (outsAt0 m c t.val t.isLt).2.2.1 (ix2 z q) = Loss.lossB X g Y t.val := by
  rw [outsAt0_A m c t h0 (by have := t.isLt; have hN : cfg0.N = 8 := rfl; omega) h0 (by have := t.isLt; have hN : cfg0.N = 8 := rfl; omega)]
  frame_out
  refine Eq.trans (show _ = k0_pay10 (k0_pay5 (iblk m c 0 t) (iblk m c 1 t) (iblk m c 2 t) (iblk m c 4 t) (iblk m c 3 t)) (ix2 z q) from congrFun (by rfl) (ix2 z q)) ?_
  exact b_loss m c t hx hy hg z q

theorem out_loss_B (h0 : ¬t.val % 8 = 0) (z : Fin 1) (q : Fin 128) : (outsAt0 m c t.val t.isLt).2.2.1 (ix2 z q) = (outsAt0 m c (t.val - 1) (Nat.lt_of_le_of_lt (Nat.sub_le _ _) t.isLt)).2.2.1 (ix2 z q) + Loss.lossB X g Y t.val := by
  rw [outsAt0_B m c t h0 (by have := t.isLt; have hN : cfg0.N = 8 := rfl; omega) h0 (by have := t.isLt; have hN : cfg0.N = 8 := rfl; omega)]
  frame_out
  refine Eq.trans (show _ = k0_pay11 (k0_pay5 (iblk m c 0 t) (iblk m c 1 t) (iblk m c 2 t) (iblk m c 4 t) (iblk m c 3 t)) (outsAt0 m c (t.val - 1) (Nat.lt_of_le_of_lt (Nat.sub_le _ _) t.isLt)).2.2.1 (ix2 z q) from congrFun (by rfl) (ix2 z q)) ?_
  rw [pay_loss_add]
  exact congrArg (_ + ·) (b_loss m c t hx hy hg z q)

end Cert.Kernel5Ideal.Gen

end
-- ==== Proof.LossReal.lean ====
/- The two forms of the gradient of the last norm agree over the extended reals, infinities included. -/
module

public import proofs.«01_k».proof.Proof.LossModel
public import proofs.«01_k».proof.Proof.SguReal

@[expose] public section

set_option maxRecDepth 16384
set_option synthInstance.maxSize 4096

noncomputable section

namespace Loss

open Idealize.ShloMosaic

theorem lit_1024 : FloatOps.ofBits (F := Ideal) .f32 0x44800000#32 = ((1024 : ℝ) : EReal) := by
  show Ideal.ofBits .f32 0x44800000#32 = _
  simp [Ideal.ofBits, Ideal.ieee, -EReal.coe_mul]; norm_num
theorem lit_inv : FloatOps.ofBits (F := Ideal) .f32 0x3A800000#32 = ((1 / 1024 : ℝ) : EReal) := by
  show Ideal.ofBits .f32 0x3A800000#32 = _
  simp [Ideal.ofBits, Ideal.ieee, -EReal.coe_mul]; norm_num
theorem lit_half : FloatOps.ofBits (F := Ideal) .f32 0x3F000000#32 = ((1 / 2 : ℝ) : EReal) := Sgu.lit_half
theorem lit_mhalf : FloatOps.ofBits (F := Ideal) .f32 0xBF000000#32 = ((-(1 / 2) : ℝ) : EReal) := by
  show Ideal.ofBits .f32 0xBF000000#32 = _
  simp [Ideal.ofBits, Ideal.ieee, -EReal.coe_mul, -EReal.coe_neg]; norm_num
theorem lit_two : FloatOps.ofBits (F := Ideal) .f32 0x40000000#32 = ((2 : ℝ) : EReal) := by
  show Ideal.ofBits .f32 0x40000000#32 = _
  simp [Ideal.ofBits, Ideal.ieee, -EReal.coe_mul]; norm_num
theorem lit_eps : FloatOps.ofBits (F := Ideal) .f32 0x358637BD#32 = ((Sgu.ε : ℝ) : EReal) := Sgu.lit_ε

/-- Dividing by 1024 is multiplying by its reciprocal. -/
theorem div_1024 (x : EReal) : Ideal.div x (FloatOps.ofBits (F := Ideal) .f32 0x44800000#32) = x * FloatOps.ofBits (F := Ideal) .f32 0x3A800000#32 := by
  rw [lit_1024, lit_inv, Ideal.div_coe (by norm_num)]

/-- A real that is not negative goes over a sum. -/
theorem mul_sum {ι : Type} (s : Finset ι) (f : ι → EReal) {r : ℝ} (h : 0 ≤ r) : ∑ i ∈ s, (r : EReal) * f i = (r : EReal) * ∑ i ∈ s, f i := by
  classical
  refine Finset.induction_on s (by simp) fun a s ha ih => ?_
  rw [Finset.sum_insert ha, Finset.sum_insert ha, ih, EReal.left_distrib_of_nonneg_of_ne_top (by exact_mod_cast h) (EReal.coe_ne_top r)]

/-- The product with a real, twice. -/
theorem twice (q : ℝ) (S : EReal) : (q : EReal) * S + (q : EReal) * S = ((2 * q : ℝ) : EReal) * S := by
  have h : (1 + 1 : EReal) * ((q : EReal) * S) = 1 * ((q : EReal) * S) + 1 * ((q : EReal) * S) :=
    EReal.right_distrib_of_nonneg zero_le_one zero_le_one
  rw [one_mul] at h
  rw [← h, EReal.coe_mul, mul_assoc, one_add_one_eq_two]
  rfl

theorem loss_sum (X : Out.Mat 4096 1024) (g : Fin 1024 → EReal) (Y : Out.Mat 4096 1024) :
    ∑ t ∈ Finset.range 8, lossB X g Y t = loss X g Y := by
  unfold lossB loss
  rw [lit_half, mul_sum _ _ (by norm_num), sum_rows fun s => mse (X s) g (Y s)]

/-- A square of an extended real is not negative. -/
theorem sq_nonneg (x : EReal) : 0 ≤ x * x := by
  rcases le_total 0 x with h | h
  · exact mul_nonneg h h
  · have h' : 0 ≤ -x := EReal.neg_nonneg.2 h
    have := mul_nonneg h' h'
    rwa [neg_mul_neg] at this

/-- A row whose mean square is not infinite is real. -/
theorem real_of_sum {x : Fin 1024 → EReal} (h : ∑ j, x j * x j ≠ ⊤) : ∃ f : Fin 1024 → ℝ, ∀ j, x j = (f j : EReal) := by
  have hx : ∀ j, x j * x j ≠ ⊤ := fun j e => h (top_le_iff.1 (e ▸ Finset.single_le_sum (f := fun j => x j * x j) (fun i _ => sq_nonneg (x i)) (Finset.mem_univ j)))
  refine ⟨fun j => (x j).toReal, fun j => (EReal.coe_toReal (fun e => hx j ?_) (fun e => hx j ?_)).symm⟩
  · rw [e]; rfl
  · rw [e]; rfl

/-- The mean square of a row with the norm's small constant. -/
def ve (x : Fin 1024 → EReal) : EReal :=
  Ideal.div (∑ j, x j * x j) (FloatOps.ofBits (F := Ideal) .f32 0x44800000#32) + FloatOps.ofBits (F := Ideal) .f32 0x358637BD#32

/-- Either the mean square is infinite and the row is normalised to nothing, or the row is real. -/
theorem ve_cases (x : Fin 1024 → EReal) : ve x = ⊤ ∨ ∃ (f : Fin 1024 → ℝ) (v : ℝ), 0 < v ∧ (∀ j, x j = (f j : EReal)) ∧ ve x = (v : EReal) := by
  by_cases h : ∑ j, x j * x j = ⊤
  · left
    unfold ve
    rw [h, div_1024, lit_inv, lit_eps, EReal.top_mul_coe_of_pos (by norm_num), EReal.top_add_coe]
  · right
    obtain ⟨f, hf⟩ := real_of_sum h
    have e : ∑ j, x j * x j = ((∑ j, f j * f j : ℝ) : EReal) := by
      rw [← Sgu.coe_sum]
      exact Finset.sum_congr rfl fun j _ => by rw [hf, EReal.coe_mul]
    refine ⟨f, (∑ j, f j * f j) * (1 / 1024) + Sgu.ε, ?_, hf, ?_⟩
    · have h0 : 0 ≤ ∑ j, f j * f j := Finset.sum_nonneg fun j _ => mul_self_nonneg _
      have h1 : 0 < Sgu.ε := by unfold Sgu.ε; norm_num
      positivity
    · unfold ve
      rw [e, div_1024, lit_inv, lit_eps, ← EReal.coe_mul, ← EReal.coe_add]

/-- The gradient of the norm as the chain rule gives it is the gradient the kernel forms. -/
theorem norm_grad (x d : Fin 1024 → EReal) (j : Fin 1024) :
    (d j * Out.rms x + x j * Ideal.div ((∑ k, x k * d k) * (FloatOps.ofBits (F := Ideal) .f32 0xBF000000#32 * Ideal.div (Out.rms x) (ve x)))
          (FloatOps.ofBits (F := Ideal) .f32 0x44800000#32))
        + Ideal.div ((∑ k, x k * d k) * (FloatOps.ofBits (F := Ideal) .f32 0xBF000000#32 * Ideal.div (Out.rms x) (ve x)))
          (FloatOps.ofBits (F := Ideal) .f32 0x44800000#32) * x j =
      Out.rms x * (d j - hat x j * Ideal.div (∑ k, hat x k * d k) (FloatOps.ofBits (F := Ideal) .f32 0x44800000#32)) := by
  have hr : Out.rms x = Ideal.rsqrt (ve x) := rfl
  unfold hat
  rw [div_1024, div_1024, lit_inv, lit_mhalf, hr]
  rcases ve_cases x with h | ⟨f, v, hv, hf, h⟩
  · have h0 : Ideal.div 0 ⊤ = 0 := by rw [Ideal.div, if_neg (by simp), zero_mul]
    rw [h, Ideal.rsqrt_top, h0]
    simp
  · rw [h, Sgu.coe_rsqrt hv, Sgu.coe_div _ hv.ne']
    have hs : √v * √v = v := Real.mul_self_sqrt hv.le
    have hp : 0 < √v := Real.sqrt_pos.2 hv
    obtain ⟨r, hrd⟩ : ∃ r : ℝ, r = (√v)⁻¹ := ⟨_, rfl⟩
    have hr0 : 0 ≤ r := by rw [hrd]; positivity
    have hq : r / v = r * r * r := by rw [hrd]; field_simp; rw [pow_two, hs]
    rw [← hrd, hq]
    have eS : ∑ k, x k * (r : EReal) * d k = (r : EReal) * ∑ k, x k * d k := by
      rw [← mul_sum _ _ hr0]
      exact Finset.sum_congr rfl fun k _ => by rw [mul_comm (x k), mul_assoc]
    rw [eS, hf j]
    generalize (∑ k, x k * d k) = S
    have e1 : (f j : EReal) * (S * (((-(1 / 2) : ℝ) : EReal) * ((r * r * r : ℝ) : EReal)) * ((1 / 1024 : ℝ) : EReal)) =
        ((f j * (-(1 / 2)) * (r * r * r) * (1 / 1024) : ℝ) : EReal) * S := by
      simp only [EReal.coe_mul]
      ac_rfl
    have e2 : S * (((-(1 / 2) : ℝ) : EReal) * ((r * r * r : ℝ) : EReal)) * ((1 / 1024 : ℝ) : EReal) * (f j : EReal) =
        ((f j * (-(1 / 2)) * (r * r * r) * (1 / 1024) : ℝ) : EReal) * S := by
      rw [← e1, mul_comm]
    have e3 : (f j : EReal) * (r : EReal) * ((r : EReal) * S * ((1 / 1024 : ℝ) : EReal)) = ((f j * r * r * (1 / 1024) : ℝ) : EReal) * S := by
      simp only [EReal.coe_mul]
      ac_rfl
    rw [e1, e2, add_assoc, twice, e3, sub_eq_add_neg, ← neg_mul, ← EReal.coe_neg,
      EReal.left_distrib_of_nonneg_of_ne_top (by exact_mod_cast hr0) (EReal.coe_ne_top r), ← mul_assoc (r : EReal) _ S, ← EReal.coe_mul, mul_comm (d j)]
    congr 3
    ring

/-- The two forms of the gradient at the norm's output. -/
theorem dy_eq (e : EReal) :
    Ideal.div (FloatOps.ofBits (F := Ideal) .f32 0x3F000000#32) (FloatOps.ofBits (F := Ideal) .f32 0x44800000#32)
        * (FloatOps.ofBits (F := Ideal) .f32 0x40000000#32 * e) = e * FloatOps.ofBits (F := Ideal) .f32 0x3A800000#32 := by
  rw [div_1024, lit_half, lit_inv, lit_two, ← EReal.coe_mul, ← mul_assoc, ← EReal.coe_mul, mul_comm]
  congr 2
  norm_num

end Loss

end
-- ==== Proof.LossArr.lean ====
/- What the kernel leaves in its four results. -/
module

public import proofs.«01_k».proof.Proof.LossOut
public import proofs.«01_k».proof.Proof.LossReal

@[expose] public section

set_option maxRecDepth 16384
set_option synthInstance.maxSize 4096

noncomputable section

namespace Cert.Kernel5Ideal.Gen

open Idealize.ShloMosaic Idealize.ShloMosaic.TcCoe Idealize.SL.Sem
open Idealize.ShloMosaic.Tactic

theorem idxOut : ∀ t : Fin cfg0.N, win0_5.index t = ![t.val, 0] ∧ win0_8.index t = ![t.val, 0] :=
  (by decide +kernel : ∀ t : Fin grid0.N, _)

theorem two {a b : ℕ} (y : Shape.Idx ⟨2, ![a, b]⟩) : y = ix2 (y 0) (y 1) := by
  funext d; match d with | 0 => rfl | 1 => rfl

variable (m : (ℓ : Loc nD τ sig) → Buf (Elt Ideal) ℓ) (c : Dev nD) {X Y : Out.Mat 4096 1024} {g : Fin 1024 → EReal}
  (hx : ∀ (t : Fin cfg0.N) p q, k0_pay1 (iblk m c 0 t) (iblk m c 1 t) (iblk m c 2 t) (ix2 p q) = X (Loss.row t.val p) q)
  (hy : ∀ (t : Fin cfg0.N) p q, iblk m c 3 t (ix2 p q) = Y (Loss.row t.val p) q) (hg : ∀ (t : Fin cfg0.N) q, iblk m c 4 t (ix2 0 q) = g q)
include hx hy hg

theorem acc_gain (n : ℕ) (hn : n < cfg0.N) (z : Fin 1) (q : Fin 1024) :
    (outsAt0 m c n hn).2.1 (ix2 z q) = ∑ t ∈ Finset.range (n + 1), Loss.gainB X g Y t q := by
  have hN : cfg0.N = 8 := rfl
  induction n with
  | zero =>
    refine (out_gain_A m c ⟨0, hn⟩ (hx _) (hy _) (hg _) rfl z q).trans ?_
    rw [Finset.sum_range_one]
  | succ n ih =>
    refine (out_gain_B m c ⟨n + 1, hn⟩ (hx _) (hy _) (hg _) (by show ¬(n + 1) % 8 = 0; omega) z q).trans ?_
    rw [Finset.sum_range_succ]
    exact congrArg (· + _) (ih (Nat.lt_of_succ_lt hn))

theorem acc_loss (n : ℕ) (hn : n < cfg0.N) (z : Fin 1) (q : Fin 128) :
    (outsAt0 m c n hn).2.2.1 (ix2 z q) = ∑ t ∈ Finset.range (n + 1), Loss.lossB X g Y t := by
  have hN : cfg0.N = 8 := rfl
  induction n with
  | zero =>
    refine (out_loss_A m c ⟨0, hn⟩ (hx _) (hy _) (hg _) rfl z q).trans ?_
    rw [Finset.sum_range_one]
  | succ n ih =>
    refine (out_loss_B m c ⟨n + 1, hn⟩ (hx _) (hy _) (hg _) (by show ¬(n + 1) % 8 = 0; omega) z q).trans ?_
    rw [Finset.sum_range_succ]
    exact congrArg (· + _) (ih (Nat.lt_of_succ_lt hn))

theorem out_dx (t : Fin cfg0.N) (y : S512x1024.Idx) : (outsAt0 m c t.val t.isLt).1 y = Loss.dx (X (Loss.row t.val (y 0))) g (Y (Loss.row t.val (y 0))) (y 1) := by
  refine (congrArg _ (two y)).trans ?_
  by_cases h0 : t.val % 8 = 0
  · exact out_dx_A m c t (hx t) (hy t) (hg t) h0 (y 0) (y 1)
  · exact out_dx_B m c t (hx t) (hy t) (hg t) h0 (y 0) (y 1)

theorem arr_dx : (dats m 0 c).arrAt 5 cfg0.N = (fun y : S4096x1024.Idx => Loss.dx (X (y 0)) g (Y (y 0)) (y 1)) := by
  refine (dats m 0 c).arrAt_eq_of_covers 5 _ (by decide +kernel) fun t _ y => ?_
  blk_simp
  rw [after0_5]
  have hN : t.val < 8 := t.isLt
  refine (out_dx m c hx hy hg t y).trans ?_
  refine congrArg₂ (fun s n => Loss.dx (X s) g (Y s) n) (Fin.ext ?_) (Fin.ext ?_)
  · have hy : (y 0).val < 512 := (y 0).isLt
    blk_simp [(idxOut t).1]
    show (512 * t.val + (y 0).val) % 4096 = t.val * 512 + (y 0).val
    omega
  · blk_simp [(idxOut t).1]

theorem out_dx16 (t : Fin cfg0.N) (y : S512x1024.Idx) : (outsAt0 m c t.val t.isLt).2.2.2 y = Loss.dx (X (Loss.row t.val (y 0))) g (Y (Loss.row t.val (y 0))) (y 1) := by
  refine (congrArg _ (two y)).trans ?_
  by_cases h0 : t.val % 8 = 0
  · exact out_dx16_A m c t (hx t) (hy t) (hg t) h0 (y 0) (y 1)
  · exact out_dx16_B m c t (hx t) (hy t) (hg t) h0 (y 0) (y 1)

theorem arr_dx16 : (dats m 0 c).arrAt 8 cfg0.N = (fun y : S4096x1024.Idx => Loss.dx (X (y 0)) g (Y (y 0)) (y 1)) := by
  refine (dats m 0 c).arrAt_eq_of_covers 8 _ (by decide +kernel) fun t _ y => ?_
  blk_simp
  rw [after0_8]
  have hN : t.val < 8 := t.isLt
  refine (out_dx16 m c hx hy hg t y).trans ?_
  refine congrArg₂ (fun s n => Loss.dx (X s) g (Y s) n) (Fin.ext ?_) (Fin.ext ?_)
  · have hy : (y 0).val < 512 := (y 0).isLt
    blk_simp [(idxOut t).2]
    show (512 * t.val + (y 0).val) % 4096 = t.val * 512 + (y 0).val
    omega
  · blk_simp [(idxOut t).2]

theorem arr_gain : (dats m 0 c).arrAt 6 cfg0.N = (fun y : S1x1024.Idx => Loss.gain X g Y (y 1)) := by
  refine (dats m 0 c).arrAt_eq_of_after_last 6 ⟨7, by decide⟩ (by decide +kernel) (hG := fun y => ?_)
  refine (congrFun (after0_6 m c ⟨7, by decide⟩) y).trans ?_
  refine (congrArg _ (two y)).trans ?_
  refine (acc_gain m c hx hy hg 7 (by decide) (y 0) (y 1)).trans ?_
  exact Loss.gain_sum X g Y (y 1)

theorem arr_loss : (dats m 0 c).arrAt 7 cfg0.N = (fun y : S1x128.Idx => Loss.loss X g Y) := by
  refine (dats m 0 c).arrAt_eq_of_after_last 7 ⟨7, by decide⟩ (by decide +kernel) (hG := fun y => ?_)
  refine (congrFun (after0_7 m c ⟨7, by decide⟩) y).trans ?_
  refine (congrArg _ (two y)).trans ?_
  refine (acc_loss m c hx hy hg 7 (by decide) (y 0) (y 1)).trans ?_
  exact Loss.loss_sum X g Y

end Cert.Kernel5Ideal.Gen

end
-- ==== Proof.LossHost.lean ====
/- What the kernel reads, and what the program leaves in the four results. -/
module

public import proofs.«01_k».proof.Proof.LossArr
public import Idealize.ShloMosaic.Lib.StableHlo.ReadAt

@[expose] public section

set_option maxRecDepth 16384
set_option synthInstance.maxSize 4096

noncomputable section

namespace Cert.Kernel5Ideal.Gen

open Idealize.ShloMosaic Idealize.ShloMosaic.TcCoe Idealize.SL.Sem
open Idealize.ShloMosaic.Tactic

theorem idxIn : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

theorem cast_w (x : Vec Ideal S1x4096x1024 .f32) (k : Fin 4096) (n : Fin 1024) :
    (truncf (F := Ideal) .bf16 (shapeCast S4096x1024 x shapeCasts_S1x4096x1024_S4096x1024 : FVec Ideal S4096x1024 .f32) bitsLt_bf16_f32) (ix2 k n) = x (ix3 0 k n) := by
  pointwise

theorem cast_a (x : Vec Ideal S4096x4096 .f32) (s k : Fin 4096) : (truncf (F := Ideal) .bf16 (x : FVec Ideal S4096x4096 .f32) bitsLt_bf16_f32) (ix2 s k) = x (ix2 s k) := by
  pointwise

theorem cast_g (x : Vec Ideal S1024 .f32) (n : Fin 1024) : (shapeCast S1x1024 x shapeCasts_S1024_S1x1024) (ix2 0 n) = x (ix1 n) := by
  pointwise

variable (m : (ℓ : Loc nD τ sig) → Buf (Elt Ideal) ℓ) (c : Dev nD)

/-- The MLP's activation. -/
def argA : Out.Mat 4096 4096 := fun s k => (m ((c.tc : Thread nD τ).loc main_arg0)) (ix2 s k)
/-- The weight of the MLP's second product. -/
def argW : Out.Mat 4096 1024 := fun k n => (m ((c.tc : Thread nD τ).loc main_arg1)) (ix3 0 k n)
/-- The residual stream before the MLP. -/
def argX : Out.Mat 4096 1024 := fun s n => (m ((c.tc : Thread nD τ).loc main_arg2)) (ix2 s n)
/-- The target. -/
def argY : Out.Mat 4096 1024 := fun s n => (m ((c.tc : Thread nD τ).loc main_arg3)) (ix2 s n)
/-- The gain of the last norm. -/
def argG : Fin 1024 → EReal := fun n => (m ((c.tc : Thread nD τ).loc main_arg4)) (ix1 n)
/-- The residual stream at the end. -/
def X2 : Out.Mat 4096 1024 := Loss.x2 (argA m c) (argW m c) (argX m c)

theorem V_v0 : V m c main_v0 = truncf (F := Ideal) .bf16 ((m (c.tc.loc main_arg0)) : FVec Ideal S4096x4096 .f32) bitsLt_bf16_f32 := by
  unfold V
  after_reads_simp
  try simp -implicitDefEqProofs only [StableHlo.TRef.toBuf, StableHlo.TRef.ofBuf, cast_cast, cast_eq]
  first | done | rfl

theorem V_v2 : V m c main_v2 = truncf (F := Ideal) .bf16 (shapeCast S4096x1024 (m (c.tc.loc main_arg1)) shapeCasts_S1x4096x1024_S4096x1024 : FVec Ideal S4096x1024 .f32) bitsLt_bf16_f32 := by
  unfold V
  after_reads_simp
  try simp -implicitDefEqProofs only [StableHlo.TRef.toBuf, StableHlo.TRef.ofBuf, cast_cast, cast_eq]
  first | done | rfl

theorem V_v3 : V m c main_v3 = shapeCast S1x1024 (m (c.tc.loc main_arg4)) shapeCasts_S1024_S1x1024 := by
  unfold V
  after_reads_simp
  try simp -implicitDefEqProofs only [StableHlo.TRef.toBuf, StableHlo.TRef.ofBuf, cast_cast, cast_eq]
  first | done | rfl

theorem V_arg2 : V m c main_arg2 = m (c.tc.loc main_arg2) := by
  unfold V
  after_reads_simp
  try simp -implicitDefEqProofs only [StableHlo.TRef.toBuf, StableHlo.TRef.ofBuf, cast_cast, cast_eq]
  first | done | rfl

theorem V_arg3 : V m c main_arg3 = m (c.tc.loc main_arg3) := by
  unfold V
  after_reads_simp
  try simp -implicitDefEqProofs only [StableHlo.TRef.toBuf, StableHlo.TRef.ofBuf, cast_cast, cast_eq]
  first | done | rfl

theorem in_a (t : Fin cfg0.N) (p : Fin 512) (k : Fin 4096) : iblk m c 0 t (ix2 p k) = argA m c (Loss.row t.val p) k := by
  blk_simp [iblk]
  have hN : t.val < 8 := t.isLt
  refine (congrArg (V m c main_v0) (show _ = ix2 (Loss.row t.val p) k from ?_)).trans ?_
  · funext a
    match a with
    | 0 => exact Fin.ext (by blk_simp [(idxIn t).1]; show t.val * 512 + p.val = (512 * t.val + p.val) % 4096; omega)
    | 1 => exact Fin.ext (by blk_simp [(idxIn t).1])
  · rw [V_v0]
    exact cast_a _ _ _

theorem in_w (t : Fin cfg0.N) (p : Fin 4096) (k : Fin 1024) : iblk m c 1 t (ix2 p k) = argW m c p k := by
  blk_simp [iblk]
  have hN : t.val < 8 := t.isLt
  refine (congrArg (V m c main_v2) (show _ = ix2 p k from ?_)).trans ?_
  · funext a
    match a with
    | 0 => exact Fin.ext (by blk_simp [(idxIn t).2.1])
    | 1 => exact Fin.ext (by blk_simp [(idxIn t).2.1])
  · rw [V_v2]
    exact cast_w _ _ _

theorem in_x (t : Fin cfg0.N) (p : Fin 512) (k : Fin 1024) : iblk m c 2 t (ix2 p k) = argX m c (Loss.row t.val p) k := by
  blk_simp [iblk]
  have hN : t.val < 8 := t.isLt
  refine (congrArg (V m c main_arg2) (show _ = ix2 (Loss.row t.val p) k from ?_)).trans ?_
  · funext a
    match a with
    | 0 => exact Fin.ext (by blk_simp [(idxIn t).2.2.1]; show t.val * 512 + p.val = (512 * t.val + p.val) % 4096; omega)
    | 1 => exact Fin.ext (by blk_simp [(idxIn t).2.2.1])
  · rw [V_arg2]
    rfl

theorem in_y (t : Fin cfg0.N) (p : Fin 512) (k : Fin 1024) : iblk m c 3 t (ix2 p k) = argY m c (Loss.row t.val p) k := by
  blk_simp [iblk]
  have hN : t.val < 8 := t.isLt
  refine (congrArg (V m c main_arg3) (show _ = ix2 (Loss.row t.val p) k from ?_)).trans ?_
  · funext a
    match a with
    | 0 => exact Fin.ext (by blk_simp [(idxIn t).2.2.2.1]; show t.val * 512 + p.val = (512 * t.val + p.val) % 4096; omega)
    | 1 => exact Fin.ext (by blk_simp [(idxIn t).2.2.2.1])
  · rw [V_arg3]
    rfl

theorem in_g (t : Fin cfg0.N) (k : Fin 1024) : iblk m c 4 t (ix2 0 k) = argG m c k := by
  blk_simp [iblk]
  have hN : t.val < 8 := t.isLt
  refine (congrArg (V m c main_v3) (show _ = ix2 0 k from ?_)).trans ?_
  · funext a
    match a with
    | 0 => exact Fin.ext (by blk_simp [(idxIn t).2.2.2.2])
    | 1 => exact Fin.ext (by blk_simp [(idxIn t).2.2.2.2])
  · rw [V_v3]
    exact cast_g _ _

theorem in_x2 (t : Fin cfg0.N) (p : Fin 512) (q : Fin 1024) :
    k0_pay1 (iblk m c 0 t) (iblk m c 1 t) (iblk m c 2 t) (ix2 p q) = X2 m c (Loss.row t.val p) q := by
  rw [pay_x2]
  refine congrArg₂ (· + ·) (in_x m c t p q) (Finset.sum_congr rfl fun k _ => ?_)
  exact congrArg₂ (· * ·) (in_a m c t p k) (in_w m c t k q)

/-- The gradient of the loss at the residual stream. -/
theorem end_dx : (dats m 0 c).arrAt 5 cfg0.N = (fun y : S4096x1024.Idx => Loss.dx (X2 m c (y 0)) (argG m c) (argY m c (y 0)) (y 1)) :=
  arr_dx m c (in_x2 m c) (in_y m c) (in_g m c)

/-- The same in the narrow format. -/
theorem end_dx16 : (dats m 0 c).arrAt 8 cfg0.N = (fun y : S4096x1024.Idx => Loss.dx (X2 m c (y 0)) (argG m c) (argY m c (y 0)) (y 1)) :=
  arr_dx16 m c (in_x2 m c) (in_y m c) (in_g m c)

/-- The gradient of the last norm's gain. -/
theorem end_gain : (dats m 0 c).arrAt 6 cfg0.N = (fun y : S1x1024.Idx => Loss.gain (X2 m c) (argG m c) (argY m c) (y 1)) :=
  arr_gain m c (in_x2 m c) (in_y m c) (in_g m c)

/-- The loss. -/
theorem end_loss : (dats m 0 c).arrAt 7 cfg0.N = (fun _ : S1x128.Idx => Loss.loss (X2 m c) (argG m c) (argY m c)) :=
  arr_loss m c (in_x2 m c) (in_y m c) (in_g m c)

end Cert.Kernel5Ideal.Gen

end
-- ==== Proof.LossRef.lean ====
/- The reference of the last norm and the loss: its four results are the model. -/
module

public import proofs.«01_k».proof.Proof.Gen.Reference5Ideal.Read
public import proofs.«01_k».proof.Proof.LossReal
public import Idealize.ShloMosaic.Lib.Pipeline.ValueKit

@[expose] public section

set_option maxRecDepth 16384
set_option synthInstance.maxSize 4096

noncomputable section

namespace Cert.Reference5Ideal.Read

open Cert.Reference5Ideal Cert.Reference5Ideal.Gen Idealize.ShloMosaic Idealize.ShloMosaic.TcCoe Idealize.SL.Sem
open Idealize.ShloMosaic.Tactic

variable {x0 : (⟨S4096x4096, .f32⟩ : BufTy).Contents (Elt Ideal)} {x1 : (⟨S1x4096x1024, .f32⟩ : BufTy).Contents (Elt Ideal)}
  {x2 x3 : (⟨S4096x1024, .f32⟩ : BufTy).Contents (Elt Ideal)} {x4 : (⟨S1024, .f32⟩ : BufTy).Contents (Elt Ideal)}
  {a : Out.Mat 4096 4096} {w : Out.Mat 4096 1024} {xs Y : Out.Mat 4096 1024} {g : Fin 1024 → EReal}
  (h0 : ∀ s k, x0 (ix2 s k) = a s k) (h1 : ∀ k n, x1 (ix3 0 k n) = w k n) (h2 : ∀ s n, x2 (ix2 s n) = xs s n)
  (h3 : ∀ s n, x3 (ix2 s n) = Y s n) (h4 : ∀ n, x4 (ix1 n) = g n)

theorem two {a b : ℕ} (y : Shape.Idx ⟨2, ![a, b]⟩) : ∃ (p : Fin a) (q : Fin b), y = ix2 p q :=
  ⟨y 0, y 1, by funext e; match e with | 0 => rfl | 1 => rfl⟩

include h1 in
theorem v0_model (k : Fin 4096) (n : Fin 1024) : val_main_v0 (F := Ideal) x1 (ix2 k n) = w k n := by
  rw [← h1]
  unfold val_main_v0
  pointwise

section Stream
include h0 h1 h2
/-- The residual stream. -/
theorem v2_model (s : Fin 4096) (n : Fin 1024) : val_main_v2 (F := Ideal) x0 x1 x2 (ix2 s n) = Loss.x2 a w xs s n := by
  rw [val_main_v2_apply, val_main_v1_apply, h2]
  refine congrArg (xs s n + ·) (Finset.sum_congr rfl fun k _ => congrArg₂ (· * ·) (Eq.trans (congrArg x0 ?_) (h0 s k))
    (Eq.trans (congrArg (val_main_v0 (F := Ideal) x1) ?_) (v0_model h1 k n)))
  · funext a; match a with | 0 => rfl | 1 => rfl
  · funext a; match a with | 0 => rfl | 1 => rfl

theorem v9_model (s : Fin 4096) (z : Fin 1) : val_main_v9 (F := Ideal) x0 x1 x2 (ix2 s z) = Loss.ve (Loss.x2 a w xs s) := by
  pointwise [val_main_v9, val_main_v8, val_main_cst_1, val_main_v7, val_main_v6, val_main_cst_0, val_main_v5, val_main_v4, val_main_v3, val_main_cst]
  simp only [v2_model h0 h1 h2]
  rfl

theorem v10_model (s : Fin 4096) (z : Fin 1) : val_main_v10 (F := Ideal) x0 x1 x2 (ix2 s z) = Out.rms (Loss.x2 a w xs s) := by
  pointwise [val_main_v10]
  rw [v9_model h0 h1 h2]
  rfl

theorem v13_model (s : Fin 4096) (z : Fin 1) : val_main_v13 (F := Ideal) x0 x1 x2 (ix2 s z) =
    FloatOps.ofBits (F := Ideal) .f32 0xBF000000#32 * Ideal.div (Out.rms (Loss.x2 a w xs s)) (Loss.ve (Loss.x2 a w xs s)) := by
  pointwise [val_main_v13, val_main_v12, val_main_v11, val_main_cst_2]
  rw [v9_model h0 h1 h2, v10_model h0 h1 h2]

theorem v15_model (s : Fin 4096) (n : Fin 1024) : val_main_v15 (F := Ideal) x0 x1 x2 (ix2 s n) = Loss.hat (Loss.x2 a w xs s) n := by
  pointwise [val_main_v15, val_main_v14]
  rw [v2_model h0 h1 h2, v10_model h0 h1 h2]
  rfl
end Stream

section Error
include h0 h1 h2 h3 h4
/-- The error. -/
theorem v19_model (s : Fin 4096) (n : Fin 1024) : val_main_v19 (F := Ideal) x0 x1 x2 x3 x4 (ix2 s n) = Loss.err (Loss.x2 a w xs s) g (Y s) n := by
  pointwise [val_main_v19, val_main_v18, val_main_v17, val_main_v16]
  rw [v15_model h0 h1 h2, h3, h4]
  rfl

theorem v33_model (s : Fin 4096) (n : Fin 1024) : val_main_v33 (F := Ideal) x0 x1 x2 x3 x4 (ix2 s n) = Loss.dy (Loss.x2 a w xs s) g (Y s) n := by
  pointwise [val_main_v33, val_main_v32, val_main_v31, val_main_v30, val_main_cst_10, val_main_v29, val_main_v28, val_main_cst_8, val_main_cst_9,
    val_main_v22, val_main_v21, val_main_cst_3]
  rw [v19_model h0 h1 h2 h3 h4]
  exact Loss.dy_eq _

theorem v38_model (s : Fin 4096) (n : Fin 1024) : val_main_v38 (F := Ideal) x0 x1 x2 x3 x4 (ix2 s n) = Loss.dy (Loss.x2 a w xs s) g (Y s) n * g n := by
  pointwise [val_main_v38, val_main_v37, val_main_v16]
  rw [v33_model h0 h1 h2 h3 h4, h4]

theorem v47_model (s : Fin 4096) (z : Fin 1) : val_main_v47 (F := Ideal) x0 x1 x2 x3 x4 (ix2 s z) =
    Ideal.div ((∑ k, Loss.x2 a w xs s k * (Loss.dy (Loss.x2 a w xs s) g (Y s) k * g k))
      * (FloatOps.ofBits (F := Ideal) .f32 0xBF000000#32 * Ideal.div (Out.rms (Loss.x2 a w xs s)) (Loss.ve (Loss.x2 a w xs s))))
      (FloatOps.ofBits (F := Ideal) .f32 0x44800000#32) := by
  pointwise [val_main_v47, val_main_v46, val_main_cst_14, val_main_v45, val_main_v42, val_main_v41, val_main_v40, val_main_cst_13]
  rw [v13_model h0 h1 h2]
  simp only [v2_model h0 h1 h2, v38_model h0 h1 h2 h3 h4]
  rfl

theorem v49_model (s : Fin 4096) (n : Fin 1024) : val_main_v49 (F := Ideal) x0 x1 x2 x3 x4 (ix2 s n) = val_main_v47 (F := Ideal) x0 x1 x2 x3 x4 (ix2 s 0) := by
  pointwise [val_main_v49, val_main_v48, val_main_cst_15]
  exact Fin.sum_univ_one _

/-- The gradient at the residual stream. -/
theorem v53_model (s : Fin 4096) (n : Fin 1024) : val_main_v53 (F := Ideal) x0 x1 x2 x3 x4 (ix2 s n) = Loss.dx (Loss.x2 a w xs s) g (Y s) n := by
  pointwise [val_main_v53, val_main_v52, val_main_v51, val_main_v50, val_main_v44, val_main_v43]
  rw [v49_model h0 h1 h2 h3 h4, v47_model h0 h1 h2 h3 h4, v2_model h0 h1 h2, v10_model h0 h1 h2, v38_model h0 h1 h2 h3 h4]
  exact Loss.norm_grad (Loss.x2 a w xs s) (fun k => Loss.dy (Loss.x2 a w xs s) g (Y s) k * g k) n

theorem v56_model (s : Fin 4096) (n : Fin 1024) : val_main_v56 (F := Ideal) x0 x1 x2 x3 x4 (ix2 s n) = Loss.dx (Loss.x2 a w xs s) g (Y s) n :=
  v53_model h0 h1 h2 h3 h4 s n

/-- The gradient of the gain. -/
theorem v54_model (z : Fin 1) (n : Fin 1024) : val_main_v54 (F := Ideal) x0 x1 x2 x3 x4 (ix2 z n) = Loss.gain (Loss.x2 a w xs) g Y n := by
  pointwise [val_main_v54, val_main_v39, val_main_cst_12, val_main_v36, val_main_v35, val_main_v34, val_main_cst_11]
  simp only [v15_model h0 h1 h2, v33_model h0 h1 h2 h3 h4]
  refine (Fin.sum_univ_one _).trans ?_
  exact Finset.sum_congr rfl fun s _ => mul_comm (Loss.hat _ _) _

/-- The loss. -/
theorem v55_model (z : Fin 1) (n : Fin 128) : val_main_v55 (F := Ideal) x0 x1 x2 x3 x4 (ix2 z n) = Loss.loss (Loss.x2 a w xs) g Y := by
  pointwise [val_main_v55, val_main_v27, val_main_cst_7, val_main_v26, val_main_cst_6, val_main_v25, val_main_v24, val_main_cst_5, val_main_v23, val_main_v20, val_main_cst_4]
  simp only [v19_model h0 h1 h2 h3 h4]
  exact congrArg (_ * ·) (Finset.sum_congr rfl fun s _ => Loss.div_1024 _)
end Error

end Cert.Reference5Ideal.Read

end
-- ==== Proof.MergeModel.lean ====
/- The gates and the merge of the two branches, and its derivative, over the extended reals. -/
module

public import proofs.«01_k».proof.Proof.OutModel

@[expose] public section

set_option maxRecDepth 16384
set_option synthInstance.maxSize 4096

noncomputable section

namespace Merge

open Idealize.ShloMosaic

/-- The logistic function of a gate. -/
def sig (x : EReal) : EReal := Ideal.div 1 (1 + Ideal.exp (-x))

theorem sig_sub (x : EReal) : Ideal.div 1 (1 + Ideal.exp (0 - x)) = sig x := by
  rw [sub_eq_add_neg, zero_add]
  rfl

/-- A branch's output projection. -/
def prod (o : Out.Mat 4096 512) (w : Out.Mat 512 1024) : Out.Mat 4096 1024 := fun s n => ∑ k, o s k * w k n

/-- The two projections, each times its gate, added up. -/
def merged (o : Out.Mat 4096 512) (wa : Out.Mat 512 1024) (sg : Out.Mat 4096 512) (wb : Out.Mat 512 1024) (ga gb : Out.Mat 4096 1024) :
    Out.Mat 4096 1024 := fun s n => sig (ga s n) * prod o wa s n + sig (gb s n) * prod sg wb s n

/-- The cotangent of the merged branches: that of the residual stream times the transposed weight. -/
def dm (d : Out.Mat 4096 1024) (w : Out.Mat 1024 1024) : Out.Mat 4096 1024 := fun s k => ∑ n, d s n * w k n

/-- The gradient of a branch's projection. -/
def dy (d : Out.Mat 4096 1024) (w : Out.Mat 1024 1024) (g : Out.Mat 4096 1024) : Out.Mat 4096 1024 := fun s k => dm d w s k * sig (g s k)

/-- The derivative of a gated product in the gate, from the cotangent, the gate and the other factor. -/
def slope (u g y : EReal) : EReal := u * y * sig g * (1 - sig g)

/-- The gradient of a branch's gate. -/
def dg (d : Out.Mat 4096 1024) (w : Out.Mat 1024 1024) (g y : Out.Mat 4096 1024) : Out.Mat 4096 1024 :=
  fun s k => slope (dm d w s k) (g s k) (y s k)

/-- The gradients of the two gates, one after the other, transposed. -/
def dgT (d : Out.Mat 4096 1024) (w : Out.Mat 1024 1024) (ga ya gb yb : Out.Mat 4096 1024) : Out.Mat 2048 4096 := fun r s =>
  if h : r.val < 1024 then dg d w ga ya s ⟨r.val, h⟩ else dg d w gb yb s ⟨r.val - 1024, by have := r.isLt; omega⟩

/-- The gradient of the output projection's weight. -/
def gw (mg d : Out.Mat 4096 1024) : Out.Mat 1024 1024 := fun f k => ∑ s, mg s f * d s k

/-- Column `k` of the first gate. -/
def colA (k : Fin 1024) : Fin 3200 := ⟨1024 + k.val, by omega⟩
/-- Column `k` of the second gate. -/
def colB (k : Fin 1024) : Fin 3200 := ⟨2048 + k.val, by omega⟩

/-- Position `p` of the half `t`. -/
def half (t : ℕ) (p : Fin 2048) : Fin 4096 := ⟨(2048 * t + p.val) % 4096, Nat.mod_lt _ (by norm_num)⟩

/-- The positions, a half after a half. -/
theorem sum_halves (F : Fin 4096 → EReal) : ∑ p : Fin 2048, F (half 0 p) + ∑ p : Fin 2048, F (half 1 p) = ∑ s, F s := by
  refine Eq.trans ?_ (Fin.sum_univ_add (a := 2048) (b := 2048) (F : Fin (2048 + 2048) → EReal)).symm
  refine congrArg₂ (· + ·) (Finset.sum_congr rfl fun p _ => congrArg F (Fin.ext ?_)) (Finset.sum_congr rfl fun p _ => congrArg F (Fin.ext ?_))
  · have := p.isLt
    show (2048 * 0 + p.val) % 4096 = p.val
    omega
  · have := p.isLt
    show (2048 * 1 + p.val) % 4096 = 2048 + p.val
    omega

end Merge

end
-- ==== Proof.MergePay.lean ====
/- What one grid step of the merge computes. -/
module

public import proofs.«01_k».proof.Proof.Gen.Kernel6Ideal.Skeleton
public import proofs.«01_k».proof.Proof.MergeModel
public import Idealize.ShloMosaic.Lib.Pipeline.ValueKit

@[expose] public section

set_option maxRecDepth 16384
set_option synthInstance.maxSize 4096

noncomputable section

namespace Cert.Kernel6Ideal.Gen

open Idealize.ShloMosaic Idealize.ShloMosaic.TcCoe Idealize.SL.Sem
open Idealize.ShloMosaic.Tactic

theorem pay_a (v0 : Vec Ideal S512x512 .bf16) (v2 : Vec Ideal S1024x512 .bf16) (p : Fin 512) (q : Fin 1024) :
    k0_pay4 v0 v2 (ix2 p q) = ∑ k : Fin 512, v0 (ix2 p k) * v2 (ix2 q k) := by
  pointwise [k0_pay4]

theorem pay_b (v5 : Vec Ideal S512x512 .bf16) (v7 : Vec Ideal S1024x512 .bf16) (p : Fin 512) (q : Fin 1024) :
    k0_pay5 v5 v7 (ix2 p q) = ∑ k : Fin 512, v5 (ix2 p k) * v7 (ix2 q k) := by
  pointwise [k0_pay5]

theorem pay_a16 (v4 : FVec Ideal S512x1024 .f32) (p : Fin 512) (q : Fin 1024) : k0_pay1 v4 (ix2 p q) = v4 (ix2 p q) := by
  pointwise [k0_pay1]

theorem pay_b16 (v9 : FVec Ideal S512x1024 .f32) (p : Fin 512) (q : Fin 1024) : k0_pay2 v9 (ix2 p q) = v9 (ix2 p q) := by
  pointwise [k0_pay2]

theorem pay_t (v33 : FVec Ideal S512x1024 .bf16) (q : Fin 1024) (p : Fin 512) : k0_pay3 v33 (ix2 q p) = v33 (ix2 p q) := by
  pointwise [k0_pay3]

theorem pay_m (v0 : Vec Ideal S512x512 .bf16) (v2 : Vec Ideal S1024x512 .bf16) (v5 : Vec Ideal S512x512 .bf16) (v7 : Vec Ideal S1024x512 .bf16) (v10 v20 : Vec Ideal S512x1024 .bf16) (p : Fin 512) (q : Fin 1024) :
    k0_pay6 v0 v2 v5 v7 v10 v20 (ix2 p q) = Merge.sig (v10 (ix2 p q)) * (∑ k : Fin 512, v0 (ix2 p k) * v2 (ix2 q k)) + Merge.sig (v20 (ix2 p q)) * ∑ k : Fin 512, v5 (ix2 p k) * v7 (ix2 q k) := by
  pointwise [k0_pay6]
  rw [pay_a, pay_b, Merge.sig_sub, Merge.sig_sub]

end Cert.Kernel6Ideal.Gen

end
-- ==== Proof.MergeHost.lean ====
/- What the merge reads: its blocks as parts of the arguments. -/
module

public import proofs.«01_k».proof.Proof.Gen.Kernel6Ideal.Frame
public import proofs.«01_k».proof.Proof.LossModel
public import proofs.«01_k».proof.Proof.MergePay
public import Idealize.ShloMosaic.Lib.StableHlo.ReadAt

@[expose] public section

set_option maxRecDepth 16384
set_option synthInstance.maxSize 4096

noncomputable section

namespace Cert.Kernel6Ideal.Gen

open Idealize.ShloMosaic Idealize.ShloMosaic.TcCoe Idealize.SL.Sem
open Idealize.ShloMosaic.Tactic

theorem idxIn : ∀ t : Fin cfg0.N, win0_0.index t = ![t.val, 0] ∧ win0_1.index t = ![t.val, 0] ∧ win0_2.index t = ![0, 0]
    ∧ win0_3.index t = ![0, 0] ∧ win0_4.index t = ![t.val, 1] ∧ win0_5.index t = ![t.val, 2] :=
  (by decide +kernel : ∀ t : Fin grid0.N, _)

theorem cast_o (x : Vec Ideal S4096x512 .f32) (s : Fin 4096) (k : Fin 512) : (truncf (F := Ideal) .bf16 (x : FVec Ideal S4096x512 .f32) bitsLt_bf16_f32) (ix2 s k) = x (ix2 s k) := by
  pointwise

theorem cast_p (x : Vec Ideal S4096x3200 .f32) (s : Fin 4096) (k : Fin 3200) : (truncf (F := Ideal) .bf16 (x : FVec Ideal S4096x3200 .f32) bitsLt_bf16_f32) (ix2 s k) = x (ix2 s k) := by
  pointwise

theorem cast_w (x : Vec Ideal S1x512x1024 .f32) (q : Fin 1024) (k : Fin 512) :
    (truncf (F := Ideal) .bf16 (transpose S1024x512 [1, 0] (shapeCast S512x1024 x shapeCasts_S1x512x1024_S512x1024) transposes_S512x1024_S1024x512_1_0 : FVec Ideal S1024x512 .f32) bitsLt_bf16_f32) (ix2 q k) = x (ix3 0 k q) := by
  pointwise

variable (m : (ℓ : Loc nD τ sig) → Buf (Elt Ideal) ℓ) (c : Dev nD)

/-- The attention branch. -/
def argO : Out.Mat 4096 512 := fun s k => (m ((c.tc : Thread nD τ).loc main_arg0)) (ix2 s k)
/-- Its output projection. -/
def argA : Out.Mat 512 1024 := fun k n => (m ((c.tc : Thread nD τ).loc main_arg1)) (ix3 0 k n)
/-- The gating branch. -/
def argS : Out.Mat 4096 512 := fun s k => (m ((c.tc : Thread nD τ).loc main_arg2)) (ix2 s k)
/-- Its output projection. -/
def argB : Out.Mat 512 1024 := fun k n => (m ((c.tc : Thread nD τ).loc main_arg3)) (ix3 0 k n)
/-- The attention branch's gate. -/
def gateA : Out.Mat 4096 1024 := fun s n => (m ((c.tc : Thread nD τ).loc main_arg4)) (ix2 s (Merge.colA n))
/-- The gating branch's gate. -/
def gateB : Out.Mat 4096 1024 := fun s n => (m ((c.tc : Thread nD τ).loc main_arg4)) (ix2 s (Merge.colB n))

theorem V_v0 : V m c main_v0 = truncf (F := Ideal) .bf16 ((m (c.tc.loc main_arg0)) : FVec Ideal S4096x512 .f32) bitsLt_bf16_f32 := by
  unfold V
  after_reads_simp
  try simp -implicitDefEqProofs only [StableHlo.TRef.toBuf, StableHlo.TRef.ofBuf, cast_cast, cast_eq]
  first | done | rfl

theorem V_v1 : V m c main_v1 = truncf (F := Ideal) .bf16 ((m (c.tc.loc main_arg2)) : FVec Ideal S4096x512 .f32) bitsLt_bf16_f32 := by
  unfold V
  after_reads_simp
  try simp -implicitDefEqProofs only [StableHlo.TRef.toBuf, StableHlo.TRef.ofBuf, cast_cast, cast_eq]
  first | done | rfl

theorem V_v2 : V m c main_v2 = truncf (F := Ideal) .bf16 ((m (c.tc.loc main_arg4)) : FVec Ideal S4096x3200 .f32) bitsLt_bf16_f32 := by
  unfold V
  after_reads_simp
  try simp -implicitDefEqProofs only [StableHlo.TRef.toBuf, StableHlo.TRef.ofBuf, cast_cast, cast_eq]
  first | done | rfl

theorem V_v5 : V m c main_v5 = truncf (F := Ideal) .bf16 (transpose S1024x512 [1, 0] (shapeCast S512x1024 (m (c.tc.loc main_arg1)) shapeCasts_S1x512x1024_S512x1024) transposes_S512x1024_S1024x512_1_0 : FVec Ideal S1024x512 .f32) bitsLt_bf16_f32 := by
  unfold V
  after_reads_simp
  try simp -implicitDefEqProofs only [StableHlo.TRef.toBuf, StableHlo.TRef.ofBuf, cast_cast, cast_eq]
  first | done | rfl

theorem V_v8 : V m c main_v8 = truncf (F := Ideal) .bf16 (transpose S1024x512 [1, 0] (shapeCast S512x1024 (m (c.tc.loc main_arg3)) shapeCasts_S1x512x1024_S512x1024) transposes_S512x1024_S1024x512_1_0 : FVec Ideal S1024x512 .f32) bitsLt_bf16_f32 := by
  unfold V
  after_reads_simp
  try simp -implicitDefEqProofs only [StableHlo.TRef.toBuf, StableHlo.TRef.ofBuf, cast_cast, cast_eq]
  first | done | rfl

theorem in_o (t : Fin cfg0.N) (p : Fin 512) (k : Fin 512) : iblk m c 0 t (ix2 p k) = argO m c (Loss.row t.val p) k := by
  blk_simp [iblk]
  have hN : t.val < 8 := t.isLt
  refine (congrArg (V m c main_v0) (show _ = ix2 (Loss.row t.val p) k from ?_)).trans ?_
  · funext a
    match a with
    | 0 => exact Fin.ext (by blk_simp [(idxIn t).1]; show t.val * 512 + p.val = (512 * t.val + p.val) % 4096; omega)
    | 1 => exact Fin.ext (by blk_simp [(idxIn t).1])
  · rw [V_v0]
    exact cast_o _ _ _

theorem in_s (t : Fin cfg0.N) (p : Fin 512) (k : Fin 512) : iblk m c 1 t (ix2 p k) = argS m c (Loss.row t.val p) k := by
  blk_simp [iblk]
  have hN : t.val < 8 := t.isLt
  refine (congrArg (V m c main_v1) (show _ = ix2 (Loss.row t.val p) k from ?_)).trans ?_
  · funext a
    match a with
    | 0 => exact Fin.ext (by blk_simp [(idxIn t).2.1]; show t.val * 512 + p.val = (512 * t.val + p.val) % 4096; omega)
    | 1 => exact Fin.ext (by blk_simp [(idxIn t).2.1])
  · rw [V_v1]
    exact cast_o _ _ _

theorem in_wa (t : Fin cfg0.N) (q : Fin 1024) (k : Fin 512) : iblk m c 2 t (ix2 q k) = argA m c k q := by
  blk_simp [iblk]
  have hN : t.val < 8 := t.isLt
  refine (congrArg (V m c main_v5) (show _ = ix2 q k from ?_)).trans ?_
  · funext a
    match a with
    | 0 => exact Fin.ext (by blk_simp [(idxIn t).2.2.1])
    | 1 => exact Fin.ext (by blk_simp [(idxIn t).2.2.1])
  · rw [V_v5]
    exact cast_w _ _ _

theorem in_wb (t : Fin cfg0.N) (q : Fin 1024) (k : Fin 512) : iblk m c 3 t (ix2 q k) = argB m c k q := by
  blk_simp [iblk]
  have hN : t.val < 8 := t.isLt
  refine (congrArg (V m c main_v8) (show _ = ix2 q k from ?_)).trans ?_
  · funext a
    match a with
    | 0 => exact Fin.ext (by blk_simp [(idxIn t).2.2.2.1])
    | 1 => exact Fin.ext (by blk_simp [(idxIn t).2.2.2.1])
  · rw [V_v8]
    exact cast_w _ _ _

theorem in_ga (t : Fin cfg0.N) (p : Fin 512) (k : Fin 1024) : X0_4 m c t (ix2 p k) = gateA m c (Loss.row t.val p) k := by
  unfold X0_4 Pipeline.Window.fill
  rw [dif_pos (moved0_4 t _)]
  blk_simp [iblk]
  have hN : t.val < 8 := t.isLt
  refine (congrArg (V m c main_v2) (show _ = ix2 (Loss.row t.val p) (Merge.colA k) from ?_)).trans ?_
  · funext a
    match a with
    | 0 => exact Fin.ext (by blk_simp [(idxIn t).2.2.2.2.1]; show t.val * 512 + p.val = (512 * t.val + p.val) % 4096; omega)
    | 1 => exact Fin.ext (by blk_simp [(idxIn t).2.2.2.2.1]; try rfl)
  · rw [V_v2]
    exact cast_p _ _ _

theorem in_gb (t : Fin cfg0.N) (p : Fin 512) (k : Fin 1024) : X0_5 m c t (ix2 p k) = gateB m c (Loss.row t.val p) k := by
  unfold X0_5 Pipeline.Window.fill
  rw [dif_pos (moved0_5 t _)]
  blk_simp [iblk]
  have hN : t.val < 8 := t.isLt
  refine (congrArg (V m c main_v2) (show _ = ix2 (Loss.row t.val p) (Merge.colB k) from ?_)).trans ?_
  · funext a
    match a with
    | 0 => exact Fin.ext (by blk_simp [(idxIn t).2.2.2.2.2]; show t.val * 512 + p.val = (512 * t.val + p.val) % 4096; omega)
    | 1 => exact Fin.ext (by blk_simp [(idxIn t).2.2.2.2.2]; try rfl)
  · rw [V_v2]
    exact cast_p _ _ _

end Cert.Kernel6Ideal.Gen

end
-- ==== Proof.MergeArr.lean ====
/- What the merge leaves in its four results. -/
module

public import proofs.«01_k».proof.Proof.MergeHost

@[expose] public section

set_option maxRecDepth 16384
set_option synthInstance.maxSize 4096

noncomputable section

namespace Cert.Kernel6Ideal.Gen

open Idealize.ShloMosaic Idealize.ShloMosaic.TcCoe Idealize.SL.Sem
open Idealize.ShloMosaic.Tactic

theorem two {a b : ℕ} (y : Shape.Idx ⟨2, ![a, b]⟩) : y = ix2 (y 0) (y 1) := by
  funext d; match d with | 0 => rfl | 1 => rfl

theorem idxOut6 : ∀ t : Fin cfg0.N, win0_6.index t = ![t.val, 0] :=
  (by decide +kernel : ∀ t : Fin grid0.N, _)

theorem idxOut7 : ∀ t : Fin cfg0.N, win0_7.index t = ![t.val, 0] :=
  (by decide +kernel : ∀ t : Fin grid0.N, _)

theorem idxOut8 : ∀ t : Fin cfg0.N, win0_8.index t = ![t.val, 0] :=
  (by decide +kernel : ∀ t : Fin grid0.N, _)

theorem idxOut9 : ∀ t : Fin cfg0.N, win0_9.index t = ![0, t.val] :=
  (by decide +kernel : ∀ t : Fin grid0.N, _)

variable (m : (ℓ : Loc nD τ sig) → Buf (Elt Ideal) ℓ) (c : Dev nD)

theorem blk_a (t : Fin cfg0.N) (p : Fin 512) (q : Fin 1024) : k0_pay4 (iblk m c 0 t) (iblk m c 2 t) (ix2 p q) = Merge.prod (argO m c) (argA m c) (Loss.row t.val p) q :=
  (pay_a _ _ p q).trans (Finset.sum_congr rfl fun k _ => congrArg₂ (· * ·) (in_o m c t p k) (in_wa m c t q k))

theorem blk_b (t : Fin cfg0.N) (p : Fin 512) (q : Fin 1024) : k0_pay5 (iblk m c 1 t) (iblk m c 3 t) (ix2 p q) = Merge.prod (argS m c) (argB m c) (Loss.row t.val p) q :=
  (pay_b _ _ p q).trans (Finset.sum_congr rfl fun k _ => congrArg₂ (· * ·) (in_s m c t p k) (in_wb m c t q k))

theorem blk_m (t : Fin cfg0.N) (p : Fin 512) (q : Fin 1024) : (k0_pay6 (iblk m c 0 t) (iblk m c 2 t) (iblk m c 1 t) (iblk m c 3 t) (X0_4 m c t) (X0_5 m c t)) (ix2 p q) = Merge.merged (argO m c) (argA m c) (argS m c) (argB m c) (gateA m c) (gateB m c) (Loss.row t.val p) q := by
  refine (pay_m _ _ _ _ _ _ p q).trans ?_
  rw [in_ga, in_gb]
  exact congrArg₂ (· + ·) (congrArg (_ * ·) ((pay_a _ _ p q).symm.trans (blk_a m c t p q))) (congrArg (_ * ·) ((pay_b _ _ p q).symm.trans (blk_b m c t p q)))

/-- The merged branches. -/
theorem end_m : (dats m 0 c).arrAt 6 cfg0.N = (fun y : S4096x1024.Idx => Merge.merged (argO m c) (argA m c) (argS m c) (argB m c) (gateA m c) (gateB m c) (y 0) (y 1)) := by
  refine (dats m 0 c).arrAt_eq_of_covers 6 _ (by decide +kernel) fun t _ y => ?_
  blk_simp
  rw [after0_6]; unfold outsAt0; frame_out
  obtain ⟨p, q, rfl⟩ : ∃ (p : Fin 512) (q : Fin 1024), y = ix2 p q := ⟨y 0, y 1, two y⟩
  have hN : t.val < 8 := t.isLt
  refine (show _ = (k0_pay6 (iblk m c 0 t) (iblk m c 2 t) (iblk m c 1 t) (iblk m c 3 t) (X0_4 m c t) (X0_5 m c t)) (ix2 p q) from congrFun (by rfl) (ix2 p q)).trans ((blk_m m c t p q).trans ?_)
  refine congrArg₂ (Merge.merged (argO m c) (argA m c) (argS m c) (argB m c) (gateA m c) (gateB m c)) (Fin.ext ?_) (Fin.ext ?_)
  · blk_simp [idxOut6 t]
    show (512 * t.val + p.val) % 4096 = t.val * 512 + p.val
    omega
  · blk_simp [idxOut6 t]

/-- The output projection of the attention branch. -/
theorem end_a : (dats m 0 c).arrAt 7 cfg0.N = (fun y : S4096x1024.Idx => Merge.prod (argO m c) (argA m c) (y 0) (y 1)) := by
  refine (dats m 0 c).arrAt_eq_of_covers 7 _ (by decide +kernel) fun t _ y => ?_
  blk_simp
  rw [after0_7]; unfold outsAt0; frame_out
  obtain ⟨p, q, rfl⟩ : ∃ (p : Fin 512) (q : Fin 1024), y = ix2 p q := ⟨y 0, y 1, two y⟩
  have hN : t.val < 8 := t.isLt
  refine (show _ = k0_pay1 (k0_pay4 (iblk m c 0 t) (iblk m c 2 t)) (ix2 p q) from congrFun (by rfl) (ix2 p q)).trans (((pay_a16 _ p q).trans (blk_a m c t p q)).trans ?_)
  refine congrArg₂ (Merge.prod (argO m c) (argA m c)) (Fin.ext ?_) (Fin.ext ?_)
  · blk_simp [idxOut7 t]
    show (512 * t.val + p.val) % 4096 = t.val * 512 + p.val
    omega
  · blk_simp [idxOut7 t]

/-- The output projection of the gating branch. -/
theorem end_b : (dats m 0 c).arrAt 8 cfg0.N = (fun y : S4096x1024.Idx => Merge.prod (argS m c) (argB m c) (y 0) (y 1)) := by
  refine (dats m 0 c).arrAt_eq_of_covers 8 _ (by decide +kernel) fun t _ y => ?_
  blk_simp
  rw [after0_8]; unfold outsAt0; frame_out
  obtain ⟨p, q, rfl⟩ : ∃ (p : Fin 512) (q : Fin 1024), y = ix2 p q := ⟨y 0, y 1, two y⟩
  have hN : t.val < 8 := t.isLt
  refine (show _ = k0_pay2 (k0_pay5 (iblk m c 1 t) (iblk m c 3 t)) (ix2 p q) from congrFun (by rfl) (ix2 p q)).trans (((pay_b16 _ p q).trans (blk_b m c t p q)).trans ?_)
  refine congrArg₂ (Merge.prod (argS m c) (argB m c)) (Fin.ext ?_) (Fin.ext ?_)
  · blk_simp [idxOut8 t]
    show (512 * t.val + p.val) % 4096 = t.val * 512 + p.val
    omega
  · blk_simp [idxOut8 t]

/-- The merged branches, transposed. -/
theorem end_t : (dats m 0 c).arrAt 9 cfg0.N = (fun y : S1024x4096.Idx => Merge.merged (argO m c) (argA m c) (argS m c) (argB m c) (gateA m c) (gateB m c) (y 1) (y 0)) := by
  refine (dats m 0 c).arrAt_eq_of_covers 9 _ (by decide +kernel) fun t _ y => ?_
  blk_simp
  rw [after0_9]; unfold outsAt0; frame_out
  obtain ⟨q, p, rfl⟩ : ∃ (q : Fin 1024) (p : Fin 512), y = ix2 q p := ⟨y 0, y 1, two y⟩
  have hN : t.val < 8 := t.isLt
  refine (show _ = k0_pay3 (k0_pay6 (iblk m c 0 t) (iblk m c 2 t) (iblk m c 1 t) (iblk m c 3 t) (X0_4 m c t) (X0_5 m c t)) (ix2 q p) from congrFun (by rfl) (ix2 q p)).trans (((pay_t _ q p).trans (blk_m m c t p q)).trans ?_)
  refine congrArg₂ (Merge.merged (argO m c) (argA m c) (argS m c) (argB m c) (gateA m c) (gateB m c)) (Fin.ext ?_) (Fin.ext ?_)
  · blk_simp [idxOut9 t]
    show (512 * t.val + p.val) % 4096 = t.val * 512 + p.val
    omega
  · blk_simp [idxOut9 t]

end Cert.Kernel6Ideal.Gen

end
-- ==== Proof.MergeRef.lean ====
/- The reference of the merge: its results are the model. -/
module

public import proofs.«01_k».proof.Proof.Gen.Reference6Ideal.Read
public import proofs.«01_k».proof.Proof.MergeModel
public import Idealize.ShloMosaic.Lib.Pipeline.ValueKit

@[expose] public section

set_option maxRecDepth 16384
set_option synthInstance.maxSize 4096

noncomputable section

namespace Cert.Reference6Ideal.Read

open Cert.Reference6Ideal Cert.Reference6Ideal.Gen Idealize.ShloMosaic Idealize.ShloMosaic.TcCoe Idealize.SL.Sem
open Idealize.ShloMosaic.Tactic

variable {x0 x2 : (⟨S4096x512, .f32⟩ : BufTy).Contents (Elt Ideal)} {x1 x3 : (⟨S1x512x1024, .f32⟩ : BufTy).Contents (Elt Ideal)}
  {x4 : (⟨S4096x3200, .f32⟩ : BufTy).Contents (Elt Ideal)} {o sg : Out.Mat 4096 512} {wa wb : Out.Mat 512 1024} {ga gb : Out.Mat 4096 1024}
  (h0 : ∀ s k, x0 (ix2 s k) = o s k) (h1 : ∀ k n, x1 (ix3 0 k n) = wa k n) (h2 : ∀ s k, x2 (ix2 s k) = sg s k)
  (h3 : ∀ k n, x3 (ix3 0 k n) = wb k n) (h4 : ∀ s n, x4 (ix2 s (Merge.colA n)) = ga s n) (h5 : ∀ s n, x4 (ix2 s (Merge.colB n)) = gb s n)

theorem two {a b : ℕ} (y : Shape.Idx ⟨2, ![a, b]⟩) : ∃ (p : Fin a) (q : Fin b), y = ix2 p q :=
  ⟨y 0, y 1, by funext e; match e with | 0 => rfl | 1 => rfl⟩

include h1 in
theorem v0_model (k : Fin 512) (n : Fin 1024) : val_main_v0 (F := Ideal) x1 (ix2 k n) = wa k n := by
  rw [← h1]
  unfold val_main_v0
  pointwise

include h3 in
theorem v2_model (k : Fin 512) (n : Fin 1024) : val_main_v2 (F := Ideal) x3 (ix2 k n) = wb k n := by
  rw [← h3]
  unfold val_main_v2
  pointwise

include h0 h1 in
theorem v1_model (s : Fin 4096) (n : Fin 1024) : val_main_v1 (F := Ideal) x0 x1 (ix2 s n) = Merge.prod o wa s n := by
  rw [val_main_v1_apply]
  refine Finset.sum_congr rfl fun k _ => congrArg₂ (· * ·) (Eq.trans (congrArg x0 ?_) (h0 s k)) (Eq.trans (congrArg (val_main_v0 (F := Ideal) x1) ?_) (v0_model h1 k n))
  · funext a; match a with | 0 => rfl | 1 => rfl
  · funext a; match a with | 0 => rfl | 1 => rfl

include h2 h3 in
theorem v3_model (s : Fin 4096) (n : Fin 1024) : val_main_v3 (F := Ideal) x2 x3 (ix2 s n) = Merge.prod sg wb s n := by
  rw [val_main_v3_apply]
  refine Finset.sum_congr rfl fun k _ => congrArg₂ (· * ·) (Eq.trans (congrArg x2 ?_) (h2 s k)) (Eq.trans (congrArg (val_main_v2 (F := Ideal) x3) ?_) (v2_model h3 k n))
  · funext a; match a with | 0 => rfl | 1 => rfl
  · funext a; match a with | 0 => rfl | 1 => rfl

include h4 in
theorem v5_model (s : Fin 4096) (n : Fin 1024) : val_main_v5 (F := Ideal) x4 (ix2 s n) = ga s n := by
  rw [val_main_v5_apply, val_main_v4_apply, ← h4]
  refine congrArg x4 ?_
  funext a; match a with | 0 => rfl | 1 => rfl

include h5 in
theorem v6_model (s : Fin 4096) (n : Fin 1024) : val_main_v6 (F := Ideal) x4 (ix2 s n) = gb s n := by
  rw [val_main_v6_apply, val_main_v4_apply, ← h5]
  refine congrArg x4 ?_
  funext a; match a with | 0 => rfl | 1 => exact Fin.ext (by show 1024 + (1024 + n.val) = 2048 + n.val; omega)

include h4 in
theorem v12_model (s : Fin 4096) (n : Fin 1024) : val_main_v12 (F := Ideal) x4 (ix2 s n) = Merge.sig (ga s n) := by
  pointwise [val_main_v12, val_main_v11, val_main_cst_0, val_main_v10, val_main_v9, val_main_cst, val_main_v8, val_main_v7]
  rw [v5_model h4]
  rfl

include h5 in
theorem v19_model (s : Fin 4096) (n : Fin 1024) : val_main_v19 (F := Ideal) x4 (ix2 s n) = Merge.sig (gb s n) := by
  pointwise [val_main_v19, val_main_v18, val_main_cst_2, val_main_v17, val_main_v16, val_main_cst_1, val_main_v15, val_main_v14]
  rw [v6_model h5]
  rfl

include h0 h1 h2 h3 h4 h5

theorem v21_model (s : Fin 4096) (n : Fin 1024) : val_main_v21 (F := Ideal) x0 x1 x2 x3 x4 (ix2 s n) = Merge.merged o wa sg wb ga gb s n := by
  pointwise [val_main_v21, val_main_v20, val_main_v13]
  rw [v12_model h4, v19_model h5, v1_model h0 h1, v3_model h2 h3]
  rfl

/-- The merged branches. -/
theorem v22_model (s : Fin 4096) (n : Fin 1024) : val_main_v22 (F := Ideal) x0 x1 x2 x3 x4 (ix2 s n) = Merge.merged o wa sg wb ga gb s n :=
  v21_model h0 h1 h2 h3 h4 h5 s n

/-- The same, transposed. -/
theorem v26_model (n : Fin 1024) (s : Fin 4096) : val_main_v26 (F := Ideal) x0 x1 x2 x3 x4 (ix2 n s) = Merge.merged o wa sg wb ga gb s n := by
  pointwise [val_main_v26, val_main_v25]
  exact v21_model h0 h1 h2 h3 h4 h5 s n

end Cert.Reference6Ideal.Read

end
-- ==== Proof.DMergePay.lean ====
/- What one grid step of the backward pass of the merge computes. -/
module

public import proofs.«01_k».proof.Proof.Gen.Kernel7Ideal.Skeleton
public import proofs.«01_k».proof.Proof.MergeModel
public import Idealize.ShloMosaic.Lib.Pipeline.ValueKit

@[expose] public section

set_option maxRecDepth 16384
set_option synthInstance.maxSize 4096

noncomputable section

namespace Cert.Kernel7Ideal.Gen

open Idealize.ShloMosaic Idealize.ShloMosaic.TcCoe Idealize.SL.Sem
open Idealize.ShloMosaic.Tactic

theorem pay_dm (v0 : Vec Ideal S512x1024 .f32) (v2 : Vec Ideal S1024x1024 .bf16) (p : Fin 512) (q : Fin 1024) :
    k0_pay5 v0 v2 (ix2 p q) = ∑ n : Fin 1024, v0 (ix2 p n) * v2 (ix2 q n) := by
  pointwise [k0_pay5]

theorem pay_sa (v5 : Vec Ideal S512x1024 .bf16) (p : Fin 512) (q : Fin 1024) : k0_pay6 v5 (ix2 p q) = Merge.sig (v5 (ix2 p q)) := by
  pointwise [k0_pay6]
  exact Merge.sig_sub _

theorem pay_sb (v15 : Vec Ideal S512x1024 .bf16) (p : Fin 512) (q : Fin 1024) : k0_pay7 v15 (ix2 p q) = Merge.sig (v15 (ix2 p q)) := by
  pointwise [k0_pay7]
  exact Merge.sig_sub _

theorem pay_dya (v0 : Vec Ideal S512x1024 .f32) (v2 : Vec Ideal S1024x1024 .bf16) (v5 : Vec Ideal S512x1024 .bf16) (p : Fin 512) (q : Fin 1024) :
    k0_pay8 v0 v2 v5 (ix2 p q) = (∑ n : Fin 1024, v0 (ix2 p n) * v2 (ix2 q n)) * Merge.sig (v5 (ix2 p q)) := by
  pointwise [k0_pay8]
  rw [pay_dm, pay_sa]

theorem pay_dyb (v0 : Vec Ideal S512x1024 .f32) (v2 : Vec Ideal S1024x1024 .bf16) (v15 : Vec Ideal S512x1024 .bf16) (p : Fin 512) (q : Fin 1024) :
    k0_pay9 v0 v2 v15 (ix2 p q) = (∑ n : Fin 1024, v0 (ix2 p n) * v2 (ix2 q n)) * Merge.sig (v15 (ix2 p q)) := by
  pointwise [k0_pay9]
  rw [pay_dm, pay_sb]

variable (v0 : Vec Ideal S512x1024 .f32) (v2 : Vec Ideal S1024x1024 .bf16) (g y : Vec Ideal S512x1024 .bf16)

theorem pay_u (p : Fin 512) (q : Fin 1024) :
    k0_pay10 v0 v2 y (ix2 p q) = (∑ n : Fin 1024, v0 (ix2 p n) * v2 (ix2 q n)) * y (ix2 p q) := by
  pointwise [k0_pay10]
  rw [pay_dm]

theorem pay_dga (p : Fin 512) (q : Fin 1024) : k0_pay1 (k0_pay6 g) (k0_pay10 v0 v2 y) (ix2 p q) =
    Merge.slope (∑ n : Fin 1024, v0 (ix2 p n) * v2 (ix2 q n)) (g (ix2 p q)) (y (ix2 p q)) := by
  pointwise [k0_pay1]
  rw [pay_u, pay_sa]
  rfl

theorem pay_dgb (p : Fin 512) (q : Fin 1024) : k0_pay2 (k0_pay5 v0 v2) (k0_pay7 g) y (ix2 p q) =
    Merge.slope (∑ n : Fin 1024, v0 (ix2 p n) * v2 (ix2 q n)) (g (ix2 p q)) (y (ix2 p q)) := by
  pointwise [k0_pay2]
  rw [pay_dm, pay_sb]
  rfl

theorem pay_dgaT (p : Fin 512) (q : Fin 1024) : k0_pay3 (k0_pay6 g) (k0_pay10 v0 v2 y) (ix2 q p) =
    Merge.slope (∑ n : Fin 1024, v0 (ix2 p n) * v2 (ix2 q n)) (g (ix2 p q)) (y (ix2 p q)) := by
  pointwise [k0_pay3]
  exact pay_dga v0 v2 g y p q

theorem pay_dgbT (p : Fin 512) (q : Fin 1024) : k0_pay4 (k0_pay5 v0 v2) (k0_pay7 g) y (ix2 q p) =
    Merge.slope (∑ n : Fin 1024, v0 (ix2 p n) * v2 (ix2 q n)) (g (ix2 p q)) (y (ix2 p q)) := by
  pointwise [k0_pay4]
  exact pay_dgb v0 v2 g y p q

end Cert.Kernel7Ideal.Gen

end
-- ==== Proof.DMergeHost.lean ====
/- What the backward pass of the merge reads: its blocks as parts of the arguments. -/
module

public import proofs.«01_k».proof.Proof.Gen.Kernel7Ideal.Frame
public import proofs.«01_k».proof.Proof.LossModel
public import proofs.«01_k».proof.Proof.DMergePay
public import Idealize.ShloMosaic.Lib.StableHlo.ReadAt

@[expose] public section

set_option maxRecDepth 16384
set_option synthInstance.maxSize 4096

noncomputable section

namespace Cert.Kernel7Ideal.Gen

open Idealize.ShloMosaic Idealize.ShloMosaic.TcCoe Idealize.SL.Sem
open Idealize.ShloMosaic.Tactic

theorem idxIn : ∀ t : Fin cfg0.N, win0_0.index t = ![t.val, 0] ∧ win0_1.index t = ![0, 0] ∧ win0_2.index t = ![t.val, 1]
    ∧ win0_3.index t = ![t.val, 2] ∧ win0_4.index t = ![t.val, 0] ∧ win0_5.index t = ![t.val, 0] :=
  (by decide +kernel : ∀ t : Fin grid0.N, _)

theorem cast_y (x : Vec Ideal S4096x1024 .f32) (s : Fin 4096) (k : Fin 1024) : (truncf (F := Ideal) .bf16 (x : FVec Ideal S4096x1024 .f32) bitsLt_bf16_f32) (ix2 s k) = x (ix2 s k) := by
  pointwise

theorem cast_p (x : Vec Ideal S4096x3200 .f32) (s : Fin 4096) (k : Fin 3200) : (truncf (F := Ideal) .bf16 (x : FVec Ideal S4096x3200 .f32) bitsLt_bf16_f32) (ix2 s k) = x (ix2 s k) := by
  pointwise

theorem cast_w (x : Vec Ideal S1x1024x1024 .f32) (k n : Fin 1024) :
    (truncf (F := Ideal) .bf16 (shapeCast S1024x1024 x shapeCasts_S1x1024x1024_S1024x1024 : FVec Ideal S1024x1024 .f32) bitsLt_bf16_f32) (ix2 k n) = x (ix3 0 k n) := by
  pointwise

variable (m : (ℓ : Loc nD τ sig) → Buf (Elt Ideal) ℓ) (c : Dev nD)

/-- The cotangent of the residual stream. -/
def argD : Out.Mat 4096 1024 := fun s n => (m ((c.tc : Thread nD τ).loc main_arg0)) (ix2 s n)
/-- The output projection's weight. -/
def argW : Out.Mat 1024 1024 := fun k n => (m ((c.tc : Thread nD τ).loc main_arg1)) (ix3 0 k n)
/-- The attention branch's gate. -/
def gateA : Out.Mat 4096 1024 := fun s n => (m ((c.tc : Thread nD τ).loc main_arg2)) (ix2 s (Merge.colA n))
/-- The gating branch's gate. -/
def gateB : Out.Mat 4096 1024 := fun s n => (m ((c.tc : Thread nD τ).loc main_arg2)) (ix2 s (Merge.colB n))
/-- The attention branch's projection. -/
def argA : Out.Mat 4096 1024 := fun s n => (m ((c.tc : Thread nD τ).loc main_arg3)) (ix2 s n)
/-- The gating branch's projection. -/
def argB : Out.Mat 4096 1024 := fun s n => (m ((c.tc : Thread nD τ).loc main_arg4)) (ix2 s n)

theorem V_arg0 : V m c main_arg0 = m (c.tc.loc main_arg0) := by
  unfold V
  after_reads_simp
  try simp -implicitDefEqProofs only [StableHlo.TRef.toBuf, StableHlo.TRef.ofBuf, cast_cast, cast_eq]
  first | done | rfl

theorem V_v1 : V m c main_v1 = truncf (F := Ideal) .bf16 (shapeCast S1024x1024 (m (c.tc.loc main_arg1)) shapeCasts_S1x1024x1024_S1024x1024 : FVec Ideal S1024x1024 .f32) bitsLt_bf16_f32 := by
  unfold V
  after_reads_simp
  try simp -implicitDefEqProofs only [StableHlo.TRef.toBuf, StableHlo.TRef.ofBuf, cast_cast, cast_eq]
  first | done | rfl

theorem V_v2 : V m c main_v2 = truncf (F := Ideal) .bf16 ((m (c.tc.loc main_arg2)) : FVec Ideal S4096x3200 .f32) bitsLt_bf16_f32 := by
  unfold V
  after_reads_simp
  try simp -implicitDefEqProofs only [StableHlo.TRef.toBuf, StableHlo.TRef.ofBuf, cast_cast, cast_eq]
  first | done | rfl

theorem V_v3 : V m c main_v3 = truncf (F := Ideal) .bf16 ((m (c.tc.loc main_arg3)) : FVec Ideal S4096x1024 .f32) bitsLt_bf16_f32 := by
  unfold V
  after_reads_simp
  try simp -implicitDefEqProofs only [StableHlo.TRef.toBuf, StableHlo.TRef.ofBuf, cast_cast, cast_eq]
  first | done | rfl

theorem V_v4 : V m c main_v4 = truncf (F := Ideal) .bf16 ((m (c.tc.loc main_arg4)) : FVec Ideal S4096x1024 .f32) bitsLt_bf16_f32 := by
  unfold V
  after_reads_simp
  try simp -implicitDefEqProofs only [StableHlo.TRef.toBuf, StableHlo.TRef.ofBuf, cast_cast, cast_eq]
  first | done | rfl

theorem in_d (t : Fin cfg0.N) (p : Fin 512) (k : Fin 1024) : iblk m c 0 t (ix2 p k) = argD m c (Loss.row t.val p) k := by
  blk_simp [iblk]
  have hN : t.val < 8 := t.isLt
  refine (congrArg (V m c main_arg0) (show _ = ix2 (Loss.row t.val p) k from ?_)).trans ?_
  · funext a
    match a with
    | 0 => exact Fin.ext (by blk_simp [(idxIn t).1]; show t.val * 512 + p.val = (512 * t.val + p.val) % 4096; omega)
    | 1 => exact Fin.ext (by blk_simp [(idxIn t).1])
  · rw [V_arg0]
    rfl

theorem in_w (t : Fin cfg0.N) (q k : Fin 1024) : iblk m c 1 t (ix2 q k) = argW m c q k := by
  blk_simp [iblk]
  have hN : t.val < 8 := t.isLt
  refine (congrArg (V m c main_v1) (show _ = ix2 q k from ?_)).trans ?_
  · funext a
    match a with
    | 0 => exact Fin.ext (by blk_simp [(idxIn t).2.1])
    | 1 => exact Fin.ext (by blk_simp [(idxIn t).2.1])
  · rw [V_v1]
    exact cast_w _ _ _

theorem in_ga (t : Fin cfg0.N) (p : Fin 512) (k : Fin 1024) : X0_2 m c t (ix2 p k) = gateA m c (Loss.row t.val p) k := by
  unfold X0_2 Pipeline.Window.fill
  rw [dif_pos (moved0_2 t _)]
  blk_simp [iblk]
  have hN : t.val < 8 := t.isLt
  refine (congrArg (V m c main_v2) (show _ = ix2 (Loss.row t.val p) (Merge.colA k) from ?_)).trans ?_
  · funext a
    match a with
    | 0 => exact Fin.ext (by blk_simp [(idxIn t).2.2.1]; show t.val * 512 + p.val = (512 * t.val + p.val) % 4096; omega)
    | 1 => exact Fin.ext (by blk_simp [(idxIn t).2.2.1]; try rfl)
  · rw [V_v2]
    exact cast_p _ _ _

theorem in_gb (t : Fin cfg0.N) (p : Fin 512) (k : Fin 1024) : X0_3 m c t (ix2 p k) = gateB m c (Loss.row t.val p) k := by
  unfold X0_3 Pipeline.Window.fill
  rw [dif_pos (moved0_3 t _)]
  blk_simp [iblk]
  have hN : t.val < 8 := t.isLt
  refine (congrArg (V m c main_v2) (show _ = ix2 (Loss.row t.val p) (Merge.colB k) from ?_)).trans ?_
  · funext a
    match a with
    | 0 => exact Fin.ext (by blk_simp [(idxIn t).2.2.2.1]; show t.val * 512 + p.val = (512 * t.val + p.val) % 4096; omega)
    | 1 => exact Fin.ext (by blk_simp [(idxIn t).2.2.2.1]; try rfl)
  · rw [V_v2]
    exact cast_p _ _ _

theorem in_a (t : Fin cfg0.N) (p : Fin 512) (k : Fin 1024) : iblk m c 4 t (ix2 p k) = argA m c (Loss.row t.val p) k := by
  blk_simp [iblk]
  have hN : t.val < 8 := t.isLt
  refine (congrArg (V m c main_v3) (show _ = ix2 (Loss.row t.val p) k from ?_)).trans ?_
  · funext a
    match a with
    | 0 => exact Fin.ext (by blk_simp [(idxIn t).2.2.2.2.1]; show t.val * 512 + p.val = (512 * t.val + p.val) % 4096; omega)
    | 1 => exact Fin.ext (by blk_simp [(idxIn t).2.2.2.2.1])
  · rw [V_v3]
    exact cast_y _ _ _

theorem in_b (t : Fin cfg0.N) (p : Fin 512) (k : Fin 1024) : iblk m c 5 t (ix2 p k) = argB m c (Loss.row t.val p) k := by
  blk_simp [iblk]
  have hN : t.val < 8 := t.isLt
  refine (congrArg (V m c main_v4) (show _ = ix2 (Loss.row t.val p) k from ?_)).trans ?_
  · funext a
    match a with
    | 0 => exact Fin.ext (by blk_simp [(idxIn t).2.2.2.2.2]; show t.val * 512 + p.val = (512 * t.val + p.val) % 4096; omega)
    | 1 => exact Fin.ext (by blk_simp [(idxIn t).2.2.2.2.2])
  · rw [V_v4]
    exact cast_y _ _ _

end Cert.Kernel7Ideal.Gen

end
-- ==== Proof.DMergeBlock.lean ====
/- What one grid step of the backward pass of the merge leaves. -/
module

public import proofs.«01_k».proof.Proof.DMergeHost

@[expose] public section

set_option maxRecDepth 16384
set_option synthInstance.maxSize 4096

noncomputable section

namespace Cert.Kernel7Ideal.Gen

open Idealize.ShloMosaic Idealize.ShloMosaic.TcCoe Idealize.SL.Sem
open Idealize.ShloMosaic.Tactic

variable (m : (ℓ : Loc nD τ sig) → Buf (Elt Ideal) ℓ) (c : Dev nD)

/-- A block's product with the transposed weight. -/
def mulT (x : Vec Ideal S512x1024 .f32) (w : Vec Ideal S1024x1024 .bf16) (p : Fin 512) (q : Fin 1024) : EReal := ∑ n : Fin 1024, x (ix2 p n) * w (ix2 q n)

theorem mulT_dm (t : Fin cfg0.N) (p : Fin 512) (q : Fin 1024) : mulT (iblk m c 0 t) (iblk m c 1 t) p q = Merge.dm (argD m c) (argW m c) (Loss.row t.val p) q :=
  Finset.sum_congr rfl fun n _ => congrArg₂ (· * ·) (in_d m c t p n) (in_w m c t q n)

theorem blk_ya (t : Fin cfg0.N) (p : Fin 512) (q : Fin 1024) : k0_pay8 (iblk m c 0 t) (iblk m c 1 t) (X0_2 m c t) (ix2 p q) = Merge.dy (argD m c) (argW m c) (gateA m c) (Loss.row t.val p) q :=
  (pay_dya _ _ _ p q).trans (congrArg₂ (fun u g => u * Merge.sig g) (mulT_dm m c t p q) (in_ga m c t p q))

theorem blk_yb (t : Fin cfg0.N) (p : Fin 512) (q : Fin 1024) : k0_pay9 (iblk m c 0 t) (iblk m c 1 t) (X0_3 m c t) (ix2 p q) = Merge.dy (argD m c) (argW m c) (gateB m c) (Loss.row t.val p) q :=
  (pay_dyb _ _ _ p q).trans (congrArg₂ (fun u g => u * Merge.sig g) (mulT_dm m c t p q) (in_gb m c t p q))

theorem slope_congr {u u' g g' y y' : EReal} (hu : u = u') (hg : g = g') (hy : y = y') : Merge.slope u g y = Merge.slope u' g' y' := by
  rw [hu, hg, hy]

theorem blk_ga (t : Fin cfg0.N) (p : Fin 512) (q : Fin 1024) : k0_pay1 (k0_pay6 (X0_2 m c t)) (k0_pay10 (iblk m c 0 t) (iblk m c 1 t) (iblk m c 4 t)) (ix2 p q) = Merge.dg (argD m c) (argW m c) (gateA m c) (argA m c) (Loss.row t.val p) q :=
  (pay_dga _ _ _ _ p q).trans (slope_congr (mulT_dm m c t p q) (in_ga m c t p q) (in_a m c t p q))

theorem blk_gb (t : Fin cfg0.N) (p : Fin 512) (q : Fin 1024) : k0_pay2 (k0_pay5 (iblk m c 0 t) (iblk m c 1 t)) (k0_pay7 (X0_3 m c t)) (iblk m c 5 t) (ix2 p q) = Merge.dg (argD m c) (argW m c) (gateB m c) (argB m c) (Loss.row t.val p) q :=
  (pay_dgb _ _ _ _ p q).trans (slope_congr (mulT_dm m c t p q) (in_gb m c t p q) (in_b m c t p q))

theorem blk_gat (t : Fin cfg0.N) (p : Fin 512) (q : Fin 1024) : k0_pay3 (k0_pay6 (X0_2 m c t)) (k0_pay10 (iblk m c 0 t) (iblk m c 1 t) (iblk m c 4 t)) (ix2 q p) = Merge.dg (argD m c) (argW m c) (gateA m c) (argA m c) (Loss.row t.val p) q :=
  (pay_dgaT _ _ _ _ p q).trans (slope_congr (mulT_dm m c t p q) (in_ga m c t p q) (in_a m c t p q))

theorem blk_gbt (t : Fin cfg0.N) (p : Fin 512) (q : Fin 1024) : k0_pay4 (k0_pay5 (iblk m c 0 t) (iblk m c 1 t)) (k0_pay7 (X0_3 m c t)) (iblk m c 5 t) (ix2 q p) = Merge.dg (argD m c) (argW m c) (gateB m c) (argB m c) (Loss.row t.val p) q :=
  (pay_dgbT _ _ _ _ p q).trans (slope_congr (mulT_dm m c t p q) (in_gb m c t p q) (in_b m c t p q))

end Cert.Kernel7Ideal.Gen

end
-- ==== Proof.DMergeArr.lean ====
/- What the backward pass of the merge leaves in its first four results. -/
module

public import proofs.«01_k».proof.Proof.DMergeBlock

@[expose] public section

set_option maxRecDepth 16384
set_option synthInstance.maxSize 4096

noncomputable section

namespace Cert.Kernel7Ideal.Gen

open Idealize.ShloMosaic Idealize.ShloMosaic.TcCoe Idealize.SL.Sem
open Idealize.ShloMosaic.Tactic

theorem two {a b : ℕ} (y : Shape.Idx ⟨2, ![a, b]⟩) : y = ix2 (y 0) (y 1) := by
  funext d; match d with | 0 => rfl | 1 => rfl

theorem idxOut6 : ∀ t : Fin cfg0.N, win0_6.index t = ![t.val, 0] :=
  (by decide +kernel : ∀ t : Fin grid0.N, _)

theorem idxOut7 : ∀ t : Fin cfg0.N, win0_7.index t = ![t.val, 0] :=
  (by decide +kernel : ∀ t : Fin grid0.N, _)

theorem idxOut8 : ∀ t : Fin cfg0.N, win0_8.index t = ![t.val, 0] :=
  (by decide +kernel : ∀ t : Fin grid0.N, _)

theorem idxOut9 : ∀ t : Fin cfg0.N, win0_9.index t = ![t.val, 0] :=
  (by decide +kernel : ∀ t : Fin grid0.N, _)

variable (m : (ℓ : Loc nD τ sig) → Buf (Elt Ideal) ℓ) (c : Dev nD)

/-- The gradient of the attention branch's projection. -/
theorem end_ya : (dats m 0 c).arrAt 6 cfg0.N = (fun y : S4096x1024.Idx => Merge.dy (argD m c) (argW m c) (gateA m c) (y 0) (y 1)) := by
  refine (dats m 0 c).arrAt_eq_of_covers 6 _ (by decide +kernel) fun t _ y => ?_
  blk_simp
  rw [after0_6]; unfold outsAt0; frame_out
  obtain ⟨p, q, rfl⟩ : ∃ (p : Fin 512) (q : Fin 1024), y = ix2 p q := ⟨y 0, y 1, two y⟩
  have hN : t.val < 8 := t.isLt
  refine (show _ = (k0_pay8 (iblk m c 0 t) (iblk m c 1 t) (X0_2 m c t)) (ix2 p q) from congrFun (by rfl) (ix2 p q)).trans ((blk_ya m c t p q).trans ?_)
  refine congrArg₂ (Merge.dy (argD m c) (argW m c) (gateA m c)) (Fin.ext ?_) (Fin.ext ?_)
  · blk_simp [idxOut6 t]
    show (512 * t.val + p.val) % 4096 = t.val * 512 + p.val
    omega
  · blk_simp [idxOut6 t]

/-- The gradient of the gating branch's projection. -/
theorem end_yb : (dats m 0 c).arrAt 7 cfg0.N = (fun y : S4096x1024.Idx => Merge.dy (argD m c) (argW m c) (gateB m c) (y 0) (y 1)) := by
  refine (dats m 0 c).arrAt_eq_of_covers 7 _ (by decide +kernel) fun t _ y => ?_
  blk_simp
  rw [after0_7]; unfold outsAt0; frame_out
  obtain ⟨p, q, rfl⟩ : ∃ (p : Fin 512) (q : Fin 1024), y = ix2 p q := ⟨y 0, y 1, two y⟩
  have hN : t.val < 8 := t.isLt
  refine (show _ = (k0_pay9 (iblk m c 0 t) (iblk m c 1 t) (X0_3 m c t)) (ix2 p q) from congrFun (by rfl) (ix2 p q)).trans ((blk_yb m c t p q).trans ?_)
  refine congrArg₂ (Merge.dy (argD m c) (argW m c) (gateB m c)) (Fin.ext ?_) (Fin.ext ?_)
  · blk_simp [idxOut7 t]
    show (512 * t.val + p.val) % 4096 = t.val * 512 + p.val
    omega
  · blk_simp [idxOut7 t]

/-- The gradient of the attention branch's gate. -/
theorem end_ga : (dats m 0 c).arrAt 8 cfg0.N = (fun y : S4096x1024.Idx => Merge.dg (argD m c) (argW m c) (gateA m c) (argA m c) (y 0) (y 1)) := by
  refine (dats m 0 c).arrAt_eq_of_covers 8 _ (by decide +kernel) fun t _ y => ?_
  blk_simp
  rw [after0_8]; unfold outsAt0; frame_out
  obtain ⟨p, q, rfl⟩ : ∃ (p : Fin 512) (q : Fin 1024), y = ix2 p q := ⟨y 0, y 1, two y⟩
  have hN : t.val < 8 := t.isLt
  refine (show _ = (k0_pay1 (k0_pay6 (X0_2 m c t)) (k0_pay10 (iblk m c 0 t) (iblk m c 1 t) (iblk m c 4 t))) (ix2 p q) from congrFun (by rfl) (ix2 p q)).trans ((blk_ga m c t p q).trans ?_)
  refine congrArg₂ (Merge.dg (argD m c) (argW m c) (gateA m c) (argA m c)) (Fin.ext ?_) (Fin.ext ?_)
  · blk_simp [idxOut8 t]
    show (512 * t.val + p.val) % 4096 = t.val * 512 + p.val
    omega
  · blk_simp [idxOut8 t]

/-- The gradient of the gating branch's gate. -/
theorem end_gb : (dats m 0 c).arrAt 9 cfg0.N = (fun y : S4096x1024.Idx => Merge.dg (argD m c) (argW m c) (gateB m c) (argB m c) (y 0) (y 1)) := by
  refine (dats m 0 c).arrAt_eq_of_covers 9 _ (by decide +kernel) fun t _ y => ?_
  blk_simp
  rw [after0_9]; unfold outsAt0; frame_out
  obtain ⟨p, q, rfl⟩ : ∃ (p : Fin 512) (q : Fin 1024), y = ix2 p q := ⟨y 0, y 1, two y⟩
  have hN : t.val < 8 := t.isLt
  refine (show _ = (k0_pay2 (k0_pay5 (iblk m c 0 t) (iblk m c 1 t)) (k0_pay7 (X0_3 m c t)) (iblk m c 5 t)) (ix2 p q) from congrFun (by rfl) (ix2 p q)).trans ((blk_gb m c t p q).trans ?_)
  refine congrArg₂ (Merge.dg (argD m c) (argW m c) (gateB m c) (argB m c)) (Fin.ext ?_) (Fin.ext ?_)
  · blk_simp [idxOut9 t]
    show (512 * t.val + p.val) % 4096 = t.val * 512 + p.val
    omega
  · blk_simp [idxOut9 t]

end Cert.Kernel7Ideal.Gen

end
-- ==== Proof.DMergeTail.lean ====
/- What the backward pass of the merge leaves in its last result. -/
module

public import proofs.«01_k».proof.Proof.DMergeArr
public import Idealize.ShloMosaic.Lib.Pipeline.ValueKit.Tiles

@[expose] public section

set_option maxRecDepth 16384
set_option synthInstance.maxSize 4096

noncomputable section

namespace Cert.Kernel7Ideal.Gen

open Idealize.ShloMosaic Idealize.ShloMosaic.TcCoe Idealize.SL.Sem
open Idealize.ShloMosaic.Tactic

theorem idxOut10 : ∀ t : Fin cfg0.N, win0_10.index t = ![0, t.val] :=
  (by decide +kernel : ∀ t : Fin grid0.N, _)

variable (m : (ℓ : Loc nD τ sig) → Buf (Elt Ideal) ℓ) (c : Dev nD)

/-- The gradients of the gates, one after the other, transposed. -/
theorem end_gt : (dats m 0 c).arrAt 10 cfg0.N = (fun y : S2048x4096.Idx => Merge.dgT (argD m c) (argW m c) (gateA m c) (argA m c) (gateB m c) (argB m c) (y 0) (y 1)) := by
  refine (dats m 0 c).arrAt_eq_of_covers 10 _ (by decide +kernel) fun t _ y => ?_
  blk_simp
  rw [after0_10]; unfold outsAt0
  have hN : t.val < 8 := t.isLt
  obtain ⟨r, p, rfl⟩ : ∃ (r : Fin 2048) (p : Fin 512), y = ix2 r p := ⟨y 0, y 1, two y⟩
  refine Eq.trans (b := Merge.dgT (argD m c) (argW m c) (gateA m c) (argA m c) (gateB m c) (argB m c) r (Loss.row t.val p)) ?_ (congrArg₂ (Merge.dgT (argD m c) (argW m c) (gateA m c) (argA m c) (gateB m c) (argB m c)) (Fin.ext ?_) (Fin.ext ?_))
  · frame_out
    canon_tiles x hx
    · obtain ⟨q, p', rfl⟩ : ∃ (q : Fin 1024) (p' : Fin 512), x = ix2 q p' := ⟨x 0, x 1, two x⟩
      have e0 : r.val = 1024 + q.val := hx0
      have e1 : p = p' := Fin.ext hx1
      subst e1
      refine (blk_gbt m c t p q).trans ?_
      unfold Merge.dgT
      rw [dif_neg (by omega)]
      exact congrArg _ (Fin.ext (by show q.val = r.val - 1024; omega))
    · obtain ⟨q, p', rfl⟩ : ∃ (q : Fin 1024) (p' : Fin 512), x = ix2 q p' := ⟨x 0, x 1, two x⟩
      have e0 : r.val = q.val := hx0
      have e1 : p = p' := Fin.ext hx1
      subst e1
      refine (blk_gat m c t p q).trans ?_
      unfold Merge.dgT
      rw [dif_pos (by have := q.isLt; omega)]
      exact congrArg _ (Fin.ext (by show q.val = r.val; omega))
  · blk_simp [idxOut10 t]
  · blk_simp [idxOut10 t]
    show (512 * t.val + p.val) % 4096 = t.val * 512 + p.val
    omega

end Cert.Kernel7Ideal.Gen

end
-- ==== Proof.DMergeRef.lean ====
/- The reference of the backward pass of the merge: its results are the model. -/
module

public import proofs.«01_k».proof.Proof.Gen.Reference7Ideal.Read
public import proofs.«01_k».proof.Proof.MergeModel
public import Idealize.ShloMosaic.Lib.Pipeline.ValueKit

@[expose] public section

set_option maxRecDepth 16384
set_option synthInstance.maxSize 4096

noncomputable section

namespace Cert.Reference7Ideal.Read

open Cert.Reference7Ideal Cert.Reference7Ideal.Gen Idealize.ShloMosaic Idealize.ShloMosaic.TcCoe Idealize.SL.Sem
open Idealize.ShloMosaic.Tactic

variable {x0 x3 x4 : (⟨S4096x1024, .f32⟩ : BufTy).Contents (Elt Ideal)} {x1 : (⟨S1x1024x1024, .f32⟩ : BufTy).Contents (Elt Ideal)}
  {x2 : (⟨S4096x3200, .f32⟩ : BufTy).Contents (Elt Ideal)} {d ya yb ga gb : Out.Mat 4096 1024} {w : Out.Mat 1024 1024}
  (h0 : ∀ s n, x0 (ix2 s n) = d s n) (h1 : ∀ k n, x1 (ix3 0 k n) = w k n) (h2 : ∀ s n, x2 (ix2 s (Merge.colA n)) = ga s n)
  (h2' : ∀ s n, x2 (ix2 s (Merge.colB n)) = gb s n) (h3 : ∀ s n, x3 (ix2 s n) = ya s n) (h4 : ∀ s n, x4 (ix2 s n) = yb s n)

theorem two {a b : ℕ} (y : Shape.Idx ⟨2, ![a, b]⟩) : ∃ (p : Fin a) (q : Fin b), y = ix2 p q :=
  ⟨y 0, y 1, by funext e; match e with | 0 => rfl | 1 => rfl⟩

include h1 in
theorem v24_model (k n : Fin 1024) : val_main_v24 (F := Ideal) x1 (ix2 k n) = w k n := by
  rw [← h1]
  unfold val_main_v24
  pointwise

include h2 in
theorem v1_model (s : Fin 4096) (n : Fin 1024) : val_main_v1 (F := Ideal) x2 (ix2 s n) = ga s n := by
  rw [val_main_v1_apply, val_main_v0_apply, ← h2]
  refine congrArg x2 ?_
  funext a; match a with | 0 => rfl | 1 => rfl

include h2' in
theorem v2_model (s : Fin 4096) (n : Fin 1024) : val_main_v2 (F := Ideal) x2 (ix2 s n) = gb s n := by
  rw [val_main_v2_apply, val_main_v0_apply, ← h2']
  refine congrArg x2 ?_
  funext a; match a with | 0 => rfl | 1 => exact Fin.ext (by show 1024 + (1024 + n.val) = 2048 + n.val; omega)

include h2 in
theorem v8_model (s : Fin 4096) (n : Fin 1024) : val_main_v8 (F := Ideal) x2 (ix2 s n) = Merge.sig (ga s n) := by
  pointwise [val_main_v8, val_main_v7, val_main_cst_0, val_main_v6, val_main_v5, val_main_cst, val_main_v4, val_main_v3]
  rw [v1_model h2]
  rfl

include h2' in
theorem v18_model (s : Fin 4096) (n : Fin 1024) : val_main_v18 (F := Ideal) x2 (ix2 s n) = Merge.sig (gb s n) := by
  pointwise [val_main_v18, val_main_v17, val_main_cst_3, val_main_v16, val_main_v15, val_main_cst_2, val_main_v14, val_main_v13]
  rw [v2_model h2']
  rfl

include h0 h1
theorem v26_model (s : Fin 4096) (k : Fin 1024) : val_main_v26 (F := Ideal) x0 x1 (ix2 s k) = Merge.dm d w s k := by
  rw [val_main_v26_apply]
  refine Finset.sum_congr rfl fun n _ => congrArg₂ (· * ·) (Eq.trans (congrArg x0 ?_) (h0 s n)) (Eq.trans (congrArg (val_main_v24 (F := Ideal) x1) ?_) (v24_model h1 k n))
  · funext a; match a with | 0 => rfl | 1 => rfl
  · funext a; match a with | 0 => rfl | 1 => rfl

include h2 in
/-- The gradient of the attention branch's projection. -/
theorem v36_model (s : Fin 4096) (k : Fin 1024) : val_main_v36 (F := Ideal) x0 x1 x2 (ix2 s k) = Merge.dy d w ga s k := by
  pointwise [val_main_v36, val_main_v30]
  rw [v8_model h2, v26_model h0 h1]
  exact mul_comm (Merge.sig _) _

include h2' in
/-- The gradient of the gating branch's projection. -/
theorem v37_model (s : Fin 4096) (k : Fin 1024) : val_main_v37 (F := Ideal) x0 x1 x2 (ix2 s k) = Merge.dy d w gb s k := by
  pointwise [val_main_v37, val_main_v27]
  rw [v18_model h2', v26_model h0 h1]
  exact mul_comm (Merge.sig _) _

include h2 h3 in
theorem v32_model (s : Fin 4096) (k : Fin 1024) : val_main_v32 (F := Ideal) x0 x1 x2 x3 (ix2 s k) = Merge.dg d w ga ya s k := by
  pointwise [val_main_v32, val_main_v31, val_main_v11, val_main_v10, val_main_v9, val_main_cst_1]
  rw [v8_model h2, v26_model h0 h1, h3]
  exact (mul_assoc (Merge.dm d w s k * ya s k) _ _).symm

include h2' h4 in
theorem v29_model (s : Fin 4096) (k : Fin 1024) : val_main_v29 (F := Ideal) x0 x1 x2 x4 (ix2 s k) = Merge.dg d w gb yb s k := by
  pointwise [val_main_v29, val_main_v28, val_main_v21, val_main_v20, val_main_v19, val_main_cst_4]
  rw [v18_model h2', v26_model h0 h1, h4]
  exact (mul_assoc (Merge.dm d w s k * yb s k) _ _).symm

include h2 h2' h3 h4 in
/-- The gradients of the gates, one after the other, transposed. -/
theorem v40_model (r : Fin 2048) (s : Fin 4096) : val_main_v40 (F := Ideal) x0 x1 x2 x3 x4 (ix2 r s) = Merge.dgT d w ga ya gb yb r s := by
  refine (show _ = val_main_v35 (F := Ideal) x0 x1 x2 x3 x4 (ix2 r s) from rfl).trans ?_
  unfold val_main_v35 Merge.dgT
  by_cases h : r.val < 1024
  · rw [dif_pos h]
    refine (concatenate_pair_apply_left (s₁ := S1024x4096) (s₂ := S1024x4096) (t := S2048x4096) 0 _ _ _ (ix2 r s) rfl (ix2 ⟨r.val, h⟩ s) (fun b => match b with | 0 => rfl | 1 => rfl)).trans ?_
    rw [← v32_model h0 h1 h2 h3]
    pointwise [val_main_v33]
  · rw [dif_neg h]
    refine (concatenate_pair_apply_right (s₁ := S1024x4096) (s₂ := S1024x4096) (t := S2048x4096) 0 _ _ _ (ix2 r s) rfl rfl (ix2 ⟨r.val - 1024, by have := r.isLt; omega⟩ s)
      (fun b => match b with | 0 => fun h => absurd rfl h | 1 => fun _ => rfl) (by show r.val - 1024 + 1024 = r.val; omega)).trans ?_
    rw [← v29_model h0 h1 h2' h4]
    pointwise [val_main_v34]

end Cert.Reference7Ideal.Read

end
-- ==== Proof.GradOPay.lean ====
/- What one grid step of the gradient of the output projection computes. -/
module

public import proofs.«01_k».proof.Proof.Gen.Kernel8Ideal.Frame
public import proofs.«01_k».proof.Proof.MergeModel
public import Idealize.ShloMosaic.Lib.Pipeline.ValueKit

@[expose] public section

set_option maxRecDepth 16384
set_option synthInstance.maxSize 4096

noncomputable section

namespace Cert.Kernel8Ideal.Gen

open Idealize.ShloMosaic Idealize.ShloMosaic.TcCoe Idealize.SL.Sem
open Idealize.ShloMosaic.Tactic

theorem pay_first (v1 : Vec Ideal S2048x1024 .f32) (v3 : Vec Ideal S1024x2048 .bf16) (f k : Fin 1024) :
    k0_pay1 v1 v3 (ix2 f k) = ∑ p : Fin 2048, v3 (ix2 f p) * v1 (ix2 p k) := by
  pointwise [k0_pay1]

theorem pay_next (v1 : Vec Ideal S2048x1024 .f32) (v3 : Vec Ideal S1024x2048 .bf16) (v11 : Vec Ideal S1024x1024 .f32) (f k : Fin 1024) :
    k0_pay2 v1 v3 v11 (ix2 f k) = v11 (ix2 f k) + ∑ p : Fin 2048, v3 (ix2 f p) * v1 (ix2 p k) := by
  pointwise [k0_pay2, k0_pay1]

/-- A block of the sum over positions. -/
def blkSum (x : Vec Ideal S1024x2048 .bf16) (y : Vec Ideal S2048x1024 .f32) (f k : Fin 1024) : EReal :=
  ∑ p : Fin 2048, x (ix2 f p) * y (ix2 p k)

variable (m : (ℓ : Loc nD τ sig) → Buf (Elt Ideal) ℓ) (c : Dev nD) (t : Fin cfg0.N)

theorem out_first (h0 : t.val % 2 = 0) (f k : Fin 1024) : outsAt0 m c t.val t.isLt (ix2 f k) =
    blkSum (iblk m c 0 t) (iblk m c 1 t) f k := by
  rw [outsAt0_A m c t h0 (by omega)]
  frame_out
  exact pay_first (iblk m c 1 t) (iblk m c 0 t) f k

theorem out_next (h0 : t.val % 2 = 1) (f k : Fin 1024) : outsAt0 m c t.val t.isLt (ix2 f k) =
    outsAt0 m c (t.val - 1) (Nat.lt_of_le_of_lt (Nat.sub_le _ _) t.isLt) (ix2 f k) + blkSum (iblk m c 0 t) (iblk m c 1 t) f k := by
  rw [outsAt0_B m c t (by omega) h0]
  frame_out
  exact pay_next (iblk m c 1 t) (iblk m c 0 t) _ f k

end Cert.Kernel8Ideal.Gen

end
-- ==== Proof.GradOHost.lean ====
/- What the gradient of the output projection reads, and what it leaves. -/
module

public import proofs.«01_k».proof.Proof.GradOPay
public import Idealize.ShloMosaic.Lib.StableHlo.ReadAt

@[expose] public section

set_option maxRecDepth 16384
set_option synthInstance.maxSize 4096

noncomputable section

namespace Cert.Kernel8Ideal.Gen

open Idealize.ShloMosaic Idealize.ShloMosaic.TcCoe Idealize.SL.Sem
open Idealize.ShloMosaic.Tactic

theorem idxIn : ∀ t : Fin cfg0.N, win0_0.index t = ![0, t.val] ∧ win0_1.index t = ![t.val, 0] :=
  (by decide +kernel : ∀ t : Fin grid0.N, _)

theorem cast_m (x : Vec Ideal S4096x1024 .f32) (f : Fin 1024) (s : Fin 4096) :
    (transpose S1024x4096 [1, 0] (truncf (F := Ideal) .bf16 (x : FVec Ideal S4096x1024 .f32) bitsLt_bf16_f32) transposes_S4096x1024_S1024x4096_1_0) (ix2 f s) = x (ix2 s f) := by
  pointwise

variable (m : (ℓ : Loc nD τ sig) → Buf (Elt Ideal) ℓ) (c : Dev nD)

/-- The merged branches. -/
def argM : Out.Mat 4096 1024 := fun s k => (m ((c.tc : Thread nD τ).loc main_arg0)) (ix2 s k)
/-- The cotangent of the residual stream. -/
def argD : Out.Mat 4096 1024 := fun s n => (m ((c.tc : Thread nD τ).loc main_arg1)) (ix2 s n)

theorem V_v1 : V m c main_v1 = transpose S1024x4096 [1, 0] (truncf (F := Ideal) .bf16 ((m (c.tc.loc main_arg0)) : FVec Ideal S4096x1024 .f32) bitsLt_bf16_f32) transposes_S4096x1024_S1024x4096_1_0 := by
  unfold V
  after_reads_simp
  try simp -implicitDefEqProofs only [StableHlo.TRef.toBuf, StableHlo.TRef.ofBuf, cast_cast, cast_eq]
  first | done | rfl

theorem V_arg1 : V m c main_arg1 = m (c.tc.loc main_arg1) := by
  unfold V
  after_reads_simp
  try simp -implicitDefEqProofs only [StableHlo.TRef.toBuf, StableHlo.TRef.ofBuf, cast_cast, cast_eq]
  first | done | rfl

theorem in_m (t : Fin cfg0.N) (f : Fin 1024) (p : Fin 2048) : iblk m c 0 t (ix2 f p) = argM m c (Merge.half t.val p) f := by
  blk_simp [iblk]
  have hN : t.val < 2 := t.isLt
  refine (congrArg (V m c main_v1) (show _ = ix2 f (Merge.half t.val p) from ?_)).trans ?_
  · funext a
    match a with
    | 0 => exact Fin.ext (by blk_simp [(idxIn t).1])
    | 1 => exact Fin.ext (by blk_simp [(idxIn t).1]; show t.val * 2048 + p.val = (2048 * t.val + p.val) % 4096; omega)
  · rw [V_v1]
    exact cast_m _ _ _

theorem in_d (t : Fin cfg0.N) (p : Fin 2048) (k : Fin 1024) : iblk m c 1 t (ix2 p k) = argD m c (Merge.half t.val p) k := by
  blk_simp [iblk]
  have hN : t.val < 2 := t.isLt
  refine (congrArg (V m c main_arg1) (show _ = ix2 (Merge.half t.val p) k from ?_)).trans ?_
  · funext a
    match a with
    | 0 => exact Fin.ext (by blk_simp [(idxIn t).2]; show t.val * 2048 + p.val = (2048 * t.val + p.val) % 4096; omega)
    | 1 => exact Fin.ext (by blk_simp [(idxIn t).2])
  · rw [V_arg1]
    rfl

theorem part (t : Fin cfg0.N) (f k : Fin 1024) : blkSum (iblk m c 0 t) (iblk m c 1 t) f k
    = ∑ p : Fin 2048, argM m c (Merge.half t.val p) f * argD m c (Merge.half t.val p) k :=
  Finset.sum_congr rfl fun p _ => congrArg₂ (· * ·) (in_m m c t f p) (in_d m c t p k)

/-- After the second grid step the sum over all positions is in the block. -/
theorem total (f k : Fin 1024) : outsAt0 m c 1 (by decide) (ix2 f k) = Merge.gw (argM m c) (argD m c) f k := by
  refine (out_next m c ⟨1, by decide⟩ rfl f k).trans ?_
  refine Eq.trans (congrArg₂ (· + ·) ((out_first m c ⟨0, by decide⟩ rfl f k).trans (part m c _ f k)) (part m c _ f k)) ?_
  exact Merge.sum_halves fun s => argM m c s f * argD m c s k

theorem two {a b : ℕ} (y : Shape.Idx ⟨2, ![a, b]⟩) : y = ix2 (y 0) (y 1) := by
  funext d; match d with | 0 => rfl | 1 => rfl

/-- The gradient of the output projection's weight. -/
theorem end_gw : (dats m 0 c).arrAt 2 cfg0.N = (fun y : S1024x1024.Idx => Merge.gw (argM m c) (argD m c) (y 0) (y 1)) := by
  refine (dats m 0 c).arrAt_eq_of_after_last 2 ⟨1, by decide⟩ (by decide +kernel) (hG := fun y => ?_)
  refine (congrFun (after0_2 m c ⟨1, by decide⟩) y).trans ?_
  refine (congrArg _ (two y)).trans ?_
  exact total m c (y 0) (y 1)

end Cert.Kernel8Ideal.Gen

end
-- ==== Proof.GradORef.lean ====
/- The reference of the gradient of the output projection: its result is the model. -/
module

public import proofs.«01_k».proof.Proof.Gen.Reference8Ideal.Read
public import proofs.«01_k».proof.Proof.MergeModel
public import Idealize.ShloMosaic.Lib.Pipeline.ValueKit

@[expose] public section

set_option maxRecDepth 16384
set_option synthInstance.maxSize 4096

noncomputable section

namespace Cert.Reference8Ideal.Read

open Cert.Reference8Ideal Cert.Reference8Ideal.Gen Idealize.ShloMosaic Idealize.ShloMosaic.TcCoe Idealize.SL.Sem
open Idealize.ShloMosaic.Tactic

variable {x0 x1 : (⟨S4096x1024, .f32⟩ : BufTy).Contents (Elt Ideal)} {mg d : Out.Mat 4096 1024}
  (h0 : ∀ s k, x0 (ix2 s k) = mg s k) (h1 : ∀ s n, x1 (ix2 s n) = d s n)

theorem two {a b : ℕ} (y : Shape.Idx ⟨2, ![a, b]⟩) : ∃ (p : Fin a) (q : Fin b), y = ix2 p q :=
  ⟨y 0, y 1, by funext e; match e with | 0 => rfl | 1 => rfl⟩

include h0 h1

theorem v2_model (k f : Fin 1024) : val_main_v2 (F := Ideal) x0 x1 (ix2 k f) = Merge.gw mg d f k := by
  rw [val_main_v2_apply]
  refine Finset.sum_congr rfl fun s _ => (congrArg₂ (· * ·) (Eq.trans (congrArg x1 ?_) (h1 s k)) (Eq.trans (congrArg x0 ?_) (h0 s f))).trans (mul_comm _ _)
  · funext a; match a with | 0 => rfl | 1 => rfl
  · funext a; match a with | 0 => rfl | 1 => rfl

/-- The gradient of the weight. -/
theorem v3_model (f k : Fin 1024) : val_main_v3 (F := Ideal) x0 x1 (ix2 f k) = Merge.gw mg d f k := by
  rw [← v2_model h0 h1 k f]
  unfold val_main_v3
  pointwise

end Cert.Reference8Ideal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.ProjRun
public import proofs.«01_k».proof.Proof.ProjHost
public import proofs.«01_k».proof.Proof.ProjRef
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.OutRun
public import proofs.«01_k».proof.Proof.OutHost
public import proofs.«01_k».proof.Proof.OutRef
public import proofs.«01_k».proof.Proof.SguMatch
public import proofs.«01_k».proof.Proof.MlpRun
public import proofs.«01_k».proof.Proof.MlpHost
public import proofs.«01_k».proof.Proof.MlpRef
public import Idealize.ShloMosaic.Adequacy
public import Idealize.ShloMosaic.Init
public import proofs.«01_k».proof.Proof.LossHost
public import proofs.«01_k».proof.Proof.LossRef
public import proofs.«01_k».proof.Proof.MergeArr
public import proofs.«01_k».proof.Proof.MergeRef
public import proofs.«01_k».proof.Proof.DMergeTail
public import proofs.«01_k».proof.Proof.DMergeRef
public import proofs.«01_k».proof.Proof.GradOHost
public import proofs.«01_k».proof.Proof.GradORef

@[expose] public section

noncomputable section

namespace Cert.Proof

open Idealize.ShloMosaic Idealize.SL.Sem Cert.Kernel

attribute [local instance] Cert.ReferenceIdeal.Gen.facts in
/-- The reference runs, leaves its arguments and has no semaphores. -/
theorem frame_reference : Cert.quiescent_ReferenceIdeal := by
  intro m ρ _
  refine (θ_run _ _ _).mono (fun r h => ⟨fun c => ?_, Idealize.ShloMosaic.sem_eq_zero_of_no_sems (by decide) r.2⟩) (Cert.ReferenceIdeal.Value.run m ρ)
  obtain ⟨-, -, -, -, -, -, -, hr⟩ := h c
  exact hr

/-- The two constants. -/
theorem preserves : Cert.preserves_Kernel_KernelIdeal :=
  ⟨IdealRules.named_const.statement Cert.KernelIdeal.κ "gelu_c" .f32 0x3D372713#32 ((8943 / 200000 : ℝ) : EReal) rfl,
    IdealRules.named_const.statement Cert.KernelIdeal.κ "gelu_3c" .f32 0x3E095D4F#32 ((26829 / 200000 : ℝ) : EReal) rfl⟩

attribute [local instance] Cert.KernelIdeal.Gen.facts Cert.ReferenceIdeal.Gen.facts Cert.KernelIdeal.Gen.pre_facts in
/-- The kernel's results are the reference's. -/
theorem algebraic : Cert.algebraic_KernelIdeal_ReferenceIdeal_pre_finite := by
  intro m g m' g' hpre hargs
  refine ⟨fun c => (Cert.KernelIdeal.Gen.dats m 0 c).arrAt 9 Cert.KernelIdeal.cfg0.N,
    fun c => (Cert.KernelIdeal.Gen.dats m 0 c).arrAt 10 Cert.KernelIdeal.cfg0.N,
    fun c => Pipeline.afterTail₀ Cert.KernelIdeal.cfgs (Cert.KernelIdeal.Gen.dats m) 0 (Cert.KernelIdeal.Gen.V0 m)
      [Cert.KernelIdeal.Gen.hostOps1, Cert.KernelIdeal.Gen.hostOps1_1, Cert.KernelIdeal.Gen.hostOps1_2] c Cert.KernelIdeal.main_v33,
    fun c => Pipeline.afterTail₀ Cert.KernelIdeal.cfgs (Cert.KernelIdeal.Gen.dats m) 0 (Cert.KernelIdeal.Gen.V0 m)
      [Cert.KernelIdeal.Gen.hostOps1, Cert.KernelIdeal.Gen.hostOps1_1, Cert.KernelIdeal.Gen.hostOps1_2] c Cert.KernelIdeal.main_v34,
    fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N, ?_, ?_⟩
  · refine (θ_run _ _ _).mono (fun r h c => ?_) (θ_run_and (Cert.KernelIdeal.Gen.run_main m g) (Cert.KernelIdeal.Gen.frame m g))
    exact ⟨(h.1 c).1 9, (h.1 c).1 10, h.1.rest_eq c Cert.KernelIdeal.main_v33 (by decide), h.1.rest_eq c Cert.KernelIdeal.main_v34 (by decide),
      (h.1 c).1 13, (h.1 c).1 14, (h.1 c).1 15, h.2.1 c⟩
  · refine (θ_run _ _ _).mono (fun r h c => ?_) (Cert.ReferenceIdeal.Value.run m' g')
    obtain ⟨W, bs, wb, gn, b, u, sv, ct, A⟩ := Cert.KernelIdeal.Gen.args_of_pre m hpre c
    obtain ⟨a0, a1, -, -, a4, a5, a6, a7, a8, a9⟩ := hargs c
    have R := Cert.KernelIdeal.Gen.rArgs A a0 a1 a4 a5 a6 a7 a8 a9
    obtain ⟨h0, h1, h2, h3, h4, h5, h6, hr⟩ := h c
    exact ⟨h0.trans ((Cert.ReferenceIdeal.Read.val_main_v172_eq _).trans (Cert.KernelIdeal.Gen.match_du A R)),
      h1.trans ((Cert.ReferenceIdeal.Read.val_main_v173_eq _).trans (Cert.KernelIdeal.Gen.match_dsv A R)),
      h2.trans ((Cert.ReferenceIdeal.Read.val_main_v141_eq _).trans (Cert.KernelIdeal.Gen.match_dw A R)),
      h3.trans ((Cert.ReferenceIdeal.Read.val_main_v140_eq _).trans (Cert.KernelIdeal.Gen.match_db A R)),
      h4.trans ((Cert.ReferenceIdeal.Read.val_main_v143_eq _).trans (Cert.KernelIdeal.Gen.match_dg A R)),
      h5.trans ((Cert.ReferenceIdeal.Read.val_main_v142_eq _).trans (Cert.KernelIdeal.Gen.match_dbeta A R)),
      h6.trans ((Cert.ReferenceIdeal.Read.val_main_v176_eq _).trans (Cert.KernelIdeal.Gen.match_dusvt A R)), hr⟩

attribute [local instance] Cert.Reference2Ideal.Gen.facts in
/-- The reference of the MLP runs, leaves its arguments and has no semaphores. -/
theorem frame_reference2 : Cert.quiescent_Reference2Ideal := by
  intro m ρ _
  refine (θ_run _ _ _).mono (fun r h => ⟨fun c => ?_, Idealize.ShloMosaic.sem_eq_zero_of_no_sems (by decide) r.2⟩) (Cert.Reference2Ideal.Value.run m ρ)
  obtain ⟨-, -, -, -, hr⟩ := h c
  exact hr

attribute [local instance] Cert.Kernel2Ideal.Gen.facts Cert.Reference2Ideal.Gen.facts in
/-- The results of the four calls of the MLP are the reference's. -/
theorem algebraic2 : Cert.algebraic_Kernel2Ideal_Reference2Ideal := by
  intro m g m' g' _ hargs
  refine ⟨fun c y => Mlp.act (Cert.Kernel2Ideal.Gen.argH m c) (Cert.Kernel2Ideal.Gen.argWu m c) (y 0) (y 1),
    fun c y => Mlp.da (Cert.Kernel2Ideal.Gen.argH m c) (Cert.Kernel2Ideal.Gen.argWu m c) (Cert.Kernel2Ideal.Gen.argWd m c)
      (Cert.Kernel2Ideal.Gen.argCt m c) (y 0) (y 1),
    fun c y => Mlp.gUp (Cert.Kernel2Ideal.Gen.argH m c) (Cert.Kernel2Ideal.Gen.argWu m c) (Cert.Kernel2Ideal.Gen.argWd m c)
      (Cert.Kernel2Ideal.Gen.argCt m c) (y 1) (Cert.Kernel2Ideal.Gen.chip (y 0).val (y 2).val),
    fun c y => Mlp.gDown (Cert.Kernel2Ideal.Gen.argH m c) (Cert.Kernel2Ideal.Gen.argWu m c) (Cert.Kernel2Ideal.Gen.argCt m c) (y 0) (y 1), ?_, ?_⟩
  · refine (θ_run _ _ _).mono (fun r h c => ?_) (Cert.Kernel2Ideal.Gen.run_all m g)
    have at_ := fun b (hb : b ∈ Pipeline.ucRefs Cert.Kernel2Ideal.τ Cert.Kernel2Ideal.sig) => h.1 c b hb
    exact ⟨(at_ _ (Cert.Kernel2Ideal.Gen.mem_uc Cert.Kernel2Ideal.main_v8_0 (by decide))).trans (Cert.Kernel2Ideal.Gen.end_act m g c),
      (at_ _ (Cert.Kernel2Ideal.Gen.mem_uc Cert.Kernel2Ideal.main_v9 (by decide))).trans (Cert.Kernel2Ideal.Gen.end_da m g c),
      (at_ _ (Cert.Kernel2Ideal.Gen.mem_uc Cert.Kernel2Ideal.main_v11 (by decide))).trans (Cert.Kernel2Ideal.Gen.end_gUp m g c),
      (at_ _ (Cert.Kernel2Ideal.Gen.mem_uc Cert.Kernel2Ideal.main_v10 (by decide))).trans (Cert.Kernel2Ideal.Gen.end_gDown m g c),
      (at_ _ (Cert.Kernel2Ideal.Gen.mem_uc Cert.Kernel2Ideal.main_arg0 (by decide))).trans (Cert.Kernel2Ideal.Gen.W5_main_arg0 m g c),
      (at_ _ (Cert.Kernel2Ideal.Gen.mem_uc Cert.Kernel2Ideal.main_arg1 (by decide))).trans (Cert.Kernel2Ideal.Gen.W5_main_arg1 m g c),
      (at_ _ (Cert.Kernel2Ideal.Gen.mem_uc Cert.Kernel2Ideal.main_arg2 (by decide))).trans (Cert.Kernel2Ideal.Gen.W5_main_arg2 m g c),
      (at_ _ (Cert.Kernel2Ideal.Gen.mem_uc Cert.Kernel2Ideal.main_arg3 (by decide))).trans (Cert.Kernel2Ideal.Gen.W5_main_arg3 m g c)⟩
  · refine (θ_run _ _ _).mono (fun r h c => ?_) (Cert.Reference2Ideal.Value.run m' g')
    obtain ⟨a0, a1, a2, a3⟩ := hargs c
    obtain ⟨h0, h1, h2, h3, hr⟩ := h c
    refine ⟨h0.trans ((Cert.Reference2Ideal.Read.val_main_v25_eq _ _).trans (funext fun y => ?_)),
      h1.trans ((Cert.Reference2Ideal.Read.val_main_v26_eq _ _ _ _).trans (funext fun y => ?_)),
      h2.trans ((Cert.Reference2Ideal.Read.val_main_v24_eq _ _ _ _).trans (funext fun y => ?_)),
      h3.trans ((Cert.Reference2Ideal.Read.val_main_v27_eq _ _ _).trans (funext fun y => ?_)), hr⟩
    · exact Cert.Reference2Ideal.Read.v25_model (fun s k => congrFun a0 _) (fun k f => congrFun a1 _) y
    · exact Cert.Reference2Ideal.Read.v26_model (fun s k => congrFun a0 _) (fun k f => congrFun a1 _) (fun f k => congrFun a2 _) (fun s k => congrFun a3 _) y
    · obtain ⟨u, k, q, rfl⟩ : ∃ (u : Fin 8) (k : Fin 1024) (q : Fin 512), y = ValueIdx.ix3 u k q := ⟨y 0, y 1, y 2, Cert.Kernel2Ideal.Gen.split3 y⟩
      exact Cert.Reference2Ideal.Read.v24_model (fun s k => congrFun a0 _) (fun k f => congrFun a1 _) (fun f k => congrFun a2 _) (fun s k => congrFun a3 _)
        u k q _ (by
          have hu := u.isLt
          have hq := q.isLt
          show (512 * u.val + q.val) % 4096 = 512 * u.val + q.val
          omega)
    · exact Cert.Reference2Ideal.Read.v27_model (fun s k => congrFun a0 _) (fun k f => congrFun a1 _) (fun s k => congrFun a3 _) y

theorem frame_reference3 : Cert.quiescent_Reference3Ideal := by
  intro m ρ _
  refine (θ_run _ _ _).mono (fun r h => ⟨fun c => ?_, Idealize.ShloMosaic.sem_eq_zero_of_no_sems (by decide) r.2⟩) (Cert.Reference3Ideal.Value.run m ρ)
  obtain ⟨-, -, -, -, -, -, hr⟩ := h c
  exact hr

attribute [local instance] Cert.Kernel3Ideal.Gen.facts Cert.Reference3Ideal.Gen.facts in
/-- The results of the seven calls of the projection and of its weight's gradient are the reference's. -/
theorem algebraic3 : Cert.algebraic_Kernel3Ideal_Reference3Ideal := by
  intro m g m' g' _ hargs
  refine ⟨fun c y => Proj.qkv (Cert.Kernel3Ideal.Gen.argH m c) (Cert.Kernel3Ideal.Gen.argW m c) (y 0) (y 1),
    fun c y => Proj.pr (Cert.Kernel3Ideal.Gen.argH m c) (Cert.Kernel3Ideal.Gen.argW m c) (y 1) (Cert.Kernel3Ideal.Gen.colK (y 0)),
    fun c y => Proj.pr (Cert.Kernel3Ideal.Gen.argH m c) (Cert.Kernel3Ideal.Gen.argW m c) (y 1) (Cert.Kernel3Ideal.Gen.colV (y 0)),
    fun c y => Proj.rest (Cert.Kernel3Ideal.Gen.argH m c) (Cert.Kernel3Ideal.Gen.argW m c) (y 0) (y 1),
    fun c y => Proj.fLogit (Cert.Kernel3Ideal.Gen.argH m c) (Cert.Kernel3Ideal.Gen.argW m c) (y 0) (y 1),
    fun c y => Proj.gIn (Cert.Kernel3Ideal.Gen.argH m c) (Cert.Kernel3Ideal.Gen.argD m c) (y 0) (y 1), ?_, ?_⟩
  · refine (θ_run _ _ _).mono (fun r h c => ?_) (Cert.Kernel3Ideal.Gen.run_all m g)
    have at_ := fun b (hb : b ∈ Pipeline.ucRefs Cert.Kernel3Ideal.τ Cert.Kernel3Ideal.sig) => h.1 c b hb
    exact ⟨(at_ _ (Cert.Kernel3Ideal.Gen.mem_uc Cert.Kernel3Ideal.main_v9_0 (by decide))).trans (Cert.Kernel3Ideal.Gen.end_qkv m g c),
      (at_ _ (Cert.Kernel3Ideal.Gen.mem_uc Cert.Kernel3Ideal.main_v9_1 (by decide))).trans (Cert.Kernel3Ideal.Gen.end_kT m g c),
      (at_ _ (Cert.Kernel3Ideal.Gen.mem_uc Cert.Kernel3Ideal.main_v9_2 (by decide))).trans (Cert.Kernel3Ideal.Gen.end_vT m g c),
      (at_ _ (Cert.Kernel3Ideal.Gen.mem_uc Cert.Kernel3Ideal.main_v10_0 (by decide))).trans (Cert.Kernel3Ideal.Gen.end_rest m g c),
      (at_ _ (Cert.Kernel3Ideal.Gen.mem_uc Cert.Kernel3Ideal.main_v10_1 (by decide))).trans (Cert.Kernel3Ideal.Gen.end_fLogit m g c),
      (at_ _ (Cert.Kernel3Ideal.Gen.mem_uc Cert.Kernel3Ideal.main_v29 (by decide))).trans (Cert.Kernel3Ideal.Gen.end_gIn m g c),
      (at_ _ (Cert.Kernel3Ideal.Gen.mem_uc Cert.Kernel3Ideal.main_arg0 (by decide))).trans (Cert.Kernel3Ideal.Gen.W14_main_arg0 m g c),
      (at_ _ (Cert.Kernel3Ideal.Gen.mem_uc Cert.Kernel3Ideal.main_arg1 (by decide))).trans (Cert.Kernel3Ideal.Gen.W14_main_arg1 m g c),
      (at_ _ (Cert.Kernel3Ideal.Gen.mem_uc Cert.Kernel3Ideal.main_arg2 (by decide))).trans (Cert.Kernel3Ideal.Gen.W14_main_arg2 m g c)⟩
  · refine (θ_run _ _ _).mono (fun r h c => ?_) (Cert.Reference3Ideal.Value.run m' g')
    obtain ⟨a0, a1, a2⟩ := hargs c
    have e0 := fun (s : Fin 4096) (k : Fin 1024) => congrFun a0 (ValueIdx.ix2 s k)
    have e1 := fun (k : Fin 1024) (f : Fin 4616) => congrFun a1 (ValueIdx.ix3 0 k f)
    have e2 := fun (s : Fin 4096) (f : Fin 4616) => congrFun a2 (ValueIdx.ix2 s f)
    obtain ⟨h0, h1, h2, h3, h4, h5, hr⟩ := h c
    refine ⟨h0.trans ((Cert.Reference3Ideal.Read.val_main_v12_eq _ _).trans (funext fun y => ?_)),
      h1.trans ((Cert.Reference3Ideal.Read.val_main_v14_eq _ _).trans (funext fun y => ?_)),
      h2.trans ((Cert.Reference3Ideal.Read.val_main_v16_eq _ _).trans (funext fun y => ?_)),
      h3.trans ((Cert.Reference3Ideal.Read.val_main_v17_eq _ _).trans (funext fun y => ?_)),
      h4.trans ((Cert.Reference3Ideal.Read.val_main_v9_eq _ _).trans (funext fun y => ?_)),
      h5.trans ((Cert.Reference3Ideal.Read.val_main_v19_eq _ _).trans (funext fun y => ?_)), hr⟩
    · exact Cert.Reference3Ideal.Read.v12_model e0 e1 y
    · obtain ⟨f, s, rfl⟩ := Cert.Reference3Ideal.Read.two y
      exact Cert.Reference3Ideal.Read.v14_model e0 e1 f s _ rfl
    · obtain ⟨f, s, rfl⟩ := Cert.Reference3Ideal.Read.two y
      exact Cert.Reference3Ideal.Read.v16_model e0 e1 f s _ rfl
    · exact Cert.Reference3Ideal.Read.v17_model e0 e1 y
    · exact Cert.Reference3Ideal.Read.v9_model e0 e1 y
    · exact Cert.Reference3Ideal.Read.v19_model e0 e2 y

theorem frame_reference4 : Cert.quiescent_Reference4Ideal := by
  intro m ρ _
  refine (θ_run _ _ _).mono (fun r h => ⟨fun c => ?_, Idealize.ShloMosaic.sem_eq_zero_of_no_sems (by decide) r.2⟩) (Cert.Reference4Ideal.Value.run m ρ)
  obtain ⟨-, -, -, -, -, -, hr⟩ := h c
  exact hr

attribute [local instance] Cert.Kernel4Ideal.Gen.facts Cert.Reference4Ideal.Gen.facts in
/-- The results of the output projection, of the second norm and of the branches' weight gradients are the reference's. -/
theorem algebraic4 : Cert.algebraic_Kernel4Ideal_Reference4Ideal := by
  intro m g m' g' _ hargs
  refine ⟨fun c y => Out.x1 (Cert.Kernel4Ideal.Gen.argM m c) (Cert.Kernel4Ideal.Gen.argW m c) (Cert.Kernel4Ideal.Gen.argX m c) (y 0) (y 1),
    fun c y => Out.h2 (Cert.Kernel4Ideal.Gen.argM m c) (Cert.Kernel4Ideal.Gen.argW m c) (Cert.Kernel4Ideal.Gen.argX m c) (Cert.Kernel4Ideal.Gen.argG m c) (y 0) (y 1),
    fun c y => Out.h2 (Cert.Kernel4Ideal.Gen.argM m c) (Cert.Kernel4Ideal.Gen.argW m c) (Cert.Kernel4Ideal.Gen.argX m c) (Cert.Kernel4Ideal.Gen.argG m c) (y 1) (y 0),
    fun c y => Out.r2 (Cert.Kernel4Ideal.Gen.argM m c) (Cert.Kernel4Ideal.Gen.argW m c) (Cert.Kernel4Ideal.Gen.argX m c) (y 0),
    fun c y => Out.grad (Cert.Kernel4Ideal.Gen.argO m c) (Cert.Kernel4Ideal.Gen.argA m c) (y 1) (Out.col (y 0).val (y 2).val),
    fun c y => Out.grad (Cert.Kernel4Ideal.Gen.argS m c) (Cert.Kernel4Ideal.Gen.argB m c) (y 1) (Out.col (y 0).val (y 2).val), ?_, ?_⟩
  · refine (θ_run _ _ _).mono (fun r h c => ?_) (Cert.Kernel4Ideal.Gen.run_all m g)
    have at_ := fun b (hb : b ∈ Pipeline.ucRefs Cert.Kernel4Ideal.τ Cert.Kernel4Ideal.sig) => h.1 c b hb
    exact ⟨(at_ _ (Cert.Kernel4Ideal.Gen.mem_uc Cert.Kernel4Ideal.main_v9_0 (by decide))).trans (Cert.Kernel4Ideal.Gen.end_x1 m g c),
      (at_ _ (Cert.Kernel4Ideal.Gen.mem_uc Cert.Kernel4Ideal.main_v9_1 (by decide))).trans (Cert.Kernel4Ideal.Gen.end_h2 m g c),
      (at_ _ (Cert.Kernel4Ideal.Gen.mem_uc Cert.Kernel4Ideal.main_v9_2 (by decide))).trans (Cert.Kernel4Ideal.Gen.end_h2T m g c),
      (at_ _ (Cert.Kernel4Ideal.Gen.mem_uc Cert.Kernel4Ideal.main_v9_3 (by decide))).trans (Cert.Kernel4Ideal.Gen.end_r2 m g c),
      (at_ _ (Cert.Kernel4Ideal.Gen.mem_uc Cert.Kernel4Ideal.main_v12 (by decide))).trans (Cert.Kernel4Ideal.Gen.end_gA m g c),
      (at_ _ (Cert.Kernel4Ideal.Gen.mem_uc Cert.Kernel4Ideal.main_v15 (by decide))).trans (Cert.Kernel4Ideal.Gen.end_gB m g c),
      (at_ _ (Cert.Kernel4Ideal.Gen.mem_uc Cert.Kernel4Ideal.main_arg0 (by decide))).trans (Cert.Kernel4Ideal.Gen.W6_main_arg0 m g c),
      (at_ _ (Cert.Kernel4Ideal.Gen.mem_uc Cert.Kernel4Ideal.main_arg1 (by decide))).trans (Cert.Kernel4Ideal.Gen.W6_main_arg1 m g c),
      (at_ _ (Cert.Kernel4Ideal.Gen.mem_uc Cert.Kernel4Ideal.main_arg2 (by decide))).trans (Cert.Kernel4Ideal.Gen.W6_main_arg2 m g c),
      (at_ _ (Cert.Kernel4Ideal.Gen.mem_uc Cert.Kernel4Ideal.main_arg3 (by decide))).trans (Cert.Kernel4Ideal.Gen.W6_main_arg3 m g c),
      (at_ _ (Cert.Kernel4Ideal.Gen.mem_uc Cert.Kernel4Ideal.main_arg4 (by decide))).trans (Cert.Kernel4Ideal.Gen.W6_main_arg4 m g c),
      (at_ _ (Cert.Kernel4Ideal.Gen.mem_uc Cert.Kernel4Ideal.main_arg5 (by decide))).trans (Cert.Kernel4Ideal.Gen.W6_main_arg5 m g c),
      (at_ _ (Cert.Kernel4Ideal.Gen.mem_uc Cert.Kernel4Ideal.main_arg6 (by decide))).trans (Cert.Kernel4Ideal.Gen.W6_main_arg6 m g c),
      (at_ _ (Cert.Kernel4Ideal.Gen.mem_uc Cert.Kernel4Ideal.main_arg7 (by decide))).trans (Cert.Kernel4Ideal.Gen.W6_main_arg7 m g c)⟩
  · refine (θ_run _ _ _).mono (fun r h c => ?_) (Cert.Reference4Ideal.Value.run m' g')
    obtain ⟨a0, a1, a2, a3, a4, a5, a6, a7⟩ := hargs c
    have e0 := fun (s : Fin 4096) (k : Fin 1024) => congrFun a0 (ValueIdx.ix2 s k)
    have e2 := fun (s : Fin 4096) (k : Fin 1024) => congrFun a2 (ValueIdx.ix2 s k)
    have e4 := fun (s : Fin 4096) (k : Fin 512) => congrFun a4 (ValueIdx.ix2 s k)
    have e5 := fun (s : Fin 4096) (k : Fin 512) => congrFun a5 (ValueIdx.ix2 s k)
    have e6 := fun (s : Fin 4096) (k : Fin 1024) => congrFun a6 (ValueIdx.ix2 s k)
    have e7 := fun (s : Fin 4096) (k : Fin 1024) => congrFun a7 (ValueIdx.ix2 s k)
    have e1 := fun (k n : Fin 1024) => congrFun a1 (ValueIdx.ix3 0 k n)
    have e3 := fun (n : Fin 1024) => congrFun a3 (ValueIdx.ix2 0 n)
    obtain ⟨h0, h1, h2, h3, h4, h5, hr⟩ := h c
    refine ⟨h0.trans ((Cert.Reference4Ideal.Read.val_main_v2_eq _ _ _).trans (funext fun y => ?_)),
      h1.trans ((Cert.Reference4Ideal.Read.val_main_v27_eq _ _ _ _).trans (funext fun y => ?_)),
      h2.trans ((Cert.Reference4Ideal.Read.val_main_v29_eq _ _ _ _).trans (funext fun y => ?_)),
      h3.trans ((Cert.Reference4Ideal.Read.val_main_v10_eq _ _ _).trans (funext fun y => ?_)),
      h4.trans ((Cert.Reference4Ideal.Read.val_main_v24_eq _ _).trans (funext fun y => ?_)),
      h5.trans ((Cert.Reference4Ideal.Read.val_main_v26_eq _ _).trans (funext fun y => ?_)), hr⟩
    · obtain ⟨p, q, rfl⟩ := Cert.Reference4Ideal.Read.two y
      exact Cert.Reference4Ideal.Read.v2_model e0 e1 e2 p q
    · obtain ⟨p, q, rfl⟩ := Cert.Reference4Ideal.Read.two y
      exact Cert.Reference4Ideal.Read.v27_model e0 e1 e2 e3 p q
    · obtain ⟨p, q, rfl⟩ := Cert.Reference4Ideal.Read.two y
      exact Cert.Reference4Ideal.Read.v29_model e0 e1 e2 e3 p q
    · obtain ⟨p, q, rfl⟩ := Cert.Reference4Ideal.Read.two y
      exact Cert.Reference4Ideal.Read.v10_model e0 e1 e2 p q
    · obtain ⟨p, q, r, rfl⟩ := Cert.Reference4Ideal.Read.three y
      exact Cert.Reference4Ideal.Read.v24_model e4 e6 p q r
    · obtain ⟨p, q, r, rfl⟩ := Cert.Reference4Ideal.Read.three y
      exact Cert.Reference4Ideal.Read.v26_model e5 e7 p q r

attribute [local instance] Cert.Reference5Ideal.Gen.facts in
/-- The reference of the last norm and the loss runs, leaves its arguments and has no semaphores. -/
theorem frame_reference5 : Cert.quiescent_Reference5Ideal := by
  intro m ρ _
  refine (θ_run _ _ _).mono (fun r h => ⟨fun c => ?_, Idealize.ShloMosaic.sem_eq_zero_of_no_sems (by decide) r.2⟩) (Cert.Reference5Ideal.Value.run m ρ)
  obtain ⟨-, -, -, -, hr⟩ := h c
  exact hr

attribute [local instance] Cert.Kernel5Ideal.Gen.facts Cert.Reference5Ideal.Gen.facts in
/-- The loss, its gradient at the residual stream and that of the last norm's gain are the reference's. -/
theorem algebraic5 : Cert.algebraic_Kernel5Ideal_Reference5Ideal := by
  intro m g m' g' _ hargs
  refine ⟨fun c y => Loss.dx (Cert.Kernel5Ideal.Gen.X2 m c (y 0)) (Cert.Kernel5Ideal.Gen.argG m c) (Cert.Kernel5Ideal.Gen.argY m c (y 0)) (y 1),
    fun c y => Loss.gain (Cert.Kernel5Ideal.Gen.X2 m c) (Cert.Kernel5Ideal.Gen.argG m c) (Cert.Kernel5Ideal.Gen.argY m c) (y 1),
    fun c _ => Loss.loss (Cert.Kernel5Ideal.Gen.X2 m c) (Cert.Kernel5Ideal.Gen.argG m c) (Cert.Kernel5Ideal.Gen.argY m c),
    fun c y => Loss.dx (Cert.Kernel5Ideal.Gen.X2 m c (y 0)) (Cert.Kernel5Ideal.Gen.argG m c) (Cert.Kernel5Ideal.Gen.argY m c (y 0)) (y 1), ?_, ?_⟩
  · refine (θ_run _ _ _).mono (fun r h c => ?_) (θ_run_and (Cert.Kernel5Ideal.Gen.run_main m g) (Cert.Kernel5Ideal.Gen.frame m g))
    exact ⟨((h.1 c).1 5).trans (Cert.Kernel5Ideal.Gen.end_dx m c), ((h.1 c).1 6).trans (Cert.Kernel5Ideal.Gen.end_gain m c), ((h.1 c).1 7).trans (Cert.Kernel5Ideal.Gen.end_loss m c),
      ((h.1 c).1 8).trans (Cert.Kernel5Ideal.Gen.end_dx16 m c), h.2.1 c⟩
  · refine (θ_run _ _ _).mono (fun r h c => ?_) (Cert.Reference5Ideal.Value.run m' g')
    obtain ⟨a0, a1, a2, a3, a4⟩ := hargs c
    have e0 := fun (s k : Fin 4096) => congrFun a0 (ValueIdx.ix2 s k)
    have e1 := fun (k : Fin 4096) (n : Fin 1024) => congrFun a1 (ValueIdx.ix3 0 k n)
    have e2 := fun (s : Fin 4096) (n : Fin 1024) => congrFun a2 (ValueIdx.ix2 s n)
    have e3 := fun (s : Fin 4096) (n : Fin 1024) => congrFun a3 (ValueIdx.ix2 s n)
    have e4 := fun (n : Fin 1024) => congrFun a4 (ValueIdx.ix1 n)
    obtain ⟨h0, h1, h2, h3, hr⟩ := h c
    refine ⟨h0.trans ((Cert.Reference5Ideal.Read.val_main_v53_eq m' c).trans (funext fun y => ?_)),
      h1.trans ((Cert.Reference5Ideal.Read.val_main_v54_eq _ _ _ _ _).trans (funext fun y => ?_)),
      h2.trans ((Cert.Reference5Ideal.Read.val_main_v55_eq _ _ _ _ _).trans (funext fun y => ?_)),
      h3.trans ((Cert.Reference5Ideal.Read.val_main_v56_eq m' c).trans (funext fun y => ?_)), hr⟩
    · obtain ⟨p, q, rfl⟩ := Cert.Reference5Ideal.Read.two y
      exact Cert.Reference5Ideal.Read.v53_model e0 e1 e2 e3 e4 p q
    · obtain ⟨p, q, rfl⟩ := Cert.Reference5Ideal.Read.two y
      exact Cert.Reference5Ideal.Read.v54_model e0 e1 e2 e3 e4 p q
    · obtain ⟨p, q, rfl⟩ := Cert.Reference5Ideal.Read.two y
      exact Cert.Reference5Ideal.Read.v55_model e0 e1 e2 e3 e4 p q
    · obtain ⟨p, q, rfl⟩ := Cert.Reference5Ideal.Read.two y
      exact Cert.Reference5Ideal.Read.v56_model e0 e1 e2 e3 e4 p q

attribute [local instance] Cert.Reference6Ideal.Gen.facts in
/-- The reference of the merge runs, leaves its arguments and has no semaphores. -/
theorem frame_reference6 : Cert.quiescent_Reference6Ideal := by
  intro m ρ _
  refine (θ_run _ _ _).mono (fun r h => ⟨fun c => ?_, Idealize.ShloMosaic.sem_eq_zero_of_no_sems (by decide) r.2⟩) (Cert.Reference6Ideal.Value.run m ρ)
  obtain ⟨-, -, -, -, hr⟩ := h c
  exact hr

attribute [local instance] Cert.Kernel6Ideal.Gen.facts Cert.Reference6Ideal.Gen.facts in
/-- The merged branches, their projections and the merged branches transposed are the reference's. -/
theorem algebraic6 : Cert.algebraic_Kernel6Ideal_Reference6Ideal := by
  intro m g m' g' _ hargs
  refine ⟨fun c y => Merge.merged (Cert.Kernel6Ideal.Gen.argO m c) (Cert.Kernel6Ideal.Gen.argA m c) (Cert.Kernel6Ideal.Gen.argS m c) (Cert.Kernel6Ideal.Gen.argB m c) (Cert.Kernel6Ideal.Gen.gateA m c) (Cert.Kernel6Ideal.Gen.gateB m c) (y 0) (y 1),
    fun c y => Merge.prod (Cert.Kernel6Ideal.Gen.argO m c) (Cert.Kernel6Ideal.Gen.argA m c) (y 0) (y 1),
    fun c y => Merge.prod (Cert.Kernel6Ideal.Gen.argS m c) (Cert.Kernel6Ideal.Gen.argB m c) (y 0) (y 1),
    fun c y => Merge.merged (Cert.Kernel6Ideal.Gen.argO m c) (Cert.Kernel6Ideal.Gen.argA m c) (Cert.Kernel6Ideal.Gen.argS m c) (Cert.Kernel6Ideal.Gen.argB m c) (Cert.Kernel6Ideal.Gen.gateA m c) (Cert.Kernel6Ideal.Gen.gateB m c) (y 1) (y 0), ?_, ?_⟩
  · refine (θ_run _ _ _).mono (fun r h c => ?_) (θ_run_and (Cert.Kernel6Ideal.Gen.run_main m g) (Cert.Kernel6Ideal.Gen.frame m g))
    exact ⟨((h.1 c).1 6).trans (Cert.Kernel6Ideal.Gen.end_m m c),
      ((h.1 c).1 7).trans (Cert.Kernel6Ideal.Gen.end_a m c),
      ((h.1 c).1 8).trans (Cert.Kernel6Ideal.Gen.end_b m c),
      ((h.1 c).1 9).trans (Cert.Kernel6Ideal.Gen.end_t m c), h.2.1 c⟩
  · refine (θ_run _ _ _).mono (fun r h c => ?_) (Cert.Reference6Ideal.Value.run m' g')
    obtain ⟨a0, a1, a2, a3, a4⟩ := hargs c
    have e0 := fun (s : Fin 4096) (k : Fin 512) => congrFun a0 (ValueIdx.ix2 s k)
    have e1 := fun (k : Fin 512) (n : Fin 1024) => congrFun a1 (ValueIdx.ix3 0 k n)
    have e2 := fun (s : Fin 4096) (k : Fin 512) => congrFun a2 (ValueIdx.ix2 s k)
    have e3 := fun (k : Fin 512) (n : Fin 1024) => congrFun a3 (ValueIdx.ix3 0 k n)
    have e4 := fun (s : Fin 4096) (n : Fin 1024) => congrFun a4 (ValueIdx.ix2 s (Merge.colA n))
    have e5 := fun (s : Fin 4096) (n : Fin 1024) => congrFun a4 (ValueIdx.ix2 s (Merge.colB n))
    obtain ⟨h0, h1, h2, h3, hr⟩ := h c
    refine ⟨h0.trans ((Cert.Reference6Ideal.Read.val_main_v22_eq _ _ _ _ _).trans (funext fun y => ?_)),
      h1.trans ((Cert.Reference6Ideal.Read.val_main_v23_eq _ _).trans (funext fun y => ?_)),
      h2.trans ((Cert.Reference6Ideal.Read.val_main_v24_eq _ _).trans (funext fun y => ?_)),
      h3.trans ((Cert.Reference6Ideal.Read.val_main_v26_eq _ _ _ _ _).trans (funext fun y => ?_)), hr⟩
    · obtain ⟨p, q, rfl⟩ := Cert.Reference6Ideal.Read.two y
      exact Cert.Reference6Ideal.Read.v22_model e0 e1 e2 e3 e4 e5 p q
    · obtain ⟨p, q, rfl⟩ := Cert.Reference6Ideal.Read.two y
      exact Cert.Reference6Ideal.Read.v1_model e0 e1 p q
    · obtain ⟨p, q, rfl⟩ := Cert.Reference6Ideal.Read.two y
      exact Cert.Reference6Ideal.Read.v3_model e2 e3 p q
    · obtain ⟨p, q, rfl⟩ := Cert.Reference6Ideal.Read.two y
      exact Cert.Reference6Ideal.Read.v26_model e0 e1 e2 e3 e4 e5 p q

attribute [local instance] Cert.Reference7Ideal.Gen.facts in
/-- The reference of the merge's backward pass runs, leaves its arguments and has no semaphores. -/
theorem frame_reference7 : Cert.quiescent_Reference7Ideal := by
  intro m ρ _
  refine (θ_run _ _ _).mono (fun r h => ⟨fun c => ?_, Idealize.ShloMosaic.sem_eq_zero_of_no_sems (by decide) r.2⟩) (Cert.Reference7Ideal.Value.run m ρ)
  obtain ⟨-, -, -, -, -, hr⟩ := h c
  exact hr

attribute [local instance] Cert.Kernel7Ideal.Gen.facts Cert.Reference7Ideal.Gen.facts in
/-- The gradients of the two projections and of the two gates, and those of the gates transposed, are the reference's. -/
theorem algebraic7 : Cert.algebraic_Kernel7Ideal_Reference7Ideal := by
  intro m g m' g' _ hargs
  refine ⟨fun c y => Merge.dy (Cert.Kernel7Ideal.Gen.argD m c) (Cert.Kernel7Ideal.Gen.argW m c) (Cert.Kernel7Ideal.Gen.gateA m c) (y 0) (y 1),
    fun c y => Merge.dy (Cert.Kernel7Ideal.Gen.argD m c) (Cert.Kernel7Ideal.Gen.argW m c) (Cert.Kernel7Ideal.Gen.gateB m c) (y 0) (y 1),
    fun c y => Merge.dg (Cert.Kernel7Ideal.Gen.argD m c) (Cert.Kernel7Ideal.Gen.argW m c) (Cert.Kernel7Ideal.Gen.gateA m c) (Cert.Kernel7Ideal.Gen.argA m c) (y 0) (y 1),
    fun c y => Merge.dg (Cert.Kernel7Ideal.Gen.argD m c) (Cert.Kernel7Ideal.Gen.argW m c) (Cert.Kernel7Ideal.Gen.gateB m c) (Cert.Kernel7Ideal.Gen.argB m c) (y 0) (y 1),
    fun c y => Merge.dgT (Cert.Kernel7Ideal.Gen.argD m c) (Cert.Kernel7Ideal.Gen.argW m c) (Cert.Kernel7Ideal.Gen.gateA m c) (Cert.Kernel7Ideal.Gen.argA m c) (Cert.Kernel7Ideal.Gen.gateB m c) (Cert.Kernel7Ideal.Gen.argB m c) (y 0) (y 1), ?_, ?_⟩
  · refine (θ_run _ _ _).mono (fun r h c => ?_) (θ_run_and (Cert.Kernel7Ideal.Gen.run_main m g) (Cert.Kernel7Ideal.Gen.frame m g))
    exact ⟨((h.1 c).1 6).trans (Cert.Kernel7Ideal.Gen.end_ya m c),
      ((h.1 c).1 7).trans (Cert.Kernel7Ideal.Gen.end_yb m c),
      ((h.1 c).1 8).trans (Cert.Kernel7Ideal.Gen.end_ga m c),
      ((h.1 c).1 9).trans (Cert.Kernel7Ideal.Gen.end_gb m c),
      ((h.1 c).1 10).trans (Cert.Kernel7Ideal.Gen.end_gt m c), h.2.1 c⟩
  · refine (θ_run _ _ _).mono (fun r h c => ?_) (Cert.Reference7Ideal.Value.run m' g')
    obtain ⟨a0, a1, a2, a3, a4⟩ := hargs c
    have e0 := fun (s : Fin 4096) (k : Fin 1024) => congrFun a0 (ValueIdx.ix2 s k)
    have e1 := fun (k n : Fin 1024) => congrFun a1 (ValueIdx.ix3 0 k n)
    have e2 := fun (s : Fin 4096) (n : Fin 1024) => congrFun a2 (ValueIdx.ix2 s (Merge.colA n))
    have e2b := fun (s : Fin 4096) (n : Fin 1024) => congrFun a2 (ValueIdx.ix2 s (Merge.colB n))
    have e3 := fun (s : Fin 4096) (k : Fin 1024) => congrFun a3 (ValueIdx.ix2 s k)
    have e4 := fun (s : Fin 4096) (k : Fin 1024) => congrFun a4 (ValueIdx.ix2 s k)
    obtain ⟨h0, h1, h2, h3, h4, hr⟩ := h c
    refine ⟨h0.trans ((Cert.Reference7Ideal.Read.val_main_v36_eq _ _ _).trans (funext fun y => ?_)),
      h1.trans ((Cert.Reference7Ideal.Read.val_main_v37_eq _ _ _).trans (funext fun y => ?_)),
      h2.trans ((Cert.Reference7Ideal.Read.val_main_v38_eq _ _ _ _).trans (funext fun y => ?_)),
      h3.trans ((Cert.Reference7Ideal.Read.val_main_v39_eq _ _ _ _).trans (funext fun y => ?_)),
      h4.trans ((Cert.Reference7Ideal.Read.val_main_v40_eq _ _ _ _ _).trans (funext fun y => ?_)), hr⟩
    · obtain ⟨p, q, rfl⟩ := Cert.Reference7Ideal.Read.two y
      exact Cert.Reference7Ideal.Read.v36_model e0 e1 e2 p q
    · obtain ⟨p, q, rfl⟩ := Cert.Reference7Ideal.Read.two y
      exact Cert.Reference7Ideal.Read.v37_model e0 e1 e2b p q
    · obtain ⟨p, q, rfl⟩ := Cert.Reference7Ideal.Read.two y
      exact Cert.Reference7Ideal.Read.v32_model e0 e1 e2 e3 p q
    · obtain ⟨p, q, rfl⟩ := Cert.Reference7Ideal.Read.two y
      exact Cert.Reference7Ideal.Read.v29_model e0 e1 e2b e4 p q
    · obtain ⟨p, q, rfl⟩ := Cert.Reference7Ideal.Read.two y
      exact Cert.Reference7Ideal.Read.v40_model e0 e1 e2 e2b e3 e4 p q

attribute [local instance] Cert.Reference8Ideal.Gen.facts in
/-- The reference of the gradient of the output projection's weight runs, leaves its arguments and has no semaphores. -/
theorem frame_reference8 : Cert.quiescent_Reference8Ideal := by
  intro m ρ _
  refine (θ_run _ _ _).mono (fun r h => ⟨fun c => ?_, Idealize.ShloMosaic.sem_eq_zero_of_no_sems (by decide) r.2⟩) (Cert.Reference8Ideal.Value.run m ρ)
  obtain ⟨-, hr⟩ := h c
  exact hr

attribute [local instance] Cert.Kernel8Ideal.Gen.facts Cert.Reference8Ideal.Gen.facts in
/-- The gradient of the output projection's weight is the reference's. -/
theorem algebraic8 : Cert.algebraic_Kernel8Ideal_Reference8Ideal := by
  intro m g m' g' _ hargs
  refine ⟨fun c y => Merge.gw (Cert.Kernel8Ideal.Gen.argM m c) (Cert.Kernel8Ideal.Gen.argD m c) (y 0) (y 1), ?_, ?_⟩
  · refine (θ_run _ _ _).mono (fun r h c => ?_) (θ_run_and (Cert.Kernel8Ideal.Gen.run_main m g) (Cert.Kernel8Ideal.Gen.frame m g))
    exact ⟨((h.1 c).1 2).trans (Cert.Kernel8Ideal.Gen.end_gw m c), h.2.1 c⟩
  · refine (θ_run _ _ _).mono (fun r h c => ?_) (Cert.Reference8Ideal.Value.run m' g')
    obtain ⟨a0, a1⟩ := hargs c
    have e0 := fun (s : Fin 4096) (k : Fin 1024) => congrFun a0 (ValueIdx.ix2 s k)
    have e1 := fun (s : Fin 4096) (k : Fin 1024) => congrFun a1 (ValueIdx.ix2 s k)
    obtain ⟨h0, hr⟩ := h c
    refine ⟨h0.trans ((Cert.Reference8Ideal.Read.val_main_v3_eq _ _).trans (funext fun y => ?_)), hr⟩
    · obtain ⟨p, q, rfl⟩ := Cert.Reference8Ideal.Read.two y
      exact Cert.Reference8Ideal.Read.v3_model e0 e1 p q

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.KernelIdeal.Gen.pre_facts,
    fun m ρ _ => Cert.Kernel.Gen.frame m ρ, fun m ρ _ => Cert.KernelIdeal.Gen.frame m ρ, fun m ρ _ => Cert.KernelIdeal.Gen.frame m ρ,
    fun m ρ _ => frame_reference m ρ trivial, fun m ρ _ => frame_reference m ρ trivial,
    fun m ρ _ => Cert.Kernel2.Gen.frame m ρ, fun m ρ _ => Cert.Kernel2Ideal.Gen.frame m ρ, fun m ρ _ => frame_reference2 m ρ trivial,
    fun m ρ _ => Cert.Kernel3.Gen.frame m ρ, fun m ρ _ => Cert.Kernel3Ideal.Gen.frame m ρ, fun m ρ _ => frame_reference3 m ρ trivial,
    fun m ρ _ => Cert.Kernel4.Gen.frame m ρ, fun m ρ _ => Cert.Kernel4Ideal.Gen.frame m ρ, fun m ρ _ => frame_reference4 m ρ trivial,
    fun m ρ _ => Cert.Kernel5.Gen.frame m ρ, fun m ρ _ => Cert.Kernel5Ideal.Gen.frame m ρ, fun m ρ _ => frame_reference5 m ρ trivial,
    fun m ρ _ => Cert.Kernel6.Gen.frame m ρ, fun m ρ _ => Cert.Kernel6Ideal.Gen.frame m ρ, fun m ρ _ => frame_reference6 m ρ trivial,
    fun m ρ _ => Cert.Kernel7.Gen.frame m ρ, fun m ρ _ => Cert.Kernel7Ideal.Gen.frame m ρ, fun m ρ _ => frame_reference7 m ρ trivial,
    fun m ρ _ => Cert.Kernel8.Gen.frame m ρ, fun m ρ _ => Cert.Kernel8Ideal.Gen.frame m ρ, fun m ρ _ => frame_reference8 m ρ trivial,
    preserves, algebraic, trivial, algebraic2, trivial, algebraic3, trivial, algebraic4, trivial, algebraic5,
    trivial, algebraic6, trivial, algebraic7, trivial, algebraic8⟩

end Cert.Proof

end
